-- ==== Defs.lean ====
def Pre_Kernel [hPre_tags_in_range : Cert.Pre_tags_in_range.Facts] (m : (ℓ : Loc Cert.Kernel.nD Cert.Kernel.τ Cert.Kernel.sig) → Buf (Elt Bits) ℓ) : Prop :=
  ∀ c : Dev Cert.Kernel.nD,
    (Cert.Pre_tags_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_tags_in_range : Cert.Pre_tags_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tags_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tags_in_range [hPre_tags_in_range : Cert.Pre_tags_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tags_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_tags_in_range : Cert.Pre_tags_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_tags_in_range : Cert.Pre_tags_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_tags_in_range [hReferenceIdeal : Cert.ReferenceIdeal.Facts] [hPre_tags_in_range : Cert.Pre_tags_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tags_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "hundredth" .f32 0x3C23D70A#32 ((100⁻¹ : ℝ) : EReal)

def algebraic_KernelIdeal_ReferenceIdeal [hKernelIdeal : Cert.KernelIdeal.Facts] [hReferenceIdeal : Cert.ReferenceIdeal.Facts] [hPre_tags_in_range : Cert.Pre_tags_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33_1)) (v1 : (c : Dev Cert.KernelIdeal.nD) → Buf (Elt Ideal) ((c.tc : Thread Cert.KernelIdeal.nD Cert.KernelIdeal.τ).loc Cert.KernelIdeal.main_v31_0)) (v2 : (c : Dev Cert.KernelIdeal.nD) → Buf (Elt Ideal) ((c.tc : Thread Cert.KernelIdeal.nD Cert.KernelIdeal.τ).loc Cert.KernelIdeal.main_v33_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33_1) = v0 c
          ∧ r.2.mem ((c.tc : Thread Cert.KernelIdeal.nD Cert.KernelIdeal.τ).loc Cert.KernelIdeal.main_v31_0) = v1 c
          ∧ r.2.mem ((c.tc : Thread Cert.KernelIdeal.nD Cert.KernelIdeal.τ).loc Cert.KernelIdeal.main_v33_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_tags_in_range : Cert.Pre_tags_in_range.Facts),
    quiescent_Kernel (hKernel := hKernel) (hPre_tags_in_range := hPre_tags_in_range)
    ∧ quiescent_KernelIdeal (hKernelIdeal := hKernelIdeal) (hPre_tags_in_range := hPre_tags_in_range)
    ∧ quiescent_ReferenceIdeal (hReferenceIdeal := hReferenceIdeal)
    ∧ quiescent_ReferenceIdeal_pre_tags_in_range (hReferenceIdeal := hReferenceIdeal) (hPre_tags_in_range := hPre_tags_in_range)
    ∧ preserves_Kernel_KernelIdeal
    ∧ algebraic_KernelIdeal_ReferenceIdeal (hKernelIdeal := hKernelIdeal) (hReferenceIdeal := hReferenceIdeal) (hPre_tags_in_range := hPre_tags_in_range)
-- ==== Pre_tags_in_range.lean ====
abbrev S256x8x20 : Shape := ⟨3, ![256, 8, 20]⟩
abbrev S256 : Shape := ⟨1, ![256]⟩
abbrev S20000 : Shape := ⟨1, ![20000]⟩
abbrev S20001x1024 : Shape := ⟨2, ![20001, 1024]⟩
abbrev S1024 : Shape := ⟨1, ![1024]⟩
abbrev S1024x1024 : Shape := ⟨2, ![1024, 1024]⟩
abbrev S1024x256 : Shape := ⟨2, ![1024, 256]⟩
abbrev S256x1024 : Shape := ⟨2, ![256, 1024]⟩
abbrev S1024x20001 : Shape := ⟨2, ![1024, 20001]⟩
abbrev S20001 : Shape := ⟨1, ![20001]⟩
abbrev S_ : Shape := ⟨0, ![]⟩

class Facts : Prop where
  bcast_S_S256x8x20 : S_.BroadcastsInDim S256x8x20 (![] : Fin 0 → Fin S256x8x20.rank)
  reducesTo_S256x8x20_S_d0_1_2 : S256x8x20.ReducesTo [0, 1, 2] S_
  h_S_ : 0 < S_.numel

variable [Facts]

def fn {F : FTy → Type} [FloatOps F] (main_arg0 : IVec S256x8x20 32) (main_arg1 : FVec F S256 .f32) (main_arg2 : FVec F S20000 .f32) (main_arg3 : FVec F S20000 .f32) (main_arg4 : FVec F S20001x1024 .f32) (main_arg5 : FVec F S1024 .f32) (main_arg6 : FVec F S1024 .f32) (main_arg7 : FVec F S1024 .f32) (main_arg8 : FVec F S1024x1024 .f32) (main_arg9 : FVec F S1024 .f32) (main_arg10 : FVec F S1024x256 .f32) (main_arg11 : FVec F S256 .f32) (main_arg12 : FVec F S256x1024 .f32) (main_arg13 : FVec F S1024 .f32) (main_arg14 : FVec F S1024x20001 .f32) (main_arg15 : FVec F S20001 .f32) : IVec S_ 1 :=
  let main_c : IVec S_ 32 := constantI S_ 32 0#32
  let main_v0 : IVec S256x8x20 32 := broadcastInDim S256x8x20 ![] bcast_S_S256x8x20 main_c
  let main_v1 : IVec S256x8x20 1 := cmpi .sge main_arg0 main_v0
  let main_c_0 : IVec S_ 32 := constantI S_ 32 20000#32
  let main_v2 : IVec S256x8x20 32 := broadcastInDim S256x8x20 ![] bcast_S_S256x8x20 main_c_0
  let main_v3 : IVec S256x8x20 1 := cmpi .slt main_arg0 main_v2
  let main_v4 : IVec S256x8x20 1 := andi main_v1 main_v3
  let main_c_1 : IVec S_ 1 := constantI S_ 1 1#1
  let main_v5 : IVec S_ 1 := (fun x v => Host.reduce IntOp.andi x v reducesTo_S256x8x20_S_d0_1_2 h_S_) main_v4 main_c_1
  main_v5
-- ==== Kernel.lean ====
abbrev S256x8x20 : Shape := ⟨3, ![256, 8, 20]⟩
abbrev S256 : Shape := ⟨1, ![256]⟩
abbrev S20000 : Shape := ⟨1, ![20000]⟩
abbrev S20001x1024 : Shape := ⟨2, ![20001, 1024]⟩
abbrev S1024 : Shape := ⟨1, ![1024]⟩
abbrev S1024x1024 : Shape := ⟨2, ![1024, 1024]⟩
abbrev S1024x256 : Shape := ⟨2, ![1024, 256]⟩
abbrev S256x1024 : Shape := ⟨2, ![256, 1024]⟩
abbrev S1024x20001 : Shape := ⟨2, ![1024, 20001]⟩
abbrev S20001 : Shape := ⟨1, ![20001]⟩
abbrev S256x160 : Shape := ⟨2, ![256, 160]⟩
abbrev S160x256 : Shape := ⟨2, ![160, 256]⟩
abbrev S8x256 : Shape := ⟨2, ![8, 256]⟩
abbrev S159x256 : Shape := ⟨2, ![159, 256]⟩
abbrev S1x256 : Shape := ⟨2, ![1, 256]⟩
abbrev S1x160 : Shape := ⟨2, ![1, 160]⟩
abbrev S160 : Shape := ⟨1, ![160]⟩
abbrev S160x1 : Shape := ⟨2, ![160, 1]⟩
abbrev S158x256 : Shape := ⟨2, ![158, 256]⟩
abbrev S2x256 : Shape := ⟨2, ![2, 256]⟩
abbrev S157x256 : Shape := ⟨2, ![157, 256]⟩
abbrev S3x256 : Shape := ⟨2, ![3, 256]⟩
abbrev S156x256 : Shape := ⟨2, ![156, 256]⟩
abbrev S4x256 : Shape := ⟨2, ![4, 256]⟩
abbrev S155x256 : Shape := ⟨2, ![155, 256]⟩
abbrev S5x256 : Shape := ⟨2, ![5, 256]⟩
abbrev S154x256 : Shape := ⟨2, ![154, 256]⟩
abbrev S6x256 : Shape := ⟨2, ![6, 256]⟩
abbrev S153x256 : Shape := ⟨2, ![153, 256]⟩
abbrev S7x256 : Shape := ⟨2, ![7, 256]⟩
abbrev S152x256 : Shape := ⟨2, ![152, 256]⟩
abbrev S151x256 : Shape := ⟨2, ![151, 256]⟩
abbrev S9x256 : Shape := ⟨2, ![9, 256]⟩
abbrev S150x256 : Shape := ⟨2, ![150, 256]⟩
abbrev S10x256 : Shape := ⟨2, ![10, 256]⟩
abbrev S149x256 : Shape := ⟨2, ![149, 256]⟩
abbrev S11x256 : Shape := ⟨2, ![11, 256]⟩
abbrev S148x256 : Shape := ⟨2, ![148, 256]⟩
abbrev S12x256 : Shape := ⟨2, ![12, 256]⟩
abbrev S147x256 : Shape := ⟨2, ![147, 256]⟩
abbrev S13x256 : Shape := ⟨2, ![13, 256]⟩
abbrev S146x256 : Shape := ⟨2, ![146, 256]⟩
abbrev S14x256 : Shape := ⟨2, ![14, 256]⟩
abbrev S145x256 : Shape := ⟨2, ![145, 256]⟩
abbrev S15x256 : Shape := ⟨2, ![15, 256]⟩
abbrev S144x256 : Shape := ⟨2, ![144, 256]⟩
abbrev S16x256 : Shape := ⟨2, ![16, 256]⟩
abbrev S143x256 : Shape := ⟨2, ![143, 256]⟩
abbrev S17x256 : Shape := ⟨2, ![17, 256]⟩
abbrev S142x256 : Shape := ⟨2, ![142, 256]⟩
abbrev S18x256 : Shape := ⟨2, ![18, 256]⟩
abbrev S141x256 : Shape := ⟨2, ![141, 256]⟩
abbrev S19x256 : Shape := ⟨2, ![19, 256]⟩
abbrev S_ : Shape := ⟨0, ![]⟩
abbrev S256x256 : Shape := ⟨2, ![256, 256]⟩
abbrev S256x1 : Shape := ⟨2, ![256, 1]⟩
abbrev S256x16 : Shape := ⟨2, ![256, 16]⟩
abbrev S256x80 : Shape := ⟨2, ![256, 80]⟩
abbrev S256x128 : Shape := ⟨2, ![256, 128]⟩
abbrev S1 : Shape := ⟨1, ![1]⟩
abbrev S95 : Shape := ⟨1, ![95]⟩
abbrev S20096 : Shape := ⟨1, ![20096]⟩
abbrev S256x20096 : Shape := ⟨2, ![256, 20096]⟩
abbrev S128 : Shape := ⟨1, ![128]⟩
abbrev S16 : Shape := ⟨1, ![16]⟩
abbrev S1x128 : Shape := ⟨2, ![1, 128]⟩
abbrev S1x20096 : Shape := ⟨2, ![1, 20096]⟩
abbrev S1x1024 : Shape := ⟨2, ![1, 1024]⟩
abbrev S20001x128 : Shape := ⟨2, ![20001, 128]⟩
abbrev S256x20001 : Shape := ⟨2, ![256, 20001]⟩
abbrev S1x20001 : Shape := ⟨2, ![1, 20001]⟩
abbrev S1024x2048 : Shape := ⟨2, ![1024, 2048]⟩
abbrev S1x2048 : Shape := ⟨2, ![1, 2048]⟩
abbrev S256x2048 : Shape := ⟨2, ![256, 2048]⟩

abbrev nBuf : Table → Nat
  | .hbm => 61
  | .local .tc .vmem => 33
  | .local .scVector .vmem => 7
  | _ => 0

abbrev bufTy : (tb : Table) → Fin (nBuf tb) → BufTy
  | .hbm, ⟨0, _⟩ => ⟨S256x8x20, .i32⟩
  | .hbm, ⟨1, _⟩ => ⟨S256, .f32⟩
  | .hbm, ⟨2, _⟩ => ⟨S20000, .f32⟩
  | .hbm, ⟨3, _⟩ => ⟨S20000, .f32⟩
  | .hbm, ⟨4, _⟩ => ⟨S20001x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x256, .f32⟩
  | .hbm, ⟨11, _⟩ => ⟨S256, .f32⟩
  | .hbm, ⟨12, _⟩ => ⟨S256x1024, .f32⟩
  | .hbm, ⟨13, _⟩ => ⟨S1024, .f32⟩
  | .hbm, ⟨14, _⟩ => ⟨S1024x20001, .f32⟩
  | .hbm, ⟨15, _⟩ => ⟨S20001, .f32⟩
  | .hbm, ⟨16, _⟩ => ⟨S256x160, .i32⟩
  | .hbm, ⟨17, _⟩ => ⟨S160x256, .i32⟩
  | .hbm, ⟨18, _⟩ => ⟨S160x256, .f32⟩
  | .hbm, ⟨19, _⟩ => ⟨S8x256, .f32⟩
  | .hbm, ⟨20, _⟩ => ⟨S1x256, .f32⟩
  | .hbm, ⟨21, _⟩ => ⟨S256, .f32⟩
  | .hbm, ⟨22, _⟩ => ⟨S1x256, .f32⟩
  | .hbm, ⟨23, _⟩ => ⟨S256, .f32⟩
  | .hbm, ⟨24, _⟩ => ⟨S_, .i32⟩
  | .hbm, ⟨25, _⟩ => ⟨S_, .i32⟩
  | .hbm, ⟨26, _⟩ => ⟨S256x256, .i32⟩
  | .hbm, ⟨27, _⟩ => ⟨S256x160, .f32⟩
  | .hbm, ⟨28, _⟩ => ⟨S_, .i32⟩
  | .hbm, ⟨29, _⟩ => ⟨S_, .f32⟩
  | .hbm, ⟨30, _⟩ => ⟨S256x256, .f32⟩
  | .hbm, ⟨31, _⟩ => ⟨S256x1, .f32⟩
  | .hbm, ⟨32, _⟩ => ⟨S256x16, .f32⟩
  | .hbm, ⟨33, _⟩ => ⟨S256x1, .f32⟩
  | .hbm, ⟨34, _⟩ => ⟨S256x16, .f32⟩
  | .hbm, ⟨35, _⟩ => ⟨S256x1, .f32⟩
  | .hbm, ⟨36, _⟩ => ⟨S256x16, .f32⟩
  | .hbm, ⟨37, _⟩ => ⟨S_, .f32⟩
  | .hbm, ⟨38, _⟩ => ⟨S256x80, .f32⟩
  | .hbm, ⟨39, _⟩ => ⟨S256x128, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S95, .f32⟩
  | .hbm, ⟨44, _⟩ => ⟨S20096, .f32⟩
  | .hbm, ⟨45, _⟩ => ⟨S_, .f32⟩
  | .hbm, ⟨46, _⟩ => ⟨S95, .f32⟩
  | .hbm, ⟨47, _⟩ => ⟨S20096, .f32⟩
  | .hbm, ⟨48, _⟩ => ⟨S256x20096, .f32⟩
  | .hbm, ⟨49, _⟩ => ⟨S1x1024, .f32⟩
  | .hbm, ⟨50, _⟩ => ⟨S256x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x256, .f32⟩
  | .hbm, ⟨55, _⟩ => ⟨S1x1024, .f32⟩
  | .hbm, ⟨56, _⟩ => ⟨S256x256, .f32⟩
  | .hbm, ⟨57, _⟩ => ⟨S256x1024, .f32⟩
  | .hbm, ⟨58, _⟩ => ⟨S1x20001, .f32⟩
  | .hbm, ⟨59, _⟩ => ⟨S256x20001, .f32⟩
  | .hbm, ⟨60, _⟩ => ⟨S256x20001, .f32⟩
  | .local .tc .vmem, ⟨0, _⟩ => ⟨S160x256, .i32⟩
  | .local .tc .vmem, ⟨1, _⟩ => ⟨S160x256, .f32⟩
  | .local .tc .vmem, ⟨2, _⟩ => ⟨S8x256, .f32⟩
  | .local .tc .vmem, ⟨3, _⟩ => ⟨S160x256, .f32⟩
  | .local .tc .vmem, ⟨4, _⟩ => ⟨S256x20096, .f32⟩
  | .local .tc .vmem, ⟨5, _⟩ => ⟨S20001x128, .f32⟩
  | .local .tc .vmem, ⟨6, _⟩ => ⟨S20001x128, .f32⟩
  | .local .tc .vmem, ⟨7, _⟩ => ⟨S1x128, .f32⟩
  | .local .tc .vmem, ⟨8, _⟩ => ⟨S1x128, .f32⟩
  | .local .tc .vmem, ⟨9, _⟩ => ⟨S256x128, .f32⟩
  | .local .tc .vmem, ⟨10, _⟩ => ⟨S256x128, .f32⟩
  | .local .tc .vmem, ⟨11, _⟩ => ⟨S256x1024, .f32⟩
  | .local .tc .vmem, ⟨12, _⟩ => ⟨S1x1024, .f32⟩
  | .local .tc .vmem, ⟨13, _⟩ => ⟨S1x1024, .f32⟩
  | .local .tc .vmem, ⟨14, _⟩ => ⟨S1024x1024, .f32⟩
  | .local .tc .vmem, ⟨15, _⟩ => ⟨S1x1024, .f32⟩
  | .local .tc .vmem, ⟨16, _⟩ => ⟨S1024x256, .f32⟩
  | .local .tc .vmem, ⟨17, _⟩ => ⟨S1x256, .f32⟩
  | .local .tc .vmem, ⟨18, _⟩ => ⟨S256x1024, .f32⟩
  | .local .tc .vmem, ⟨19, _⟩ => ⟨S1x1024, .f32⟩
  | .local .tc .vmem, ⟨20, _⟩ => ⟨S256x256, .f32⟩
  | .local .tc .vmem, ⟨21, _⟩ => ⟨S256x1024, .f32⟩
  | .local .tc .vmem, ⟨22, _⟩ => ⟨S256x1024, .f32⟩
  | .local .tc .vmem, ⟨23, _⟩ => ⟨S1024x2048, .f32⟩
  | .local .tc .vmem, ⟨24, _⟩ => ⟨S1024x2048, .f32⟩
  | .local .tc .vmem, ⟨25, _⟩ => ⟨S1x2048, .f32⟩
  | .local .tc .vmem, ⟨26, _⟩ => ⟨S1x2048, .f32⟩
  | .local .tc .vmem, ⟨27, _⟩ => ⟨S256x2048, .f32⟩
  | .local .tc .vmem, ⟨28, _⟩ => ⟨S256x2048, .f32⟩
  | .local .tc .vmem, ⟨29, _⟩ => ⟨S256x2048, .f32⟩
  | .local .tc .vmem, ⟨30, _⟩ => ⟨S256x2048, .f32⟩
  | .local .tc .vmem, ⟨31, _⟩ => ⟨S256x2048, .f32⟩
  | .local .tc .vmem, ⟨32, _⟩ => ⟨S256x2048, .f32⟩
  | .local .scVector .vmem, ⟨0, _⟩ => ⟨S20096, .f32⟩
  | .local .scVector .vmem, ⟨1, _⟩ => ⟨S20096, .f32⟩
  | .local .scVector .vmem, ⟨2, _⟩ => ⟨S20096, .f32⟩
  | .local .scVector .vmem, ⟨3, _⟩ => ⟨S20096, .f32⟩
  | .local .scVector .vmem, ⟨4, _⟩ => ⟨S256, .i32⟩
  | .local .scVector .vmem, ⟨5, _⟩ => ⟨S256, .f32⟩
  | .local .scVector .vmem, ⟨6, _⟩ => ⟨S128, .f32⟩
  | _, _ => ⟨S256x8x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 60 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTables nBuf rfl bufTy 4 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2_0 : Ref sig .tc := ⟨.hbm, 18, rfl⟩
abbrev main_v2_1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_call0_v0 : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31_0 : Ref sig .tc := ⟨.hbm, 56, rfl⟩
abbrev main_v31_1 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_v20_scv : Ref sig .scVector := ⟨.hbm, 44, rfl⟩
abbrev main_v22_scv : Ref sig .scVector := ⟨.hbm, 47, rfl⟩
abbrev main_v7_scv : Ref sig .scVector := ⟨.hbm, 26, rfl⟩
abbrev main_v9_scv : Ref sig .scVector := ⟨.hbm, 30, rfl⟩
abbrev main_v17_scv : Ref sig .scVector := ⟨.hbm, 39, rfl⟩
abbrev main_v23_scv : Ref sig .scVector := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg3_1 : Ref sig .tc := ⟨.vmem, 10, rfl⟩
abbrev cc3_stg0_0 : Ref sig .tc := ⟨.vmem, 11, rfl⟩
abbrev cc3_stg1_0 : Ref sig .tc := ⟨.vmem, 12, rfl⟩
abbrev cc3_stg2_0 : Ref sig .tc := ⟨.vmem, 13, rfl⟩
abbrev cc3_stg3_0 : Ref sig .tc := ⟨.vmem, 14, rfl⟩
abbrev cc3_stg4_0 : Ref sig .tc := ⟨.vmem, 15, rfl⟩
abbrev cc3_stg5_0 : Ref sig .tc := ⟨.vmem, 16, rfl⟩
abbrev cc3_stg6_0 : Ref sig .tc := ⟨.vmem, 17, rfl⟩
abbrev cc3_stg7_0 : Ref sig .tc := ⟨.vmem, 18, rfl⟩
abbrev cc3_stg8_0 : Ref sig .tc := ⟨.vmem, 19, rfl⟩
abbrev cc3_stg9_0 : Ref sig .tc := ⟨.vmem, 20, rfl⟩
abbrev cc3_stg10_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg3_1 : Ref sig .tc := ⟨.vmem, 28, rfl⟩
abbrev cc4_stg4_0 : Ref sig .tc := ⟨.vmem, 29, rfl⟩
abbrev cc4_stg4_1 : Ref sig .tc := ⟨.vmem, 30, rfl⟩
abbrev cc4_stg5_0 : Ref sig .tc := ⟨.vmem, 31, rfl⟩
abbrev cc4_stg5_1 : Ref sig .tc := ⟨.vmem, 32, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem1_0 : DmaSem sig := 1
abbrev cc0_sem2_0 : DmaSem sig := 2
abbrev cc2_sem0_0 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc3_sem0_0 : DmaSem sig := 38
abbrev cc3_sem1_0 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem10_0 : DmaSem sig := 48
abbrev cc4_sem0_0 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem3_1 : DmaSem sig := 55
abbrev cc4_sem4_0 : DmaSem sig := 56
abbrev cc4_sem4_1 : DmaSem sig := 57
abbrev cc4_sem5_0 : DmaSem sig := 58
abbrev cc4_sem5_1 : DmaSem sig := 59
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32_136 : BitVec 32 := 0#32
  let c160_i32 : BitVec 32 := 160#32
  let v636 : BitVec 32 := Scalar.addi c0_i32_136 c160_i32
  let c1_i32_137 : BitVec 32 := 1#32
  ⟨c0_i32_136, v636, c1_i32_137⟩
def k0_off1 (k0_t1 : Fin k0_t1_loop.trips) : Fin 2 → Nat :=
  let c0_i32_136 : BitVec 32 := 0#32
  let c1_i32_137 : BitVec 32 := 1#32
  let arg4 : BitVec 32 := Scf.iv c0_i32_136 c1_i32_137 k0_t1
  let v656 : Index := Scalar.indexCast arg4
  let c0_149 : Index := 0#32
  ![v656.toNat, 0]
abbrev stage0_0 : Fin 1 → Memref sig .tc .vmem S160x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 32 := Scalar.addi v2 c0_i32
  let c0_i32_365_r2 : BitVec 32 := 0#32
  ![v4.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 32 := Scalar.addi v2 c0_i32
  let c0_i32_365_r4 : BitVec 32 := 0#32
  ![v4.toNat, 0]
@[reducible] def k1_t1_loop : Scf.Loop 32 :=
  let c0_i32_1 : BitVec 32 := 0#32
  let c314_i32 : BitVec 32 := 314#32
  let v11 : BitVec 32 := Scalar.addi c0_i32_1 c314_i32
  let c1_i32 : BitVec 32 := 1#32
  ⟨c0_i32_1, v11, c1_i32⟩
def k1_off3 (k1_t1 : Fin k1_t1_loop.trips) (c0_i32_365 : BitVec 32) : Fin 1 → Nat :=
  let c0_i32_1 : BitVec 32 := 0#32
  let c1_i32 : BitVec 32 := 1#32
  let arg17 : BitVec 32 := Scf.iv c0_i32_1 c1_i32 k1_t1
  let c64_i32 : BitVec 32 := 64#32
  let v996 : BitVec 32 := Scalar.muli arg17 c64_i32
  let v997 : BitVec 32 := Scalar.addi v996 c0_i32_365
  let v998 : Index := Scalar.indexCast v997
  ![v998.toNat]

def k1_chk1 (v22 : IVec S16 32) : Prop :=
  (∀ a x, ((![v22] : Fin 1 → IVec S16 32) a x).toNat < S20096.size a) ∧
  (∀ a x, ((![v22] : Fin 1 → IVec S16 32) a x).toNat < S20096.size a) ∧
  (∀ a x, ((![v22] : Fin 1 → IVec S16 32) a x).toNat < S20096.size a)
theorem k1_idx1_inb : ∀ (v22 : IVec S16 32) (k1_hw1 : k1_chk1 v22), ∀ a x, ((![v22] : Fin 1 → IVec S16 32) a x).toNat < S20096.size a := fun v22 k1_hw1 => k1_hw1.1
theorem k1_idx2_inb : ∀ (v22 : IVec S16 32) (k1_hw1 : k1_chk1 v22), ∀ a x, ((![v22] : Fin 1 → IVec S16 32) a x).toNat < S20096.size a := fun v22 k1_hw1 => k1_hw1.2.1
theorem k1_idx3_inb : ∀ (v22 : IVec S16 32) (k1_hw1 : k1_chk1 v22), ∀ a x, ((![v22] : Fin 1 → IVec S16 32) a x).toNat < S20096.size a := fun v22 k1_hw1 => k1_hw1.2.2

def k1_chk2 (v32 : IVec S16 32) : Prop :=
  (∀ a x, ((![v32] : Fin 1 → IVec S16 32) a x).toNat < S20096.size a) ∧
  (∀ a x, ((![v32] : Fin 1 → IVec S16 32) a x).toNat < S20096.size a) ∧
  (∀ a x, ((![v32] : Fin 1 → IVec S16 32) a x).toNat < S20096.size a)
theorem k1_idx4_inb : ∀ (v32 : IVec S16 32) (k1_hw2 : k1_chk2 v32), ∀ a x, ((![v32] : Fin 1 → IVec S16 32) a x).toNat < S20096.size a := fun v32 k1_hw2 => k1_hw2.1
theorem k1_idx5_inb : ∀ (v32 : IVec S16 32) (k1_hw2 : k1_chk2 v32), ∀ a x, ((![v32] : Fin 1 → IVec S16 32) a x).toNat < S20096.size a := fun v32 k1_hw2 => k1_hw2.2.1
theorem k1_idx6_inb : ∀ (v32 : IVec S16 32) (k1_hw2 : k1_chk2 v32), ∀ a x, ((![v32] : Fin 1 → IVec S16 32) a x).toNat < S20096.size a := fun v32 k1_hw2 => k1_hw2.2.2

def k1_chk3 (v42 : IVec S16 32) : Prop :=
  (∀ a x, ((![v42] : Fin 1 → IVec S16 32) a x).toNat < S20096.size a) ∧
  (∀ a x, ((![v42] : Fin 1 → IVec S16 32) a x).toNat < S20096.size a) ∧
  (∀ a x, ((![v42] : Fin 1 → IVec S16 32) a x).toNat < S20096.size a)
theorem k1_idx7_inb : ∀ (v42 : IVec S16 32) (k1_hw3 : k1_chk3 v42), ∀ a x, ((![v42] : Fin 1 → IVec S16 32) a x).toNat < S20096.size a := fun v42 k1_hw3 => k1_hw3.1
theorem k1_idx8_inb : ∀ (v42 : IVec S16 32) (k1_hw3 : k1_chk3 v42), ∀ a x, ((![v42] : Fin 1 → IVec S16 32) a x).toNat < S20096.size a := fun v42 k1_hw3 => k1_hw3.2.1
theorem k1_idx9_inb : ∀ (v42 : IVec S16 32) (k1_hw3 : k1_chk3 v42), ∀ a x, ((![v42] : Fin 1 → IVec S16 32) a x).toNat < S20096.size a := fun v42 k1_hw3 => k1_hw3.2.2

def k1_chk4 (v52 : IVec S16 32) : Prop :=
  (∀ a x, ((![v52] : Fin 1 → IVec S16 32) a x).toNat < S20096.size a) ∧
  (∀ a x, ((![v52] : Fin 1 → IVec S16 32) a x).toNat < S20096.size a) ∧
  (∀ a x, ((![v52] : Fin 1 → IVec S16 32) a x).toNat < S20096.size a)
theorem k1_idx10_inb : ∀ (v52 : IVec S16 32) (k1_hw4 : k1_chk4 v52), ∀ a x, ((![v52] : Fin 1 → IVec S16 32) a x).toNat < S20096.size a := fun v52 k1_hw4 => k1_hw4.1
theorem k1_idx11_inb : ∀ (v52 : IVec S16 32) (k1_hw4 : k1_chk4 v52), ∀ a x, ((![v52] : Fin 1 → IVec S16 32) a x).toNat < S20096.size a := fun v52 k1_hw4 => k1_hw4.2.1
theorem k1_idx12_inb : ∀ (v52 : IVec S16 32) (k1_hw4 : k1_chk4 v52), ∀ a x, ((![v52] : Fin 1 → IVec S16 32) a x).toNat < S20096.size a := fun v52 k1_hw4 => k1_hw4.2.2

def k1_chk5 (v62 : IVec S16 32) : Prop :=
  (∀ a x, ((![v62] : Fin 1 → IVec S16 32) a x).toNat < S20096.size a) ∧
  (∀ a x, ((![v62] : Fin 1 → IVec S16 32) a x).toNat < S20096.size a) ∧
  (∀ a x, ((![v62] : Fin 1 → IVec S16 32) a x).toNat < S20096.size a)
theorem k1_idx13_inb : ∀ (v62 : IVec S16 32) (k1_hw5 : k1_chk5 v62), ∀ a x, ((![v62] : Fin 1 → IVec S16 32) a x).toNat < S20096.size a := fun v62 k1_hw5 => k1_hw5.1
theorem k1_idx14_inb : ∀ (v62 : IVec S16 32) (k1_hw5 : k1_chk5 v62), ∀ a x, ((![v62] : Fin 1 → IVec S16 32) a x).toNat < S20096.size a := fun v62 k1_hw5 => k1_hw5.2.1
theorem k1_idx15_inb : ∀ (v62 : IVec S16 32) (k1_hw5 : k1_chk5 v62), ∀ a x, ((![v62] : Fin 1 → IVec S16 32) a x).toNat < S20096.size a := fun v62 k1_hw5 => k1_hw5.2.2

def k1_chk6 (v72 : IVec S16 32) : Prop :=
  (∀ a x, ((![v72] : Fin 1 → IVec S16 32) a x).toNat < S20096.size a) ∧
  (∀ a x, ((![v72] : Fin 1 → IVec S16 32) a x).toNat < S20096.size a) ∧
  (∀ a x, ((![v72] : Fin 1 → IVec S16 32) a x).toNat < S20096.size a)
theorem k1_idx16_inb : ∀ (v72 : IVec S16 32) (k1_hw6 : k1_chk6 v72), ∀ a x, ((![v72] : Fin 1 → IVec S16 32) a x).toNat < S20096.size a := fun v72 k1_hw6 => k1_hw6.1
theorem k1_idx17_inb : ∀ (v72 : IVec S16 32) (k1_hw6 : k1_chk6 v72), ∀ a x, ((![v72] : Fin 1 → IVec S16 32) a x).toNat < S20096.size a := fun v72 k1_hw6 => k1_hw6.2.1
theorem k1_idx18_inb : ∀ (v72 : IVec S16 32) (k1_hw6 : k1_chk6 v72), ∀ a x, ((![v72] : Fin 1 → IVec S16 32) a x).toNat < S20096.size a := fun v72 k1_hw6 => k1_hw6.2.2

def k1_chk7 (v82 : IVec S16 32) : Prop :=
  (∀ a x, ((![v82] : Fin 1 → IVec S16 32) a x).toNat < S20096.size a) ∧
  (∀ a x, ((![v82] : Fin 1 → IVec S16 32) a x).toNat < S20096.size a) ∧
  (∀ a x, ((![v82] : Fin 1 → IVec S16 32) a x).toNat < S20096.size a)
theorem k1_idx19_inb : ∀ (v82 : IVec S16 32) (k1_hw7 : k1_chk7 v82), ∀ a x, ((![v82] : Fin 1 → IVec S16 32) a x).toNat < S20096.size a := fun v82 k1_hw7 => k1_hw7.1
theorem k1_idx20_inb : ∀ (v82 : IVec S16 32) (k1_hw7 : k1_chk7 v82), ∀ a x, ((![v82] : Fin 1 → IVec S16 32) a x).toNat < S20096.size a := fun v82 k1_hw7 => k1_hw7.2.1
theorem k1_idx21_inb : ∀ (v82 : IVec S16 32) (k1_hw7 : k1_chk7 v82), ∀ a x, ((![v82] : Fin 1 → IVec S16 32) a x).toNat < S20096.size a := fun v82 k1_hw7 => k1_hw7.2.2

def k1_chk8 (v92 : IVec S16 32) : Prop :=
  (∀ a x, ((![v92] : Fin 1 → IVec S16 32) a x).toNat < S20096.size a) ∧
  (∀ a x, ((![v92] : Fin 1 → IVec S16 32) a x).toNat < S20096.size a) ∧
  (∀ a x, ((![v92] : Fin 1 → IVec S16 32) a x).toNat < S20096.size a)
theorem k1_idx22_inb : ∀ (v92 : IVec S16 32) (k1_hw8 : k1_chk8 v92), ∀ a x, ((![v92] : Fin 1 → IVec S16 32) a x).toNat < S20096.size a := fun v92 k1_hw8 => k1_hw8.1
theorem k1_idx23_inb : ∀ (v92 : IVec S16 32) (k1_hw8 : k1_chk8 v92), ∀ a x, ((![v92] : Fin 1 → IVec S16 32) a x).toNat < S20096.size a := fun v92 k1_hw8 => k1_hw8.2.1
theorem k1_idx24_inb : ∀ (v92 : IVec S16 32) (k1_hw8 : k1_chk8 v92), ∀ a x, ((![v92] : Fin 1 → IVec S16 32) a x).toNat < S20096.size a := fun v92 k1_hw8 => k1_hw8.2.2

def k1_chk9 (v102 : IVec S16 32) : Prop :=
  (∀ a x, ((![v102] : Fin 1 → IVec S16 32) a x).toNat < S20096.size a) ∧
  (∀ a x, ((![v102] : Fin 1 → IVec S16 32) a x).toNat < S20096.size a) ∧
  (∀ a x, ((![v102] : Fin 1 → IVec S16 32) a x).toNat < S20096.size a)
theorem k1_idx25_inb : ∀ (v102 : IVec S16 32) (k1_hw9 : k1_chk9 v102), ∀ a x, ((![v102] : Fin 1 → IVec S16 32) a x).toNat < S20096.size a := fun v102 k1_hw9 => k1_hw9.1
theorem k1_idx26_inb : ∀ (v102 : IVec S16 32) (k1_hw9 : k1_chk9 v102), ∀ a x, ((![v102] : Fin 1 → IVec S16 32) a x).toNat < S20096.size a := fun v102 k1_hw9 => k1_hw9.2.1
theorem k1_idx27_inb : ∀ (v102 : IVec S16 32) (k1_hw9 : k1_chk9 v102), ∀ a x, ((![v102] : Fin 1 → IVec S16 32) a x).toNat < S20096.size a := fun v102 k1_hw9 => k1_hw9.2.2

def k1_chk10 (v112 : IVec S16 32) : Prop :=
  (∀ a x, ((![v112] : Fin 1 → IVec S16 32) a x).toNat < S20096.size a) ∧
  (∀ a x, ((![v112] : Fin 1 → IVec S16 32) a x).toNat < S20096.size a) ∧
  (∀ a x, ((![v112] : Fin 1 → IVec S16 32) a x).toNat < S20096.size a)
theorem k1_idx28_inb : ∀ (v112 : IVec S16 32) (k1_hw10 : k1_chk10 v112), ∀ a x, ((![v112] : Fin 1 → IVec S16 32) a x).toNat < S20096.size a := fun v112 k1_hw10 => k1_hw10.1
theorem k1_idx29_inb : ∀ (v112 : IVec S16 32) (k1_hw10 : k1_chk10 v112), ∀ a x, ((![v112] : Fin 1 → IVec S16 32) a x).toNat < S20096.size a := fun v112 k1_hw10 => k1_hw10.2.1
theorem k1_idx30_inb : ∀ (v112 : IVec S16 32) (k1_hw10 : k1_chk10 v112), ∀ a x, ((![v112] : Fin 1 → IVec S16 32) a x).toNat < S20096.size a := fun v112 k1_hw10 => k1_hw10.2.2
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 32 := Scalar.addi v2 c0_i32
  let c0_i32_30 : BitVec 32 := 0#32
  ![v4.toNat, 0]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_32 : BitVec 32 := 1#32
  let v124 : BitVec 32 := Scalar.addi v2 c1_i32_32
  let c0_i32_365_r5 : BitVec 32 := 0#32
  ![v124.toNat, 0]
def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_32 : BitVec 32 := 1#32
  let v124 : BitVec 32 := Scalar.addi v2 c1_i32_32
  let c0_i32_365_r7 : BitVec 32 := 0#32
  ![v124.toNat, 0]
@[reducible] def k1_t2_loop : Scf.Loop 32 :=
  let c0_i32_38 : BitVec 32 := 0#32
  let c314_i32_39 : BitVec 32 := 314#32
  let v131 : BitVec 32 := Scalar.addi c0_i32_38 c314_i32_39
  let c1_i32_40 : BitVec 32 := 1#32
  ⟨c0_i32_38, v131, c1_i32_40⟩
def k1_off7 (k1_t2 : Fin k1_t2_loop.trips) (c0_i32_365 : BitVec 32) : Fin 1 → Nat :=
  let c0_i32_38 : BitVec 32 := 0#32
  let c1_i32_40 : BitVec 32 := 1#32
  let arg17 : BitVec 32 := Scf.iv c0_i32_38 c1_i32_40 k1_t2
  let c64_i32 : BitVec 32 := 64#32
  let v996 : BitVec 32 := Scalar.muli arg17 c64_i32
  let v997 : BitVec 32 := Scalar.addi v996 c0_i32_365
  let v998 : Index := Scalar.indexCast v997
  ![v998.toNat]

def k1_chk11 (v142 : IVec S16 32) : Prop :=
  (∀ a x, ((![v142] : Fin 1 → IVec S16 32) a x).toNat < S20096.size a) ∧
  (∀ a x, ((![v142] : Fin 1 → IVec S16 32) a x).toNat < S20096.size a) ∧
  (∀ a x, ((![v142] : Fin 1 → IVec S16 32) a x).toNat < S20096.size a)
theorem k1_idx31_inb : ∀ (v142 : IVec S16 32) (k1_hw11 : k1_chk11 v142), ∀ a x, ((![v142] : Fin 1 → IVec S16 32) a x).toNat < S20096.size a := fun v142 k1_hw11 => k1_hw11.1
theorem k1_idx32_inb : ∀ (v142 : IVec S16 32) (k1_hw11 : k1_chk11 v142), ∀ a x, ((![v142] : Fin 1 → IVec S16 32) a x).toNat < S20096.size a := fun v142 k1_hw11 => k1_hw11.2.1
theorem k1_idx33_inb : ∀ (v142 : IVec S16 32) (k1_hw11 : k1_chk11 v142), ∀ a x, ((![v142] : Fin 1 → IVec S16 32) a x).toNat < S20096.size a := fun v142 k1_hw11 => k1_hw11.2.2

def k1_chk12 (v152 : IVec S16 32) : Prop :=
  (∀ a x, ((![v152] : Fin 1 → IVec S16 32) a x).toNat < S20096.size a) ∧
  (∀ a x, ((![v152] : Fin 1 → IVec S16 32) a x).toNat < S20096.size a) ∧
  (∀ a x, ((![v152] : Fin 1 → IVec S16 32) a x).toNat < S20096.size a)
theorem k1_idx34_inb : ∀ (v152 : IVec S16 32) (k1_hw12 : k1_chk12 v152), ∀ a x, ((![v152] : Fin 1 → IVec S16 32) a x).toNat < S20096.size a := fun v152 k1_hw12 => k1_hw12.1
theorem k1_idx35_inb : ∀ (v152 : IVec S16 32) (k1_hw12 : k1_chk12 v152), ∀ a x, ((![v152] : Fin 1 → IVec S16 32) a x).toNat < S20096.size a := fun v152 k1_hw12 => k1_hw12.2.1
theorem k1_idx36_inb : ∀ (v152 : IVec S16 32) (k1_hw12 : k1_chk12 v152), ∀ a x, ((![v152] : Fin 1 → IVec S16 32) a x).toNat < S20096.size a := fun v152 k1_hw12 => k1_hw12.2.2

def k1_chk13 (v162 : IVec S16 32) : Prop :=
  (∀ a x, ((![v162] : Fin 1 → IVec S16 32) a x).toNat < S20096.size a) ∧
  (∀ a x, ((![v162] : Fin 1 → IVec S16 32) a x).toNat < S20096.size a) ∧
  (∀ a x, ((![v162] : Fin 1 → IVec S16 32) a x).toNat < S20096.size a)
theorem k1_idx37_inb : ∀ (v162 : IVec S16 32) (k1_hw13 : k1_chk13 v162), ∀ a x, ((![v162] : Fin 1 → IVec S16 32) a x).toNat < S20096.size a := fun v162 k1_hw13 => k1_hw13.1
theorem k1_idx38_inb : ∀ (v162 : IVec S16 32) (k1_hw13 : k1_chk13 v162), ∀ a x, ((![v162] : Fin 1 → IVec S16 32) a x).toNat < S20096.size a := fun v162 k1_hw13 => k1_hw13.2.1
theorem k1_idx39_inb : ∀ (v162 : IVec S16 32) (k1_hw13 : k1_chk13 v162), ∀ a x, ((![v162] : Fin 1 → IVec S16 32) a x).toNat < S20096.size a := fun v162 k1_hw13 => k1_hw13.2.2

def k1_chk14 (v172 : IVec S16 32) : Prop :=
  (∀ a x, ((![v172] : Fin 1 → IVec S16 32) a x).toNat < S20096.size a) ∧
  (∀ a x, ((![v172] : Fin 1 → IVec S16 32) a x).toNat < S20096.size a) ∧
  (∀ a x, ((![v172] : Fin 1 → IVec S16 32) a x).toNat < S20096.size a)
theorem k1_idx40_inb : ∀ (v172 : IVec S16 32) (k1_hw14 : k1_chk14 v172), ∀ a x, ((![v172] : Fin 1 → IVec S16 32) a x).toNat < S20096.size a := fun v172 k1_hw14 => k1_hw14.1
theorem k1_idx41_inb : ∀ (v172 : IVec S16 32) (k1_hw14 : k1_chk14 v172), ∀ a x, ((![v172] : Fin 1 → IVec S16 32) a x).toNat < S20096.size a := fun v172 k1_hw14 => k1_hw14.2.1
theorem k1_idx42_inb : ∀ (v172 : IVec S16 32) (k1_hw14 : k1_chk14 v172), ∀ a x, ((![v172] : Fin 1 → IVec S16 32) a x).toNat < S20096.size a := fun v172 k1_hw14 => k1_hw14.2.2

def k1_chk15 (v182 : IVec S16 32) : Prop :=
  (∀ a x, ((![v182] : Fin 1 → IVec S16 32) a x).toNat < S20096.size a) ∧
  (∀ a x, ((![v182] : Fin 1 → IVec S16 32) a x).toNat < S20096.size a) ∧
  (∀ a x, ((![v182] : Fin 1 → IVec S16 32) a x).toNat < S20096.size a)
theorem k1_idx43_inb : ∀ (v182 : IVec S16 32) (k1_hw15 : k1_chk15 v182), ∀ a x, ((![v182] : Fin 1 → IVec S16 32) a x).toNat < S20096.size a := fun v182 k1_hw15 => k1_hw15.1
theorem k1_idx44_inb : ∀ (v182 : IVec S16 32) (k1_hw15 : k1_chk15 v182), ∀ a x, ((![v182] : Fin 1 → IVec S16 32) a x).toNat < S20096.size a := fun v182 k1_hw15 => k1_hw15.2.1
theorem k1_idx45_inb : ∀ (v182 : IVec S16 32) (k1_hw15 : k1_chk15 v182), ∀ a x, ((![v182] : Fin 1 → IVec S16 32) a x).toNat < S20096.size a := fun v182 k1_hw15 => k1_hw15.2.2

def k1_chk16 (v192 : IVec S16 32) : Prop :=
  (∀ a x, ((![v192] : Fin 1 → IVec S16 32) a x).toNat < S20096.size a) ∧
  (∀ a x, ((![v192] : Fin 1 → IVec S16 32) a x).toNat < S20096.size a) ∧
  (∀ a x, ((![v192] : Fin 1 → IVec S16 32) a x).toNat < S20096.size a)
theorem k1_idx46_inb : ∀ (v192 : IVec S16 32) (k1_hw16 : k1_chk16 v192), ∀ a x, ((![v192] : Fin 1 → IVec S16 32) a x).toNat < S20096.size a := fun v192 k1_hw16 => k1_hw16.1
theorem k1_idx47_inb : ∀ (v192 : IVec S16 32) (k1_hw16 : k1_chk16 v192), ∀ a x, ((![v192] : Fin 1 → IVec S16 32) a x).toNat < S20096.size a := fun v192 k1_hw16 => k1_hw16.2.1
theorem k1_idx48_inb : ∀ (v192 : IVec S16 32) (k1_hw16 : k1_chk16 v192), ∀ a x, ((![v192] : Fin 1 → IVec S16 32) a x).toNat < S20096.size a := fun v192 k1_hw16 => k1_hw16.2.2

def k1_chk17 (v202 : IVec S16 32) : Prop :=
  (∀ a x, ((![v202] : Fin 1 → IVec S16 32) a x).toNat < S20096.size a) ∧
  (∀ a x, ((![v202] : Fin 1 → IVec S16 32) a x).toNat < S20096.size a) ∧
  (∀ a x, ((![v202] : Fin 1 → IVec S16 32) a x).toNat < S20096.size a)
theorem k1_idx49_inb : ∀ (v202 : IVec S16 32) (k1_hw17 : k1_chk17 v202), ∀ a x, ((![v202] : Fin 1 → IVec S16 32) a x).toNat < S20096.size a := fun v202 k1_hw17 => k1_hw17.1
theorem k1_idx50_inb : ∀ (v202 : IVec S16 32) (k1_hw17 : k1_chk17 v202), ∀ a x, ((![v202] : Fin 1 → IVec S16 32) a x).toNat < S20096.size a := fun v202 k1_hw17 => k1_hw17.2.1
theorem k1_idx51_inb : ∀ (v202 : IVec S16 32) (k1_hw17 : k1_chk17 v202), ∀ a x, ((![v202] : Fin 1 → IVec S16 32) a x).toNat < S20096.size a := fun v202 k1_hw17 => k1_hw17.2.2

def k1_chk18 (v212 : IVec S16 32) : Prop :=
  (∀ a x, ((![v212] : Fin 1 → IVec S16 32) a x).toNat < S20096.size a) ∧
  (∀ a x, ((![v212] : Fin 1 → IVec S16 32) a x).toNat < S20096.size a) ∧
  (∀ a x, ((![v212] : Fin 1 → IVec S16 32) a x).toNat < S20096.size a)
theorem k1_idx52_inb : ∀ (v212 : IVec S16 32) (k1_hw18 : k1_chk18 v212), ∀ a x, ((![v212] : Fin 1 → IVec S16 32) a x).toNat < S20096.size a := fun v212 k1_hw18 => k1_hw18.1
theorem k1_idx53_inb : ∀ (v212 : IVec S16 32) (k1_hw18 : k1_chk18 v212), ∀ a x, ((![v212] : Fin 1 → IVec S16 32) a x).toNat < S20096.size a := fun v212 k1_hw18 => k1_hw18.2.1
theorem k1_idx54_inb : ∀ (v212 : IVec S16 32) (k1_hw18 : k1_chk18 v212), ∀ a x, ((![v212] : Fin 1 → IVec S16 32) a x).toNat < S20096.size a := fun v212 k1_hw18 => k1_hw18.2.2

def k1_chk19 (v222 : IVec S16 32) : Prop :=
  (∀ a x, ((![v222] : Fin 1 → IVec S16 32) a x).toNat < S20096.size a) ∧
  (∀ a x, ((![v222] : Fin 1 → IVec S16 32) a x).toNat < S20096.size a) ∧
  (∀ a x, ((![v222] : Fin 1 → IVec S16 32) a x).toNat < S20096.size a)
theorem k1_idx55_inb : ∀ (v222 : IVec S16 32) (k1_hw19 : k1_chk19 v222), ∀ a x, ((![v222] : Fin 1 → IVec S16 32) a x).toNat < S20096.size a := fun v222 k1_hw19 => k1_hw19.1
theorem k1_idx56_inb : ∀ (v222 : IVec S16 32) (k1_hw19 : k1_chk19 v222), ∀ a x, ((![v222] : Fin 1 → IVec S16 32) a x).toNat < S20096.size a := fun v222 k1_hw19 => k1_hw19.2.1
theorem k1_idx57_inb : ∀ (v222 : IVec S16 32) (k1_hw19 : k1_chk19 v222), ∀ a x, ((![v222] : Fin 1 → IVec S16 32) a x).toNat < S20096.size a := fun v222 k1_hw19 => k1_hw19.2.2

def k1_chk20 (v232 : IVec S16 32) : Prop :=
  (∀ a x, ((![v232] : Fin 1 → IVec S16 32) a x).toNat < S20096.size a) ∧
  (∀ a x, ((![v232] : Fin 1 → IVec S16 32) a x).toNat < S20096.size a) ∧
  (∀ a x, ((![v232] : Fin 1 → IVec S16 32) a x).toNat < S20096.size a)
theorem k1_idx58_inb : ∀ (v232 : IVec S16 32) (k1_hw20 : k1_chk20 v232), ∀ a x, ((![v232] : Fin 1 → IVec S16 32) a x).toNat < S20096.size a := fun v232 k1_hw20 => k1_hw20.1
theorem k1_idx59_inb : ∀ (v232 : IVec S16 32) (k1_hw20 : k1_chk20 v232), ∀ a x, ((![v232] : Fin 1 → IVec S16 32) a x).toNat < S20096.size a := fun v232 k1_hw20 => k1_hw20.2.1
theorem k1_idx60_inb : ∀ (v232 : IVec S16 32) (k1_hw20 : k1_chk20 v232), ∀ a x, ((![v232] : Fin 1 → IVec S16 32) a x).toNat < S20096.size a := fun v232 k1_hw20 => k1_hw20.2.2
def k1_off8 (i : grid1.Coords) (c1_i32_32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v124 : BitVec 32 := Scalar.addi v2 c1_i32_32
  let c0_i32_76 : BitVec 32 := 0#32
  ![v124.toNat, 0]
def k1_off9 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c2_i32_80 : BitVec 32 := 2#32
  let v248 : BitVec 32 := Scalar.addi v2 c2_i32_80
  let c0_i32_365_r8 : BitVec 32 := 0#32
  ![v248.toNat, 0]
def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c2_i32_80 : BitVec 32 := 2#32
  let v248 : BitVec 32 := Scalar.addi v2 c2_i32_80
  let c0_i32_365_r10 : BitVec 32 := 0#32
  ![v248.toNat, 0]
@[reducible] def k1_t3_loop : Scf.Loop 32 :=
  let c0_i32_86 : BitVec 32 := 0#32
  let c314_i32_87 : BitVec 32 := 314#32
  let v255 : BitVec 32 := Scalar.addi c0_i32_86 c314_i32_87
  let c1_i32_88 : BitVec 32 := 1#32
  ⟨c0_i32_86, v255, c1_i32_88⟩
def k1_off11 (k1_t3 : Fin k1_t3_loop.trips) (c0_i32_365 : BitVec 32) : Fin 1 → Nat :=
  let c0_i32_86 : BitVec 32 := 0#32
  let c1_i32_88 : BitVec 32 := 1#32
  let arg17 : BitVec 32 := Scf.iv c0_i32_86 c1_i32_88 k1_t3
  let c64_i32 : BitVec 32 := 64#32
  let v996 : BitVec 32 := Scalar.muli arg17 c64_i32
  let v997 : BitVec 32 := Scalar.addi v996 c0_i32_365
  let v998 : Index := Scalar.indexCast v997
  ![v998.toNat]

def k1_chk21 (v266 : IVec S16 32) : Prop :=
  (∀ a x, ((![v266] : Fin 1 → IVec S16 32) a x).toNat < S20096.size a) ∧
  (∀ a x, ((![v266] : Fin 1 → IVec S16 32) a x).toNat < S20096.size a) ∧
  (∀ a x, ((![v266] : Fin 1 → IVec S16 32) a x).toNat < S20096.size a)
theorem k1_idx61_inb : ∀ (v266 : IVec S16 32) (k1_hw21 : k1_chk21 v266), ∀ a x, ((![v266] : Fin 1 → IVec S16 32) a x).toNat < S20096.size a := fun v266 k1_hw21 => k1_hw21.1
theorem k1_idx62_inb : ∀ (v266 : IVec S16 32) (k1_hw21 : k1_chk21 v266), ∀ a x, ((![v266] : Fin 1 → IVec S16 32) a x).toNat < S20096.size a := fun v266 k1_hw21 => k1_hw21.2.1
theorem k1_idx63_inb : ∀ (v266 : IVec S16 32) (k1_hw21 : k1_chk21 v266), ∀ a x, ((![v266] : Fin 1 → IVec S16 32) a x).toNat < S20096.size a := fun v266 k1_hw21 => k1_hw21.2.2

def k1_chk22 (v276 : IVec S16 32) : Prop :=
  (∀ a x, ((![v276] : Fin 1 → IVec S16 32) a x).toNat < S20096.size a) ∧
  (∀ a x, ((![v276] : Fin 1 → IVec S16 32) a x).toNat < S20096.size a) ∧
  (∀ a x, ((![v276] : Fin 1 → IVec S16 32) a x).toNat < S20096.size a)
theorem k1_idx64_inb : ∀ (v276 : IVec S16 32) (k1_hw22 : k1_chk22 v276), ∀ a x, ((![v276] : Fin 1 → IVec S16 32) a x).toNat < S20096.size a := fun v276 k1_hw22 => k1_hw22.1
theorem k1_idx65_inb : ∀ (v276 : IVec S16 32) (k1_hw22 : k1_chk22 v276), ∀ a x, ((![v276] : Fin 1 → IVec S16 32) a x).toNat < S20096.size a := fun v276 k1_hw22 => k1_hw22.2.1
theorem k1_idx66_inb : ∀ (v276 : IVec S16 32) (k1_hw22 : k1_chk22 v276), ∀ a x, ((![v276] : Fin 1 → IVec S16 32) a x).toNat < S20096.size a := fun v276 k1_hw22 => k1_hw22.2.2

def k1_chk23 (v286 : IVec S16 32) : Prop :=
  (∀ a x, ((![v286] : Fin 1 → IVec S16 32) a x).toNat < S20096.size a) ∧
  (∀ a x, ((![v286] : Fin 1 → IVec S16 32) a x).toNat < S20096.size a) ∧
  (∀ a x, ((![v286] : Fin 1 → IVec S16 32) a x).toNat < S20096.size a)
theorem k1_idx67_inb : ∀ (v286 : IVec S16 32) (k1_hw23 : k1_chk23 v286), ∀ a x, ((![v286] : Fin 1 → IVec S16 32) a x).toNat < S20096.size a := fun v286 k1_hw23 => k1_hw23.1
theorem k1_idx68_inb : ∀ (v286 : IVec S16 32) (k1_hw23 : k1_chk23 v286), ∀ a x, ((![v286] : Fin 1 → IVec S16 32) a x).toNat < S20096.size a := fun v286 k1_hw23 => k1_hw23.2.1
theorem k1_idx69_inb : ∀ (v286 : IVec S16 32) (k1_hw23 : k1_chk23 v286), ∀ a x, ((![v286] : Fin 1 → IVec S16 32) a x).toNat < S20096.size a := fun v286 k1_hw23 => k1_hw23.2.2

def k1_chk24 (v296 : IVec S16 32) : Prop :=
  (∀ a x, ((![v296] : Fin 1 → IVec S16 32) a x).toNat < S20096.size a) ∧
  (∀ a x, ((![v296] : Fin 1 → IVec S16 32) a x).toNat < S20096.size a) ∧
  (∀ a x, ((![v296] : Fin 1 → IVec S16 32) a x).toNat < S20096.size a)
theorem k1_idx70_inb : ∀ (v296 : IVec S16 32) (k1_hw24 : k1_chk24 v296), ∀ a x, ((![v296] : Fin 1 → IVec S16 32) a x).toNat < S20096.size a := fun v296 k1_hw24 => k1_hw24.1
theorem k1_idx71_inb : ∀ (v296 : IVec S16 32) (k1_hw24 : k1_chk24 v296), ∀ a x, ((![v296] : Fin 1 → IVec S16 32) a x).toNat < S20096.size a := fun v296 k1_hw24 => k1_hw24.2.1
theorem k1_idx72_inb : ∀ (v296 : IVec S16 32) (k1_hw24 : k1_chk24 v296), ∀ a x, ((![v296] : Fin 1 → IVec S16 32) a x).toNat < S20096.size a := fun v296 k1_hw24 => k1_hw24.2.2

def k1_chk25 (v306 : IVec S16 32) : Prop :=
  (∀ a x, ((![v306] : Fin 1 → IVec S16 32) a x).toNat < S20096.size a) ∧
  (∀ a x, ((![v306] : Fin 1 → IVec S16 32) a x).toNat < S20096.size a) ∧
  (∀ a x, ((![v306] : Fin 1 → IVec S16 32) a x).toNat < S20096.size a)
theorem k1_idx73_inb : ∀ (v306 : IVec S16 32) (k1_hw25 : k1_chk25 v306), ∀ a x, ((![v306] : Fin 1 → IVec S16 32) a x).toNat < S20096.size a := fun v306 k1_hw25 => k1_hw25.1
theorem k1_idx74_inb : ∀ (v306 : IVec S16 32) (k1_hw25 : k1_chk25 v306), ∀ a x, ((![v306] : Fin 1 → IVec S16 32) a x).toNat < S20096.size a := fun v306 k1_hw25 => k1_hw25.2.1
theorem k1_idx75_inb : ∀ (v306 : IVec S16 32) (k1_hw25 : k1_chk25 v306), ∀ a x, ((![v306] : Fin 1 → IVec S16 32) a x).toNat < S20096.size a := fun v306 k1_hw25 => k1_hw25.2.2

def k1_chk26 (v316 : IVec S16 32) : Prop :=
  (∀ a x, ((![v316] : Fin 1 → IVec S16 32) a x).toNat < S20096.size a) ∧
  (∀ a x, ((![v316] : Fin 1 → IVec S16 32) a x).toNat < S20096.size a) ∧
  (∀ a x, ((![v316] : Fin 1 → IVec S16 32) a x).toNat < S20096.size a)
theorem k1_idx76_inb : ∀ (v316 : IVec S16 32) (k1_hw26 : k1_chk26 v316), ∀ a x, ((![v316] : Fin 1 → IVec S16 32) a x).toNat < S20096.size a := fun v316 k1_hw26 => k1_hw26.1
theorem k1_idx77_inb : ∀ (v316 : IVec S16 32) (k1_hw26 : k1_chk26 v316), ∀ a x, ((![v316] : Fin 1 → IVec S16 32) a x).toNat < S20096.size a := fun v316 k1_hw26 => k1_hw26.2.1
theorem k1_idx78_inb : ∀ (v316 : IVec S16 32) (k1_hw26 : k1_chk26 v316), ∀ a x, ((![v316] : Fin 1 → IVec S16 32) a x).toNat < S20096.size a := fun v316 k1_hw26 => k1_hw26.2.2

def k1_chk27 (v326 : IVec S16 32) : Prop :=
  (∀ a x, ((![v326] : Fin 1 → IVec S16 32) a x).toNat < S20096.size a) ∧
  (∀ a x, ((![v326] : Fin 1 → IVec S16 32) a x).toNat < S20096.size a) ∧
  (∀ a x, ((![v326] : Fin 1 → IVec S16 32) a x).toNat < S20096.size a)
theorem k1_idx79_inb : ∀ (v326 : IVec S16 32) (k1_hw27 : k1_chk27 v326), ∀ a x, ((![v326] : Fin 1 → IVec S16 32) a x).toNat < S20096.size a := fun v326 k1_hw27 => k1_hw27.1
theorem k1_idx80_inb : ∀ (v326 : IVec S16 32) (k1_hw27 : k1_chk27 v326), ∀ a x, ((![v326] : Fin 1 → IVec S16 32) a x).toNat < S20096.size a := fun v326 k1_hw27 => k1_hw27.2.1
theorem k1_idx81_inb : ∀ (v326 : IVec S16 32) (k1_hw27 : k1_chk27 v326), ∀ a x, ((![v326] : Fin 1 → IVec S16 32) a x).toNat < S20096.size a := fun v326 k1_hw27 => k1_hw27.2.2

def k1_chk28 (v336 : IVec S16 32) : Prop :=
  (∀ a x, ((![v336] : Fin 1 → IVec S16 32) a x).toNat < S20096.size a) ∧
  (∀ a x, ((![v336] : Fin 1 → IVec S16 32) a x).toNat < S20096.size a) ∧
  (∀ a x, ((![v336] : Fin 1 → IVec S16 32) a x).toNat < S20096.size a)
theorem k1_idx82_inb : ∀ (v336 : IVec S16 32) (k1_hw28 : k1_chk28 v336), ∀ a x, ((![v336] : Fin 1 → IVec S16 32) a x).toNat < S20096.size a := fun v336 k1_hw28 => k1_hw28.1
theorem k1_idx83_inb : ∀ (v336 : IVec S16 32) (k1_hw28 : k1_chk28 v336), ∀ a x, ((![v336] : Fin 1 → IVec S16 32) a x).toNat < S20096.size a := fun v336 k1_hw28 => k1_hw28.2.1
theorem k1_idx84_inb : ∀ (v336 : IVec S16 32) (k1_hw28 : k1_chk28 v336), ∀ a x, ((![v336] : Fin 1 → IVec S16 32) a x).toNat < S20096.size a := fun v336 k1_hw28 => k1_hw28.2.2

def k1_chk29 (v346 : IVec S16 32) : Prop :=
  (∀ a x, ((![v346] : Fin 1 → IVec S16 32) a x).toNat < S20096.size a) ∧
  (∀ a x, ((![v346] : Fin 1 → IVec S16 32) a x).toNat < S20096.size a) ∧
  (∀ a x, ((![v346] : Fin 1 → IVec S16 32) a x).toNat < S20096.size a)
theorem k1_idx85_inb : ∀ (v346 : IVec S16 32) (k1_hw29 : k1_chk29 v346), ∀ a x, ((![v346] : Fin 1 → IVec S16 32) a x).toNat < S20096.size a := fun v346 k1_hw29 => k1_hw29.1
theorem k1_idx86_inb : ∀ (v346 : IVec S16 32) (k1_hw29 : k1_chk29 v346), ∀ a x, ((![v346] : Fin 1 → IVec S16 32) a x).toNat < S20096.size a := fun v346 k1_hw29 => k1_hw29.2.1
theorem k1_idx87_inb : ∀ (v346 : IVec S16 32) (k1_hw29 : k1_chk29 v346), ∀ a x, ((![v346] : Fin 1 → IVec S16 32) a x).toNat < S20096.size a := fun v346 k1_hw29 => k1_hw29.2.2

def k1_chk30 (v356 : IVec S16 32) : Prop :=
  (∀ a x, ((![v356] : Fin 1 → IVec S16 32) a x).toNat < S20096.size a) ∧
  (∀ a x, ((![v356] : Fin 1 → IVec S16 32) a x).toNat < S20096.size a) ∧
  (∀ a x, ((![v356] : Fin 1 → IVec S16 32) a x).toNat < S20096.size a)
theorem k1_idx88_inb : ∀ (v356 : IVec S16 32) (k1_hw30 : k1_chk30 v356), ∀ a x, ((![v356] : Fin 1 → IVec S16 32) a x).toNat < S20096.size a := fun v356 k1_hw30 => k1_hw30.1
theorem k1_idx89_inb : ∀ (v356 : IVec S16 32) (k1_hw30 : k1_chk30 v356), ∀ a x, ((![v356] : Fin 1 → IVec S16 32) a x).toNat < S20096.size a := fun v356 k1_hw30 => k1_hw30.2.1
theorem k1_idx90_inb : ∀ (v356 : IVec S16 32) (k1_hw30 : k1_chk30 v356), ∀ a x, ((![v356] : Fin 1 → IVec S16 32) a x).toNat < S20096.size a := fun v356 k1_hw30 => k1_hw30.2.2
def k1_off12 (i : grid1.Coords) (c2_i32_80 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v248 : BitVec 32 := Scalar.addi v2 c2_i32_80
  let c0_i32_124 : BitVec 32 := 0#32
  ![v248.toNat, 0]
def k1_off13 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c3_i32 : BitVec 32 := 3#32
  let v372 : BitVec 32 := Scalar.addi v2 c3_i32
  let c0_i32_365_r11 : BitVec 32 := 0#32
  ![v372.toNat, 0]
def k1_off14 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c3_i32 : BitVec 32 := 3#32
  let v372 : BitVec 32 := Scalar.addi v2 c3_i32
  let c0_i32_365_r13 : BitVec 32 := 0#32
  ![v372.toNat, 0]
@[reducible] def k1_t4_loop : Scf.Loop 32 :=
  let c0_i32_133 : BitVec 32 := 0#32
  let c314_i32_134 : BitVec 32 := 314#32
  let v379 : BitVec 32 := Scalar.addi c0_i32_133 c314_i32_134
  let c1_i32_135 : BitVec 32 := 1#32
  ⟨c0_i32_133, v379, c1_i32_135⟩
def k1_off15 (k1_t4 : Fin k1_t4_loop.trips) (c0_i32_365 : BitVec 32) : Fin 1 → Nat :=
  let c0_i32_133 : BitVec 32 := 0#32
  let c1_i32_135 : BitVec 32 := 1#32
  let arg17 : BitVec 32 := Scf.iv c0_i32_133 c1_i32_135 k1_t4
  let c64_i32 : BitVec 32 := 64#32
  let v996 : BitVec 32 := Scalar.muli arg17 c64_i32
  let v997 : BitVec 32 := Scalar.addi v996 c0_i32_365
  let v998 : Index := Scalar.indexCast v997
  ![v998.toNat]

def k1_chk31 (v390 : IVec S16 32) : Prop :=
  (∀ a x, ((![v390] : Fin 1 → IVec S16 32) a x).toNat < S20096.size a) ∧
  (∀ a x, ((![v390] : Fin 1 → IVec S16 32) a x).toNat < S20096.size a) ∧
  (∀ a x, ((![v390] : Fin 1 → IVec S16 32) a x).toNat < S20096.size a)
theorem k1_idx91_inb : ∀ (v390 : IVec S16 32) (k1_hw31 : k1_chk31 v390), ∀ a x, ((![v390] : Fin 1 → IVec S16 32) a x).toNat < S20096.size a := fun v390 k1_hw31 => k1_hw31.1
theorem k1_idx92_inb : ∀ (v390 : IVec S16 32) (k1_hw31 : k1_chk31 v390), ∀ a x, ((![v390] : Fin 1 → IVec S16 32) a x).toNat < S20096.size a := fun v390 k1_hw31 => k1_hw31.2.1
theorem k1_idx93_inb : ∀ (v390 : IVec S16 32) (k1_hw31 : k1_chk31 v390), ∀ a x, ((![v390] : Fin 1 → IVec S16 32) a x).toNat < S20096.size a := fun v390 k1_hw31 => k1_hw31.2.2

def k1_chk32 (v400 : IVec S16 32) : Prop :=
  (∀ a x, ((![v400] : Fin 1 → IVec S16 32) a x).toNat < S20096.size a) ∧
  (∀ a x, ((![v400] : Fin 1 → IVec S16 32) a x).toNat < S20096.size a) ∧
  (∀ a x, ((![v400] : Fin 1 → IVec S16 32) a x).toNat < S20096.size a)
theorem k1_idx94_inb : ∀ (v400 : IVec S16 32) (k1_hw32 : k1_chk32 v400), ∀ a x, ((![v400] : Fin 1 → IVec S16 32) a x).toNat < S20096.size a := fun v400 k1_hw32 => k1_hw32.1
theorem k1_idx95_inb : ∀ (v400 : IVec S16 32) (k1_hw32 : k1_chk32 v400), ∀ a x, ((![v400] : Fin 1 → IVec S16 32) a x).toNat < S20096.size a := fun v400 k1_hw32 => k1_hw32.2.1
theorem k1_idx96_inb : ∀ (v400 : IVec S16 32) (k1_hw32 : k1_chk32 v400), ∀ a x, ((![v400] : Fin 1 → IVec S16 32) a x).toNat < S20096.size a := fun v400 k1_hw32 => k1_hw32.2.2

def k1_chk33 (v410 : IVec S16 32) : Prop :=
  (∀ a x, ((![v410] : Fin 1 → IVec S16 32) a x).toNat < S20096.size a) ∧
  (∀ a x, ((![v410] : Fin 1 → IVec S16 32) a x).toNat < S20096.size a) ∧
  (∀ a x, ((![v410] : Fin 1 → IVec S16 32) a x).toNat < S20096.size a)
theorem k1_idx97_inb : ∀ (v410 : IVec S16 32) (k1_hw33 : k1_chk33 v410), ∀ a x, ((![v410] : Fin 1 → IVec S16 32) a x).toNat < S20096.size a := fun v410 k1_hw33 => k1_hw33.1
theorem k1_idx98_inb : ∀ (v410 : IVec S16 32) (k1_hw33 : k1_chk33 v410), ∀ a x, ((![v410] : Fin 1 → IVec S16 32) a x).toNat < S20096.size a := fun v410 k1_hw33 => k1_hw33.2.1
theorem k1_idx99_inb : ∀ (v410 : IVec S16 32) (k1_hw33 : k1_chk33 v410), ∀ a x, ((![v410] : Fin 1 → IVec S16 32) a x).toNat < S20096.size a := fun v410 k1_hw33 => k1_hw33.2.2

def k1_chk34 (v420 : IVec S16 32) : Prop :=
  (∀ a x, ((![v420] : Fin 1 → IVec S16 32) a x).toNat < S20096.size a) ∧
  (∀ a x, ((![v420] : Fin 1 → IVec S16 32) a x).toNat < S20096.size a) ∧
  (∀ a x, ((![v420] : Fin 1 → IVec S16 32) a x).toNat < S20096.size a)
theorem k1_idx100_inb : ∀ (v420 : IVec S16 32) (k1_hw34 : k1_chk34 v420), ∀ a x, ((![v420] : Fin 1 → IVec S16 32) a x).toNat < S20096.size a := fun v420 k1_hw34 => k1_hw34.1
theorem k1_idx101_inb : ∀ (v420 : IVec S16 32) (k1_hw34 : k1_chk34 v420), ∀ a x, ((![v420] : Fin 1 → IVec S16 32) a x).toNat < S20096.size a := fun v420 k1_hw34 => k1_hw34.2.1
theorem k1_idx102_inb : ∀ (v420 : IVec S16 32) (k1_hw34 : k1_chk34 v420), ∀ a x, ((![v420] : Fin 1 → IVec S16 32) a x).toNat < S20096.size a := fun v420 k1_hw34 => k1_hw34.2.2

def k1_chk35 (v430 : IVec S16 32) : Prop :=
  (∀ a x, ((![v430] : Fin 1 → IVec S16 32) a x).toNat < S20096.size a) ∧
  (∀ a x, ((![v430] : Fin 1 → IVec S16 32) a x).toNat < S20096.size a) ∧
  (∀ a x, ((![v430] : Fin 1 → IVec S16 32) a x).toNat < S20096.size a)
theorem k1_idx103_inb : ∀ (v430 : IVec S16 32) (k1_hw35 : k1_chk35 v430), ∀ a x, ((![v430] : Fin 1 → IVec S16 32) a x).toNat < S20096.size a := fun v430 k1_hw35 => k1_hw35.1
theorem k1_idx104_inb : ∀ (v430 : IVec S16 32) (k1_hw35 : k1_chk35 v430), ∀ a x, ((![v430] : Fin 1 → IVec S16 32) a x).toNat < S20096.size a := fun v430 k1_hw35 => k1_hw35.2.1
theorem k1_idx105_inb : ∀ (v430 : IVec S16 32) (k1_hw35 : k1_chk35 v430), ∀ a x, ((![v430] : Fin 1 → IVec S16 32) a x).toNat < S20096.size a := fun v430 k1_hw35 => k1_hw35.2.2

def k1_chk36 (v440 : IVec S16 32) : Prop :=
  (∀ a x, ((![v440] : Fin 1 → IVec S16 32) a x).toNat < S20096.size a) ∧
  (∀ a x, ((![v440] : Fin 1 → IVec S16 32) a x).toNat < S20096.size a) ∧
  (∀ a x, ((![v440] : Fin 1 → IVec S16 32) a x).toNat < S20096.size a)
theorem k1_idx106_inb : ∀ (v440 : IVec S16 32) (k1_hw36 : k1_chk36 v440), ∀ a x, ((![v440] : Fin 1 → IVec S16 32) a x).toNat < S20096.size a := fun v440 k1_hw36 => k1_hw36.1
theorem k1_idx107_inb : ∀ (v440 : IVec S16 32) (k1_hw36 : k1_chk36 v440), ∀ a x, ((![v440] : Fin 1 → IVec S16 32) a x).toNat < S20096.size a := fun v440 k1_hw36 => k1_hw36.2.1
theorem k1_idx108_inb : ∀ (v440 : IVec S16 32) (k1_hw36 : k1_chk36 v440), ∀ a x, ((![v440] : Fin 1 → IVec S16 32) a x).toNat < S20096.size a := fun v440 k1_hw36 => k1_hw36.2.2

def k1_chk37 (v450 : IVec S16 32) : Prop :=
  (∀ a x, ((![v450] : Fin 1 → IVec S16 32) a x).toNat < S20096.size a) ∧
  (∀ a x, ((![v450] : Fin 1 → IVec S16 32) a x).toNat < S20096.size a) ∧
  (∀ a x, ((![v450] : Fin 1 → IVec S16 32) a x).toNat < S20096.size a)
theorem k1_idx109_inb : ∀ (v450 : IVec S16 32) (k1_hw37 : k1_chk37 v450), ∀ a x, ((![v450] : Fin 1 → IVec S16 32) a x).toNat < S20096.size a := fun v450 k1_hw37 => k1_hw37.1
theorem k1_idx110_inb : ∀ (v450 : IVec S16 32) (k1_hw37 : k1_chk37 v450), ∀ a x, ((![v450] : Fin 1 → IVec S16 32) a x).toNat < S20096.size a := fun v450 k1_hw37 => k1_hw37.2.1
theorem k1_idx111_inb : ∀ (v450 : IVec S16 32) (k1_hw37 : k1_chk37 v450), ∀ a x, ((![v450] : Fin 1 → IVec S16 32) a x).toNat < S20096.size a := fun v450 k1_hw37 => k1_hw37.2.2

def k1_chk38 (v460 : IVec S16 32) : Prop :=
  (∀ a x, ((![v460] : Fin 1 → IVec S16 32) a x).toNat < S20096.size a) ∧
  (∀ a x, ((![v460] : Fin 1 → IVec S16 32) a x).toNat < S20096.size a) ∧
  (∀ a x, ((![v460] : Fin 1 → IVec S16 32) a x).toNat < S20096.size a)
theorem k1_idx112_inb : ∀ (v460 : IVec S16 32) (k1_hw38 : k1_chk38 v460), ∀ a x, ((![v460] : Fin 1 → IVec S16 32) a x).toNat < S20096.size a := fun v460 k1_hw38 => k1_hw38.1
theorem k1_idx113_inb : ∀ (v460 : IVec S16 32) (k1_hw38 : k1_chk38 v460), ∀ a x, ((![v460] : Fin 1 → IVec S16 32) a x).toNat < S20096.size a := fun v460 k1_hw38 => k1_hw38.2.1
theorem k1_idx114_inb : ∀ (v460 : IVec S16 32) (k1_hw38 : k1_chk38 v460), ∀ a x, ((![v460] : Fin 1 → IVec S16 32) a x).toNat < S20096.size a := fun v460 k1_hw38 => k1_hw38.2.2

def k1_chk39 (v470 : IVec S16 32) : Prop :=
  (∀ a x, ((![v470] : Fin 1 → IVec S16 32) a x).toNat < S20096.size a) ∧
  (∀ a x, ((![v470] : Fin 1 → IVec S16 32) a x).toNat < S20096.size a) ∧
  (∀ a x, ((![v470] : Fin 1 → IVec S16 32) a x).toNat < S20096.size a)
theorem k1_idx115_inb : ∀ (v470 : IVec S16 32) (k1_hw39 : k1_chk39 v470), ∀ a x, ((![v470] : Fin 1 → IVec S16 32) a x).toNat < S20096.size a := fun v470 k1_hw39 => k1_hw39.1
theorem k1_idx116_inb : ∀ (v470 : IVec S16 32) (k1_hw39 : k1_chk39 v470), ∀ a x, ((![v470] : Fin 1 → IVec S16 32) a x).toNat < S20096.size a := fun v470 k1_hw39 => k1_hw39.2.1
theorem k1_idx117_inb : ∀ (v470 : IVec S16 32) (k1_hw39 : k1_chk39 v470), ∀ a x, ((![v470] : Fin 1 → IVec S16 32) a x).toNat < S20096.size a := fun v470 k1_hw39 => k1_hw39.2.2

def k1_chk40 (v480 : IVec S16 32) : Prop :=
  (∀ a x, ((![v480] : Fin 1 → IVec S16 32) a x).toNat < S20096.size a) ∧
  (∀ a x, ((![v480] : Fin 1 → IVec S16 32) a x).toNat < S20096.size a) ∧
  (∀ a x, ((![v480] : Fin 1 → IVec S16 32) a x).toNat < S20096.size a)
theorem k1_idx118_inb : ∀ (v480 : IVec S16 32) (k1_hw40 : k1_chk40 v480), ∀ a x, ((![v480] : Fin 1 → IVec S16 32) a x).toNat < S20096.size a := fun v480 k1_hw40 => k1_hw40.1
theorem k1_idx119_inb : ∀ (v480 : IVec S16 32) (k1_hw40 : k1_chk40 v480), ∀ a x, ((![v480] : Fin 1 → IVec S16 32) a x).toNat < S20096.size a := fun v480 k1_hw40 => k1_hw40.2.1
theorem k1_idx120_inb : ∀ (v480 : IVec S16 32) (k1_hw40 : k1_chk40 v480), ∀ a x, ((![v480] : Fin 1 → IVec S16 32) a x).toNat < S20096.size a := fun v480 k1_hw40 => k1_hw40.2.2
def k1_off16 (i : grid1.Coords) (c3_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v372 : BitVec 32 := Scalar.addi v2 c3_i32
  let c0_i32_171 : BitVec 32 := 0#32
  ![v372.toNat, 0]
def k1_off17 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c4_i32 : BitVec 32 := 4#32
  let v496 : BitVec 32 := Scalar.addi v2 c4_i32
  let c0_i32_365_r14 : BitVec 32 := 0#32
  ![v496.toNat, 0]
def k1_off18 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c4_i32 : BitVec 32 := 4#32
  let v496 : BitVec 32 := Scalar.addi v2 c4_i32
  let c0_i32_365_r16 : BitVec 32 := 0#32
  ![v496.toNat, 0]
@[reducible] def k1_t5_loop : Scf.Loop 32 :=
  let c0_i32_180 : BitVec 32 := 0#32
  let c314_i32_181 : BitVec 32 := 314#32
  let v503 : BitVec 32 := Scalar.addi c0_i32_180 c314_i32_181
  let c1_i32_182 : BitVec 32 := 1#32
  ⟨c0_i32_180, v503, c1_i32_182⟩
def k1_off19 (k1_t5 : Fin k1_t5_loop.trips) (c0_i32_365 : BitVec 32) : Fin 1 → Nat :=
  let c0_i32_180 : BitVec 32 := 0#32
  let c1_i32_182 : BitVec 32 := 1#32
  let arg17 : BitVec 32 := Scf.iv c0_i32_180 c1_i32_182 k1_t5
  let c64_i32 : BitVec 32 := 64#32
  let v996 : BitVec 32 := Scalar.muli arg17 c64_i32
  let v997 : BitVec 32 := Scalar.addi v996 c0_i32_365
  let v998 : Index := Scalar.indexCast v997
  ![v998.toNat]

def k1_chk41 (v514 : IVec S16 32) : Prop :=
  (∀ a x, ((![v514] : Fin 1 → IVec S16 32) a x).toNat < S20096.size a) ∧
  (∀ a x, ((![v514] : Fin 1 → IVec S16 32) a x).toNat < S20096.size a) ∧
  (∀ a x, ((![v514] : Fin 1 → IVec S16 32) a x).toNat < S20096.size a)
theorem k1_idx121_inb : ∀ (v514 : IVec S16 32) (k1_hw41 : k1_chk41 v514), ∀ a x, ((![v514] : Fin 1 → IVec S16 32) a x).toNat < S20096.size a := fun v514 k1_hw41 => k1_hw41.1
theorem k1_idx122_inb : ∀ (v514 : IVec S16 32) (k1_hw41 : k1_chk41 v514), ∀ a x, ((![v514] : Fin 1 → IVec S16 32) a x).toNat < S20096.size a := fun v514 k1_hw41 => k1_hw41.2.1
theorem k1_idx123_inb : ∀ (v514 : IVec S16 32) (k1_hw41 : k1_chk41 v514), ∀ a x, ((![v514] : Fin 1 → IVec S16 32) a x).toNat < S20096.size a := fun v514 k1_hw41 => k1_hw41.2.2

def k1_chk42 (v524 : IVec S16 32) : Prop :=
  (∀ a x, ((![v524] : Fin 1 → IVec S16 32) a x).toNat < S20096.size a) ∧
  (∀ a x, ((![v524] : Fin 1 → IVec S16 32) a x).toNat < S20096.size a) ∧
  (∀ a x, ((![v524] : Fin 1 → IVec S16 32) a x).toNat < S20096.size a)
theorem k1_idx124_inb : ∀ (v524 : IVec S16 32) (k1_hw42 : k1_chk42 v524), ∀ a x, ((![v524] : Fin 1 → IVec S16 32) a x).toNat < S20096.size a := fun v524 k1_hw42 => k1_hw42.1
theorem k1_idx125_inb : ∀ (v524 : IVec S16 32) (k1_hw42 : k1_chk42 v524), ∀ a x, ((![v524] : Fin 1 → IVec S16 32) a x).toNat < S20096.size a := fun v524 k1_hw42 => k1_hw42.2.1
theorem k1_idx126_inb : ∀ (v524 : IVec S16 32) (k1_hw42 : k1_chk42 v524), ∀ a x, ((![v524] : Fin 1 → IVec S16 32) a x).toNat < S20096.size a := fun v524 k1_hw42 => k1_hw42.2.2

def k1_chk43 (v534 : IVec S16 32) : Prop :=
  (∀ a x, ((![v534] : Fin 1 → IVec S16 32) a x).toNat < S20096.size a) ∧
  (∀ a x, ((![v534] : Fin 1 → IVec S16 32) a x).toNat < S20096.size a) ∧
  (∀ a x, ((![v534] : Fin 1 → IVec S16 32) a x).toNat < S20096.size a)
theorem k1_idx127_inb : ∀ (v534 : IVec S16 32) (k1_hw43 : k1_chk43 v534), ∀ a x, ((![v534] : Fin 1 → IVec S16 32) a x).toNat < S20096.size a := fun v534 k1_hw43 => k1_hw43.1
theorem k1_idx128_inb : ∀ (v534 : IVec S16 32) (k1_hw43 : k1_chk43 v534), ∀ a x, ((![v534] : Fin 1 → IVec S16 32) a x).toNat < S20096.size a := fun v534 k1_hw43 => k1_hw43.2.1
theorem k1_idx129_inb : ∀ (v534 : IVec S16 32) (k1_hw43 : k1_chk43 v534), ∀ a x, ((![v534] : Fin 1 → IVec S16 32) a x).toNat < S20096.size a := fun v534 k1_hw43 => k1_hw43.2.2

def k1_chk44 (v544 : IVec S16 32) : Prop :=
  (∀ a x, ((![v544] : Fin 1 → IVec S16 32) a x).toNat < S20096.size a) ∧
  (∀ a x, ((![v544] : Fin 1 → IVec S16 32) a x).toNat < S20096.size a) ∧
  (∀ a x, ((![v544] : Fin 1 → IVec S16 32) a x).toNat < S20096.size a)
theorem k1_idx130_inb : ∀ (v544 : IVec S16 32) (k1_hw44 : k1_chk44 v544), ∀ a x, ((![v544] : Fin 1 → IVec S16 32) a x).toNat < S20096.size a := fun v544 k1_hw44 => k1_hw44.1
theorem k1_idx131_inb : ∀ (v544 : IVec S16 32) (k1_hw44 : k1_chk44 v544), ∀ a x, ((![v544] : Fin 1 → IVec S16 32) a x).toNat < S20096.size a := fun v544 k1_hw44 => k1_hw44.2.1
theorem k1_idx132_inb : ∀ (v544 : IVec S16 32) (k1_hw44 : k1_chk44 v544), ∀ a x, ((![v544] : Fin 1 → IVec S16 32) a x).toNat < S20096.size a := fun v544 k1_hw44 => k1_hw44.2.2

def k1_chk45 (v554 : IVec S16 32) : Prop :=
  (∀ a x, ((![v554] : Fin 1 → IVec S16 32) a x).toNat < S20096.size a) ∧
  (∀ a x, ((![v554] : Fin 1 → IVec S16 32) a x).toNat < S20096.size a) ∧
  (∀ a x, ((![v554] : Fin 1 → IVec S16 32) a x).toNat < S20096.size a)
theorem k1_idx133_inb : ∀ (v554 : IVec S16 32) (k1_hw45 : k1_chk45 v554), ∀ a x, ((![v554] : Fin 1 → IVec S16 32) a x).toNat < S20096.size a := fun v554 k1_hw45 => k1_hw45.1
theorem k1_idx134_inb : ∀ (v554 : IVec S16 32) (k1_hw45 : k1_chk45 v554), ∀ a x, ((![v554] : Fin 1 → IVec S16 32) a x).toNat < S20096.size a := fun v554 k1_hw45 => k1_hw45.2.1
theorem k1_idx135_inb : ∀ (v554 : IVec S16 32) (k1_hw45 : k1_chk45 v554), ∀ a x, ((![v554] : Fin 1 → IVec S16 32) a x).toNat < S20096.size a := fun v554 k1_hw45 => k1_hw45.2.2

def k1_chk46 (v564 : IVec S16 32) : Prop :=
  (∀ a x, ((![v564] : Fin 1 → IVec S16 32) a x).toNat < S20096.size a) ∧
  (∀ a x, ((![v564] : Fin 1 → IVec S16 32) a x).toNat < S20096.size a) ∧
  (∀ a x, ((![v564] : Fin 1 → IVec S16 32) a x).toNat < S20096.size a)
theorem k1_idx136_inb : ∀ (v564 : IVec S16 32) (k1_hw46 : k1_chk46 v564), ∀ a x, ((![v564] : Fin 1 → IVec S16 32) a x).toNat < S20096.size a := fun v564 k1_hw46 => k1_hw46.1
theorem k1_idx137_inb : ∀ (v564 : IVec S16 32) (k1_hw46 : k1_chk46 v564), ∀ a x, ((![v564] : Fin 1 → IVec S16 32) a x).toNat < S20096.size a := fun v564 k1_hw46 => k1_hw46.2.1
theorem k1_idx138_inb : ∀ (v564 : IVec S16 32) (k1_hw46 : k1_chk46 v564), ∀ a x, ((![v564] : Fin 1 → IVec S16 32) a x).toNat < S20096.size a := fun v564 k1_hw46 => k1_hw46.2.2

def k1_chk47 (v574 : IVec S16 32) : Prop :=
  (∀ a x, ((![v574] : Fin 1 → IVec S16 32) a x).toNat < S20096.size a) ∧
  (∀ a x, ((![v574] : Fin 1 → IVec S16 32) a x).toNat < S20096.size a) ∧
  (∀ a x, ((![v574] : Fin 1 → IVec S16 32) a x).toNat < S20096.size a)
theorem k1_idx139_inb : ∀ (v574 : IVec S16 32) (k1_hw47 : k1_chk47 v574), ∀ a x, ((![v574] : Fin 1 → IVec S16 32) a x).toNat < S20096.size a := fun v574 k1_hw47 => k1_hw47.1
theorem k1_idx140_inb : ∀ (v574 : IVec S16 32) (k1_hw47 : k1_chk47 v574), ∀ a x, ((![v574] : Fin 1 → IVec S16 32) a x).toNat < S20096.size a := fun v574 k1_hw47 => k1_hw47.2.1
theorem k1_idx141_inb : ∀ (v574 : IVec S16 32) (k1_hw47 : k1_chk47 v574), ∀ a x, ((![v574] : Fin 1 → IVec S16 32) a x).toNat < S20096.size a := fun v574 k1_hw47 => k1_hw47.2.2

def k1_chk48 (v584 : IVec S16 32) : Prop :=
  (∀ a x, ((![v584] : Fin 1 → IVec S16 32) a x).toNat < S20096.size a) ∧
  (∀ a x, ((![v584] : Fin 1 → IVec S16 32) a x).toNat < S20096.size a) ∧
  (∀ a x, ((![v584] : Fin 1 → IVec S16 32) a x).toNat < S20096.size a)
theorem k1_idx142_inb : ∀ (v584 : IVec S16 32) (k1_hw48 : k1_chk48 v584), ∀ a x, ((![v584] : Fin 1 → IVec S16 32) a x).toNat < S20096.size a := fun v584 k1_hw48 => k1_hw48.1
theorem k1_idx143_inb : ∀ (v584 : IVec S16 32) (k1_hw48 : k1_chk48 v584), ∀ a x, ((![v584] : Fin 1 → IVec S16 32) a x).toNat < S20096.size a := fun v584 k1_hw48 => k1_hw48.2.1
theorem k1_idx144_inb : ∀ (v584 : IVec S16 32) (k1_hw48 : k1_chk48 v584), ∀ a x, ((![v584] : Fin 1 → IVec S16 32) a x).toNat < S20096.size a := fun v584 k1_hw48 => k1_hw48.2.2

def k1_chk49 (v594 : IVec S16 32) : Prop :=
  (∀ a x, ((![v594] : Fin 1 → IVec S16 32) a x).toNat < S20096.size a) ∧
  (∀ a x, ((![v594] : Fin 1 → IVec S16 32) a x).toNat < S20096.size a) ∧
  (∀ a x, ((![v594] : Fin 1 → IVec S16 32) a x).toNat < S20096.size a)
theorem k1_idx145_inb : ∀ (v594 : IVec S16 32) (k1_hw49 : k1_chk49 v594), ∀ a x, ((![v594] : Fin 1 → IVec S16 32) a x).toNat < S20096.size a := fun v594 k1_hw49 => k1_hw49.1
theorem k1_idx146_inb : ∀ (v594 : IVec S16 32) (k1_hw49 : k1_chk49 v594), ∀ a x, ((![v594] : Fin 1 → IVec S16 32) a x).toNat < S20096.size a := fun v594 k1_hw49 => k1_hw49.2.1
theorem k1_idx147_inb : ∀ (v594 : IVec S16 32) (k1_hw49 : k1_chk49 v594), ∀ a x, ((![v594] : Fin 1 → IVec S16 32) a x).toNat < S20096.size a := fun v594 k1_hw49 => k1_hw49.2.2

def k1_chk50 (v604 : IVec S16 32) : Prop :=
  (∀ a x, ((![v604] : Fin 1 → IVec S16 32) a x).toNat < S20096.size a) ∧
  (∀ a x, ((![v604] : Fin 1 → IVec S16 32) a x).toNat < S20096.size a) ∧
  (∀ a x, ((![v604] : Fin 1 → IVec S16 32) a x).toNat < S20096.size a)
theorem k1_idx148_inb : ∀ (v604 : IVec S16 32) (k1_hw50 : k1_chk50 v604), ∀ a x, ((![v604] : Fin 1 → IVec S16 32) a x).toNat < S20096.size a := fun v604 k1_hw50 => k1_hw50.1
theorem k1_idx149_inb : ∀ (v604 : IVec S16 32) (k1_hw50 : k1_chk50 v604), ∀ a x, ((![v604] : Fin 1 → IVec S16 32) a x).toNat < S20096.size a := fun v604 k1_hw50 => k1_hw50.2.1
theorem k1_idx150_inb : ∀ (v604 : IVec S16 32) (k1_hw50 : k1_chk50 v604), ∀ a x, ((![v604] : Fin 1 → IVec S16 32) a x).toNat < S20096.size a := fun v604 k1_hw50 => k1_hw50.2.2
def k1_off20 (i : grid1.Coords) (c4_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v496 : BitVec 32 := Scalar.addi v2 c4_i32
  let c0_i32_218 : BitVec 32 := 0#32
  ![v496.toNat, 0]
def k1_off21 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c5_i32 : BitVec 32 := 5#32
  let v620 : BitVec 32 := Scalar.addi v2 c5_i32
  let c0_i32_365_r17 : BitVec 32 := 0#32
  ![v620.toNat, 0]
def k1_off22 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c5_i32 : BitVec 32 := 5#32
  let v620 : BitVec 32 := Scalar.addi v2 c5_i32
  let c0_i32_365_r19 : BitVec 32 := 0#32
  ![v620.toNat, 0]
@[reducible] def k1_t6_loop : Scf.Loop 32 :=
  let c0_i32_227 : BitVec 32 := 0#32
  let c314_i32_228 : BitVec 32 := 314#32
  let v627 : BitVec 32 := Scalar.addi c0_i32_227 c314_i32_228
  let c1_i32_229 : BitVec 32 := 1#32
  ⟨c0_i32_227, v627, c1_i32_229⟩
def k1_off23 (k1_t6 : Fin k1_t6_loop.trips) (c0_i32_365 : BitVec 32) : Fin 1 → Nat :=
  let c0_i32_227 : BitVec 32 := 0#32
  let c1_i32_229 : BitVec 32 := 1#32
  let arg17 : BitVec 32 := Scf.iv c0_i32_227 c1_i32_229 k1_t6
  let c64_i32 : BitVec 32 := 64#32
  let v996 : BitVec 32 := Scalar.muli arg17 c64_i32
  let v997 : BitVec 32 := Scalar.addi v996 c0_i32_365
  let v998 : Index := Scalar.indexCast v997
  ![v998.toNat]

def k1_chk51 (v638 : IVec S16 32) : Prop :=
  (∀ a x, ((![v638] : Fin 1 → IVec S16 32) a x).toNat < S20096.size a) ∧
  (∀ a x, ((![v638] : Fin 1 → IVec S16 32) a x).toNat < S20096.size a) ∧
  (∀ a x, ((![v638] : Fin 1 → IVec S16 32) a x).toNat < S20096.size a)
theorem k1_idx151_inb : ∀ (v638 : IVec S16 32) (k1_hw51 : k1_chk51 v638), ∀ a x, ((![v638] : Fin 1 → IVec S16 32) a x).toNat < S20096.size a := fun v638 k1_hw51 => k1_hw51.1
theorem k1_idx152_inb : ∀ (v638 : IVec S16 32) (k1_hw51 : k1_chk51 v638), ∀ a x, ((![v638] : Fin 1 → IVec S16 32) a x).toNat < S20096.size a := fun v638 k1_hw51 => k1_hw51.2.1
theorem k1_idx153_inb : ∀ (v638 : IVec S16 32) (k1_hw51 : k1_chk51 v638), ∀ a x, ((![v638] : Fin 1 → IVec S16 32) a x).toNat < S20096.size a := fun v638 k1_hw51 => k1_hw51.2.2

def k1_chk52 (v648 : IVec S16 32) : Prop :=
  (∀ a x, ((![v648] : Fin 1 → IVec S16 32) a x).toNat < S20096.size a) ∧
  (∀ a x, ((![v648] : Fin 1 → IVec S16 32) a x).toNat < S20096.size a) ∧
  (∀ a x, ((![v648] : Fin 1 → IVec S16 32) a x).toNat < S20096.size a)
theorem k1_idx154_inb : ∀ (v648 : IVec S16 32) (k1_hw52 : k1_chk52 v648), ∀ a x, ((![v648] : Fin 1 → IVec S16 32) a x).toNat < S20096.size a := fun v648 k1_hw52 => k1_hw52.1
theorem k1_idx155_inb : ∀ (v648 : IVec S16 32) (k1_hw52 : k1_chk52 v648), ∀ a x, ((![v648] : Fin 1 → IVec S16 32) a x).toNat < S20096.size a := fun v648 k1_hw52 => k1_hw52.2.1
theorem k1_idx156_inb : ∀ (v648 : IVec S16 32) (k1_hw52 : k1_chk52 v648), ∀ a x, ((![v648] : Fin 1 → IVec S16 32) a x).toNat < S20096.size a := fun v648 k1_hw52 => k1_hw52.2.2

def k1_chk53 (v658 : IVec S16 32) : Prop :=
  (∀ a x, ((![v658] : Fin 1 → IVec S16 32) a x).toNat < S20096.size a) ∧
  (∀ a x, ((![v658] : Fin 1 → IVec S16 32) a x).toNat < S20096.size a) ∧
  (∀ a x, ((![v658] : Fin 1 → IVec S16 32) a x).toNat < S20096.size a)
theorem k1_idx157_inb : ∀ (v658 : IVec S16 32) (k1_hw53 : k1_chk53 v658), ∀ a x, ((![v658] : Fin 1 → IVec S16 32) a x).toNat < S20096.size a := fun v658 k1_hw53 => k1_hw53.1
theorem k1_idx158_inb : ∀ (v658 : IVec S16 32) (k1_hw53 : k1_chk53 v658), ∀ a x, ((![v658] : Fin 1 → IVec S16 32) a x).toNat < S20096.size a := fun v658 k1_hw53 => k1_hw53.2.1
theorem k1_idx159_inb : ∀ (v658 : IVec S16 32) (k1_hw53 : k1_chk53 v658), ∀ a x, ((![v658] : Fin 1 → IVec S16 32) a x).toNat < S20096.size a := fun v658 k1_hw53 => k1_hw53.2.2

def k1_chk54 (v668 : IVec S16 32) : Prop :=
  (∀ a x, ((![v668] : Fin 1 → IVec S16 32) a x).toNat < S20096.size a) ∧
  (∀ a x, ((![v668] : Fin 1 → IVec S16 32) a x).toNat < S20096.size a) ∧
  (∀ a x, ((![v668] : Fin 1 → IVec S16 32) a x).toNat < S20096.size a)
theorem k1_idx160_inb : ∀ (v668 : IVec S16 32) (k1_hw54 : k1_chk54 v668), ∀ a x, ((![v668] : Fin 1 → IVec S16 32) a x).toNat < S20096.size a := fun v668 k1_hw54 => k1_hw54.1
theorem k1_idx161_inb : ∀ (v668 : IVec S16 32) (k1_hw54 : k1_chk54 v668), ∀ a x, ((![v668] : Fin 1 → IVec S16 32) a x).toNat < S20096.size a := fun v668 k1_hw54 => k1_hw54.2.1
theorem k1_idx162_inb : ∀ (v668 : IVec S16 32) (k1_hw54 : k1_chk54 v668), ∀ a x, ((![v668] : Fin 1 → IVec S16 32) a x).toNat < S20096.size a := fun v668 k1_hw54 => k1_hw54.2.2

def k1_chk55 (v678 : IVec S16 32) : Prop :=
  (∀ a x, ((![v678] : Fin 1 → IVec S16 32) a x).toNat < S20096.size a) ∧
  (∀ a x, ((![v678] : Fin 1 → IVec S16 32) a x).toNat < S20096.size a) ∧
  (∀ a x, ((![v678] : Fin 1 → IVec S16 32) a x).toNat < S20096.size a)
theorem k1_idx163_inb : ∀ (v678 : IVec S16 32) (k1_hw55 : k1_chk55 v678), ∀ a x, ((![v678] : Fin 1 → IVec S16 32) a x).toNat < S20096.size a := fun v678 k1_hw55 => k1_hw55.1
theorem k1_idx164_inb : ∀ (v678 : IVec S16 32) (k1_hw55 : k1_chk55 v678), ∀ a x, ((![v678] : Fin 1 → IVec S16 32) a x).toNat < S20096.size a := fun v678 k1_hw55 => k1_hw55.2.1
theorem k1_idx165_inb : ∀ (v678 : IVec S16 32) (k1_hw55 : k1_chk55 v678), ∀ a x, ((![v678] : Fin 1 → IVec S16 32) a x).toNat < S20096.size a := fun v678 k1_hw55 => k1_hw55.2.2

def k1_chk56 (v688 : IVec S16 32) : Prop :=
  (∀ a x, ((![v688] : Fin 1 → IVec S16 32) a x).toNat < S20096.size a) ∧
  (∀ a x, ((![v688] : Fin 1 → IVec S16 32) a x).toNat < S20096.size a) ∧
  (∀ a x, ((![v688] : Fin 1 → IVec S16 32) a x).toNat < S20096.size a)
theorem k1_idx166_inb : ∀ (v688 : IVec S16 32) (k1_hw56 : k1_chk56 v688), ∀ a x, ((![v688] : Fin 1 → IVec S16 32) a x).toNat < S20096.size a := fun v688 k1_hw56 => k1_hw56.1
theorem k1_idx167_inb : ∀ (v688 : IVec S16 32) (k1_hw56 : k1_chk56 v688), ∀ a x, ((![v688] : Fin 1 → IVec S16 32) a x).toNat < S20096.size a := fun v688 k1_hw56 => k1_hw56.2.1
theorem k1_idx168_inb : ∀ (v688 : IVec S16 32) (k1_hw56 : k1_chk56 v688), ∀ a x, ((![v688] : Fin 1 → IVec S16 32) a x).toNat < S20096.size a := fun v688 k1_hw56 => k1_hw56.2.2

def k1_chk57 (v698 : IVec S16 32) : Prop :=
  (∀ a x, ((![v698] : Fin 1 → IVec S16 32) a x).toNat < S20096.size a) ∧
  (∀ a x, ((![v698] : Fin 1 → IVec S16 32) a x).toNat < S20096.size a) ∧
  (∀ a x, ((![v698] : Fin 1 → IVec S16 32) a x).toNat < S20096.size a)
theorem k1_idx169_inb : ∀ (v698 : IVec S16 32) (k1_hw57 : k1_chk57 v698), ∀ a x, ((![v698] : Fin 1 → IVec S16 32) a x).toNat < S20096.size a := fun v698 k1_hw57 => k1_hw57.1
theorem k1_idx170_inb : ∀ (v698 : IVec S16 32) (k1_hw57 : k1_chk57 v698), ∀ a x, ((![v698] : Fin 1 → IVec S16 32) a x).toNat < S20096.size a := fun v698 k1_hw57 => k1_hw57.2.1
theorem k1_idx171_inb : ∀ (v698 : IVec S16 32) (k1_hw57 : k1_chk57 v698), ∀ a x, ((![v698] : Fin 1 → IVec S16 32) a x).toNat < S20096.size a := fun v698 k1_hw57 => k1_hw57.2.2

def k1_chk58 (v708 : IVec S16 32) : Prop :=
  (∀ a x, ((![v708] : Fin 1 → IVec S16 32) a x).toNat < S20096.size a) ∧
  (∀ a x, ((![v708] : Fin 1 → IVec S16 32) a x).toNat < S20096.size a) ∧
  (∀ a x, ((![v708] : Fin 1 → IVec S16 32) a x).toNat < S20096.size a)
theorem k1_idx172_inb : ∀ (v708 : IVec S16 32) (k1_hw58 : k1_chk58 v708), ∀ a x, ((![v708] : Fin 1 → IVec S16 32) a x).toNat < S20096.size a := fun v708 k1_hw58 => k1_hw58.1
theorem k1_idx173_inb : ∀ (v708 : IVec S16 32) (k1_hw58 : k1_chk58 v708), ∀ a x, ((![v708] : Fin 1 → IVec S16 32) a x).toNat < S20096.size a := fun v708 k1_hw58 => k1_hw58.2.1
theorem k1_idx174_inb : ∀ (v708 : IVec S16 32) (k1_hw58 : k1_chk58 v708), ∀ a x, ((![v708] : Fin 1 → IVec S16 32) a x).toNat < S20096.size a := fun v708 k1_hw58 => k1_hw58.2.2

def k1_chk59 (v718 : IVec S16 32) : Prop :=
  (∀ a x, ((![v718] : Fin 1 → IVec S16 32) a x).toNat < S20096.size a) ∧
  (∀ a x, ((![v718] : Fin 1 → IVec S16 32) a x).toNat < S20096.size a) ∧
  (∀ a x, ((![v718] : Fin 1 → IVec S16 32) a x).toNat < S20096.size a)
theorem k1_idx175_inb : ∀ (v718 : IVec S16 32) (k1_hw59 : k1_chk59 v718), ∀ a x, ((![v718] : Fin 1 → IVec S16 32) a x).toNat < S20096.size a := fun v718 k1_hw59 => k1_hw59.1
theorem k1_idx176_inb : ∀ (v718 : IVec S16 32) (k1_hw59 : k1_chk59 v718), ∀ a x, ((![v718] : Fin 1 → IVec S16 32) a x).toNat < S20096.size a := fun v718 k1_hw59 => k1_hw59.2.1
theorem k1_idx177_inb : ∀ (v718 : IVec S16 32) (k1_hw59 : k1_chk59 v718), ∀ a x, ((![v718] : Fin 1 → IVec S16 32) a x).toNat < S20096.size a := fun v718 k1_hw59 => k1_hw59.2.2

def k1_chk60 (v728 : IVec S16 32) : Prop :=
  (∀ a x, ((![v728] : Fin 1 → IVec S16 32) a x).toNat < S20096.size a) ∧
  (∀ a x, ((![v728] : Fin 1 → IVec S16 32) a x).toNat < S20096.size a) ∧
  (∀ a x, ((![v728] : Fin 1 → IVec S16 32) a x).toNat < S20096.size a)
theorem k1_idx178_inb : ∀ (v728 : IVec S16 32) (k1_hw60 : k1_chk60 v728), ∀ a x, ((![v728] : Fin 1 → IVec S16 32) a x).toNat < S20096.size a := fun v728 k1_hw60 => k1_hw60.1
theorem k1_idx179_inb : ∀ (v728 : IVec S16 32) (k1_hw60 : k1_chk60 v728), ∀ a x, ((![v728] : Fin 1 → IVec S16 32) a x).toNat < S20096.size a := fun v728 k1_hw60 => k1_hw60.2.1
theorem k1_idx180_inb : ∀ (v728 : IVec S16 32) (k1_hw60 : k1_chk60 v728), ∀ a x, ((![v728] : Fin 1 → IVec S16 32) a x).toNat < S20096.size a := fun v728 k1_hw60 => k1_hw60.2.2
def k1_off24 (i : grid1.Coords) (c5_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v620 : BitVec 32 := Scalar.addi v2 c5_i32
  let c0_i32_265 : BitVec 32 := 0#32
  ![v620.toNat, 0]
def k1_off25 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c6_i32 : BitVec 32 := 6#32
  let v744 : BitVec 32 := Scalar.addi v2 c6_i32
  let c0_i32_365_r20 : BitVec 32 := 0#32
  ![v744.toNat, 0]
def k1_off26 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c6_i32 : BitVec 32 := 6#32
  let v744 : BitVec 32 := Scalar.addi v2 c6_i32
  let c0_i32_365_r22 : BitVec 32 := 0#32
  ![v744.toNat, 0]
@[reducible] def k1_t7_loop : Scf.Loop 32 :=
  let c0_i32_274 : BitVec 32 := 0#32
  let c314_i32_275 : BitVec 32 := 314#32
  let v751 : BitVec 32 := Scalar.addi c0_i32_274 c314_i32_275
  let c1_i32_276 : BitVec 32 := 1#32
  ⟨c0_i32_274, v751, c1_i32_276⟩
def k1_off27 (k1_t7 : Fin k1_t7_loop.trips) (c0_i32_365 : BitVec 32) : Fin 1 → Nat :=
  let c0_i32_274 : BitVec 32 := 0#32
  let c1_i32_276 : BitVec 32 := 1#32
  let arg17 : BitVec 32 := Scf.iv c0_i32_274 c1_i32_276 k1_t7
  let c64_i32 : BitVec 32 := 64#32
  let v996 : BitVec 32 := Scalar.muli arg17 c64_i32
  let v997 : BitVec 32 := Scalar.addi v996 c0_i32_365
  let v998 : Index := Scalar.indexCast v997
  ![v998.toNat]

def k1_chk61 (v762 : IVec S16 32) : Prop :=
  (∀ a x, ((![v762] : Fin 1 → IVec S16 32) a x).toNat < S20096.size a) ∧
  (∀ a x, ((![v762] : Fin 1 → IVec S16 32) a x).toNat < S20096.size a) ∧
  (∀ a x, ((![v762] : Fin 1 → IVec S16 32) a x).toNat < S20096.size a)
theorem k1_idx181_inb : ∀ (v762 : IVec S16 32) (k1_hw61 : k1_chk61 v762), ∀ a x, ((![v762] : Fin 1 → IVec S16 32) a x).toNat < S20096.size a := fun v762 k1_hw61 => k1_hw61.1
theorem k1_idx182_inb : ∀ (v762 : IVec S16 32) (k1_hw61 : k1_chk61 v762), ∀ a x, ((![v762] : Fin 1 → IVec S16 32) a x).toNat < S20096.size a := fun v762 k1_hw61 => k1_hw61.2.1
theorem k1_idx183_inb : ∀ (v762 : IVec S16 32) (k1_hw61 : k1_chk61 v762), ∀ a x, ((![v762] : Fin 1 → IVec S16 32) a x).toNat < S20096.size a := fun v762 k1_hw61 => k1_hw61.2.2

def k1_chk62 (v772 : IVec S16 32) : Prop :=
  (∀ a x, ((![v772] : Fin 1 → IVec S16 32) a x).toNat < S20096.size a) ∧
  (∀ a x, ((![v772] : Fin 1 → IVec S16 32) a x).toNat < S20096.size a) ∧
  (∀ a x, ((![v772] : Fin 1 → IVec S16 32) a x).toNat < S20096.size a)
theorem k1_idx184_inb : ∀ (v772 : IVec S16 32) (k1_hw62 : k1_chk62 v772), ∀ a x, ((![v772] : Fin 1 → IVec S16 32) a x).toNat < S20096.size a := fun v772 k1_hw62 => k1_hw62.1
theorem k1_idx185_inb : ∀ (v772 : IVec S16 32) (k1_hw62 : k1_chk62 v772), ∀ a x, ((![v772] : Fin 1 → IVec S16 32) a x).toNat < S20096.size a := fun v772 k1_hw62 => k1_hw62.2.1
theorem k1_idx186_inb : ∀ (v772 : IVec S16 32) (k1_hw62 : k1_chk62 v772), ∀ a x, ((![v772] : Fin 1 → IVec S16 32) a x).toNat < S20096.size a := fun v772 k1_hw62 => k1_hw62.2.2

def k1_chk63 (v782 : IVec S16 32) : Prop :=
  (∀ a x, ((![v782] : Fin 1 → IVec S16 32) a x).toNat < S20096.size a) ∧
  (∀ a x, ((![v782] : Fin 1 → IVec S16 32) a x).toNat < S20096.size a) ∧
  (∀ a x, ((![v782] : Fin 1 → IVec S16 32) a x).toNat < S20096.size a)
theorem k1_idx187_inb : ∀ (v782 : IVec S16 32) (k1_hw63 : k1_chk63 v782), ∀ a x, ((![v782] : Fin 1 → IVec S16 32) a x).toNat < S20096.size a := fun v782 k1_hw63 => k1_hw63.1
theorem k1_idx188_inb : ∀ (v782 : IVec S16 32) (k1_hw63 : k1_chk63 v782), ∀ a x, ((![v782] : Fin 1 → IVec S16 32) a x).toNat < S20096.size a := fun v782 k1_hw63 => k1_hw63.2.1
theorem k1_idx189_inb : ∀ (v782 : IVec S16 32) (k1_hw63 : k1_chk63 v782), ∀ a x, ((![v782] : Fin 1 → IVec S16 32) a x).toNat < S20096.size a := fun v782 k1_hw63 => k1_hw63.2.2

def k1_chk64 (v792 : IVec S16 32) : Prop :=
  (∀ a x, ((![v792] : Fin 1 → IVec S16 32) a x).toNat < S20096.size a) ∧
  (∀ a x, ((![v792] : Fin 1 → IVec S16 32) a x).toNat < S20096.size a) ∧
  (∀ a x, ((![v792] : Fin 1 → IVec S16 32) a x).toNat < S20096.size a)
theorem k1_idx190_inb : ∀ (v792 : IVec S16 32) (k1_hw64 : k1_chk64 v792), ∀ a x, ((![v792] : Fin 1 → IVec S16 32) a x).toNat < S20096.size a := fun v792 k1_hw64 => k1_hw64.1
theorem k1_idx191_inb : ∀ (v792 : IVec S16 32) (k1_hw64 : k1_chk64 v792), ∀ a x, ((![v792] : Fin 1 → IVec S16 32) a x).toNat < S20096.size a := fun v792 k1_hw64 => k1_hw64.2.1
theorem k1_idx192_inb : ∀ (v792 : IVec S16 32) (k1_hw64 : k1_chk64 v792), ∀ a x, ((![v792] : Fin 1 → IVec S16 32) a x).toNat < S20096.size a := fun v792 k1_hw64 => k1_hw64.2.2

def k1_chk65 (v802 : IVec S16 32) : Prop :=
  (∀ a x, ((![v802] : Fin 1 → IVec S16 32) a x).toNat < S20096.size a) ∧
  (∀ a x, ((![v802] : Fin 1 → IVec S16 32) a x).toNat < S20096.size a) ∧
  (∀ a x, ((![v802] : Fin 1 → IVec S16 32) a x).toNat < S20096.size a)
theorem k1_idx193_inb : ∀ (v802 : IVec S16 32) (k1_hw65 : k1_chk65 v802), ∀ a x, ((![v802] : Fin 1 → IVec S16 32) a x).toNat < S20096.size a := fun v802 k1_hw65 => k1_hw65.1
theorem k1_idx194_inb : ∀ (v802 : IVec S16 32) (k1_hw65 : k1_chk65 v802), ∀ a x, ((![v802] : Fin 1 → IVec S16 32) a x).toNat < S20096.size a := fun v802 k1_hw65 => k1_hw65.2.1
theorem k1_idx195_inb : ∀ (v802 : IVec S16 32) (k1_hw65 : k1_chk65 v802), ∀ a x, ((![v802] : Fin 1 → IVec S16 32) a x).toNat < S20096.size a := fun v802 k1_hw65 => k1_hw65.2.2

def k1_chk66 (v812 : IVec S16 32) : Prop :=
  (∀ a x, ((![v812] : Fin 1 → IVec S16 32) a x).toNat < S20096.size a) ∧
  (∀ a x, ((![v812] : Fin 1 → IVec S16 32) a x).toNat < S20096.size a) ∧
  (∀ a x, ((![v812] : Fin 1 → IVec S16 32) a x).toNat < S20096.size a)
theorem k1_idx196_inb : ∀ (v812 : IVec S16 32) (k1_hw66 : k1_chk66 v812), ∀ a x, ((![v812] : Fin 1 → IVec S16 32) a x).toNat < S20096.size a := fun v812 k1_hw66 => k1_hw66.1
theorem k1_idx197_inb : ∀ (v812 : IVec S16 32) (k1_hw66 : k1_chk66 v812), ∀ a x, ((![v812] : Fin 1 → IVec S16 32) a x).toNat < S20096.size a := fun v812 k1_hw66 => k1_hw66.2.1
theorem k1_idx198_inb : ∀ (v812 : IVec S16 32) (k1_hw66 : k1_chk66 v812), ∀ a x, ((![v812] : Fin 1 → IVec S16 32) a x).toNat < S20096.size a := fun v812 k1_hw66 => k1_hw66.2.2

def k1_chk67 (v822 : IVec S16 32) : Prop :=
  (∀ a x, ((![v822] : Fin 1 → IVec S16 32) a x).toNat < S20096.size a) ∧
  (∀ a x, ((![v822] : Fin 1 → IVec S16 32) a x).toNat < S20096.size a) ∧
  (∀ a x, ((![v822] : Fin 1 → IVec S16 32) a x).toNat < S20096.size a)
theorem k1_idx199_inb : ∀ (v822 : IVec S16 32) (k1_hw67 : k1_chk67 v822), ∀ a x, ((![v822] : Fin 1 → IVec S16 32) a x).toNat < S20096.size a := fun v822 k1_hw67 => k1_hw67.1
theorem k1_idx200_inb : ∀ (v822 : IVec S16 32) (k1_hw67 : k1_chk67 v822), ∀ a x, ((![v822] : Fin 1 → IVec S16 32) a x).toNat < S20096.size a := fun v822 k1_hw67 => k1_hw67.2.1
theorem k1_idx201_inb : ∀ (v822 : IVec S16 32) (k1_hw67 : k1_chk67 v822), ∀ a x, ((![v822] : Fin 1 → IVec S16 32) a x).toNat < S20096.size a := fun v822 k1_hw67 => k1_hw67.2.2

def k1_chk68 (v832 : IVec S16 32) : Prop :=
  (∀ a x, ((![v832] : Fin 1 → IVec S16 32) a x).toNat < S20096.size a) ∧
  (∀ a x, ((![v832] : Fin 1 → IVec S16 32) a x).toNat < S20096.size a) ∧
  (∀ a x, ((![v832] : Fin 1 → IVec S16 32) a x).toNat < S20096.size a)
theorem k1_idx202_inb : ∀ (v832 : IVec S16 32) (k1_hw68 : k1_chk68 v832), ∀ a x, ((![v832] : Fin 1 → IVec S16 32) a x).toNat < S20096.size a := fun v832 k1_hw68 => k1_hw68.1
theorem k1_idx203_inb : ∀ (v832 : IVec S16 32) (k1_hw68 : k1_chk68 v832), ∀ a x, ((![v832] : Fin 1 → IVec S16 32) a x).toNat < S20096.size a := fun v832 k1_hw68 => k1_hw68.2.1
theorem k1_idx204_inb : ∀ (v832 : IVec S16 32) (k1_hw68 : k1_chk68 v832), ∀ a x, ((![v832] : Fin 1 → IVec S16 32) a x).toNat < S20096.size a := fun v832 k1_hw68 => k1_hw68.2.2

def k1_chk69 (v842 : IVec S16 32) : Prop :=
  (∀ a x, ((![v842] : Fin 1 → IVec S16 32) a x).toNat < S20096.size a) ∧
  (∀ a x, ((![v842] : Fin 1 → IVec S16 32) a x).toNat < S20096.size a) ∧
  (∀ a x, ((![v842] : Fin 1 → IVec S16 32) a x).toNat < S20096.size a)
theorem k1_idx205_inb : ∀ (v842 : IVec S16 32) (k1_hw69 : k1_chk69 v842), ∀ a x, ((![v842] : Fin 1 → IVec S16 32) a x).toNat < S20096.size a := fun v842 k1_hw69 => k1_hw69.1
theorem k1_idx206_inb : ∀ (v842 : IVec S16 32) (k1_hw69 : k1_chk69 v842), ∀ a x, ((![v842] : Fin 1 → IVec S16 32) a x).toNat < S20096.size a := fun v842 k1_hw69 => k1_hw69.2.1
theorem k1_idx207_inb : ∀ (v842 : IVec S16 32) (k1_hw69 : k1_chk69 v842), ∀ a x, ((![v842] : Fin 1 → IVec S16 32) a x).toNat < S20096.size a := fun v842 k1_hw69 => k1_hw69.2.2

def k1_chk70 (v852 : IVec S16 32) : Prop :=
  (∀ a x, ((![v852] : Fin 1 → IVec S16 32) a x).toNat < S20096.size a) ∧
  (∀ a x, ((![v852] : Fin 1 → IVec S16 32) a x).toNat < S20096.size a) ∧
  (∀ a x, ((![v852] : Fin 1 → IVec S16 32) a x).toNat < S20096.size a)
theorem k1_idx208_inb : ∀ (v852 : IVec S16 32) (k1_hw70 : k1_chk70 v852), ∀ a x, ((![v852] : Fin 1 → IVec S16 32) a x).toNat < S20096.size a := fun v852 k1_hw70 => k1_hw70.1
theorem k1_idx209_inb : ∀ (v852 : IVec S16 32) (k1_hw70 : k1_chk70 v852), ∀ a x, ((![v852] : Fin 1 → IVec S16 32) a x).toNat < S20096.size a := fun v852 k1_hw70 => k1_hw70.2.1
theorem k1_idx210_inb : ∀ (v852 : IVec S16 32) (k1_hw70 : k1_chk70 v852), ∀ a x, ((![v852] : Fin 1 → IVec S16 32) a x).toNat < S20096.size a := fun v852 k1_hw70 => k1_hw70.2.2
def k1_off28 (i : grid1.Coords) (c6_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v744 : BitVec 32 := Scalar.addi v2 c6_i32
  let c0_i32_312 : BitVec 32 := 0#32
  ![v744.toNat, 0]
def k1_off29 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v868 : BitVec 32 := Scalar.addi v2 c7_i32
  let c0_i32_365_r23 : BitVec 32 := 0#32
  ![v868.toNat, 0]
def k1_off30 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v868 : BitVec 32 := Scalar.addi v2 c7_i32
  let c0_i32_365_r25 : BitVec 32 := 0#32
  ![v868.toNat, 0]
@[reducible] def k1_t8_loop : Scf.Loop 32 :=
  let c0_i32_321 : BitVec 32 := 0#32
  let c314_i32_322 : BitVec 32 := 314#32
  let v875 : BitVec 32 := Scalar.addi c0_i32_321 c314_i32_322
  let c1_i32_323 : BitVec 32 := 1#32
  ⟨c0_i32_321, v875, c1_i32_323⟩
def k1_off31 (k1_t8 : Fin k1_t8_loop.trips) (c0_i32_365 : BitVec 32) : Fin 1 → Nat :=
  let c0_i32_321 : BitVec 32 := 0#32
  let c1_i32_323 : BitVec 32 := 1#32
  let arg17 : BitVec 32 := Scf.iv c0_i32_321 c1_i32_323 k1_t8
  let c64_i32 : BitVec 32 := 64#32
  let v996 : BitVec 32 := Scalar.muli arg17 c64_i32
  let v997 : BitVec 32 := Scalar.addi v996 c0_i32_365
  let v998 : Index := Scalar.indexCast v997
  ![v998.toNat]

def k1_chk71 (v886 : IVec S16 32) : Prop :=
  (∀ a x, ((![v886] : Fin 1 → IVec S16 32) a x).toNat < S20096.size a) ∧
  (∀ a x, ((![v886] : Fin 1 → IVec S16 32) a x).toNat < S20096.size a) ∧
  (∀ a x, ((![v886] : Fin 1 → IVec S16 32) a x).toNat < S20096.size a)
theorem k1_idx211_inb : ∀ (v886 : IVec S16 32) (k1_hw71 : k1_chk71 v886), ∀ a x, ((![v886] : Fin 1 → IVec S16 32) a x).toNat < S20096.size a := fun v886 k1_hw71 => k1_hw71.1
theorem k1_idx212_inb : ∀ (v886 : IVec S16 32) (k1_hw71 : k1_chk71 v886), ∀ a x, ((![v886] : Fin 1 → IVec S16 32) a x).toNat < S20096.size a := fun v886 k1_hw71 => k1_hw71.2.1
theorem k1_idx213_inb : ∀ (v886 : IVec S16 32) (k1_hw71 : k1_chk71 v886), ∀ a x, ((![v886] : Fin 1 → IVec S16 32) a x).toNat < S20096.size a := fun v886 k1_hw71 => k1_hw71.2.2

def k1_chk72 (v896 : IVec S16 32) : Prop :=
  (∀ a x, ((![v896] : Fin 1 → IVec S16 32) a x).toNat < S20096.size a) ∧
  (∀ a x, ((![v896] : Fin 1 → IVec S16 32) a x).toNat < S20096.size a) ∧
  (∀ a x, ((![v896] : Fin 1 → IVec S16 32) a x).toNat < S20096.size a)
theorem k1_idx214_inb : ∀ (v896 : IVec S16 32) (k1_hw72 : k1_chk72 v896), ∀ a x, ((![v896] : Fin 1 → IVec S16 32) a x).toNat < S20096.size a := fun v896 k1_hw72 => k1_hw72.1
theorem k1_idx215_inb : ∀ (v896 : IVec S16 32) (k1_hw72 : k1_chk72 v896), ∀ a x, ((![v896] : Fin 1 → IVec S16 32) a x).toNat < S20096.size a := fun v896 k1_hw72 => k1_hw72.2.1
theorem k1_idx216_inb : ∀ (v896 : IVec S16 32) (k1_hw72 : k1_chk72 v896), ∀ a x, ((![v896] : Fin 1 → IVec S16 32) a x).toNat < S20096.size a := fun v896 k1_hw72 => k1_hw72.2.2

def k1_chk73 (v906 : IVec S16 32) : Prop :=
  (∀ a x, ((![v906] : Fin 1 → IVec S16 32) a x).toNat < S20096.size a) ∧
  (∀ a x, ((![v906] : Fin 1 → IVec S16 32) a x).toNat < S20096.size a) ∧
  (∀ a x, ((![v906] : Fin 1 → IVec S16 32) a x).toNat < S20096.size a)
theorem k1_idx217_inb : ∀ (v906 : IVec S16 32) (k1_hw73 : k1_chk73 v906), ∀ a x, ((![v906] : Fin 1 → IVec S16 32) a x).toNat < S20096.size a := fun v906 k1_hw73 => k1_hw73.1
theorem k1_idx218_inb : ∀ (v906 : IVec S16 32) (k1_hw73 : k1_chk73 v906), ∀ a x, ((![v906] : Fin 1 → IVec S16 32) a x).toNat < S20096.size a := fun v906 k1_hw73 => k1_hw73.2.1
theorem k1_idx219_inb : ∀ (v906 : IVec S16 32) (k1_hw73 : k1_chk73 v906), ∀ a x, ((![v906] : Fin 1 → IVec S16 32) a x).toNat < S20096.size a := fun v906 k1_hw73 => k1_hw73.2.2

def k1_chk74 (v916 : IVec S16 32) : Prop :=
  (∀ a x, ((![v916] : Fin 1 → IVec S16 32) a x).toNat < S20096.size a) ∧
  (∀ a x, ((![v916] : Fin 1 → IVec S16 32) a x).toNat < S20096.size a) ∧
  (∀ a x, ((![v916] : Fin 1 → IVec S16 32) a x).toNat < S20096.size a)
theorem k1_idx220_inb : ∀ (v916 : IVec S16 32) (k1_hw74 : k1_chk74 v916), ∀ a x, ((![v916] : Fin 1 → IVec S16 32) a x).toNat < S20096.size a := fun v916 k1_hw74 => k1_hw74.1
theorem k1_idx221_inb : ∀ (v916 : IVec S16 32) (k1_hw74 : k1_chk74 v916), ∀ a x, ((![v916] : Fin 1 → IVec S16 32) a x).toNat < S20096.size a := fun v916 k1_hw74 => k1_hw74.2.1
theorem k1_idx222_inb : ∀ (v916 : IVec S16 32) (k1_hw74 : k1_chk74 v916), ∀ a x, ((![v916] : Fin 1 → IVec S16 32) a x).toNat < S20096.size a := fun v916 k1_hw74 => k1_hw74.2.2

def k1_chk75 (v926 : IVec S16 32) : Prop :=
  (∀ a x, ((![v926] : Fin 1 → IVec S16 32) a x).toNat < S20096.size a) ∧
  (∀ a x, ((![v926] : Fin 1 → IVec S16 32) a x).toNat < S20096.size a) ∧
  (∀ a x, ((![v926] : Fin 1 → IVec S16 32) a x).toNat < S20096.size a)
theorem k1_idx223_inb : ∀ (v926 : IVec S16 32) (k1_hw75 : k1_chk75 v926), ∀ a x, ((![v926] : Fin 1 → IVec S16 32) a x).toNat < S20096.size a := fun v926 k1_hw75 => k1_hw75.1
theorem k1_idx224_inb : ∀ (v926 : IVec S16 32) (k1_hw75 : k1_chk75 v926), ∀ a x, ((![v926] : Fin 1 → IVec S16 32) a x).toNat < S20096.size a := fun v926 k1_hw75 => k1_hw75.2.1
theorem k1_idx225_inb : ∀ (v926 : IVec S16 32) (k1_hw75 : k1_chk75 v926), ∀ a x, ((![v926] : Fin 1 → IVec S16 32) a x).toNat < S20096.size a := fun v926 k1_hw75 => k1_hw75.2.2

def k1_chk76 (v936 : IVec S16 32) : Prop :=
  (∀ a x, ((![v936] : Fin 1 → IVec S16 32) a x).toNat < S20096.size a) ∧
  (∀ a x, ((![v936] : Fin 1 → IVec S16 32) a x).toNat < S20096.size a) ∧
  (∀ a x, ((![v936] : Fin 1 → IVec S16 32) a x).toNat < S20096.size a)
theorem k1_idx226_inb : ∀ (v936 : IVec S16 32) (k1_hw76 : k1_chk76 v936), ∀ a x, ((![v936] : Fin 1 → IVec S16 32) a x).toNat < S20096.size a := fun v936 k1_hw76 => k1_hw76.1
theorem k1_idx227_inb : ∀ (v936 : IVec S16 32) (k1_hw76 : k1_chk76 v936), ∀ a x, ((![v936] : Fin 1 → IVec S16 32) a x).toNat < S20096.size a := fun v936 k1_hw76 => k1_hw76.2.1
theorem k1_idx228_inb : ∀ (v936 : IVec S16 32) (k1_hw76 : k1_chk76 v936), ∀ a x, ((![v936] : Fin 1 → IVec S16 32) a x).toNat < S20096.size a := fun v936 k1_hw76 => k1_hw76.2.2

def k1_chk77 (v946 : IVec S16 32) : Prop :=
  (∀ a x, ((![v946] : Fin 1 → IVec S16 32) a x).toNat < S20096.size a) ∧
  (∀ a x, ((![v946] : Fin 1 → IVec S16 32) a x).toNat < S20096.size a) ∧
  (∀ a x, ((![v946] : Fin 1 → IVec S16 32) a x).toNat < S20096.size a)
theorem k1_idx229_inb : ∀ (v946 : IVec S16 32) (k1_hw77 : k1_chk77 v946), ∀ a x, ((![v946] : Fin 1 → IVec S16 32) a x).toNat < S20096.size a := fun v946 k1_hw77 => k1_hw77.1
theorem k1_idx230_inb : ∀ (v946 : IVec S16 32) (k1_hw77 : k1_chk77 v946), ∀ a x, ((![v946] : Fin 1 → IVec S16 32) a x).toNat < S20096.size a := fun v946 k1_hw77 => k1_hw77.2.1
theorem k1_idx231_inb : ∀ (v946 : IVec S16 32) (k1_hw77 : k1_chk77 v946), ∀ a x, ((![v946] : Fin 1 → IVec S16 32) a x).toNat < S20096.size a := fun v946 k1_hw77 => k1_hw77.2.2

def k1_chk78 (v956 : IVec S16 32) : Prop :=
  (∀ a x, ((![v956] : Fin 1 → IVec S16 32) a x).toNat < S20096.size a) ∧
  (∀ a x, ((![v956] : Fin 1 → IVec S16 32) a x).toNat < S20096.size a) ∧
  (∀ a x, ((![v956] : Fin 1 → IVec S16 32) a x).toNat < S20096.size a)
theorem k1_idx232_inb : ∀ (v956 : IVec S16 32) (k1_hw78 : k1_chk78 v956), ∀ a x, ((![v956] : Fin 1 → IVec S16 32) a x).toNat < S20096.size a := fun v956 k1_hw78 => k1_hw78.1
theorem k1_idx233_inb : ∀ (v956 : IVec S16 32) (k1_hw78 : k1_chk78 v956), ∀ a x, ((![v956] : Fin 1 → IVec S16 32) a x).toNat < S20096.size a := fun v956 k1_hw78 => k1_hw78.2.1
theorem k1_idx234_inb : ∀ (v956 : IVec S16 32) (k1_hw78 : k1_chk78 v956), ∀ a x, ((![v956] : Fin 1 → IVec S16 32) a x).toNat < S20096.size a := fun v956 k1_hw78 => k1_hw78.2.2

def k1_chk79 (v966 : IVec S16 32) : Prop :=
  (∀ a x, ((![v966] : Fin 1 → IVec S16 32) a x).toNat < S20096.size a) ∧
  (∀ a x, ((![v966] : Fin 1 → IVec S16 32) a x).toNat < S20096.size a) ∧
  (∀ a x, ((![v966] : Fin 1 → IVec S16 32) a x).toNat < S20096.size a)
theorem k1_idx235_inb : ∀ (v966 : IVec S16 32) (k1_hw79 : k1_chk79 v966), ∀ a x, ((![v966] : Fin 1 → IVec S16 32) a x).toNat < S20096.size a := fun v966 k1_hw79 => k1_hw79.1
theorem k1_idx236_inb : ∀ (v966 : IVec S16 32) (k1_hw79 : k1_chk79 v966), ∀ a x, ((![v966] : Fin 1 → IVec S16 32) a x).toNat < S20096.size a := fun v966 k1_hw79 => k1_hw79.2.1
theorem k1_idx237_inb : ∀ (v966 : IVec S16 32) (k1_hw79 : k1_chk79 v966), ∀ a x, ((![v966] : Fin 1 → IVec S16 32) a x).toNat < S20096.size a := fun v966 k1_hw79 => k1_hw79.2.2

def k1_chk80 (v976 : IVec S16 32) : Prop :=
  (∀ a x, ((![v976] : Fin 1 → IVec S16 32) a x).toNat < S20096.size a) ∧
  (∀ a x, ((![v976] : Fin 1 → IVec S16 32) a x).toNat < S20096.size a) ∧
  (∀ a x, ((![v976] : Fin 1 → IVec S16 32) a x).toNat < S20096.size a)
theorem k1_idx238_inb : ∀ (v976 : IVec S16 32) (k1_hw80 : k1_chk80 v976), ∀ a x, ((![v976] : Fin 1 → IVec S16 32) a x).toNat < S20096.size a := fun v976 k1_hw80 => k1_hw80.1
theorem k1_idx239_inb : ∀ (v976 : IVec S16 32) (k1_hw80 : k1_chk80 v976), ∀ a x, ((![v976] : Fin 1 → IVec S16 32) a x).toNat < S20096.size a := fun v976 k1_hw80 => k1_hw80.2.1
theorem k1_idx240_inb : ∀ (v976 : IVec S16 32) (k1_hw80 : k1_chk80 v976), ∀ a x, ((![v976] : Fin 1 → IVec S16 32) a x).toNat < S20096.size a := fun v976 k1_hw80 => k1_hw80.2.2
def k1_off32 (i : grid1.Coords) (c7_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v868 : BitVec 32 := Scalar.addi v2 c7_i32
  let c0_i32_359 : BitVec 32 := 0#32
  ![v868.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x20096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S20001x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := .none

abbrev stage3_0 : Fin 1 → Memref sig .tc .vmem S256x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1024x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S256x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S256x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S256x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S256x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S1024x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "hundredth" => some ((100⁻¹ : ℝ) : EReal)
  | _ => none
-- ==== ReferenceIdeal.lean ====
abbrev S256x8x20 : Shape := ⟨3, ![256, 8, 20]⟩
abbrev S256 : Shape := ⟨1, ![256]⟩
abbrev S20000 : Shape := ⟨1, ![20000]⟩
abbrev S20001x1024 : Shape := ⟨2, ![20001, 1024]⟩
abbrev S1024 : Shape := ⟨1, ![1024]⟩
abbrev S1024x1024 : Shape := ⟨2, ![1024, 1024]⟩
abbrev S1024x256 : Shape := ⟨2, ![1024, 256]⟩
abbrev S256x1024 : Shape := ⟨2, ![256, 1024]⟩
abbrev S1024x20001 : Shape := ⟨2, ![1024, 20001]⟩
abbrev S20001 : Shape := ⟨1, ![20001]⟩
abbrev S256x1x1 : Shape := ⟨3, ![256, 1, 1]⟩
abbrev S8 : Shape := ⟨1, ![8]⟩
abbrev S1x8x1 : Shape := ⟨3, ![1, 8, 1]⟩
abbrev S_ : Shape := ⟨0, ![]⟩
abbrev S256x8x20000 : Shape := ⟨3, ![256, 8, 20000]⟩
abbrev S256x8x20x1 : Shape := ⟨4, ![256, 8, 20, 1]⟩
abbrev S256x8x20x3 : Shape := ⟨4, ![256, 8, 20, 3]⟩
abbrev S256x20000 : Shape := ⟨2, ![256, 20000]⟩
abbrev S256x1 : Shape := ⟨2, ![256, 1]⟩
abbrev S1x20000 : Shape := ⟨2, ![1, 20000]⟩
abbrev S256x20001 : Shape := ⟨2, ![256, 20001]⟩
abbrev S1x1024 : Shape := ⟨2, ![1, 1024]⟩
abbrev S256x256 : Shape := ⟨2, ![256, 256]⟩
abbrev S1x256 : Shape := ⟨2, ![1, 256]⟩
abbrev S1x20001 : Shape := ⟨2, ![1, 20001]⟩

abbrev nBuf : Space → Nat
  | .hbm => 172
  | .vmem => 0
  | .smem => 0
  | _ => 0

abbrev hbmTy0_0 (i : Nat) : BufTy := match i % 128 with
  | 0 => ⟨S256x8x20, .i32⟩
  | 1 => ⟨S256, .f32⟩
  | 2 => ⟨S20000, .f32⟩
  | 3 => ⟨S20000, .f32⟩
  | 4 => ⟨S20001x1024, .f32⟩
  | 5 => ⟨S1024, .f32⟩
  | 6 => ⟨S1024, .f32⟩
  | 7 => ⟨S1024, .f32⟩
  | 8 => ⟨S1024x1024, .f32⟩
  | 9 => ⟨S1024, .f32⟩
  | 10 => ⟨S1024x256, .f32⟩
  | 11 => ⟨S256, .f32⟩
  | 12 => ⟨S256x1024, .f32⟩
  | 13 => ⟨S1024, .f32⟩
  | 14 => ⟨S1024x20001, .f32⟩
  | 15 => ⟨S20001, .f32⟩
  | 16 => ⟨S256, .i32⟩
  | 17 => ⟨S256x1x1, .i32⟩
  | 18 => ⟨S8, .i32⟩
  | 19 => ⟨S1x8x1, .i32⟩
  | 20 => ⟨S_, .f32⟩
  | 21 => ⟨S256x8x20000, .f32⟩
  | 22 => ⟨S_, .i32⟩
  | 23 => ⟨S256x1x1, .i32⟩
  | 24 => ⟨S256x1x1, .i1⟩
  | 25 => ⟨S_, .i32⟩
  | 26 => ⟨S256x1x1, .i32⟩
  | 27 => ⟨S256x1x1, .i32⟩
  | 28 => ⟨S256x1x1, .i32⟩
  | 29 => ⟨S_, .i32⟩
  | 30 => ⟨S1x8x1, .i32⟩
  | 31 => ⟨S1x8x1, .i1⟩
  | 32 => ⟨S_, .i32⟩
  | 33 => ⟨S1x8x1, .i32⟩
  | 34 => ⟨S1x8x1, .i32⟩
  | 35 => ⟨S1x8x1, .i32⟩
  | 36 => ⟨S_, .i32⟩
  | 37 => ⟨S256x8x20, .i32⟩
  | 38 => ⟨S256x8x20, .i1⟩
  | 39 => ⟨S_, .i32⟩
  | 40 => ⟨S256x8x20, .i32⟩
  | 41 => ⟨S256x8x20, .i32⟩
  | 42 => ⟨S256x8x20, .i32⟩
  | 43 => ⟨S256x8x20, .i32⟩
  | 44 => ⟨S256x8x20, .i32⟩
  | 45 => ⟨S256x8x20x1, .i32⟩
  | 46 => ⟨S256x8x20x1, .i32⟩
  | 47 => ⟨S256x8x20x1, .i32⟩
  | 48 => ⟨S256x8x20x3, .i32⟩
  | 49 => ⟨S_, .f32⟩
  | 50 => ⟨S256x8x20, .f32⟩
  | 51 => ⟨S256x8x20000, .f32⟩
  | 52 => ⟨S_, .f32⟩
  | 53 => ⟨S_, .f32⟩
  | 54 => ⟨S_, .f32⟩
  | 55 => ⟨S256x8x20000, .f32⟩
  | 56 => ⟨S256x8x20000, .f32⟩
  | 57 => ⟨S_, .f32⟩
  | 58 => ⟨S256x8x20000, .f32⟩
  | 59 => ⟨S256x8x20000, .f32⟩
  | 60 => ⟨S_, .f32⟩
  | 61 => ⟨S256x20000, .f32⟩
  | 62 => ⟨S_, .f32⟩
  | 63 => ⟨S256, .f32⟩
  | 64 => ⟨S256x1, .f32⟩
  | 65 => ⟨S_, .f32⟩
  | 66 => ⟨S256x1, .f32⟩
  | 67 => ⟨S256x1, .f32⟩
  | 68 => ⟨S256x20000, .f32⟩
  | 69 => ⟨S256x20000, .f32⟩
  | 70 => ⟨S256x20000, .f32⟩
  | 71 => ⟨S_, .f32⟩
  | 72 => ⟨S256, .f32⟩
  | 73 => ⟨S256x1, .f32⟩
  | 74 => ⟨S_, .f32⟩
  | 75 => ⟨S256x1, .f32⟩
  | 76 => ⟨S256x1, .f32⟩
  | 77 => ⟨S256x20000, .f32⟩
  | 78 => ⟨S256x20000, .f32⟩
  | 79 => ⟨S_, .f32⟩
  | 80 => ⟨S256x1, .f32⟩
  | 81 => ⟨S256x1, .f32⟩
  | 82 => ⟨S256x1, .f32⟩
  | 83 => ⟨S256x20000, .f32⟩
  | 84 => ⟨S256x20000, .f32⟩
  | 85 => ⟨S1x20000, .f32⟩
  | 86 => ⟨S256x20000, .f32⟩
  | 87 => ⟨S256x20000, .f32⟩
  | 88 => ⟨S1x20000, .f32⟩
  | 89 => ⟨S256x20000, .f32⟩
  | 90 => ⟨S256x20000, .f32⟩
  | 91 => ⟨S256x1, .f32⟩
  | 92 => ⟨S_, .f32⟩
  | 93 => ⟨S256x1, .f32⟩
  | 94 => ⟨S256x1, .f32⟩
  | 95 => ⟨S256x20001, .f32⟩
  | 96 => ⟨S256x1024, .f32⟩
  | 97 => ⟨S1x1024, .f32⟩
  | 98 => ⟨S256x1024, .f32⟩
  | 99 => ⟨S256x1024, .f32⟩
  | 100 => ⟨S_, .f32⟩
  | 101 => ⟨S256x1024, .f32⟩
  | 102 => ⟨S256x1024, .f32⟩
  | 103 => ⟨S256x1024, .f32⟩
  | 104 => ⟨S_, .f32⟩
  | 105 => ⟨S256x1024, .f32⟩
  | 106 => ⟨S256x1024, .f32⟩
  | 107 => ⟨S256x1024, .f32⟩
  | 108 => ⟨S256x1024, .f32⟩
  | 109 => ⟨S_, .f32⟩
  | 110 => ⟨S256, .f32⟩
  | 111 => ⟨S256x1, .f32⟩
  | 112 => ⟨S_, .f32⟩
  | 113 => ⟨S256x1, .f32⟩
  | 114 => ⟨S256x1, .f32⟩
  | 115 => ⟨S256x1024, .f32⟩
  | 116 => ⟨S256x1024, .f32⟩
  | 117 => ⟨S256x1024, .f32⟩
  | 118 => ⟨S_, .f32⟩
  | 119 => ⟨S256, .f32⟩
  | 120 => ⟨S256x1, .f32⟩
  | 121 => ⟨S_, .f32⟩
  | 122 => ⟨S256x1, .f32⟩
  | 123 => ⟨S256x1, .f32⟩
  | 124 => ⟨S256x1024, .f32⟩
  | 125 => ⟨S256x1024, .f32⟩
  | 126 => ⟨S_, .f32⟩
  | 127 => ⟨S256x1, .f32⟩
  | _ => ⟨S256x8x20, .i32⟩

abbrev hbmTy0_1 (i : Nat) : BufTy := match i % 128 with
  | 0 => ⟨S256x1, .f32⟩
  | 1 => ⟨S256x1, .f32⟩
  | 2 => ⟨S256x1024, .f32⟩
  | 3 => ⟨S256x1024, .f32⟩
  | 4 => ⟨S1x1024, .f32⟩
  | 5 => ⟨S256x1024, .f32⟩
  | 6 => ⟨S256x1024, .f32⟩
  | 7 => ⟨S1x1024, .f32⟩
  | 8 => ⟨S256x1024, .f32⟩
  | 9 => ⟨S256x1024, .f32⟩
  | 10 => ⟨S256x1024, .f32⟩
  | 11 => ⟨S1x1024, .f32⟩
  | 12 => ⟨S256x1024, .f32⟩
  | 13 => ⟨S256x1024, .f32⟩
  | 14 => ⟨S_, .f32⟩
  | 15 => ⟨S256x1024, .f32⟩
  | 16 => ⟨S256x1024, .f32⟩
  | 17 => ⟨S256x1024, .f32⟩
  | 18 => ⟨S_, .f32⟩
  | 19 => ⟨S256x1024, .f32⟩
  | 20 => ⟨S256x1024, .f32⟩
  | 21 => ⟨S256x1024, .f32⟩
  | 22 => ⟨S256x1024, .f32⟩
  | 23 => ⟨S256x256, .f32⟩
  | 24 => ⟨S1x256, .f32⟩
  | 25 => ⟨S256x256, .f32⟩
  | 26 => ⟨S256x256, .f32⟩
  | 27 => ⟨S256x1024, .f32⟩
  | 28 => ⟨S1x1024, .f32⟩
  | 29 => ⟨S256x1024, .f32⟩
  | 30 => ⟨S256x1024, .f32⟩
  | 31 => ⟨S_, .f32⟩
  | 32 => ⟨S256x1024, .f32⟩
  | 33 => ⟨S256x1024, .f32⟩
  | 34 => ⟨S256x1024, .f32⟩
  | 35 => ⟨S_, .f32⟩
  | 36 => ⟨S256x1024, .f32⟩
  | 37 => ⟨S256x1024, .f32⟩
  | 38 => ⟨S256x1024, .f32⟩
  | 39 => ⟨S256x1024, .f32⟩
  | 40 => ⟨S256x20001, .f32⟩
  | 41 => ⟨S1x20001, .f32⟩
  | 42 => ⟨S256x20001, .f32⟩
  | 43 => ⟨S256x20001, .f32⟩
  | _ => ⟨S256x8x20, .i32⟩

abbrev hbmTy (i : Nat) : BufTy := match i / 128 with
  | 0 => hbmTy0_0 i
  | 1 => hbmTy0_1 i
  | _ => ⟨S256x8x20, .i32⟩

abbrev bufTy : (tb : Table) → Fin (tcTables nBuf tb) → BufTy
  | .hbm, ⟨i, _⟩ => hbmTy i
  | _, _ => ⟨S256x8x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v28 : Ref sig .tc := ⟨.hbm, 59, rfl⟩
abbrev main_cst_8 : Ref sig .tc := ⟨.hbm, 60, rfl⟩
abbrev main_v29 : Ref sig .tc := ⟨.hbm, 61, rfl⟩
abbrev main_cst_9 : Ref sig .tc := ⟨.hbm, 62, rfl⟩
abbrev main_v30 : Ref sig .tc := ⟨.hbm, 63, rfl⟩
abbrev main_v31 : Ref sig .tc := ⟨.hbm, 64, rfl⟩
abbrev main_cst_10 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_11 : Ref sig .tc := ⟨.hbm, 71, rfl⟩
abbrev main_v37 : Ref sig .tc := ⟨.hbm, 72, rfl⟩
abbrev main_v38 : Ref sig .tc := ⟨.hbm, 73, rfl⟩
abbrev main_cst_12 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_13 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_14 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_15 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_16 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_17 : Ref sig .tc := ⟨.hbm, 109, rfl⟩
abbrev main_v69 : Ref sig .tc := ⟨.hbm, 110, rfl⟩
abbrev main_v70 : Ref sig .tc := ⟨.hbm, 111, rfl⟩
abbrev main_cst_18 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_19 : Ref sig .tc := ⟨.hbm, 118, rfl⟩
abbrev main_v76 : Ref sig .tc := ⟨.hbm, 119, rfl⟩
abbrev main_v77 : Ref sig .tc := ⟨.hbm, 120, rfl⟩
abbrev main_cst_20 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_21 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_22 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_23 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_24 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_25 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩

abbrev nD : Nat := 1
abbrev τ : Topo := Topo.v7x

variable {F : FTy → Type} [FloatOps F]
-- ==== Proof.Base.lean ====
/-
  The setting the proofs of the kernel share: the program as the launch theorem takes it, the resource algebra
  (the handshakes' rounds, the four pipelines' rounds and the transfers' counters), and the arrays by name.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Fm

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

section
variable [FloatOps F] [Named F]
abbrev D : Defs nD τ sig (Elt F) (ΛP (F := F)) := Pipeline.defs pcfgs defs₀
end

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds: the left factor of the right factor. -/
abbrev EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

example : (EP (F := F) : Emb UP 𝕄).LandsIn (upEmb : UEmb _ 𝕄) := inferInstance
example : (EH (F := F) : Emb UH 𝕄).LandsIn (upEmb : UEmb _ 𝕄) := inferInstance

end Cert.Proof.Fm
-- ==== Proof.Region.lean ====
/-
  One TensorCore pipeline of @main run as a region, over the thread state "every unscoped buffer at a valuation": it is
  entered with the windows' arrays at the valuation and left with each array at some contents the pipeline may leave.
-/
module

public import proofs.«01_k».proof.Proof.Base
public import Idealize.ShloMosaic.Lib.Pipeline.RegionArrays
public import Idealize.ShloMosaic.Lib.Pipeline.RegionArraysF
public import Idealize.ShloMosaic.Lib.Pipeline.DatRel
public import Idealize.ShloMosaic.Lib.SparseCore.Threads

@[expose] public section

noncomputable section

namespace Cert.Proof.Fm

open Cert.KernelIdeal Cert.KernelIdeal.Gen

open Idealize.ShloMosaic
open Idealize.ShloMosaic.SparseCore (S V T)
open Idealize.ShloMosaic.SparseCore.Cfg (HIx Pay)
open Idealize.ShloMosaic.StableHlo (held)
open Idealize.ShloMosaic.Pipeline (arrRef arrRefs ucRefs RDat Dat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## A valuation with a pipeline's arrays replaced -/

section Put

variable {gr W : Nat} (win : Fin W → Pipeline.WinSpec sig gr)

/-- `V` with the windows' arrays at `A`. -/
def putArr (A : (w : Fin W) → (Proc.devRef .tc (arrRef win w) : DevRef τ sig).ty.Contents (Elt F)) (V : Valuation τ sig (Elt F)) :
    Valuation τ sig (Elt F) := fun b =>
  if h : ∃ w : Fin W, b = Proc.devRef .tc (arrRef win w) then
    cast (congrArg (fun b' : DevRef τ sig => b'.ty.Contents (Elt F)) h.choose_spec.symm) (A h.choose)
  else V b

theorem cast_arr (A : (w : Fin W) → (Proc.devRef .tc (arrRef win w) : DevRef τ sig).ty.Contents (Elt F)) {w w' : Fin W} (hw : w' = w)
    (e : (Proc.devRef .tc (arrRef win w') : DevRef τ sig).ty.Contents (Elt F) = (Proc.devRef .tc (arrRef win w) : DevRef τ sig).ty.Contents (Elt F)) :
    cast e (A w') = A w := by
  subst hw; rfl

/-- At a window's array it is what was put there, the arrays being distinct. -/
theorem putArr_arr (hinj : Function.Injective (arrRef win))
    (A : (w : Fin W) → (Proc.devRef .tc (arrRef win w) : DevRef τ sig).ty.Contents (Elt F)) (V : Valuation τ sig (Elt F)) (w : Fin W) :
    putArr win A V (Proc.devRef .tc (arrRef win w)) = A w := by
  have h : ∃ w' : Fin W, (Proc.devRef .tc (arrRef win w) : DevRef τ sig) = Proc.devRef .tc (arrRef win w') := ⟨w, rfl⟩
  have hw : h.choose = w := (hinj (Proc.devRef_injective _ h.choose_spec)).symm
  unfold putArr
  rw [dif_pos h]
  exact cast_arr win A hw _

/-- Off the arrays it is `V`. -/
theorem putArr_off (A : (w : Fin W) → (Proc.devRef .tc (arrRef win w) : DevRef τ sig).ty.Contents (Elt F)) (V : Valuation τ sig (Elt F))
    {b : DevRef τ sig} (hb : b ∉ arrRefs (τ := τ) win) : putArr win A V b = V b := by
  unfold putArr
  rw [dif_neg]
  rintro ⟨w, rfl⟩
  exact hb (Finset.mem_map.mpr ⟨_, Finset.mem_image.mpr ⟨w, Finset.mem_univ _, rfl⟩, rfl⟩)

/-- The windows' arrays held at a valuation are a points-to per window. -/
theorem held_arrRefs (hinj : Function.Injective (arrRef win)) (d : Dev nD) (V : Valuation τ sig (Elt F)) :
    (held (SparseCore.T d : Thread nD τ) (arrRefs (τ := τ) win) V : sProp 𝕄)
      = bigSep Finset.univ fun w => ((SparseCore.T d : Thread nD τ).loc (arrRef win w)) ↦{fullShare} V (Proc.devRef .tc (arrRef win w)) := by
  unfold held arrRefs
  rw [bigSep_map, show Finset.univ.image (arrRef win) = Finset.univ.map ⟨arrRef win, hinj⟩ from
    (Finset.map_eq_image ⟨arrRef win, hinj⟩ Finset.univ).symm, bigSep_map]
  rfl

end Put

/-! ## The region -/

/-- No pipeline prefetches a table. -/
abbrev adm : (p : Fin 4) → (pcfgs (F := F) p).Adm := fun p => (cfgs p).toPCfg_adm

/-- What a core's recorded waits are bounded by throughout a region. -/
abbrev lowWaits (d : Dev nD) (n : ℕ) : Set (SemLoc sig × HIx 1) := {q | (K (F := F)).lev ((SparseCore.T d : Thread nD τ), q.1) q.2 ≤ n}

/-- The core's debts in a region: `O`, with the recorded waits at or below level `n`. -/
abbrev debts (d : Dev nD) (O : CellTallies nD τ sig (HIx 1)) (n : ℕ) : sProp 𝕄 :=
  iprop(∃ W, ⌜(K (F := F)).WBelow (SparseCore.T d : Thread nD τ) W n⌝ ∗ owes (SparseCore.T d : Thread nD τ) O W)

variable (p : Fin 4) (kit : Pipeline.LaunchFacts (nD := nD) (τ := τ) cfgs p)
  (rds : (p : Fin 4) → (c : Dev nD) → RDat τ (Elt F) (HIx 1) ℕ UU ℕ (Pipeline.pin (pcfgs (F := F)) adm p) c)
  (O : Dev nD → CellTallies nD τ sig (HIx 1)) (n : ℕ) (V : Dev nD → Valuation τ sig (Elt F))

/-- The arrays a region leaves, over the core's unscoped buffers: `V` off the windows' arrays, and each array at some
    contents the pipeline may leave. -/
abbrev leftAt (d : Dev nD) : sProp 𝕄 :=
  iprop(∃ V' : Valuation τ sig (Elt F),
    ⌜(∀ w, (rds p d).ArrAt w (cfgs p).N (V' (Proc.devRef .tc (arrRef (cfgs p).spec w)))) ∧ ∀ b ∉ arrRefs (τ := τ) (cfgs p).spec, V' b = V d b⌝
      ∗ held (SparseCore.T d : Thread nD τ) (ucRefs τ sig) V')

set_option backward.isDefEq.respectTransparency.types false in
/-- The region of pipeline `p`: the library's record, from the proof data of its body. -/
def regionOf (hbody : ∀ c, (rds p c).BodyObligation (defs₀ (F := F)) 𝒱₀ none Set.univ)
    (hO : ∀ c g, O c g none = 0)
    (howed : ∀ c t, (rds p c).owed t = O c) (hrec : ∀ c t, (rds p c).recorded t = lowWaits (F := F) c n)
    (hshare : ∀ c w, (rds p c).share w = fullShare)
    (hΦ : ∀ c t, (rds p c).Φ t = Pipeline.scopedRest (cfgs p).spec c)
    (hA : ∀ c w, (rds p c).A w = V c (Proc.devRef .tc (arrRef (cfgs p).spec w))) :
    RDat.RegionSeg (pcfgs (F := F)) adm rds none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := RDat.cellsWaits_intro (Pipeline.pin (pcfgs (F := F)) adm) rds none p c fun w s t => by
    rw [howed c t]; exact (K (F := F)).mayWait_none _ (hO c)
  pre c := iprop(held (SparseCore.T c : Thread nD τ) (ucRefs τ sig) (V c) ∗ debts c (O c) n)
  post c := iprop(leftAt p rds V c ∗ debts c (O c) n)
  X c := iprop(emp)
  Y c := iprop(emp)
  Z c := held (SparseCore.T c : Thread nD τ) (ucRefs τ sig \ arrRefs (τ := τ) (cfgs p).spec) (V c)
  hentry c := by
    rw [Pipeline.ownSems0_none, Pipeline.prefHeld_of_none _ rfl,
      StableHlo.held_sub_split _ (Pipeline.arrRefs_sub_ucRefs (τ := τ) (cfgs p).spec kit.win.arr_unscoped) (V c)]
    iintro ⟨⟨⟨Ha, Hr⟩, ⟨%W, %hW, HO⟩⟩, -, -⟩
    imodintro
    isplitl [Ha]
    · rw [RDat.arrays_eq (pcfgs (F := F)) adm rds p c kit.arr_whole (hshare c)]
      rw [held_arrRefs _ kit.win.arr_inj]
      rw [show (fun w => ((SparseCore.T c : Thread nD τ).loc (arrRef (cfgs p).spec w)) ↦{fullShare} V c (Proc.devRef .tc (arrRef (cfgs p).spec w)) : _ → sProp 𝕄)
        = fun w => ((SparseCore.T c : Thread nD τ).loc (arrRef (cfgs p).spec w)) ↦{fullShare} (rds p c).A w from
        funext fun w => by rw [hA c w]]
      exact BI.Entails.refl _
    isplitr; · iempintro
    isplitl [HO]
    · unfold RDat.owesAt Pipeline.owesWithin RDat.bound
      rw [howed c 0, hrec c]
      iexists W; isplitr; · ipureintro; exact fun q hq => Or.inl (hW q hq)
      iexact HO
    isplitr; · iempintro
    iexact Hr
  hin c := by
    rw [hΦ c]
    iintro ⟨-, -, Hr⟩
    iexact Hr
  hout c := by
    rw [Pipeline.ownSems0_none, hΦ c]
    iintro Hr
    isplitr; · iempintro
    isplitr; · iempintro
    iexact Hr
  hexit c := by
    rw [RDat.arraysAt_eq (pcfgs (F := F)) adm rds p c kit.arr_whole (hshare c)]
    iintro ⟨Ha, HO, -, Hr⟩
    ihave Ha := (BI.bigSep_exists_pi Finset.univ _) $$ Ha
    icases Ha with ⟨%A, Ha⟩
    ihave Ha := (BI.bigSep_pure_sep Finset.univ (fun w => (rds p c).ArrAt w (cfgs p).N (A w)) _) $$ Ha
    icases Ha with ⟨%hArr, Ha⟩
    imodintro
    isplitr [HO]
    · iexists (putArr (cfgs p).spec A (V c))
      isplitr
      · ipureintro
        refine ⟨fun w => ?_, fun b hb => putArr_off _ _ _ hb⟩
        rw [putArr_arr _ kit.win.arr_inj]; exact hArr w (Finset.mem_univ w)
      rw [StableHlo.held_sub_split _ (Pipeline.arrRefs_sub_ucRefs (τ := τ) (cfgs p).spec kit.win.arr_unscoped) (putArr (cfgs p).spec A (V c)),
        StableHlo.held_congr (SparseCore.T c : Thread nD τ) (S := ucRefs τ sig \ arrRefs (τ := τ) (cfgs p).spec) (V := putArr (cfgs p).spec A (V c)) (V' := V c)
          fun b hb => putArr_off _ _ _ (Finset.mem_sdiff.mp hb).2]
      isplitr [Hr]
      · rw [held_arrRefs _ kit.win.arr_inj,
          show (fun w => ((SparseCore.T c : Thread nD τ).loc (arrRef (cfgs p).spec w)) ↦{fullShare} putArr (cfgs p).spec A (V c) (Proc.devRef .tc (arrRef (cfgs p).spec w)) : _ → sProp 𝕄)
            = fun w => ((SparseCore.T c : Thread nD τ).loc (arrRef (cfgs p).spec w)) ↦{fullShare} A w from
          funext fun w => by rw [putArr_arr _ kit.win.arr_inj]]
        iexact Ha
      iexact Hr
    · unfold RDat.owesAt Pipeline.owesWithin RDat.bound
      rw [howed c, hrec c]
      icases HO with ⟨%W, %hW, HO⟩; iexists W; isplitr
      · ipureintro
        intro q hq
        rcases hW hq with h | ⟨w, s, h⟩
        · exact h
        · rw [h]; exact Nat.zero_le _
      iexact HO

include kit in
set_option backward.isDefEq.respectTransparency.types false in
/-- **A region of @main.** From the level facts, the core's own storage, its unscoped buffers at `V`, its debts and the
    pipeline's ghost state, the call of pipeline `p` runs, and leaves the buffers `leftAt` says. -/
theorem wp_region (hbody : ∀ c, (rds p c).BodyObligation (defs₀ (F := F)) 𝒱₀ none Set.univ)
    (hO : ∀ c g, O c g none = 0)
    (howed : ∀ c t, (rds p c).owed t = O c) (hrec : ∀ c t, (rds p c).recorded t = lowWaits (F := F) c n)
    (hshare : ∀ c w, (rds p c).share w = fullShare)
    (hΦ : ∀ c t, (rds p c).Φ t = Pipeline.scopedRest (cfgs p).spec c)
    (hA : ∀ c w, (rds p c).A w = V c (Proc.devRef .tc (arrRef (cfgs p).spec w)))
    (d : Dev nD) (Φ : PUnit → sProp 𝕄) :
    iprop(levAts (K (F := F)).L (K (F := F)).lev ∗ boundary (SparseCore.T d : Thread nD τ)
        ∗ held (SparseCore.T d : Thread nD τ) (ucRefs τ sig) (V d) ∗ debts d (O d) n
        ∗ (Pipeline.cellsGhost cfgs (EP (F := F)) p d ∗ Pipeline.toksInit cfgs (EP (F := F)) p d)
        ∗ ((boundary (SparseCore.T d : Thread nD τ) ∗ leftAt p rds V d ∗ debts d (O d) n) -∗ Φ ⟨⟩))
      ⊢ wp frame (wpE ((K (F := F)).defs D) 𝒱 (SparseCore.T d : Thread nD τ) none) Set.univ
          (Prog.lift (.customCall (SparseCore.inner (Pipeline.entry p)) ())) Φ := by
  have h := RDat.RegionSeg.wp (pcfgs (F := F)) adm rds none kit.cellOf_inj EP (defs₀ (F := F)) 𝒱₀ (K (F := F)).L (K (F := F)).lev
    (regionOf p kit rds O n V hbody hO howed hrec hshare hΦ hA) d none (fun u hu => nomatch hu) (fun _ => .ret ⟨⟩) Φ
  refine BI.Entails.trans ?_ ((K (F := F)).wp_liftProg D 𝒱 (SparseCore.T d : Thread nD τ) Set.univ none
    (Prog.lift (.customCall (Pipeline.entry p) ()) : Prog (TpuEff nD τ sig (Elt F) (ΛP (F := F)) .tc) PUnit) Φ)
  refine BI.Entails.trans ?_ h
  rw [show (regionOf p kit rds O n V hbody hO howed hrec hshare hΦ hA).pre d
      = iprop(held (SparseCore.T d : Thread nD τ) (ucRefs τ sig) (V d) ∗ debts d (O d) n) from rfl,
    show (regionOf p kit rds O n V hbody hO howed hrec hshare hΦ hA).post d = iprop(leftAt p rds V d ∗ debts d (O d) n) from rfl]
  show (_ : sProp 𝕄) ⊢ _
  iintro ⟨Hlv, Hb, Hh, HO, ⟨Hg, Ht⟩, Hk⟩
  isplitl [Hk]
  · iintro ⟨Hb, Hl, HO⟩
    rw [wp_ret]
    imodintro
    iapply Hk
    isplitl [Hb]; · iexact Hb
    isplitl [Hl]; · iexact Hl
    iexact HO
  isplitl [Hb]; · iexact Hb
  isplitl [Hh HO]
  · isplitl [Hh]; · iexact Hh
    iexact HO
  isplitl [Hlv]; · iexact Hlv
  isplitl [Hg]; · iexact Hg
  iexact Ht

end Cert.Proof.Fm
-- ==== Proof.Host.lean ====
/-
  @main as five lines of host operations with its four regions and its one SparseCore call between them.
-/
module

public import proofs.«01_k».proof.Proof.Region
public import Idealize.ShloMosaic.Lib.StableHlo.Run

@[expose] public section

noncomputable section

namespace Cert.Proof.Fm

open Cert.KernelIdeal Cert.KernelIdeal.Gen

open Idealize.ShloMosaic
open Idealize.ShloMosaic.SparseCore.Cfg (HIx Pay)
open Idealize.ShloMosaic.Pipeline (arrRef arrRefs ucRefs RDat Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- Up to the statistics: the tags, transposed. -/
def opsA : List (HloOp τ sig (Elt F)) :=
  [StableHlo.reshape main_arg0 main_v0 (rfl : (.i32 : EltTy) = .i32) shapeCasts_S256x8x20_S256x160,
   StableHlo.unary main_v0 main_v1 ((transpose S160x256 [1, 0] · transposes_S256x160_S160x256_1_0) : (⟨S256x160, .i32⟩ : BufTy).Contents (Elt F) → (⟨S160x256, .i32⟩ : BufTy).Contents (Elt F))]

/-- Between the statistics and the SparseCore call: its operands, padded. -/
def opsB : List (HloOp τ sig (Elt F)) :=
  [StableHlo.unary main_v2_1 main_v3 ((extractStridedSlice S1x256 ![0, 0] · slices_S8x256_S1x256_0_0) : (⟨S8x256, .f32⟩ : BufTy).Contents (Elt F) → (⟨S1x256, .f32⟩ : BufTy).Contents (Elt F)),
   StableHlo.reshape main_v3 main_v4 (rfl : (.f32 : EltTy) = .f32) shapeCasts_S1x256_S256,
   StableHlo.unary main_v2_1 main_v5 ((extractStridedSlice S1x256 ![1, 0] · slices_S8x256_S1x256_1_0) : (⟨S8x256, .f32⟩ : BufTy).Contents (Elt F) → (⟨S1x256, .f32⟩ : BufTy).Contents (Elt F)),
   StableHlo.reshape main_v5 main_v6 (rfl : (.f32 : EltTy) = .f32) shapeCasts_S1x256_S256,
   StableHlo.nullary main_c (constantI S_ 32 0#32),
   StableHlo.TRef.unary (.of main_c : StableHlo.TRef sig ⟨S_, .i32⟩) main_call0.v0 id,
   StableHlo.TRef.binary (.of main_v0 : StableHlo.TRef sig ⟨S256x160, .i32⟩) main_call0.v0 main_call0.v1 (fun x v => pad S256x256 ![0, 0] ![0, 96] ![0, 0] x v pads_S256x160_S256x256_000_0960 h_S_),
   StableHlo.unary main_v2_0 main_v8 ((transpose S256x160 [1, 0] · transposes_S160x256_S256x160_1_0) : (⟨S160x256, .f32⟩ : BufTy).Contents (Elt F) → (⟨S256x160, .f32⟩ : BufTy).Contents (Elt F)),
   StableHlo.nullary main_c_0 (constantI S_ 32 0#32),
   StableHlo.TRef.unary (.of main_c_0 : StableHlo.TRef sig ⟨S_, .i32⟩) main_call1.v0 (sitofp .f32),
   StableHlo.TRef.binary (.of main_v8 : StableHlo.TRef sig ⟨S256x160, .f32⟩) main_call1.v0 main_call1.v1 (fun x v => pad S256x256 ![0, 0] ![0, 96] ![0, 0] x v pads_S256x160_S256x256_000_0960 h_S_),
   StableHlo.unary main_v4 main_v10 (broadcastInDim S256x1 ![0] bcast_S256_S256x1_0 : (⟨S256, .f32⟩ : BufTy).Contents (Elt F) → (⟨S256x1, .f32⟩ : BufTy).Contents (Elt F)),
   StableHlo.unary main_v10 main_v11 (broadcastInDim S256x16 ![0, 1] bcast_S256x1_S256x16_0_1 : (⟨S256x1, .f32⟩ : BufTy).Contents (Elt F) → (⟨S256x16, .f32⟩ : BufTy).Contents (Elt F)),
   StableHlo.unary main_v6 main_v12 (broadcastInDim S256x1 ![0] bcast_S256_S256x1_0 : (⟨S256, .f32⟩ : BufTy).Contents (Elt F) → (⟨S256x1, .f32⟩ : BufTy).Contents (Elt F)),
   StableHlo.unary main_v12 main_v13 (broadcastInDim S256x16 ![0, 1] bcast_S256x1_S256x16_0_1 : (⟨S256x1, .f32⟩ : BufTy).Contents (Elt F) → (⟨S256x16, .f32⟩ : BufTy).Contents (Elt F)),
   StableHlo.unary main_arg1 main_v14 (broadcastInDim S256x1 ![0] bcast_S256_S256x1_0 : (⟨S256, .f32⟩ : BufTy).Contents (Elt F) → (⟨S256x1, .f32⟩ : BufTy).Contents (Elt F)),
   StableHlo.unary main_v14 main_v15 (broadcastInDim S256x16 ![0, 1] bcast_S256x1_S256x16_0_1 : (⟨S256x1, .f32⟩ : BufTy).Contents (Elt F) → (⟨S256x16, .f32⟩ : BufTy).Contents (Elt F)),
   StableHlo.nullary main_cst (constant S_ .f32 0x00000000#32),
   StableHlo.unary main_cst main_v16 (broadcastInDim S256x80 ![] bcast_S_S256x80 : (⟨S_, .f32⟩ : BufTy).Contents (Elt F) → (⟨S256x80, .f32⟩ : BufTy).Contents (Elt F)),
   StableHlo.nary ![main_v11, main_v13, main_v15, main_v16] main_v17 (fun u => (concatenate S256x128 1 [⟨S256x16, (u 0 : (⟨S256x16, .f32⟩ : BufTy).Contents (Elt F))⟩, ⟨S256x16, (u 1 : (⟨S256x16, .f32⟩ : BufTy).Contents (Elt F))⟩, ⟨S256x16, (u 2 : (⟨S256x16, .f32⟩ : BufTy).Contents (Elt F))⟩, ⟨S256x80, (u 3 : (⟨S256x80, .f32⟩ : BufTy).Contents (Elt F))⟩] concatenates_S256x16_S256x16_S256x16_S256x80_S256x128_d1 : (⟨S256x128, .f32⟩ : BufTy).Contents (Elt F))),
   StableHlo.nullary main_cst_1 (constant S_ .f32 0x00000000#32),
   StableHlo.unary main_cst_1 main_v18 (broadcastInDim S1 ![] bcast_S_S1 : (⟨S_, .f32⟩ : BufTy).Contents (Elt F) → (⟨S1, .f32⟩ : BufTy).Contents (Elt F)),
   StableHlo.nullary main_cst_2 (constant S_ .f32 0x00000000#32),
   StableHlo.unary main_cst_2 main_v19 (broadcastInDim S95 ![] bcast_S_S95 : (⟨S_, .f32⟩ : BufTy).Contents (Elt F) → (⟨S95, .f32⟩ : BufTy).Contents (Elt F)),
   StableHlo.nary ![main_v18, main_arg2, main_v19] main_v20 (fun u => (concatenate S20096 0 [⟨S1, (u 0 : (⟨S1, .f32⟩ : BufTy).Contents (Elt F))⟩, ⟨S20000, (u 1 : (⟨S20000, .f32⟩ : BufTy).Contents (Elt F))⟩, ⟨S95, (u 2 : (⟨S95, .f32⟩ : BufTy).Contents (Elt F))⟩] concatenates_S1_S20000_S95_S20096_d0 : (⟨S20096, .f32⟩ : BufTy).Contents (Elt F))),
   StableHlo.nullary main_cst_3 (constant S_ .f32 0x00000000#32),
   StableHlo.unary main_cst_3 main_v21 (broadcastInDim S95 ![] bcast_S_S95 : (⟨S_, .f32⟩ : BufTy).Contents (Elt F) → (⟨S95, .f32⟩ : BufTy).Contents (Elt F)),
   StableHlo.nary ![main_v18, main_arg3, main_v21] main_v22 (fun u => (concatenate S20096 0 [⟨S1, (u 0 : (⟨S1, .f32⟩ : BufTy).Contents (Elt F))⟩, ⟨S20000, (u 1 : (⟨S20000, .f32⟩ : BufTy).Contents (Elt F))⟩, ⟨S95, (u 2 : (⟨S95, .f32⟩ : BufTy).Contents (Elt F))⟩] concatenates_S1_S20000_S95_S20096_d0 : (⟨S20096, .f32⟩ : BufTy).Contents (Elt F)))]

/-- The first dense kernel's bias, as a row. -/
def opsC : List (HloOp τ sig (Elt F)) :=
  [StableHlo.reshape main_arg5 main_v24 (rfl : (.f32 : EltTy) = .f32) shapeCasts_S1024_S1x1024]

/-- The LayerNorm kernel's vectors, as rows. -/
def opsD : List (HloOp τ sig (Elt F)) :=
  [StableHlo.reshape main_arg6 main_v26 (rfl : (.f32 : EltTy) = .f32) shapeCasts_S1024_S1x1024,
   StableHlo.reshape main_arg7 main_v27 (rfl : (.f32 : EltTy) = .f32) shapeCasts_S1024_S1x1024,
   StableHlo.reshape main_arg9 main_v28 (rfl : (.f32 : EltTy) = .f32) shapeCasts_S1024_S1x1024,
   StableHlo.reshape main_arg11 main_v29 (rfl : (.f32 : EltTy) = .f32) shapeCasts_S256_S1x256,
   StableHlo.reshape main_arg13 main_v30 (rfl : (.f32 : EltTy) = .f32) shapeCasts_S1024_S1x1024]

/-- The last dense kernel's bias, as a row. -/
def opsE : List (HloOp τ sig (Elt F)) :=
  [StableHlo.reshape main_arg15 main_v32 (rfl : (.f32 : EltTy) = .f32) shapeCasts_S20001_S1x20001]

/-- @main, cut at its regions and its call. -/
theorem main_eq (d : Dev nD) : main (F := F) d =
    (StableHlo.seq opsA >>= fun _ => Prog.lift (.customCall (SparseCore.inner (Pipeline.entry 0)) ()) >>= fun _ =>
      StableHlo.seq opsB >>= fun _ => sc.run d 0 >>= fun _ =>
      StableHlo.seq opsC >>= fun _ => Prog.lift (.customCall (SparseCore.inner (Pipeline.entry 1)) ()) >>= fun _ =>
      StableHlo.seq opsD >>= fun _ => Prog.lift (.customCall (SparseCore.inner (Pipeline.entry 2)) ()) >>= fun _ =>
      StableHlo.seq opsE >>= fun _ => Prog.lift (.customCall (SparseCore.inner (Pipeline.entry 3)) ()) >>= fun _ => pure ⟨⟩) := by
  rfl

theorem subA : ∀ op ∈ (opsA : List (HloOp τ sig (Elt F))), op.bufs ⊆ ucRefs τ sig := fun op h =>
  Pipeline.sub_ucRefs op ((List.forall_iff_forall_mem.mp (show List.Forall (fun op : HloOp τ sig (Elt F) => op.bufs ⊆ StableHlo.tcRefs τ sig) opsA by
    unfold opsA
    simp only [List.Forall]
    exact ⟨StableHlo.reshape_bufs_sub .., StableHlo.unary_bufs_sub ..⟩)) op h)

theorem freshA : ∀ op ∈ (opsA : List (HloOp τ sig (Elt F))), op.fresh = ∅ := fun op h =>
  (List.forall_iff_forall_mem.mp (show List.Forall (fun op : HloOp τ sig (Elt F) => op.fresh = ∅) opsA by
    unfold opsA
    simp only [List.Forall]
    exact ⟨rfl, rfl⟩)) op h

theorem subB : ∀ op ∈ (opsB : List (HloOp τ sig (Elt F))), op.bufs ⊆ ucRefs τ sig := fun op h =>
  Pipeline.sub_ucRefs op ((List.forall_iff_forall_mem.mp (show List.Forall (fun op : HloOp τ sig (Elt F) => op.bufs ⊆ StableHlo.tcRefs τ sig) opsB by
    unfold opsB
    simp only [List.Forall]
    exact ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nary_bufs_sub .., StableHlo.nullary_bufs_sub .., StableHlo.unary_bufs_sub .., StableHlo.nullary_bufs_sub .., StableHlo.unary_bufs_sub .., StableHlo.nary_bufs_sub .., StableHlo.nullary_bufs_sub .., StableHlo.unary_bufs_sub .., StableHlo.nary_bufs_sub ..⟩)) op h)

theorem freshB : ∀ op ∈ (opsB : List (HloOp τ sig (Elt F))), op.fresh = ∅ := fun op h =>
  (List.forall_iff_forall_mem.mp (show List.Forall (fun op : HloOp τ sig (Elt F) => op.fresh = ∅) opsB by
    unfold opsB
    simp only [List.Forall]
    exact ⟨rfl, rfl, rfl, rfl, rfl, rfl, rfl, rfl, rfl, rfl, rfl, rfl, rfl, rfl, rfl, rfl, rfl, rfl, rfl, rfl, rfl, rfl, rfl, rfl, rfl, rfl, rfl, rfl⟩)) op h

theorem subC : ∀ op ∈ (opsC : List (HloOp τ sig (Elt F))), op.bufs ⊆ ucRefs τ sig := fun op h =>
  Pipeline.sub_ucRefs op ((List.forall_iff_forall_mem.mp (show List.Forall (fun op : HloOp τ sig (Elt F) => op.bufs ⊆ StableHlo.tcRefs τ sig) opsC by
    unfold opsC
    simp only [List.Forall]
    exact StableHlo.reshape_bufs_sub ..)) op h)

theorem freshC : ∀ op ∈ (opsC : List (HloOp τ sig (Elt F))), op.fresh = ∅ := fun op h =>
  (List.forall_iff_forall_mem.mp (show List.Forall (fun op : HloOp τ sig (Elt F) => op.fresh = ∅) opsC by
    unfold opsC
    simp only [List.Forall]
    exact rfl)) op h

theorem subD : ∀ op ∈ (opsD : List (HloOp τ sig (Elt F))), op.bufs ⊆ ucRefs τ sig := fun op h =>
  Pipeline.sub_ucRefs op ((List.forall_iff_forall_mem.mp (show List.Forall (fun op : HloOp τ sig (Elt F) => op.bufs ⊆ StableHlo.tcRefs τ sig) opsD by
    unfold opsD
    simp only [List.Forall]
    exact ⟨StableHlo.reshape_bufs_sub .., StableHlo.reshape_bufs_sub .., StableHlo.reshape_bufs_sub .., StableHlo.reshape_bufs_sub .., StableHlo.reshape_bufs_sub ..⟩)) op h)

theorem freshD : ∀ op ∈ (opsD : List (HloOp τ sig (Elt F))), op.fresh = ∅ := fun op h =>
  (List.forall_iff_forall_mem.mp (show List.Forall (fun op : HloOp τ sig (Elt F) => op.fresh = ∅) opsD by
    unfold opsD
    simp only [List.Forall]
    exact ⟨rfl, rfl, rfl, rfl, rfl⟩)) op h

theorem subE : ∀ op ∈ (opsE : List (HloOp τ sig (Elt F))), op.bufs ⊆ ucRefs τ sig := fun op h =>
  Pipeline.sub_ucRefs op ((List.forall_iff_forall_mem.mp (show List.Forall (fun op : HloOp τ sig (Elt F) => op.bufs ⊆ StableHlo.tcRefs τ sig) opsE by
    unfold opsE
    simp only [List.Forall]
    exact StableHlo.reshape_bufs_sub ..)) op h)

theorem freshE : ∀ op ∈ (opsE : List (HloOp τ sig (Elt F))), op.fresh = ∅ := fun op h =>
  (List.forall_iff_forall_mem.mp (show List.Forall (fun op : HloOp τ sig (Elt F) => op.fresh = ∅) opsE by
    unfold opsE
    simp only [List.Forall]
    exact rfl)) op h

end Cert.Proof.Fm
-- ==== Proof.Pieces.lean ====
/-
  The tile program of the SparseCore call as a chain of pieces. A tile fetches the padded scale and shift once and
  then makes eight rows: it fetches the row's tags, corrections and moments, fills a row buffer with the row's
  background, overwrites lane 0 and the 160 tagged entries, and sends the buffer out while the next row is made in
  the other buffer. Each piece takes what follows it as an argument; `body_eq` says the printed program is the chain.
-/
module

public import proofs.«01_k».proof.Proof.Base

@[expose] public section

set_option maxRecDepth 65536

noncomputable section

namespace Cert.Proof.Fm

open Cert.KernelIdeal Cert.KernelIdeal.Gen
open Idealize.ShloMosaic
open Idealize.SL.Sem

variable {F : FTy → Type} [FloatOps F] [Named F]

/-! ## The memrefs -/

abbrev gH : Memref sig .scVector .hbm S20096 .f32 := Memref.whole main_v20_scv
abbrev bH : Memref sig .scVector .hbm S20096 .f32 := Memref.whole main_v22_scv
abbrev tH : Memref sig .scVector .hbm S256x256 .i32 := Memref.whole main_v7_scv
abbrev cH : Memref sig .scVector .hbm S256x256 .f32 := Memref.whole main_v9_scv
abbrev sH : Memref sig .scVector .hbm S256x128 .f32 := Memref.whole main_v17_scv
abbrev yH : Memref sig .scVector .hbm S256x20096 .f32 := Memref.whole main_v23_scv
abbrev gW : Memref sig .scVector .vmem S20096 .f32 := Memref.whole cc1_scratch0
abbrev bW : Memref sig .scVector .vmem S20096 .f32 := Memref.whole cc1_scratch1
abbrev rowA : Memref sig .scVector .vmem S20096 .f32 := Memref.whole cc1_scratch2
abbrev rowB : Memref sig .scVector .vmem S20096 .f32 := Memref.whole cc1_scratch3
abbrev tW : Memref sig .scVector .vmem S256 .i32 := Memref.whole cc1_scratch4
abbrev cW : Memref sig .scVector .vmem S256 .f32 := Memref.whole cc1_scratch5
abbrev sW : Memref sig .scVector .vmem S128 .f32 := Memref.whole cc1_scratch6

abbrev tRow (o : Fin 2 → ℕ) (ho : ∀ a, o a + S1x256.size a ≤ S256x256.size a) : Memref sig .scVector .hbm S256 .i32 :=
  (tH.slice (Rect.unit (s := S256x256) o S1x256.size ho) (fun _ => rfl)).squeeze S256 squeezes_S1x256_S256
abbrev cRow (o : Fin 2 → ℕ) (ho : ∀ a, o a + S1x256.size a ≤ S256x256.size a) : Memref sig .scVector .hbm S256 .f32 :=
  (cH.slice (Rect.unit (s := S256x256) o S1x256.size ho) (fun _ => rfl)).squeeze S256 squeezes_S1x256_S256
abbrev sRow (o : Fin 2 → ℕ) (ho : ∀ a, o a + S1x128.size a ≤ S256x128.size a) : Memref sig .scVector .hbm S128 .f32 :=
  (sH.slice (Rect.unit (s := S256x128) o S1x128.size ho) (fun _ => rfl)).squeeze S128 squeezes_S1x128_S128
abbrev yRow (o : Fin 2 → ℕ) (ho : ∀ a, o a + S1x20096.size a ≤ S256x20096.size a) : Memref sig .scVector .hbm S20096 .f32 :=
  (yH.slice (Rect.unit (s := S256x20096) o S1x20096.size ho) (fun _ => rfl)).squeeze S20096 squeezes_S1x20096_S20096

/-- A tile's programs. -/
abbrev PV (F : FTy → Type) (c : Fin τ.nSC) (j : Fin τ.nSub) : Type 1 := Prog (TpuEff nD τ sig (Elt F) Λ₀ (.scVector c j)) PUnit

variable {c : Fin τ.nSC} {j : Fin τ.nSub}

/-! ## The pieces -/

/-- One local copy, started and waited for. -/
def copyP {sp sp' : Space} {s : Shape} {e : EltTy} (src : Memref sig .scVector sp s e) (dst : Memref sig .scVector sp' s e) (sm : DmaSems sig S_)
    (hs : src.view.WordExact) (hd : dst.view.WordExact) (ht : DmaTarget.Typed (nD := nD) (τ := τ) (sig := sig) (p := .scVector c j) sp (.dma sm.sem) (.here dst)) (k : PV F c j) : PV F c j :=
  .op (.enqueueDma src (.here dst) (.dma sm.sem) hs hd ht) fun _ => .op (.waitDma2 sm.sem src dst hs hd) fun _ => k

/-- The row's tags, corrections and moments, fetched. -/
def fetchP (o : Fin 2 → ℕ) (ho : ∀ a, o a + S1x256.size a ≤ S256x256.size a) (o' : Fin 2 → ℕ) (ho' : ∀ a, o' a + S1x128.size a ≤ S256x128.size a)
    (s₁ s₂ s₃ : DmaSems sig S_) (k : PV F c j) : PV F c j :=
  copyP (tRow o ho) tW s₁ ((View.wordExact_bits rfl).reshape _ _) (Memref.isWhole_whole _).wordExact ⟨Or.inl rfl, trivial⟩
    (copyP (cRow o ho) cW s₂ ((View.wordExact_bits rfl).reshape _ _) (Memref.isWhole_whole _).wordExact ⟨Or.inl rfl, trivial⟩
      (copyP (sRow o' ho') sW s₃ ((View.wordExact_bits rfl).reshape _ _) (Memref.isWhole_whole _).wordExact ⟨Or.inl rfl, trivial⟩ k))

/-- Sixteen consecutive words of a tile's array, loaded. -/
def ldP {s : Shape} {e : EltTy} (m : Memref sig .scVector .vmem s e) (r : Rect s) (hl : m.view.LoadsAt r.toLoadRect) (k : (r.shape.Idx → Elt F e) → PV F c j) :
    PV F c j :=
  .op (.load m r.toLoadRect hl) k

/-- One group of sixteen entries of the background. -/
def fillGroup (row : Memref sig .scVector .vmem S20096 .f32) (m s : Vec F S16 .f32) (o : Fin 1 → ℕ) (ho : ∀ a, o a + S16.size a ≤ S20096.size a)
    {α : Type} (k : Prog (TpuEff nD τ sig (Elt F) Λ₀ (.scVector c j)) α) : Prog (TpuEff nD τ sig (Elt F) Λ₀ (.scVector c j)) α :=
  .op (.load gW (Rect.unit (s := S20096) o S16.size ho).toLoadRect (View.loadsAt_vmem h_S16)) fun (g : Vec F S16 .f32) =>
  .op (.load bW (Rect.unit (s := S20096) o S16.size ho).toLoadRect (View.loadsAt_vmem h_S16)) fun (b : Vec F S16 .f32) =>
  .op (.load row (Rect.unit (s := S20096) o S16.size ho).toLoadRect (View.loadsAt_vmem h_S16)) fun _ =>
  .op (.store row (Rect.unit (s := S20096) o S16.size ho) (k1_pay2 m s g b) Finset.univ (View.stores_vmem_bits_univ h_S16 rfl) (.inl rfl)) fun _ => k

/-- One trip of the background's loop. -/
def fillBody (row : Memref sig .scVector .vmem S20096 .f32) (m s : Vec F S16 .f32) (t : Fin k1_t1_loop.trips) (_ : BitVec 32) :
    Prog (TpuEff nD τ sig (Elt F) Λ₀ (.scVector c j)) (BitVec 32) :=
  fillGroup row m s (k1_off3 t 0#32) (k1_off3_inb t 0) (fillGroup row m s (k1_off3 t 16#32) (k1_off3_inb t 1)
    (fillGroup row m s (k1_off3 t 32#32) (k1_off3_inb t 2) (fillGroup row m s (k1_off3 t 48#32) (k1_off3_inb t 3) (.ret 0#32))))

def fillP (row : Memref sig .scVector .vmem S20096 .f32) (m s : Vec F S16 .f32) (k : PV F c j) : PV F c j :=
  (Scf.Loop.for k1_t1_loop k1_t1_ok 0#32 (fillBody row m s)) >>= fun _ => k

/-- Lane 0 overwritten with the scaled count. -/
def headP (row : Memref sig .scVector .vmem S20096 .f32) (fc : Vec F S16 .f32) (k : PV F c j) : PV F c j :=
  .op (.load row (Rect.unit (s := S20096) ![0] S16.size inb_S20096_S16_0).toLoadRect (View.loadsAt_vmem h_S16)) fun (v : Vec F S16 .f32) =>
  .op (.load row (Rect.unit (s := S20096) ![0] S16.size inb_S20096_S16_0).toLoadRect (View.loadsAt_vmem h_S16)) fun _ =>
  .op (.store row (Rect.unit (s := S20096) ![0] S16.size inb_S20096_S16_0) (k1_pay6 (iota .scVector S16 32 [0] iota_S16_d0_w32_scVector) fc v) Finset.univ
    (View.stores_vmem_bits_univ h_S16 rfl) (.inl rfl)) fun _ => k

/-- Sixteen tagged entries overwritten. -/
def groupP (row : Memref sig .scVector .vmem S20096 .f32) (m s : Vec F S16 .f32) (o : Fin 1 → ℕ) (ho : ∀ a, o a + S16.size a ≤ S256.size a) (k : PV F c j) :
    PV F c j :=
  .op (.load tW (Rect.unit (s := S256) o S16.size ho).toLoadRect (View.loadsAt_vmem h_S16)) fun (t : Vec F S16 .i32) =>
  .op (TpuEff.assume (k1_chk1 (k1_pay7 t)) (k1_chk1.dec (k1_pay7 t))) fun h =>
  SparseCore.vectorLoadIdx gW ![k1_pay7 t] (k1_idx1_inb (k1_pay7 t) h.down) (View.loads_vmem h_S20096) >>= fun (g : Vec F S16 .f32) =>
  SparseCore.vectorLoadIdx bW ![k1_pay7 t] (k1_idx2_inb (k1_pay7 t) h.down) (View.loads_vmem h_S20096) >>= fun (b : Vec F S16 .f32) =>
  .op (.load cW (Rect.unit (s := S256) o S16.size ho).toLoadRect (View.loadsAt_vmem h_S16)) fun (cv : Vec F S16 .f32) =>
  SparseCore.vectorStoreIdx row ![k1_pay7 t] (k1_pay8 m s g b cv) (fun _ => 1#1) false (k1_idx3_inb (k1_pay7 t) h.down)
    (View.stores_vmem_bits_univ h_S20096 rfl) >>= fun _ => k

/-- One row made in a row buffer from what was fetched. -/
def makeP (row : Memref sig .scVector .vmem S20096 .f32) (k : PV F c j) : PV F c j :=
  .op (.load sW (Rect.unit (s := S128) ![0] S16.size inb_S128_S16_0).toLoadRect (View.loadsAt_vmem h_S16)) fun (m : Vec F S16 .f32) =>
  .op (.load sW (Rect.unit (s := S128) ![16] S16.size inb_S128_S16_16).toLoadRect (View.loadsAt_vmem h_S16)) fun (s : Vec F S16 .f32) =>
  .op (.load sW (Rect.unit (s := S128) ![32] S16.size inb_S128_S16_32).toLoadRect (View.loadsAt_vmem h_S16)) fun (fc : Vec F S16 .f32) =>
  fillP row m s (headP row fc
    (groupP row m s ![0] inb_S256_S16_0 (groupP row m s ![16] inb_S256_S16_16 (groupP row m s ![32] inb_S256_S16_32
    (groupP row m s ![48] inb_S256_S16_48 (groupP row m s ![64] inb_S256_S16_64 (groupP row m s ![80] inb_S256_S16_80
    (groupP row m s ![96] inb_S256_S16_96 (groupP row m s ![112] inb_S256_S16_112 (groupP row m s ![128] inb_S256_S16_128
    (groupP row m s ![144] inb_S256_S16_144 k)))))))))))

/-- A finished row sent out (not waited for). -/
def sendP (row : Memref sig .scVector .vmem S20096 .f32) (hrow : row.IsWhole) (o : Fin 2 → ℕ) (ho : ∀ a, o a + S1x20096.size a ≤ S256x20096.size a)
    (sm : DmaSems sig S_) (k : PV F c j) : PV F c j :=
  .op (.enqueueDma row (.here (yRow o ho)) (.dma sm.sem) hrow.wordExact ((View.wordExact_bits rfl).reshape _ _) ⟨Or.inl rfl, trivial⟩) fun _ => k

/-- The wait for a row sent out. -/
def waitP (row : Memref sig .scVector .vmem S20096 .f32) (hrow : row.IsWhole) (o : Fin 2 → ℕ) (ho : ∀ a, o a + S1x20096.size a ≤ S256x20096.size a)
    (sm : DmaSems sig S_) (k : PV F c j) : PV F c j :=
  .op (.waitDma2 sm.sem row (yRow o ho) hrow.wordExact ((View.wordExact_bits rfl).reshape _ _)) fun _ => k

/-- The scale and the shift fetched whole. -/
def initP (k : PV F c j) : PV F c j :=
  copyP gH gW cc1_scoped0 (Memref.isWhole_whole _).wordExact (Memref.isWhole_whole _).wordExact ⟨Or.inl rfl, trivial⟩
    (copyP bH bW cc1_scoped1 (Memref.isWhole_whole _).wordExact (Memref.isWhole_whole _).wordExact ⟨Or.inl rfl, trivial⟩ k)

end Cert.Proof.Fm
-- ==== Proof.RowVal.lean ====
/-
  The row a tile makes, as a function of what it fetched: the background `-(m·s)·g + b` everywhere, lane 0 the scaled
  count, and then, sixteen tags at a time, the tagged entries `(c - m)·s·g + b`.
-/
module

public import proofs.«01_k».proof.Proof.Pieces
public import Idealize.ShloMosaic.Lib.Writes

@[expose] public section

noncomputable section

namespace Cert.Proof.Fm

open Cert.KernelIdeal Cert.KernelIdeal.Gen
open Idealize.ShloMosaic

variable {F : FTy → Type} [FloatOps F] [Named F]

abbrev Row (F : FTy → Type) : Type := S20096.Idx → F .f32

/-- Lane `k`. -/
def ln (k : ℕ) (h : k < 16) : S16.Idx := fun | 0 => ⟨k, h⟩

/-- The lane of the vector unit an entry of the row passes through. -/
def lane (n : S20096.Idx) : S16.Idx := ln ((n 0).val % 16) (Nat.mod_lt _ (by decide))

/-- Sixteen consecutive words. -/
def sl {s : Shape} {α : Type} (f : s.Idx → α) (o : Fin s.rank → ℕ) (sz : Fin s.rank → ℕ) (ho : ∀ a, o a + sz a ≤ s.size a) :
    (Rect.unit (s := s) o sz ho).shape.Idx → α := fun l => f ((Rect.unit (s := s) o sz ho).emb l)

/-- The background. -/
def fillRow (G B : Row F) (m s : Vec F S16 .f32) : Row F := fun n => k1_pay2 m s (fun _ => G n) (fun _ => B n) (lane n)

/-- The background below `u`, what was there from `u` on. -/
def partRow (G B : Row F) (m s : Vec F S16 .f32) (R : Row F) (u : ℕ) : Row F := fun n => if (n 0).val < u then fillRow G B m s n else R n

/-- Lane 0 replaced by the scaled count. -/
def headRow (fc : Vec F S16 .f32) (R : Row F) : Row F := fun n =>
  if h : (n 0).val < 16 then
    k1_pay6 (iota .scVector S16 32 [0] iota_S16_d0_w32_scVector) fc (sl (s := S20096) R ![0] S16.size inb_S20096_S16_0) (ln (n 0).val h)
  else R n

/-- Sixteen tagged entries replaced. -/
def groupRow (G B : Row F) (T : Vec F S256 .i32) (C : Vec F S256 .f32) (m s : Vec F S16 .f32) (o : Fin 1 → ℕ) (ho : ∀ a, o a + S16.size a ≤ S256.size a)
    (R : Row F) : Row F :=
  if h : k1_chk1 (k1_pay7 (F := F) (sl (s := S256) T o S16.size ho)) then
    storeIdx (F := F) (s := S20096) (e := .f32) R ![k1_pay7 (F := F) (sl (s := S256) T o S16.size ho)]
      (k1_pay8 m s (loadIdx (F := F) (s := S20096) (e := .f32) G ![k1_pay7 (F := F) (sl (s := S256) T o S16.size ho)] (k1_idx1_inb _ h))
        (loadIdx (F := F) (s := S20096) (e := .f32) B ![k1_pay7 (F := F) (sl (s := S256) T o S16.size ho)] (k1_idx2_inb _ h)) (sl (s := S256) C o S16.size ho))
      (fun _ => 1#1) false (k1_idx3_inb _ h)
  else R

/-- The row the tile makes of what it fetched. -/
def makeRow (G B : Row F) (T : Vec F S256 .i32) (C : Vec F S256 .f32) (M : Vec F S128 .f32) : Row F :=
  have m : Vec F S16 .f32 := sl (s := S128) M ![0] S16.size inb_S128_S16_0
  have s : Vec F S16 .f32 := sl (s := S128) M ![16] S16.size inb_S128_S16_16
  have fc : Vec F S16 .f32 := sl (s := S128) M ![32] S16.size inb_S128_S16_32
  groupRow G B T C m s ![144] inb_S256_S16_144 (groupRow G B T C m s ![128] inb_S256_S16_128 (groupRow G B T C m s ![112] inb_S256_S16_112
    (groupRow G B T C m s ![96] inb_S256_S16_96 (groupRow G B T C m s ![80] inb_S256_S16_80 (groupRow G B T C m s ![64] inb_S256_S16_64
    (groupRow G B T C m s ![48] inb_S256_S16_48 (groupRow G B T C m s ![32] inb_S256_S16_32 (groupRow G B T C m s ![16] inb_S256_S16_16
    (groupRow G B T C m s ![0] inb_S256_S16_0 (headRow fc (fillRow G B m s)))))))))))

theorem pay2_lane (m s g b : Vec F S16 .f32) (l : S16.Idx) : k1_pay2 m s g b l = k1_pay2 m s (fun _ => g l) (fun _ => b l) l := rfl

/-- A store of a group of the background moves the front on by sixteen. -/
theorem read_fill (row : Memref sig .scVector .vmem S20096 .f32) (G B R : Row F) (m s : Vec F S16 .f32) (u : ℕ) (hu : 16 ∣ u) (o : Fin 1 → ℕ) (eo : o = ![u])
    (ho : ∀ a, o a + S16.size a ≤ S20096.size a) (f : row.view.ty.Contents (Elt F)) (hf : row.view.read (Elt F) f = partRow G B m s R u) :
    row.view.read (Elt F) ((row.access (Rect.unit (s := S20096) o S16.size ho)).write (Elt F) f
        (k1_pay2 m s (sl (s := S20096) G o S16.size ho) (sl (s := S20096) B o S16.size ho)) Finset.univ)
      = partRow G B m s R (u + 16) := by
  subst eo
  funext n
  show row.view.read (Elt F) (row.view.writes (Elt F) f [⟨Rect.unit (s := S20096) ![u] S16.size ho, _⟩]) n = _
  by_cases h1 : (n 0).val < u
  · rw [View.read_writes_cons_miss_of_axis _ _ _ _ _ 0 u 16 rfl rfl rfl (.inl h1)]
    show row.view.read (Elt F) f n = _
    rw [hf]; unfold partRow; rw [if_pos h1, if_pos (by omega)]
  · by_cases h2 : u + 16 ≤ (n 0).val
    · rw [View.read_writes_cons_miss_of_axis _ _ _ _ _ 0 u 16 rfl rfl rfl (.inr h2)]
      show row.view.read (Elt F) f n = _
      rw [hf]; unfold partRow; rw [if_neg h1, if_neg (by omega)]
    · have hx : (Rect.unit (s := S20096) ![u] S16.size ho).emb (ln ((n 0).val - u) (by omega)) = n := by
        apply Rect.emb_eq_of_coords
        intro a
        obtain rfl : a = 0 := Fin.eq_zero a
        show (n 0).val = u + 1 * ((n 0).val - u)
        omega
      refine (View.read_writes_cons_hit _ _ _ _ _ _ n hx).trans ?_
      refine (pay2_lane m s _ _ _).trans ?_
      have hl : ln ((n 0).val - u) (by omega) = lane n := by
        have : (n 0).val - u = (n 0).val % 16 := by omega
        unfold lane
        congr 1
      unfold partRow
      rw [if_pos (show (n 0).val < u + 16 by omega)]
      have hG : sl (s := S20096) G ![u] S16.size ho (ln ((n 0).val - u) (by omega)) = G n := congrArg G hx
      have hB : sl (s := S20096) B ![u] S16.size ho (ln ((n 0).val - u) (by omega)) = B n := congrArg B hx
      rw [hG, hB, hl]
      rfl

theorem headRow_lt (R : Row F) (fc : Vec F S16 .f32) (n : S20096.Idx) (h : (n 0).val < 16) :
    headRow fc R n = k1_pay6 (iota .scVector S16 32 [0] iota_S16_d0_w32_scVector) fc (sl (s := S20096) R ![0] S16.size inb_S20096_S16_0) (ln (n 0).val h) := by
  unfold headRow
  rw [dif_pos h]

/-- The store of lane 0. -/
theorem read_head (row : Memref sig .scVector .vmem S20096 .f32) (R : Row F) (fc : Vec F S16 .f32) (f : row.view.ty.Contents (Elt F))
    (hf : row.view.read (Elt F) f = R) :
    row.view.read (Elt F) ((row.access (Rect.unit (s := S20096) ![0] S16.size inb_S20096_S16_0)).write (Elt F) f
        (k1_pay6 (iota .scVector S16 32 [0] iota_S16_d0_w32_scVector) fc (sl (s := S20096) R ![0] S16.size inb_S20096_S16_0)) Finset.univ)
      = headRow fc R := by
  funext n
  show row.view.read (Elt F) (row.view.writes (Elt F) f [⟨Rect.unit (s := S20096) ![0] S16.size inb_S20096_S16_0, _⟩]) n = _
  by_cases h2 : 16 ≤ (n 0).val
  · rw [View.read_writes_cons_miss_of_axis _ _ _ _ _ 0 0 16 rfl rfl rfl (.inr (by omega))]
    show row.view.read (Elt F) f n = _
    rw [hf]; unfold headRow; rw [dif_neg (by omega)]
  · have hx : (Rect.unit (s := S20096) ![0] S16.size inb_S20096_S16_0).emb (ln (n 0).val (by omega)) = n := by
      apply Rect.emb_eq_of_coords
      intro a
      obtain rfl : a = 0 := Fin.eq_zero a
      show (n 0).val = 0 + 1 * (n 0).val
      omega
    refine (View.read_writes_cons_hit _ _ _ _ _ _ n hx).trans ?_
    rw [headRow_lt R fc n (by omega)]
    rfl

end Cert.Proof.Fm
-- ==== Proof.TileWp.lean ====
/-
  What each piece of the tile program does to the tile's arrays.
-/
module

public import proofs.«01_k».proof.Proof.RowVal

@[expose] public section

noncomputable section

namespace Cert.Proof.Fm

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable {d : Fin nD} {c : Fin τ.nSC} {j : Fin τ.nSub}

/-- The weakest precondition of a tile's program. -/
abbrev WP (d : Fin nD) (c : Fin τ.nSC) (j : Fin τ.nSub) {α : Type} (p : Prog (TpuEff nD τ sig (Elt F) Λ₀ (.scVector c j)) α) (Q : α → sProp 𝕄) : sProp 𝕄 :=
  wp frame (wpE (defs₀ (F := F)) 𝒱₀ (V d c j) none) Set.univ p Q

/-- The tile still owes `O`, having waited, past `W`, only for its own copies. -/
def OW (d : Fin nD) (c : Fin τ.nSC) (j : Fin τ.nSub) (O : CellTallies nD τ sig (HIx 1)) (W : Waits sig (HIx 1)) : sProp 𝕄 :=
  iprop(∃ W', ⌜∀ p ∈ W', p ∈ W ∨ p.2 = none⌝ ∗ owes (V d c j) O W')

/-- An array of the tile held outright whose memref reads `R`. -/
def held' (d : Fin nD) (c : Fin τ.nSC) (j : Fin τ.nSub) {s : Shape} {e : EltTy} (m : Memref sig .scVector .vmem s e) (R : s.Idx → Elt F e) : sProp 𝕄 :=
  iprop(∃ f, ⌜m.view.read (Elt F) f = R⌝ ∗ m.view.loc (V d c j) ↦[m.view.set]{fullShare} f)

/-- A local copy into an array held outright, waited for: the array then reads what the source reads. -/
theorem wp_copyP {sp : Space} {s : Shape} {e : EltTy} (src : Memref sig .scVector sp s e) (dst : Memref sig .scVector .vmem s e) (sm : DmaSems sig S_)
    (hs : src.view.WordExact) (hd : dst.view.WordExact)
    (ht : DmaTarget.Typed (nD := nD) (τ := τ) (sig := sig) (p := .scVector c j) sp (.dma sm.sem) (.here dst)) (k : PV F c j)
    (hne : 0 < s.numel) (O : CellTallies nD τ sig (HIx 1)) (W : Waits sig (HIx 1)) (q : PosShare TreeShare) (fs : Buf (Elt F) (src.view.loc (V d c j)))
    (S : Finset (Idx (src.view.loc (V d c j)))) (hS : src.view.set ⊆ S) (R : s.Idx → Elt F e) (Q : PUnit → sProp 𝕄) :
    iprop((src.view.loc (V d c j) ↦[S]{q} fs) ∗ held' d c j dst R ∗ semVal (V d c j, .dma sm.sem) 0 ∗ OW d c j O W
        ∗ Transfers.MayWaits (V d c j) (none : HIx 1) O)
      ⊢ iprop(((src.view.loc (V d c j) ↦[S]{q} fs) -∗ held' d c j dst (src.view.read (Elt F) fs) -∗ semVal (V d c j, .dma sm.sem) 0 -∗ OW d c j O W
            -∗ WP d c j k Q)
        -∗ WP d c j (copyP src dst sm hs hd ht k) Q) := by
  unfold copyP held' OW WP
  iintro ⟨Hs, ⟨%f, %hf, Hd⟩, Hsem, ⟨%W', %hW', HO⟩, #Hmw⟩ Hk
  ihave Hs' := (pointsTo_split_subset hS).1 $$ Hs
  icases Hs' with ⟨Hs, Hr⟩
  iapply (Transfers.wp_dmaLocal (countersEmb) 𝒱₀ (V d c j) none (none : HIx 1) (dst.view.amount (.dma sm.sem)) rfl (View.amount_pos _ _ hne) subset_rfl) $$ [Hs Hd Hsem]
  · isplitl [Hs]; · iexact Hs
    isplitl [Hd]; · iexact Hd
    iexact Hsem
  iintro HF
  iapply (Transfers.wp_waitLocalO (countersEmb) 𝒱₀ (V d c j) none (none : HIx 1) rfl) $$ [HF HO]
  · isplitl [HF]; · iexact HF
    isplitl [HO]; · iexact HO
    iapply (Transfers.MayWaits.elim _) $$ Hmw
  iintro ⟨⟨Hd, Hs⟩, Hsem, HO⟩
  iapply Hk $$ [Hs Hr] [Hd] [Hsem] [HO]
  · iapply (pointsTo_split_subset hS).2
    isplitl [Hs]
    · iexact Hs
    · iexact Hr
  · iexists (dst.view.write (Elt F) f (src.view.read (Elt F) fs) Finset.univ)
    isplitr
    · ipureintro
      exact View.read_write_univ _ _
    iexact Hd
  · iexact Hsem
  · iexists (insert (SemLoc.dma sm.sem, none) W')
    isplitr
    · ipureintro
      intro p hp
      rcases Finset.mem_insert.mp hp with h | h
      · exact Or.inr (by rw [h])
      · exact hW' p h
    iexact HO

theorem held_of {s : Shape} {e : EltTy} (m : Memref sig .scVector .vmem s e) (f : Buf (Elt F) (m.view.loc (V d c j))) (R : s.Idx → Elt F e)
    (h : m.view.read (Elt F) f = R) : (m.view.loc (V d c j) ↦[m.view.set]{fullShare} f) ⊢ held' d c j m R := by
  unfold held'
  iintro H
  iexists f
  isplitr
  · ipureintro; exact h
  iexact H

theorem access_sub {s : Shape} {e : EltTy} (m : Memref sig .scVector .vmem s e) (r : Rect s) : (m.access r).set ⊆ m.view.set :=
  (View.setOn_univ (m.access r)).symm ▸ Memref.setOn_access_subset m r Finset.univ

/-- A load reads what the memref reads. -/
theorem wp_ld {s : Shape} {e : EltTy} {α : Type} (m : Memref sig .scVector .vmem s e) (R : s.Idx → Elt F e) (o sz : Fin s.rank → ℕ) (ho : ∀ a, o a + sz a ≤ s.size a)
    (hl : m.view.LoadsAt (Rect.unit (s := s) o sz ho).toLoadRect)
    (k : ((Rect.unit (s := s) o sz ho).shape.Idx → Elt F e) → Prog (TpuEff nD τ sig (Elt F) Λ₀ (.scVector c j)) α) (Q : α → sProp 𝕄) :
    held' d c j m R ⊢ iprop((held' d c j m R -∗ WP d c j (k (sl R o sz ho)) Q) -∗ WP d c j (.op (.load m (Rect.unit (s := s) o sz ho).toLoadRect hl) k) Q) := by
  unfold held' WP
  iintro ⟨%f, %hf, H⟩ Hk
  iapply (wp_load_rect 𝒱₀ (V d c j) none Set.univ (r := Rect.unit (s := s) o sz ho) (access_sub m _)) $$ H
  iintro H
  subst hf
  iapply Hk
  iexists f
  isplitr
  · ipureintro; rfl
  iexact H

/-- A store. -/
theorem wp_st {s : Shape} {e : EltTy} {α : Type} (m : Memref sig .scVector .vmem s e) (R R' : s.Idx → Elt F e) (o sz : Fin s.rank → ℕ) (ho : ∀ a, o a + sz a ≤ s.size a)
    (w : (Rect.unit (s := s) o sz ho).shape.Idx → Elt F e) (hx : (m.access (Rect.unit (s := s) o sz ho)).Stores Finset.univ)
    (hm : (Finset.univ : Finset (Rect.unit (s := s) o sz ho).shape.Idx) = Finset.univ ∨ ∀ a, (Rect.unit (s := s) o sz ho).stride a = 1)
    (hR : ∀ f, m.view.read (Elt F) f = R → m.view.read (Elt F) ((m.access (Rect.unit (s := s) o sz ho)).write (Elt F) f w Finset.univ) = R')
    (k : PUnit → Prog (TpuEff nD τ sig (Elt F) Λ₀ (.scVector c j)) α) (Q : α → sProp 𝕄) :
    held' d c j m R ⊢ iprop((held' d c j m R' -∗ WP d c j (k ⟨⟩) Q) -∗ WP d c j (.op (.store m (Rect.unit (s := s) o sz ho) w Finset.univ hx hm) k) Q) := by
  unfold held' WP
  iintro ⟨%f, %hf, H⟩ Hk
  iapply (wp_store 𝒱₀ (V d c j) none Set.univ (m := m) (r := Rect.unit (s := s) o sz ho) (Memref.setOn_access_subset m _ _)) $$ H
  iintro H
  iapply Hk
  iexists ((m.access (Rect.unit (s := s) o sz ho)).write (Elt F) f w Finset.univ)
  isplitr
  · ipureintro; exact hR f hf
  iexact H

/-- One group of the background. -/
theorem wp_fillGroup {α : Type} (row : Memref sig .scVector .vmem S20096 .f32) (m s : Vec F S16 .f32) (G B R : Row F) (u : ℕ) (hu : 16 ∣ u) (o : Fin 1 → ℕ) (eo : o = ![u])
    (ho : ∀ a, o a + S16.size a ≤ S20096.size a) (k : Prog (TpuEff nD τ sig (Elt F) Λ₀ (.scVector c j)) α) (Q : α → sProp 𝕄) :
    iprop(held' d c j gW G ∗ held' d c j bW B ∗ held' d c j row (partRow G B m s R u))
      ⊢ iprop((held' d c j gW G -∗ held' d c j bW B -∗ held' d c j row (partRow G B m s R (u + 16)) -∗ WP d c j k Q)
        -∗ WP d c j (fillGroup row m s o ho k) Q) := by
  unfold fillGroup
  iintro ⟨Hg, Hb, Hr⟩ Hk
  iapply (wp_ld gW G o S16.size ho) $$ Hg
  iintro Hg
  iapply (wp_ld bW B o S16.size ho) $$ Hb
  iintro Hb
  iapply (wp_ld row _ o S16.size ho) $$ Hr
  iintro Hr
  iapply (wp_st row (partRow G B m s R u) (partRow G B m s R (u + 16)) o S16.size ho _ _ _ (fun f hf => read_fill row G B R m s u hu o eo ho f hf)) $$ Hr
  iintro Hr
  iapply Hk $$ [Hg] [Hb] [Hr]
  · iexact Hg
  · iexact Hb
  · iexact Hr

theorem partRow_zero (G B R : Row F) (m s : Vec F S16 .f32) : partRow G B m s R 0 = R := by
  funext n; unfold partRow; rw [if_neg (by omega)]
theorem partRow_all (G B R : Row F) (m s : Vec F S16 .f32) : partRow G B m s R 20096 = fillRow G B m s := by
  funext n; exact if_pos (n 0).isLt

/-- The background. -/
theorem wp_fillP (row : Memref sig .scVector .vmem S20096 .f32) (m s : Vec F S16 .f32) (G B R : Row F) (k : PV F c j) (Q : PUnit → sProp 𝕄) :
    iprop(held' d c j gW G ∗ held' d c j bW B ∗ held' d c j row R)
      ⊢ iprop((held' d c j gW G -∗ held' d c j bW B -∗ held' d c j row (fillRow G B m s) -∗ WP d c j k Q)
        -∗ WP d c j (fillP row m s k) Q) := by
  unfold fillP WP
  iintro ⟨Hg, Hb, Hr⟩ Hk
  iapply (Scf.wp_for_bind frame (wpE (defs₀ (F := F)) 𝒱₀ (V d c j) none) Set.univ _ _ _ k1_t1_ok (0#32) (fillBody row m s)
    (fun t _ => iprop(held' d c j gW G ∗ held' d c j bW B ∗ held' d c j row (partRow G B m s R (64 * t)))) (fun t _ => ?_)) $$ [Hg Hb Hr]
  · unfold fillBody
    iintro ⟨Hg, Hb, Hr⟩
    iapply (wp_fillGroup row m s G B R (64 * t.val) (by omega) _ (k1_off3_eq t 0) _) $$ [Hg Hb Hr]
    · isplitl [Hg]; · iexact Hg
      isplitl [Hb]; · iexact Hb
      iexact Hr
    iintro Hg Hb Hr
    iapply (wp_fillGroup row m s G B R (64 * t.val + 16) (by omega) _ (k1_off3_eq t 1) _) $$ [Hg Hb Hr]
    · isplitl [Hg]; · iexact Hg
      isplitl [Hb]; · iexact Hb
      iexact Hr
    iintro Hg Hb Hr
    iapply (wp_fillGroup row m s G B R (64 * t.val + 32) (by omega) _ (k1_off3_eq t 2) _) $$ [Hg Hb Hr]
    · isplitl [Hg]; · iexact Hg
      isplitl [Hb]; · iexact Hb
      iexact Hr
    iintro Hg Hb Hr
    iapply (wp_fillGroup row m s G B R (64 * t.val + 48) (by omega) _ (k1_off3_eq t 3) _) $$ [Hg Hb Hr]
    · isplitl [Hg]; · iexact Hg
      isplitl [Hb]; · iexact Hb
      iexact Hr
    iintro Hg Hb Hr
    rw [show 64 * t.val + 48 + 16 = 64 * (t.val + 1) from by omega]
    unfold WP
    rw [wp_ret]
    imodintro
    isplitl [Hg]; · iexact Hg
    isplitl [Hb]; · iexact Hb
    iexact Hr
  · isplitl [Hg]; · iexact Hg
    isplitl [Hb]; · iexact Hb
    rw [Nat.mul_zero, partRow_zero]
    iexact Hr
  · iintro %_ ⟨Hg, Hb, Hr⟩
    rw [show 64 * Scf.trips k1_t1_loop.lb k1_t1_loop.ub k1_t1_loop.st = 20096 from by decide, partRow_all]
    iapply Hk $$ [Hg] [Hb] [Hr]
    · iexact Hg
    · iexact Hb
    · iexact Hr

/-- Lane 0. -/
theorem wp_headP (row : Memref sig .scVector .vmem S20096 .f32) (fc : Vec F S16 .f32) (R : Row F) (k : PV F c j) (Q : PUnit → sProp 𝕄) :
    held' d c j row R ⊢ iprop((held' d c j row (headRow fc R) -∗ WP d c j k Q) -∗ WP d c j (headP row fc k) Q) := by
  unfold headP
  iintro Hr Hk
  iapply (wp_ld row R ![0] S16.size inb_S20096_S16_0) $$ Hr
  iintro Hr
  iapply (wp_ld row R ![0] S16.size inb_S20096_S16_0) $$ Hr
  iintro Hr
  iapply (wp_st row R (headRow fc R) ![0] S16.size inb_S20096_S16_0 _ _ _ (fun f hf => read_head row R fc f hf)) $$ Hr
  iintro Hr
  iapply Hk $$ Hr

/-- A word of the tag row is a tag, and one more than a tag names an entry of the row. -/
theorem chk_of (T : Vec F S256 .i32) (hT : ∀ x, (T x).toNat < 20000) (o : Fin 1 → ℕ) (ho : ∀ a, o a + S16.size a ≤ S256.size a) :
    k1_chk1 (k1_pay7 (F := F) (sl (s := S256) T o S16.size ho)) := by
  have h : ∀ (a : Fin 1) (x : S16.Idx), ((![k1_pay7 (F := F) (sl (s := S256) T o S16.size ho)] : Fin 1 → IVec S16 32) a x).toNat < S20096.size a := by
    intro a x
    obtain rfl : a = 0 := Fin.eq_zero a
    show ((T ((Rect.unit (s := S256) o S16.size ho).emb x)) + 1#32).toNat < 20096
    have := hT ((Rect.unit (s := S256) o S16.size ho).emb x)
    rw [BitVec.toNat_add]
    show ((T ((Rect.unit (s := S256) o S16.size ho).emb x)).toNat + 1) % 2 ^ 32 < 20096
    omega
  exact ⟨h, h, h⟩

/-- A row buffer's rectangle of everything is the buffer. -/
structure Whole (row : Memref sig .scVector .vmem S20096 .f32) : Prop where
  set : (row.access (.whole S20096)).set = row.view.set
  read : ∀ f : row.view.ty.Contents (Elt F), (row.access (.whole S20096)).read (Elt F) f = row.view.read (Elt F) f
  write : ∀ (f : row.view.ty.Contents (Elt F)) (w : Row F), row.view.read (Elt F) ((row.access (.whole S20096)).write (Elt F) f w Finset.univ) = w

set_option maxRecDepth 65536 in
theorem wholeA : Whole (F := F) rowA where
  set := (Memref.set_access_whole cc1_scratch2).trans (View.set_whole cc1_scratch2).symm
  read f := Memref.read_access_whole (Elt F) cc1_scratch2 f
  write f w := Memref.write_access_whole_univ (Elt F) cc1_scratch2 f w
set_option maxRecDepth 65536 in
theorem wholeB : Whole (F := F) rowB where
  set := (Memref.set_access_whole cc1_scratch3).trans (View.set_whole cc1_scratch3).symm
  read f := Memref.read_access_whole (Elt F) cc1_scratch3 f
  write f w := Memref.write_access_whole_univ (Elt F) cc1_scratch3 f w

/-- Sixteen tagged entries. -/
theorem wp_groupP (row : Memref sig .scVector .vmem S20096 .f32) (m s : Vec F S16 .f32) (G B R : Row F) (T : Vec F S256 .i32) (C : Vec F S256 .f32)
    (hrow : Whole (F := F) row) (hT : ∀ x, (T x).toNat < 20000) (o : Fin 1 → ℕ) (ho : ∀ a, o a + S16.size a ≤ S256.size a) (k : PV F c j) (Q : PUnit → sProp 𝕄) :
    iprop(held' d c j gW G ∗ held' d c j bW B ∗ held' d c j tW T ∗ held' d c j cW C ∗ held' d c j row R)
      ⊢ iprop((iprop(held' d c j gW G ∗ held' d c j bW B ∗ held' d c j tW T ∗ held' d c j cW C ∗ held' d c j row (groupRow G B T C m s o ho R)) -∗ WP d c j k Q)
        -∗ WP d c j (groupP row m s o ho k) Q) := by
  unfold groupP
  iintro ⟨Hg, Hb, Ht, Hc, Hr⟩ Hk
  iapply (wp_ld tW T o S16.size ho) $$ Ht
  iintro Ht
  have hchk := chk_of T hT o ho
  iapply (wp_assume 𝒱₀ (V d c j) none Set.univ hchk)
  unfold held' WP
  icases Hg with ⟨%fg, %hg, Hg⟩
  icases Hb with ⟨%fb, %hb, Hb⟩
  icases Hr with ⟨%fr, %hr, Hr⟩
  iapply (SparseCore.wp_vectorLoadIdx (base := gW) 𝒱₀ (V d c j) none Set.univ (access_sub gW _)) $$ Hg
  iintro Hg
  iapply (SparseCore.wp_vectorLoadIdx (base := bW) 𝒱₀ (V d c j) none Set.univ (access_sub bW _)) $$ Hb
  iintro Hb
  iapply (wp_ld cW C o S16.size ho) $$ [Hc]
  · unfold held'; iexact Hc
  iintro Hc
  ihave Hr' : ((row.access (.whole S20096)).loc (V d c j) ↦[(row.access (.whole S20096)).set]{fullShare} fr) $$ [Hr]
  · rw [hrow.set]; iexact Hr
  iapply (SparseCore.wp_vectorStoreIdx (base := row) 𝒱₀ (V d c j) none Set.univ) $$ Hr'
  rw [hrow.set]
  iintro Hr
  iapply Hk
  isplitl [Hg]
  · iexists fg; isplitr; · ipureintro; exact hg
    iexact Hg
  isplitl [Hb]
  · iexists fb; isplitr; · ipureintro; exact hb
    iexact Hb
  isplitl [Ht]; · iexact Ht
  isplitl [Hc]
  · unfold held'; iexact Hc
  iapply (show _ ⊢ iprop(∃ f, ⌜View.read (Elt F) row.view f = groupRow G B T C m s o ho R⌝ ∗ View.loc (V d c j) row.view ↦[row.view.set]{fullShare} f) from held_of row _ _ ?_) $$ Hr
  · refine (hrow.write _ _).trans ?_
    rw [hrow.read]
    unfold groupRow
    rw [dif_pos hchk, hr]
    have eg : (gW.access (.whole S20096)).read (Elt F) fg = G := (Memref.read_access_whole _ _ _).trans ((View.read_whole ..).symm.trans hg)
    have eb : (bW.access (.whole S20096)).read (Elt F) fb = B := (Memref.read_access_whole _ _ _).trans ((View.read_whole ..).symm.trans hb)
    rw [eg, eb]

end Cert.Proof.Fm
-- ==== Proof.TileRun.lean ====
/-
  One row of the tile program — fetched, made, sent — and the wait for it.
-/
module

public import proofs.«01_k».proof.Proof.TileWp

@[expose] public section

noncomputable section

namespace Cert.Proof.Fm

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable {d : Fin nD} {c : Fin τ.nSC} {j : Fin τ.nSub}

/-- What a tile holds while it makes a row. -/
abbrev Hold (d : Fin nD) (c : Fin τ.nSC) (j : Fin τ.nSub) (row : Memref sig .scVector .vmem S20096 .f32) (G B : Row F) (T : Vec F S256 .i32) (C : Vec F S256 .f32)
    (R : Row F) : sProp 𝕄 :=
  iprop(held' d c j gW G ∗ held' d c j bW B ∗ held' d c j tW T ∗ held' d c j cW C ∗ held' d c j row R)

/-- The row made. -/
theorem wp_makeP (row : Memref sig .scVector .vmem S20096 .f32) (hrow : Whole (F := F) row) (G B R : Row F) (T : Vec F S256 .i32) (C : Vec F S256 .f32)
    (M : Vec F S128 .f32) (hT : ∀ x, (T x).toNat < 20000) (k : PV F c j) (Q : PUnit → sProp 𝕄) :
    iprop(held' d c j sW M ∗ Hold d c j row G B T C R)
      ⊢ iprop((held' d c j sW M -∗ Hold d c j row G B T C (makeRow G B T C M) -∗ WP d c j k Q) -∗ WP d c j (makeP row k) Q) := by
  unfold makeP
  iintro ⟨Hs, Hg, Hb, Ht, Hc, Hr⟩ Hk
  iapply (wp_ld sW M ![0] S16.size inb_S128_S16_0) $$ Hs
  iintro Hs
  iapply (wp_ld sW M ![16] S16.size inb_S128_S16_16) $$ Hs
  iintro Hs
  iapply (wp_ld sW M ![32] S16.size inb_S128_S16_32) $$ Hs
  iintro Hs
  iapply (wp_fillP row _ _ G B R) $$ [Hg Hb Hr]
  · isplitl [Hg]; · iexact Hg
    isplitl [Hb]; · iexact Hb
    iexact Hr
  iintro Hg Hb Hr
  iapply (wp_headP row _ _) $$ Hr
  iintro Hr
  ihave H : (Hold d c j row G B T C _) $$ [Hg Hb Ht Hc Hr]
  · isplitl [Hg]; · iexact Hg
    isplitl [Hb]; · iexact Hb
    isplitl [Ht]; · iexact Ht
    isplitl [Hc]; · iexact Hc
    iexact Hr
  iapply (wp_groupP row _ _ G B _ T C hrow hT ![0] inb_S256_S16_0) $$ H
  iintro H
  iapply (wp_groupP row _ _ G B _ T C hrow hT ![16] inb_S256_S16_16) $$ H
  iintro H
  iapply (wp_groupP row _ _ G B _ T C hrow hT ![32] inb_S256_S16_32) $$ H
  iintro H
  iapply (wp_groupP row _ _ G B _ T C hrow hT ![48] inb_S256_S16_48) $$ H
  iintro H
  iapply (wp_groupP row _ _ G B _ T C hrow hT ![64] inb_S256_S16_64) $$ H
  iintro H
  iapply (wp_groupP row _ _ G B _ T C hrow hT ![80] inb_S256_S16_80) $$ H
  iintro H
  iapply (wp_groupP row _ _ G B _ T C hrow hT ![96] inb_S256_S16_96) $$ H
  iintro H
  iapply (wp_groupP row _ _ G B _ T C hrow hT ![112] inb_S256_S16_112) $$ H
  iintro H
  iapply (wp_groupP row _ _ G B _ T C hrow hT ![128] inb_S256_S16_128) $$ H
  iintro H
  iapply (wp_groupP row _ _ G B _ T C hrow hT ![144] inb_S256_S16_144) $$ H
  iintro H
  iapply Hk $$ Hs
  unfold makeRow
  iexact H

/-- A row of the result, holding anything; -/
def yAny (d : Fin nD) (c : Fin τ.nSC) (j : Fin τ.nSub) (o : Fin 2 → ℕ) (ho : ∀ a, o a + S1x20096.size a ≤ S256x20096.size a) : sProp 𝕄 :=
  iprop(∃ f : Buf (Elt F) ((yRow o ho).view.loc (V d c j)), (yRow o ho).view.loc (V d c j) ↦[(yRow o ho).view.set]{fullShare} f)
/-- holding `R`. -/
def yAt (d : Fin nD) (c : Fin τ.nSC) (j : Fin τ.nSub) (o : Fin 2 → ℕ) (ho : ∀ a, o a + S1x20096.size a ≤ S256x20096.size a) (R : Row F) : sProp 𝕄 :=
  iprop(∃ f : Buf (Elt F) ((yRow o ho).view.loc (V d c j)), ⌜(yRow o ho).view.read (Elt F) f = R⌝
    ∗ (yRow o ho).view.loc (V d c j) ↦[(yRow o ho).view.set]{fullShare} f)

/-- A row on its way out. -/
def Sent (d : Fin nD) (c : Fin τ.nSC) (j : Fin τ.nSub) (row : Memref sig .scVector .vmem S20096 .f32) (o : Fin 2 → ℕ) (ho : ∀ a, o a + S1x20096.size a ≤ S256x20096.size a)
    (sm : DmaSems sig S_) (R : Row F) : sProp 𝕄 :=
  iprop(∃ (f : Buf (Elt F) (row.view.loc (V d c j))) (fd : Buf (Elt F) ((yRow o ho).view.loc (V d c j))), ⌜row.view.read (Elt F) f = R⌝
    ∗ Transfers.Flight countersEmb (V d c j) (.dma sm.sem) (none : HIx 1) ((yRow o ho).view.amount (.dma sm.sem))
        iprop(((yRow o ho).view.loc (V d c j) ↦[(yRow o ho).view.set]{fullShare} ((yRow o ho).view.write (Elt F) fd (row.view.read (Elt F) f) Finset.univ))
          ∗ row.view.loc (V d c j) ↦[row.view.set]{fullShare} f))

set_option maxRecDepth 65536 in
theorem wp_sendP (row : Memref sig .scVector .vmem S20096 .f32) (hrow : row.IsWhole) (o : Fin 2 → ℕ) (ho : ∀ a, o a + S1x20096.size a ≤ S256x20096.size a)
    (sm : DmaSems sig S_) (k : PV F c j) (R : Row F) (Q : PUnit → sProp 𝕄) :
    iprop(held' d c j row R ∗ yAny d c j o ho ∗ semVal (V d c j, .dma sm.sem) 0)
      ⊢ iprop((Sent d c j row o ho sm R -∗ WP d c j k Q) -∗ WP d c j (sendP row hrow o ho sm k) Q) := by
  unfold sendP held' yAny Sent WP
  iintro ⟨⟨%f, %hf, Hs⟩, ⟨%fd, Hd⟩, Hsem⟩ Hk
  iapply (Transfers.wp_dmaLocal (countersEmb) 𝒱₀ (V d c j) none (none : HIx 1) ((yRow o ho).view.amount (.dma sm.sem)) rfl (View.amount_pos _ _ (by decide)) subset_rfl) $$ [Hs Hd Hsem]
  · isplitl [Hs]; · iexact Hs
    isplitl [Hd]; · iexact Hd
    iexact Hsem
  iintro HF
  iapply Hk
  iexists f
  iexists fd
  isplitr
  · ipureintro; exact hf
  iexact HF

theorem wp_waitP (row : Memref sig .scVector .vmem S20096 .f32) (hrow : row.IsWhole) (o : Fin 2 → ℕ) (ho : ∀ a, o a + S1x20096.size a ≤ S256x20096.size a)
    (sm : DmaSems sig S_) (k : PV F c j) (R : Row F) (O : CellTallies nD τ sig (HIx 1)) (W : Waits sig (HIx 1)) (Q : PUnit → sProp 𝕄) :
    iprop(Sent d c j row o ho sm R ∗ OW d c j O W ∗ Transfers.MayWaits (V d c j) (none : HIx 1) O)
      ⊢ iprop((iprop(yAt d c j o ho R ∗ held' d c j row R ∗ semVal (V d c j, .dma sm.sem) 0 ∗ OW d c j O W) -∗ WP d c j k Q)
        -∗ WP d c j (waitP row hrow o ho sm k) Q) := by
  unfold waitP held' yAt Sent WP OW
  iintro ⟨⟨%f, %fd, %hf, HF⟩, ⟨%W', %hW', HO⟩, #Hmw⟩ Hk
  iapply (Transfers.wp_waitLocalO (countersEmb) 𝒱₀ (V d c j) none (none : HIx 1) rfl) $$ [HF HO]
  · isplitl [HF]; · iexact HF
    isplitl [HO]; · iexact HO
    iapply (Transfers.MayWaits.elim _) $$ Hmw
  iintro ⟨⟨Hd, Hs⟩, Hsem, HO⟩
  iapply Hk
  isplitl [Hd]
  · iexists ((yRow o ho).view.write (Elt F) fd (row.view.read (Elt F) f) Finset.univ)
    isplitr
    · ipureintro
      exact (View.read_write_univ _ _).trans hf
    iexact Hd
  isplitl [Hs]
  · iexists f
    isplitr
    · ipureintro; exact hf
    iexact Hs
  isplitl [Hsem]; · iexact Hsem
  iexists (insert (SemLoc.dma sm.sem, none) W')
  isplitr
  · ipureintro
    intro p hp
    rcases Finset.mem_insert.mp hp with h | h
    · exact Or.inr (by rw [h])
    · exact hW' p h
  iexact HO

/-- What a tile holds between rows: read shares of the three tables, the scale and the shift, and its own arrays. -/
def Sh (d : Fin nD) (c : Fin τ.nSC) (j : Fin τ.nSub) (O : CellTallies nD τ sig (HIx 1)) (W : Waits sig (HIx 1)) (q : PosShare TreeShare)
    (G B : Row F) (fT : Buf (Elt F) (tH.view.loc (V d c j))) (fC : Buf (Elt F) (cH.view.loc (V d c j))) (fS : Buf (Elt F) (sH.view.loc (V d c j))) : sProp 𝕄 :=
  iprop((tH.view.loc (V d c j) ↦[Finset.univ]{q} fT) ∗ (cH.view.loc (V d c j) ↦[Finset.univ]{q} fC) ∗ (sH.view.loc (V d c j) ↦[Finset.univ]{q} fS)
    ∗ held' d c j gW G ∗ held' d c j bW B ∗ (∃ T, held' d c j tW T) ∗ (∃ C, held' d c j cW C) ∗ (∃ M, held' d c j sW M) ∗ OW d c j O W)

/-- The row made from row `o` of the tags and corrections and row `o'` of the moments. -/
def rowOf (G B : Row F) (fT : Vec F S256x256 .i32) (fC : Vec F S256x256 .f32) (fS : Vec F S256x128 .f32)
    (o : Fin 2 → ℕ) (ho : ∀ a, o a + S1x256.size a ≤ S256x256.size a) (o' : Fin 2 → ℕ) (ho' : ∀ a, o' a + S1x128.size a ≤ S256x128.size a) : Row F :=
  makeRow G B ((tRow o ho).view.read (Elt F) fT) ((cRow o ho).view.read (Elt F) fC) ((sRow o' ho').view.read (Elt F) fS)

theorem read_tRow_lt (fT : Vec F S256x256 .i32) (hT : ∀ x, (fT x).toNat < 20000) (o : Fin 2 → ℕ) (ho : ∀ a, o a + S1x256.size a ≤ S256x256.size a) (x : S256.Idx) :
    ((tRow o ho).view.read (Elt F) fT x).toNat < 20000 := hT _

/-- One row fetched, made and sent. -/
theorem wp_slot (row : Memref sig .scVector .vmem S20096 .f32) (hrow : row.IsWhole) (hw : Whole (F := F) row)
    (o : Fin 2 → ℕ) (ho : ∀ a, o a + S1x256.size a ≤ S256x256.size a) (o' : Fin 2 → ℕ) (ho' : ∀ a, o' a + S1x128.size a ≤ S256x128.size a)
    (s₁ s₂ s₃ : DmaSems sig S_) (o'' : Fin 2 → ℕ) (ho'' : ∀ a, o'' a + S1x20096.size a ≤ S256x20096.size a) (sm : DmaSems sig S_) (k : PV F c j)
    (O : CellTallies nD τ sig (HIx 1)) (W : Waits sig (HIx 1)) (q : PosShare TreeShare) (G B R : Row F)
    (fT : Vec F S256x256 .i32) (hT : ∀ x, (fT x).toNat < 20000) (fC : Vec F S256x256 .f32) (fS : Vec F S256x128 .f32) (Q : PUnit → sProp 𝕄) :
    iprop(Sh d c j O W q G B fT fC fS ∗ held' d c j row R ∗ semVal (V d c j, .dma s₁.sem) 0 ∗ semVal (V d c j, .dma s₂.sem) 0 ∗ semVal (V d c j, .dma s₃.sem) 0
        ∗ yAny d c j o'' ho'' ∗ semVal (V d c j, .dma sm.sem) 0 ∗ Transfers.MayWaits (V d c j) (none : HIx 1) O)
      ⊢ iprop((iprop(Sh d c j O W q G B fT fC fS ∗ semVal (V d c j, .dma s₁.sem) 0 ∗ semVal (V d c j, .dma s₂.sem) 0 ∗ semVal (V d c j, .dma s₃.sem) 0
            ∗ Sent d c j row o'' ho'' sm (rowOf G B fT fC fS o ho o' ho')) -∗ WP d c j k Q)
        -∗ WP d c j (fetchP o ho o' ho' s₁ s₂ s₃ (makeP row (sendP row hrow o'' ho'' sm k))) Q) := by
  unfold fetchP Sh
  iintro ⟨⟨HT, HC, HS, Hg, Hb, ⟨%T₀, Ht⟩, ⟨%C₀, Hc⟩, ⟨%M₀, Hs⟩, HO⟩, Hr, H₁, H₂, H₃, Hy, Hsm, #Hmw⟩ Hk
  iapply (wp_copyP (tRow o ho) tW s₁ _ _ _ _ (by decide) O W q fT Finset.univ (Finset.subset_univ _) T₀ _) $$ [HT Ht H₁ HO]
  · isplitl [HT]; · iexact HT
    isplitl [Ht]; · iexact Ht
    isplitl [H₁]; · iexact H₁
    isplitl [HO]; · iexact HO
    iexact Hmw
  iintro HT Ht H₁ HO
  iapply (wp_copyP (cRow o ho) cW s₂ _ _ _ _ (by decide) O W q fC Finset.univ (Finset.subset_univ _) C₀ _) $$ [HC Hc H₂ HO]
  · isplitl [HC]; · iexact HC
    isplitl [Hc]; · iexact Hc
    isplitl [H₂]; · iexact H₂
    isplitl [HO]; · iexact HO
    iexact Hmw
  iintro HC Hc H₂ HO
  iapply (wp_copyP (sRow o' ho') sW s₃ _ _ _ _ (by decide) O W q fS Finset.univ (Finset.subset_univ _) M₀ _) $$ [HS Hs H₃ HO]
  · isplitl [HS]; · iexact HS
    isplitl [Hs]; · iexact Hs
    isplitl [H₃]; · iexact H₃
    isplitl [HO]; · iexact HO
    iexact Hmw
  iintro HS Hs H₃ HO
  iapply (wp_makeP row hw G B R _ _ _ (read_tRow_lt fT hT o ho)) $$ [Hg Hb Ht Hc Hr Hs]
  · isplitl [Hs]; · iexact Hs
    isplitl [Hg]; · iexact Hg
    isplitl [Hb]; · iexact Hb
    isplitl [Ht]; · iexact Ht
    isplitl [Hc]; · iexact Hc
    iexact Hr
  iintro Hs ⟨Hg, Hb, Ht, Hc, Hr⟩
  iapply (wp_sendP row hrow o'' ho'' sm k _ _) $$ [Hr Hy Hsm]
  · isplitl [Hr]; · iexact Hr
    isplitl [Hy]; · iexact Hy
    iexact Hsm
  iintro HF
  iapply Hk
  isplitl [HT HC HS Hg Hb Ht Hc Hs HO]
  · isplitl [HT]; · iexact HT
    isplitl [HC]; · iexact HC
    isplitl [HS]; · iexact HS
    isplitl [Hg]; · iexact Hg
    isplitl [Hb]; · iexact Hb
    isplitl [Ht]; · iexists _; iexact Ht
    isplitl [Hc]; · iexists _; iexact Hc
    isplitl [Hs]; · iexists _; iexact Hs
    iexact HO
  isplitl [H₁]; · iexact H₁
  isplitl [H₂]; · iexact H₂
  isplitl [H₃]; · iexact H₃
  unfold rowOf
  iexact HF

end Cert.Proof.Fm
-- ==== Proof.Rows.lean ====
/-
  The rows of the arrays: what a row's memref reads and which entries it covers; and a tile's row, stated by its
  number.
-/
module

public import proofs.«01_k».proof.Proof.TileRun

@[expose] public section

set_option maxRecDepth 65536

noncomputable section

namespace Cert.Proof.Fm

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable {d : Fin nD} {c : Fin τ.nSC} {j : Fin τ.nSub}

/-- Entry `(r, n)` of a matrix. -/
def at2 {a b : ℕ} (r : Fin a) (n : Fin b) : (⟨2, ![a, b]⟩ : Shape).Idx := fun | 0 => r | 1 => n
/-- Entry `n` of a vector. -/
def at1 {a : ℕ} (n : Fin a) : (⟨1, ![a]⟩ : Shape).Idx := fun | 0 => n

theorem at1_eq {a : ℕ} (x : (⟨1, ![a]⟩ : Shape).Idx) : at1 (x 0) = x := by
  funext y; match y with | 0 => rfl
theorem at2_eq {a b : ℕ} (x : (⟨2, ![a, b]⟩ : Shape).Idx) : at2 (x 0) (x 1) = x := by
  funext y; match y with | 0 => rfl | 1 => rfl

theorem emb_row {a b : ℕ} (r : ℕ) (hr : r < a) (ho : ∀ x, (![r, 0] : Fin 2 → ℕ) x + (⟨2, ![1, b]⟩ : Shape).size x ≤ (⟨2, ![a, b]⟩ : Shape).size x)
    (hn : (⟨1, ![b]⟩ : Shape).numel = (⟨2, ![1, b]⟩ : Shape).numel) (x : (⟨1, ![b]⟩ : Shape).Idx) :
    (Rect.unit (s := (⟨2, ![a, b]⟩ : Shape)) ![r, 0] (⟨2, ![1, b]⟩ : Shape).size ho).emb (Shape.reshapeEquiv hn x) = at2 ⟨r, hr⟩ (x 0) := by
  rw [Shape.reshapeEquiv_cons_one hn x]
  funext y
  match y with
  | 0 => exact Fin.ext (show r + 1 * 0 = r by omega)
  | 1 => exact Fin.ext (show 0 + 1 * (x 0).val = (x 0).val by omega)

theorem inbT (r : ℕ) (hr : r < 256) : ∀ a, (![r, 0] : Fin 2 → ℕ) a + S1x256.size a ≤ S256x256.size a := fun
  | 0 => show r + 1 ≤ 256 by omega
  | 1 => show 0 + 256 ≤ 256 by omega
theorem inbS (r : ℕ) (hr : r < 256) : ∀ a, (![r, 0] : Fin 2 → ℕ) a + S1x128.size a ≤ S256x128.size a := fun
  | 0 => show r + 1 ≤ 256 by omega
  | 1 => show 0 + 128 ≤ 128 by omega
theorem inbY (r : ℕ) (hr : r < 256) : ∀ a, (![r, 0] : Fin 2 → ℕ) a + S1x20096.size a ≤ S256x20096.size a := fun
  | 0 => show r + 1 ≤ 256 by omega
  | 1 => show 0 + 20096 ≤ 20096 by omega

theorem read_tRow (f : Vec F S256x256 .i32) (r : ℕ) (hr : r < 256) : (tRow ![r, 0] (inbT r hr)).view.read (Elt F) f = fun x : S256.Idx => f (at2 ⟨r, hr⟩ (x 0)) := by
  funext x
  exact congrArg f (emb_row (a := 256) (b := 256) r hr (inbT r hr) _ x)
theorem read_cRow (f : Vec F S256x256 .f32) (r : ℕ) (hr : r < 256) : (cRow ![r, 0] (inbT r hr)).view.read (Elt F) f = fun x : S256.Idx => f (at2 ⟨r, hr⟩ (x 0)) := by
  funext x
  exact congrArg f (emb_row (a := 256) (b := 256) r hr (inbT r hr) _ x)
theorem read_sRow (f : Vec F S256x128 .f32) (r : ℕ) (hr : r < 256) : (sRow ![r, 0] (inbS r hr)).view.read (Elt F) f = fun x : S128.Idx => f (at2 ⟨r, hr⟩ (x 0)) := by
  funext x
  exact congrArg f (emb_row (a := 256) (b := 128) r hr (inbS r hr) _ x)
theorem read_yRow (f : Vec F S256x20096 .f32) (r : ℕ) (hr : r < 256) : (yRow ![r, 0] (inbY r hr)).view.read (Elt F) f = fun x : S20096.Idx => f (at2 ⟨r, hr⟩ (x 0)) := by
  funext x
  exact congrArg f (emb_row (a := 256) (b := 20096) r hr (inbY r hr) _ x)

/-- The entries of row `r` of the result. -/
def rowSet (r : ℕ) : Finset S256x20096.Idx := Finset.univ.filter fun n => (n 0).val = r

theorem set_yRow (r : ℕ) (hr : r < 256) : (yRow ![r, 0] (inbY r hr)).view.set = rowSet r := by
  show ((yH.view.slice (Rect.unit (s := S256x20096) ![r, 0] S1x20096.size (inbY r hr))).reshape S20096 squeezes_S1x20096_S20096.numel_eq).set = rowSet r
  rw [View.set_reshape, View.set_slice]
  refine (Finset.map_refl).trans ?_
  ext n
  rw [Rect.mem_set_unit]
  unfold rowSet
  rw [Finset.mem_filter]
  constructor
  · intro h
    have h0 : r ≤ (n 0).val ∧ (n 0).val < r + 1 := h 0
    exact ⟨Finset.mem_univ _, by omega⟩
  · rintro ⟨-, h⟩ a
    match a with
    | 0 => exact (show r ≤ (n 0).val ∧ (n 0).val < r + 1 by omega)
    | 1 => exact (show 0 ≤ (n 1).val ∧ (n 1).val < 0 + 20096 from ⟨Nat.zero_le _, by have := (n 1).isLt; simpa using this⟩)

/-- The result, entry by entry, of the arrays the call takes: the scale, the shift, the tags, the corrections and the moments. -/
def yOf (fG fB : Row F) (fT : Vec F S256x256 .i32) (fC : Vec F S256x256 .f32) (fS : Vec F S256x128 .f32) : Vec F S256x20096 .f32 := fun n =>
  makeRow fG fB (fun x => fT (at2 (n 0) (x 0))) (fun x => fC (at2 (n 0) (x 0))) (fun x => fS (at2 (n 0) (x 0))) (at1 (n 1))

theorem rowOf_eq (fG fB : Row F) (fT : Vec F S256x256 .i32) (fC : Vec F S256x256 .f32) (fS : Vec F S256x128 .f32) (r : ℕ) (hr : r < 256) :
    rowOf fG fB fT fC fS ![r, 0] (inbT r hr) ![r, 0] (inbS r hr) = fun x => yOf fG fB fT fC fS (at2 ⟨r, hr⟩ (x 0)) := by
  funext x
  unfold rowOf yOf
  rw [read_tRow _ r hr, read_cRow _ r hr, read_sRow _ r hr]
  exact congrArg (makeRow fG fB _ _ _) (at1_eq (a := 20096) x).symm

/-- Row `r` of the result held by a tile. -/
abbrev yPts (d : Fin nD) (c : Fin τ.nSC) (j : Fin τ.nSub) (r : ℕ) (f : Vec F S256x20096 .f32) : sProp 𝕄 :=
  yH.view.loc (V d c j) ↦[rowSet r]{fullShare} f

/-- Row `r` on its way out. -/
abbrev SentR (d : Fin nD) (c : Fin τ.nSC) (j : Fin τ.nSub) (row : Memref sig .scVector .vmem S20096 .f32) (r : ℕ) (hr : r < 256)
    (sm : DmaSems sig S_) (Y : Vec F S256x20096 .f32) : sProp 𝕄 :=
  Sent d c j row ![r, 0] (inbY r hr) sm (fun x => Y (at2 ⟨r, hr⟩ (x 0)))

/-- Row `r` fetched, made and sent. -/
theorem wp_slotR (row : Memref sig .scVector .vmem S20096 .f32) (hrow : row.IsWhole) (hw : Whole (F := F) row) (r : ℕ) (hr : r < 256)
    (o : Fin 2 → ℕ) (ho : ∀ a, o a + S1x256.size a ≤ S256x256.size a) (eo : o = ![r, 0])
    (o' : Fin 2 → ℕ) (ho' : ∀ a, o' a + S1x128.size a ≤ S256x128.size a) (eo' : o' = ![r, 0])
    (s₁ s₂ s₃ : DmaSems sig S_) (o'' : Fin 2 → ℕ) (ho'' : ∀ a, o'' a + S1x20096.size a ≤ S256x20096.size a) (eo'' : o'' = ![r, 0])
    (sm : DmaSems sig S_) (k : PV F c j)
    (S : Finset (GSem nD τ sig)) (m₁ : ((V d c j, .dma s₁.sem) : GSem nD τ sig) ∈ S) (m₂ : ((V d c j, .dma s₂.sem) : GSem nD τ sig) ∈ S.erase (V d c j, .dma s₁.sem))
    (m₃ : ((V d c j, .dma s₃.sem) : GSem nD τ sig) ∈ (S.erase (V d c j, .dma s₁.sem)).erase (V d c j, .dma s₂.sem))
    (O : CellTallies nD τ sig (HIx 1)) (W : Waits sig (HIx 1)) (q : PosShare TreeShare) (G B R : Row F)
    (fT : Vec F S256x256 .i32) (hT : ∀ x, (fT x).toNat < 20000) (fC : Vec F S256x256 .f32) (fS : Vec F S256x128 .f32) (fY : Vec F S256x20096 .f32) (Q : PUnit → sProp 𝕄) :
    iprop(Sh d c j O W q G B fT fC fS ∗ bigSep S (fun g => semVal g 0) ∗ held' d c j row R ∗ yPts d c j r fY ∗ semVal (V d c j, .dma sm.sem) 0
        ∗ Transfers.MayWaits (V d c j) (none : HIx 1) O)
      ⊢ iprop((iprop(Sh d c j O W q G B fT fC fS ∗ bigSep S (fun g => semVal g 0) ∗ SentR d c j row r hr sm (yOf G B fT fC fS)) -∗ WP d c j k Q)
        -∗ WP d c j (fetchP o ho o' ho' s₁ s₂ s₃ (makeP row (sendP row hrow o'' ho'' sm k))) Q) := by
  subst eo; subst eo'; subst eo''
  have hset := set_yRow r hr
  unfold SentR
  rw [SparseCore.bigSep_erase' m₁, SparseCore.bigSep_erase' m₂, SparseCore.bigSep_erase' m₃, ← rowOf_eq]
  iintro ⟨HS, ⟨H₁, H₂, H₃, Hrest⟩, Hr, Hy, Hsm, #Hmw⟩ Hk
  iapply (wp_slot row hrow hw ![r, 0] ho ![r, 0] ho' s₁ s₂ s₃ ![r, 0] ho'' sm k O W q G B R fT hT fC fS) $$ [HS H₁ H₂ H₃ Hr Hy Hsm]
  · isplitl [HS]; · iexact HS
    isplitl [Hr]; · iexact Hr
    isplitl [H₁]; · iexact H₁
    isplitl [H₂]; · iexact H₂
    isplitl [H₃]; · iexact H₃
    isplitl [Hy]
    · unfold yAny
      iexists fY
      rw [hset]
      iexact Hy
    isplitl [Hsm]; · iexact Hsm
    iexact Hmw
  iintro ⟨HS, H₁, H₂, H₃, HF⟩
  iapply Hk
  isplitl [HS]; · iexact HS
  isplitl [H₁ H₂ H₃ Hrest]
  · isplitl [H₁]; · iexact H₁
    isplitl [H₂]; · iexact H₂
    isplitl [H₃]; · iexact H₃
    iexact Hrest
  iexact HF

/-- The wait for row `r`. -/
theorem wp_waitR (row : Memref sig .scVector .vmem S20096 .f32) (hrow : row.IsWhole) (r : ℕ) (hr : r < 256)
    (o'' : Fin 2 → ℕ) (ho'' : ∀ a, o'' a + S1x20096.size a ≤ S256x20096.size a) (eo'' : o'' = ![r, 0])
    (sm : DmaSems sig S_) (k : PV F c j) (Y : Vec F S256x20096 .f32)
    (O : CellTallies nD τ sig (HIx 1)) (W : Waits sig (HIx 1)) (q : PosShare TreeShare) (G B : Row F)
    (fT : Vec F S256x256 .i32) (fC : Vec F S256x256 .f32) (fS : Vec F S256x128 .f32) (Q : PUnit → sProp 𝕄) :
    iprop(Sh d c j O W q G B fT fC fS ∗ SentR d c j row r hr sm Y ∗ Transfers.MayWaits (V d c j) (none : HIx 1) O)
      ⊢ iprop((iprop(Sh d c j O W q G B fT fC fS ∗ yPts d c j r Y ∗ (∃ R, held' d c j row R) ∗ semVal (V d c j, .dma sm.sem) 0) -∗ WP d c j k Q)
        -∗ WP d c j (waitP row hrow o'' ho'' sm k) Q) := by
  subst eo''
  have hset := set_yRow r hr
  unfold SentR Sh
  iintro ⟨⟨HT, HC, HS, Hg, Hb, Ht, Hc, Hs, HO⟩, HF, #Hmw⟩ Hk
  iapply (wp_waitP row hrow ![r, 0] ho'' sm k _ O W) $$ [HF HO]
  · isplitl [HF]; · iexact HF
    isplitl [HO]; · iexact HO
    iexact Hmw
  iintro ⟨Hy, Hr, Hsem, HO⟩
  iapply Hk
  isplitl [HT HC HS Hg Hb Ht Hc Hs HO]
  · isplitl [HT]; · iexact HT
    isplitl [HC]; · iexact HC
    isplitl [HS]; · iexact HS
    isplitl [Hg]; · iexact Hg
    isplitl [Hb]; · iexact Hb
    isplitl [Ht]; · iexact Ht
    isplitl [Hc]; · iexact Hc
    isplitl [Hs]; · iexact Hs
    iexact HO
  isplitl [Hy]
  · unfold yAt
    icases Hy with ⟨%f, %hf, Hy⟩
    rw [hset]
    have hc : ∀ i ∈ rowSet r, (f : Vec F S256x20096 .f32) i = Y i := by
      intro i hi
      have h0 : (i 0).val = r := (Finset.mem_filter.mp hi).2
      have h1 := congrFun ((read_yRow f r hr).symm.trans hf) (at1 (i 1))
      have h2 : at2 ⟨r, hr⟩ (i 1) = i := by
        rw [← at2_eq i]
        congr 1
        exact Fin.ext h0.symm
      exact ((congrArg f h2).symm.trans h1).trans (congrArg Y h2)
    iapply (Entails.of_eq (pointsTo_congr (ℓ := yH.view.loc (V d c j)) hc)) $$ Hy
  isplitl [Hr]
  · iexists _; iexact Hr
  iexact Hsem

end Cert.Proof.Fm
-- ==== Proof.BodyEq.lean ====
/-
  The printed tile program is the chain of pieces: cut at the ends of the rows, each stretch of the printed parts is
  the pieces of one row. The two differ only in how the binds around the background's loops are associated.
-/
module

public import proofs.«01_k».proof.Proof.Pieces

@[expose] public section

set_option maxRecDepth 65536

noncomputable section

namespace Cert.Proof.Fm

open Cert.KernelIdeal Cert.KernelIdeal.Gen
open Idealize.ShloMosaic
open Idealize.SL.Sem

variable {F : FTy → Type} [FloatOps F] [Named F]

/-! ## The printed parts at the call's arrays -/

/-- A printed part, at the call's arrays and semaphores. -/
abbrev atCall {R : Sort*} (f : (a : Memref sig .scVector .hbm S20096 .f32) → a.IsWhole → (b : Memref sig .scVector .hbm S20096 .f32) → b.IsWhole → (t : Memref sig .scVector .hbm S256x256 .i32) → t.IsWhole → (c : Memref sig .scVector .hbm S256x256 .f32) → c.IsWhole → (s : Memref sig .scVector .hbm S256x128 .f32) → s.IsWhole → (y : Memref sig .scVector .hbm S256x20096 .f32) → y.IsWhole →
    (gw : Memref sig .scVector .vmem S20096 .f32) → gw.IsWhole → (bw : Memref sig .scVector .vmem S20096 .f32) → bw.IsWhole → (ra : Memref sig .scVector .vmem S20096 .f32) → ra.IsWhole → (rb : Memref sig .scVector .vmem S20096 .f32) → rb.IsWhole → (tw : Memref sig .scVector .vmem S256 .i32) → tw.IsWhole → (cw : Memref sig .scVector .vmem S256 .f32) → cw.IsWhole → (sw : Memref sig .scVector .vmem S128 .f32) → sw.IsWhole →
    DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ →
    DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → R) : R :=
  f gH (Memref.isWhole_whole _) bH (Memref.isWhole_whole _) tH (Memref.isWhole_whole _) cH (Memref.isWhole_whole _) sH (Memref.isWhole_whole _) yH (Memref.isWhole_whole _) gW (Memref.isWhole_whole _) bW (Memref.isWhole_whole _) rowA (Memref.isWhole_whole _) rowB (Memref.isWhole_whole _) tW (Memref.isWhole_whole _) cW (Memref.isWhole_whole _) sW (Memref.isWhole_whole _)
    cc1_scratch7 cc1_scratch8 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25

abbrev part1 (i : grid1.Coords) := atCall (k1_part1 (F := F) i)
abbrev part2 (i : grid1.Coords) := atCall (k1_part2 (F := F) i)
abbrev part3 (i : grid1.Coords) := atCall (k1_part3 (F := F) i)
abbrev part4 (i : grid1.Coords) := atCall (k1_part4 (F := F) i)
abbrev part5 (i : grid1.Coords) := atCall (k1_part5 (F := F) i)
abbrev part6 (i : grid1.Coords) := atCall (k1_part6 (F := F) i)
abbrev part7 (i : grid1.Coords) := atCall (k1_part7 (F := F) i)
abbrev part8 (i : grid1.Coords) := atCall (k1_part8 (F := F) i)
abbrev part9 (i : grid1.Coords) := atCall (k1_part9 (F := F) i)
abbrev part10 (i : grid1.Coords) := atCall (k1_part10 (F := F) i)
abbrev part11 (i : grid1.Coords) := atCall (k1_part11 (F := F) i)
abbrev part12 (i : grid1.Coords) := atCall (k1_part12 (F := F) i)
abbrev part13 (i : grid1.Coords) := atCall (k1_part13 (F := F) i)
abbrev part14 (i : grid1.Coords) := atCall (k1_part14 (F := F) i)
abbrev part15 (i : grid1.Coords) := atCall (k1_part15 (F := F) i)
abbrev part16 (i : grid1.Coords) := atCall (k1_part16 (F := F) i)
abbrev part17 (i : grid1.Coords) := atCall (k1_part17 (F := F) i)
abbrev part18 (i : grid1.Coords) := atCall (k1_part18 (F := F) i)
abbrev part19 (i : grid1.Coords) := atCall (k1_part19 (F := F) i)
abbrev part20 (i : grid1.Coords) := atCall (k1_part20 (F := F) i)
abbrev part21 (i : grid1.Coords) := atCall (k1_part21 (F := F) i)
abbrev part22 (i : grid1.Coords) := atCall (k1_part22 (F := F) i)
abbrev part23 (i : grid1.Coords) := atCall (k1_part23 (F := F) i)
abbrev part24 (i : grid1.Coords) := atCall (k1_part24 (F := F) i)
abbrev part25 (i : grid1.Coords) := atCall (k1_part25 (F := F) i)
abbrev part26 (i : grid1.Coords) := atCall (k1_part26 (F := F) i)
abbrev part27 (i : grid1.Coords) := atCall (k1_part27 (F := F) i)
abbrev part28 (i : grid1.Coords) := atCall (k1_part28 (F := F) i)
abbrev part29 (i : grid1.Coords) := atCall (k1_part29 (F := F) i)
abbrev part30 (i : grid1.Coords) := atCall (k1_part30 (F := F) i)
abbrev part31 (i : grid1.Coords) := atCall (k1_part31 (F := F) i)

/-! ## The stretches of the printed program, one per row -/

def rest7 (i : grid1.Coords) (v2 : BitVec 32) (v3 : IVec S16 32) : PV F ((i 0).castLE hcore1) ((i 1).castLE hsub1) := do
  let ⟨v869, v870, v884, c1_i32_330⟩ : Σ' (v869 : Vec F S16 .f32) (v870 : Vec F S16 .f32) (v884 : Vec F S16 .i32), BitVec 32 ← part29 (F := F) i v3
  let ⟨v924, c1_i32_342⟩ : Σ' (v924 : Vec F S16 .i32), BitVec 32 ← part30 (F := F) i v869 v870 v884 c1_i32_330
  let ⟨v964, c1_i32_354⟩ : Σ' (v964 : Vec F S16 .i32), BitVec 32 ← part31 (F := F) i v869 v870 v924 c1_i32_342
  have v966 : IVec S16 32 := k1_pay208 v964 c1_i32_354
  have k1_hw79 : k1_chk79 v966 := (← Prog.lift (TpuEff.assume (k1_chk79 v966) (k1_chk79.dec v966))).down
  let v967 : Vec F S16 .f32 ← SparseCore.vectorLoadIdx gW ![v966] (k1_idx235_inb v966 k1_hw79) (View.loads_vmem h_S20096)
  let v968 : Vec F S16 .f32 ← SparseCore.vectorLoadIdx bW ![v966] (k1_idx236_inb v966 k1_hw79) (View.loads_vmem h_S20096)
  let v969 : Vec F S16 .f32 ← Prog.lift (.load cW (Rect.unit (s := S256) ![128] S16.size inb_S256_S16_128).toLoadRect (View.loadsAt_vmem h_S16))
  SparseCore.vectorStoreIdx rowB ![v966] (k1_pay209 v869 v870 v967 v968 v969) (fun _ => 1#1) false (k1_idx237_inb v966 k1_hw79) (View.stores_vmem_bits_univ h_S20096 rfl)
  let v974 : Vec F S16 .i32 ← Prog.lift (.load tW (Rect.unit (s := S256) ![144] S16.size inb_S256_S16_144).toLoadRect (View.loadsAt_vmem h_S16))
  have v976 : IVec S16 32 := k1_pay210 v974
  have k1_hw80 : k1_chk80 v976 := (← Prog.lift (TpuEff.assume (k1_chk80 v976) (k1_chk80.dec v976))).down
  let v977 : Vec F S16 .f32 ← SparseCore.vectorLoadIdx gW ![v976] (k1_idx238_inb v976 k1_hw80) (View.loads_vmem h_S20096)
  let v978 : Vec F S16 .f32 ← SparseCore.vectorLoadIdx bW ![v976] (k1_idx239_inb v976 k1_hw80) (View.loads_vmem h_S20096)
  let v979 : Vec F S16 .f32 ← Prog.lift (.load cW (Rect.unit (s := S256) ![144] S16.size inb_S256_S16_144).toLoadRect (View.loadsAt_vmem h_S16))
  SparseCore.vectorStoreIdx rowB ![v976] (k1_pay211 v869 v870 v977 v978 v979) (fun _ => 1#1) false (k1_idx240_inb v976 k1_hw80) (View.stores_vmem_bits_univ h_S20096 rfl)
  pure ⟨⟩

def rest6 (i : grid1.Coords) (v2 : BitVec 32) (v3 : IVec S16 32) : PV F ((i 0).castLE hcore1) ((i 1).castLE hsub1) := do
  let ⟨v745, v746⟩ : Σ' (v745 : Vec F S16 .f32), Vec F S16 .f32 ← part25 (F := F) i v3
  part26 (F := F) i v745 v746
  part27 (F := F) i v745 v746
  part28 (F := F) i v2 v745 v746
  rest7 i v2 v3

def rest5 (i : grid1.Coords) (v2 : BitVec 32) (v3 : IVec S16 32) : PV F ((i 0).castLE hcore1) ((i 1).castLE hsub1) := do
  let ⟨v621, v622, v634⟩ : Σ' (v621 : Vec F S16 .f32) (v622 : Vec F S16 .f32), FVec F S16 .f32 ← part21 (F := F) i v3
  let ⟨v668, k1_hw54, v669, v670, v673⟩ : Σ' (v668 : IVec S16 32) (k1_hw54 : k1_chk54 v668) (v669 : Vec F S16 .f32) (v670 : Vec F S16 .f32), FVec F S16 .f32 ← part22 (F := F) i v621 v622 v634
  let ⟨v708, k1_hw58, v709, v710, v713⟩ : Σ' (v708 : IVec S16 32) (k1_hw58 : k1_chk58 v708) (v709 : Vec F S16 .f32) (v710 : Vec F S16 .f32), FVec F S16 .f32 ← part23 (F := F) i v621 v622 v668 k1_hw54 v669 v670 v673
  part24 (F := F) i v2 v621 v622 v708 k1_hw58 v709 v710 v713
  rest6 i v2 v3

def rest4 (i : grid1.Coords) (v2 : BitVec 32) (v3 : IVec S16 32) : PV F ((i 0).castLE hcore1) ((i 1).castLE hsub1) := do
  let ⟨v497, v498, v499, v505, v507, cst_186⟩ : Σ' (v497 : Vec F S16 .f32) (v498 : Vec F S16 .f32) (v499 : Vec F S16 .f32) (v505 : Vec F S16 .f32) (v507 : IVec S16 1), F .f32 ← part17 (F := F) i v3
  let ⟨v544, k1_hw44, v545, v546⟩ : Σ' (v544 : IVec S16 32) (k1_hw44 : k1_chk44 v544) (v545 : Vec F S16 .f32), Vec F S16 .f32 ← part18 (F := F) i v497 v498 v499 v505 v507 cst_186
  let ⟨v584, k1_hw48, v585, v586⟩ : Σ' (v584 : IVec S16 32) (k1_hw48 : k1_chk48 v584) (v585 : Vec F S16 .f32), Vec F S16 .f32 ← part19 (F := F) i v497 v498 v544 k1_hw44 v545 v546
  part20 (F := F) i v2 v497 v498 v584 k1_hw48 v585 v586
  rest5 i v2 v3

def rest3 (i : grid1.Coords) (v2 : BitVec 32) (v3 : IVec S16 32) : PV F ((i 0).castLE hcore1) ((i 1).castLE hsub1) := do
  let ⟨v373, v374, v375, v381, c0_i32_138⟩ : Σ' (v373 : Vec F S16 .f32) (v374 : Vec F S16 .f32) (v375 : Vec F S16 .f32) (v381 : Vec F S16 .f32), BitVec 32 ← part13 (F := F) i
  let ⟨v420, k1_hw34⟩ : Σ' (v420 : IVec S16 32), k1_chk34 v420 ← part14 (F := F) i v3 v373 v374 v375 v381 c0_i32_138
  let ⟨v460, k1_hw38⟩ : Σ' (v460 : IVec S16 32), k1_chk38 v460 ← part15 (F := F) i v373 v374 v420 k1_hw34
  part16 (F := F) i v2 v373 v374 v460 k1_hw38
  rest4 i v2 v3

def rest2 (i : grid1.Coords) (v2 : BitVec 32) (v3 : IVec S16 32) (c2_i32_80 : BitVec 32) : PV F ((i 0).castLE hcore1) ((i 1).castLE hsub1) := do
  let ⟨v249, v250, v251⟩ : Σ' (v249 : Vec F S16 .f32) (v250 : Vec F S16 .f32), Vec F S16 .f32 ← part9 (F := F) i v2 c2_i32_80
  let ⟨v294, c1_i32_104⟩ : Σ' (v294 : Vec F S16 .i32), BitVec 32 ← part10 (F := F) i v3 v249 v250 v251
  let ⟨v334, c1_i32_116⟩ : Σ' (v334 : Vec F S16 .i32), BitVec 32 ← part11 (F := F) i v249 v250 v294 c1_i32_104
  part12 (F := F) i v2 v249 v250 v334 c1_i32_116
  rest3 i v2 v3

def rest1 (i : grid1.Coords) (v2 : BitVec 32) (v3 : IVec S16 32) : PV F ((i 0).castLE hcore1) ((i 1).castLE hsub1) := do
  let ⟨v125, v126, v127, v130, c0_i32_37, c0_i32_38⟩ : Σ' (v125 : Vec F S16 .f32) (v126 : Vec F S16 .f32) (v127 : Vec F S16 .f32) (v130 : FVec F S16 .f32) (c0_i32_37 : BitVec 32), BitVec 32 ← part5 (F := F) i v2
  part6 (F := F) i v3 v125 v126 v127 v130 c0_i32_37 c0_i32_38
  part7 (F := F) i v125 v126
  let c2_i32_80 : BitVec 32 ← part8 (F := F) i v125 v126
  rest2 i v2 v3 c2_i32_80

def rest0 (i : grid1.Coords) : PV F ((i 0).castLE hcore1) ((i 1).castLE hsub1) := do
  let ⟨v2, v3, v5, v6⟩ : Σ' (v2 : BitVec 32) (v3 : IVec S16 32) (v5 : Vec F S16 .f32), Vec F S16 .f32 ← part1 (F := F) i
  let v42 : IVec S16 32 ← part2 (F := F) i v3 v5 v6
  let v82 : IVec S16 32 ← part3 (F := F) i v5 v6 v42
  part4 (F := F) i v5 v6 v82
  rest1 i v2 v3

/-! ## Each stretch is the pieces of its row -/

theorem rest0_eq (i : grid1.Coords) : rest0 (F := F) i = initP (fetchP (k1_off1 i) (k1_off1_inb i) (k1_off2 i) (k1_off2_inb i) cc1_scoped2 cc1_scoped3 cc1_scoped4 (makeP rowA (rest1 i (Scalar.muli (Scalar.addi (Scalar.muli (BitVec.ofNat 32 (i 1).val) 2#32) (BitVec.ofNat 32 (i 0).val)) 8#32) (iota .scVector S16 32 [0] iota_S16_d0_w32_scVector)))) := by
  unfold rest0 part1 part2 part3 part4 atCall
  rw [k1_part1_eq_skeleton, k1_part2_eq_skeleton, k1_part3_eq_skeleton, k1_part4_eq_skeleton]
  iterate 13 refine congrArg (Prog.op _) (funext fun _ => ?_)
  refine (Prog.bind_assoc (Scf.Loop.for k1_t1_loop k1_t1_ok 0#32 _) _ _).trans ?_
  exact congrArg₂ (fun (p : Prog _ _) f => p >>= f) rfl (funext fun _ => rfl)

theorem rest1_eq (i : grid1.Coords) (v2 : BitVec 32) : rest1 (F := F) i v2 (iota .scVector S16 32 [0] iota_S16_d0_w32_scVector) = sendP rowA (Memref.isWhole_whole _) (k1_off4 i) (k1_off4_inb i) cc1_scratch7 (fetchP (k1_off5 i) (k1_off5_inb i) (k1_off6 i) (k1_off6_inb i) cc1_scoped5 cc1_scoped6 cc1_scoped7 (makeP rowB (sendP rowB (Memref.isWhole_whole _) (k1_off8 i 1#32) (k1_off8_inb i 1) cc1_scratch8 (waitP rowA (Memref.isWhole_whole _) (k1_off8 i 0#32) (k1_off8_inb i 0) cc1_scratch7 (rest2 i v2 (iota .scVector S16 32 [0] iota_S16_d0_w32_scVector) 2#32))))) := by
  unfold rest1 part5 part6 part7 part8 atCall
  rw [k1_part5_eq_skeleton, k1_part6_eq_skeleton, k1_part7_eq_skeleton, k1_part8_eq_skeleton]
  iterate 10 refine congrArg (Prog.op _) (funext fun _ => ?_)
  refine (Prog.bind_assoc (Scf.Loop.for k1_t2_loop k1_t2_ok 0#32 _) _ _).trans ?_
  exact congrArg₂ (fun (p : Prog _ _) f => p >>= f) rfl (funext fun _ => rfl)

theorem rest2_eq (i : grid1.Coords) (v2 : BitVec 32) : rest2 (F := F) i v2 (iota .scVector S16 32 [0] iota_S16_d0_w32_scVector) 2#32 = fetchP (k1_off9 i) (k1_off9_inb i) (k1_off10 i) (k1_off10_inb i) cc1_scoped8 cc1_scoped9 cc1_scoped10 (makeP rowA (sendP rowA (Memref.isWhole_whole _) (k1_off12 i 2#32) (k1_off12_inb i 1) cc1_scratch7 (waitP rowB (Memref.isWhole_whole _) (k1_off12 i 1#32) (k1_off12_inb i 0) cc1_scratch8 (rest3 i v2 (iota .scVector S16 32 [0] iota_S16_d0_w32_scVector))))) := by
  unfold rest2 part9 part10 part11 part12 atCall
  rw [k1_part9_eq_skeleton, k1_part10_eq_skeleton, k1_part11_eq_skeleton, k1_part12_eq_skeleton]
  iterate 9 refine congrArg (Prog.op _) (funext fun _ => ?_)
  refine (Prog.bind_assoc (Scf.Loop.for k1_t3_loop k1_t3_ok 0#32 _) _ _).trans ?_
  exact congrArg₂ (fun (p : Prog _ _) f => p >>= f) rfl (funext fun _ => rfl)

theorem rest3_eq (i : grid1.Coords) (v2 : BitVec 32) : rest3 (F := F) i v2 (iota .scVector S16 32 [0] iota_S16_d0_w32_scVector) = fetchP (k1_off13 i) (k1_off13_inb i) (k1_off14 i) (k1_off14_inb i) cc1_scoped11 cc1_scoped12 cc1_scoped13 (makeP rowB (sendP rowB (Memref.isWhole_whole _) (k1_off16 i 3#32) (k1_off16_inb i 1) cc1_scratch8 (waitP rowA (Memref.isWhole_whole _) (k1_off16 i 2#32) (k1_off16_inb i 0) cc1_scratch7 (rest4 i v2 (iota .scVector S16 32 [0] iota_S16_d0_w32_scVector))))) := by
  unfold rest3 part13 part14 part15 part16 atCall
  rw [k1_part13_eq_skeleton, k1_part14_eq_skeleton, k1_part15_eq_skeleton, k1_part16_eq_skeleton]
  iterate 9 refine congrArg (Prog.op _) (funext fun _ => ?_)
  refine (Prog.bind_assoc (Scf.Loop.for k1_t4_loop k1_t4_ok 0#32 _) _ _).trans ?_
  exact congrArg₂ (fun (p : Prog _ _) f => p >>= f) rfl (funext fun _ => rfl)

theorem rest4_eq (i : grid1.Coords) (v2 : BitVec 32) : rest4 (F := F) i v2 (iota .scVector S16 32 [0] iota_S16_d0_w32_scVector) = fetchP (k1_off17 i) (k1_off17_inb i) (k1_off18 i) (k1_off18_inb i) cc1_scoped14 cc1_scoped15 cc1_scoped16 (makeP rowA (sendP rowA (Memref.isWhole_whole _) (k1_off20 i 4#32) (k1_off20_inb i 1) cc1_scratch7 (waitP rowB (Memref.isWhole_whole _) (k1_off20 i 3#32) (k1_off20_inb i 0) cc1_scratch8 (.op (.enqueueDma (tRow (k1_off21 i) (k1_off21_inb i)) (.here tW) (.dma cc1_scoped17.sem) ((View.wordExact_bits rfl).reshape _ _) (Memref.isWhole_whole _).wordExact ⟨Or.inl rfl, trivial⟩) fun _ => rest5 i v2 (iota .scVector S16 32 [0] iota_S16_d0_w32_scVector))))) := by
  unfold rest4 part17 part18 part19 part20 atCall
  rw [k1_part17_eq_skeleton, k1_part18_eq_skeleton, k1_part19_eq_skeleton, k1_part20_eq_skeleton]
  iterate 9 refine congrArg (Prog.op _) (funext fun _ => ?_)
  refine (Prog.bind_assoc (Scf.Loop.for k1_t5_loop k1_t5_ok 0#32 _) _ _).trans ?_
  exact congrArg₂ (fun (p : Prog _ _) f => p >>= f) rfl (funext fun _ => rfl)

theorem rest5_eq (i : grid1.Coords) (v2 : BitVec 32) : rest5 (F := F) i v2 (iota .scVector S16 32 [0] iota_S16_d0_w32_scVector) = .op (.waitDma2 cc1_scoped17.sem (tRow (k1_off21 i) (k1_off21_inb i)) tW ((View.wordExact_bits rfl).reshape _ _) (Memref.isWhole_whole _).wordExact) fun _ => copyP (cRow (k1_off21 i) (k1_off21_inb i)) cW cc1_scoped18 ((View.wordExact_bits rfl).reshape _ _) (Memref.isWhole_whole _).wordExact ⟨Or.inl rfl, trivial⟩ (copyP (sRow (k1_off22 i) (k1_off22_inb i)) sW cc1_scoped19 ((View.wordExact_bits rfl).reshape _ _) (Memref.isWhole_whole _).wordExact ⟨Or.inl rfl, trivial⟩ (makeP rowB (sendP rowB (Memref.isWhole_whole _) (k1_off24 i 5#32) (k1_off24_inb i 1) cc1_scratch8 (waitP rowA (Memref.isWhole_whole _) (k1_off24 i 4#32) (k1_off24_inb i 0) cc1_scratch7 (.op (.enqueueDma (tRow (k1_off25 i) (k1_off25_inb i)) (.here tW) (.dma cc1_scoped20.sem) ((View.wordExact_bits rfl).reshape _ _) (Memref.isWhole_whole _).wordExact ⟨Or.inl rfl, trivial⟩) fun _ => rest6 i v2 (iota .scVector S16 32 [0] iota_S16_d0_w32_scVector)))))) := by
  unfold rest5 part21 part22 part23 part24 atCall
  rw [k1_part21_eq_skeleton, k1_part22_eq_skeleton, k1_part23_eq_skeleton, k1_part24_eq_skeleton]
  iterate 8 refine congrArg (Prog.op _) (funext fun _ => ?_)
  refine (Prog.bind_assoc (Scf.Loop.for k1_t6_loop k1_t6_ok 0#32 _) _ _).trans ?_
  exact congrArg₂ (fun (p : Prog _ _) f => p >>= f) rfl (funext fun _ => rfl)

theorem rest6_eq (i : grid1.Coords) (v2 : BitVec 32) : rest6 (F := F) i v2 (iota .scVector S16 32 [0] iota_S16_d0_w32_scVector) = .op (.waitDma2 cc1_scoped20.sem (tRow (k1_off25 i) (k1_off25_inb i)) tW ((View.wordExact_bits rfl).reshape _ _) (Memref.isWhole_whole _).wordExact) fun _ => copyP (cRow (k1_off25 i) (k1_off25_inb i)) cW cc1_scoped21 ((View.wordExact_bits rfl).reshape _ _) (Memref.isWhole_whole _).wordExact ⟨Or.inl rfl, trivial⟩ (copyP (sRow (k1_off26 i) (k1_off26_inb i)) sW cc1_scoped22 ((View.wordExact_bits rfl).reshape _ _) (Memref.isWhole_whole _).wordExact ⟨Or.inl rfl, trivial⟩ (makeP rowA (sendP rowA (Memref.isWhole_whole _) (k1_off28 i 6#32) (k1_off28_inb i 1) cc1_scratch7 (waitP rowB (Memref.isWhole_whole _) (k1_off28 i 5#32) (k1_off28_inb i 0) cc1_scratch8 (.op (.enqueueDma (tRow (k1_off29 i) (k1_off29_inb i)) (.here tW) (.dma cc1_scoped23.sem) ((View.wordExact_bits rfl).reshape _ _) (Memref.isWhole_whole _).wordExact ⟨Or.inl rfl, trivial⟩) fun _ => .op (.waitDma2 cc1_scoped23.sem (tRow (k1_off29 i) (k1_off29_inb i)) tW ((View.wordExact_bits rfl).reshape _ _) (Memref.isWhole_whole _).wordExact) fun _ => rest7 i v2 (iota .scVector S16 32 [0] iota_S16_d0_w32_scVector)))))) := by
  unfold rest6 part25 part26 part27 part28 atCall
  rw [k1_part25_eq_skeleton, k1_part26_eq_skeleton, k1_part27_eq_skeleton, k1_part28_eq_skeleton]
  iterate 8 refine congrArg (Prog.op _) (funext fun _ => ?_)
  refine (Prog.bind_assoc (Scf.Loop.for k1_t7_loop k1_t7_ok 0#32 _) _ _).trans ?_
  exact congrArg₂ (fun (p : Prog _ _) f => p >>= f) rfl (funext fun _ => rfl)

theorem rest7_eq (i : grid1.Coords) (v2 : BitVec 32) : rest7 (F := F) i v2 (iota .scVector S16 32 [0] iota_S16_d0_w32_scVector) = copyP (cRow (k1_off29 i) (k1_off29_inb i)) cW cc1_scoped24 ((View.wordExact_bits rfl).reshape _ _) (Memref.isWhole_whole _).wordExact ⟨Or.inl rfl, trivial⟩ (copyP (sRow (k1_off30 i) (k1_off30_inb i)) sW cc1_scoped25 ((View.wordExact_bits rfl).reshape _ _) (Memref.isWhole_whole _).wordExact ⟨Or.inl rfl, trivial⟩ (makeP rowB (.ret ⟨⟩))) := by
  unfold rest7 part29 part30 part31 atCall
  rw [k1_part29_eq_skeleton, k1_part30_eq_skeleton, k1_part31_eq_skeleton]
  iterate 7 refine congrArg (Prog.op _) (funext fun _ => ?_)
  refine (Prog.bind_assoc (Scf.Loop.for k1_t8_loop k1_t8_ok 0#32 _) _ _).trans ?_
  exact congrArg₂ (fun (p : Prog _ _) f => p >>= f) rfl (funext fun _ => rfl)

/-- The printed tile program's last part but the closing transfers. -/
theorem part32_eq (i : grid1.Coords) : k1_part32 (F := F) i gH (Memref.isWhole_whole _) bH (Memref.isWhole_whole _) tH (Memref.isWhole_whole _) cH (Memref.isWhole_whole _) sH (Memref.isWhole_whole _) yH (Memref.isWhole_whole _) gW (Memref.isWhole_whole _) bW (Memref.isWhole_whole _) rowA (Memref.isWhole_whole _) rowB (Memref.isWhole_whole _) tW (Memref.isWhole_whole _) cW (Memref.isWhole_whole _) sW (Memref.isWhole_whole _) cc1_scratch7 cc1_scratch8 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 = rest0 i := by
  rw [k1_part32_eq_skeleton]; rfl

/-! ## The closing transfers behind the chain -/

section
variable {c : Fin τ.nSC} {j : Fin τ.nSub}

theorem fetchP_bind (o : Fin 2 → ℕ) (ho : ∀ a, o a + S1x256.size a ≤ S256x256.size a) (o' : Fin 2 → ℕ) (ho' : ∀ a, o' a + S1x128.size a ≤ S256x128.size a)
    (s₁ s₂ s₃ : DmaSems sig S_) (k : PV F c j) (f : PUnit → PV F c j) : (fetchP o ho o' ho' s₁ s₂ s₃ k) >>= f = fetchP o ho o' ho' s₁ s₂ s₃ (k >>= f) := rfl

theorem fillP_bind (row : Memref sig .scVector .vmem S20096 .f32) (m s : Vec F S16 .f32) (k : PV F c j) (f : PUnit → PV F c j) :
    (fillP row m s k) >>= f = fillP row m s (k >>= f) := Prog.bind_assoc _ _ _

theorem makeP_bind (row : Memref sig .scVector .vmem S20096 .f32) (k : PV F c j) (f : PUnit → PV F c j) : (makeP row k) >>= f = makeP row (k >>= f) := by
  iterate 3 refine congrArg (Prog.op _) (funext fun _ => ?_)
  exact fillP_bind _ _ _ _ _

theorem sendP_bind (row : Memref sig .scVector .vmem S20096 .f32) (hrow : row.IsWhole) (o : Fin 2 → ℕ) (ho : ∀ a, o a + S1x20096.size a ≤ S256x20096.size a)
    (sm : DmaSems sig S_) (k : PV F c j) (f : PUnit → PV F c j) : (sendP row hrow o ho sm k) >>= f = sendP row hrow o ho sm (k >>= f) := rfl

theorem waitP_bind (row : Memref sig .scVector .vmem S20096 .f32) (hrow : row.IsWhole) (o : Fin 2 → ℕ) (ho : ∀ a, o a + S1x20096.size a ≤ S256x20096.size a)
    (sm : DmaSems sig S_) (k : PV F c j) (f : PUnit → PV F c j) : (waitP row hrow o ho sm k) >>= f = waitP row hrow o ho sm (k >>= f) := rfl

theorem enqT_bind (o : Fin 2 → ℕ) (ho : ∀ a, o a + S1x256.size a ≤ S256x256.size a) (o' : Fin 2 → ℕ) (ho' : ∀ a, o' a + S1x128.size a ≤ S256x128.size a)
    (s₁ s₂ s₃ : DmaSems sig S_) (k : PV F c j) :
    (.op (.enqueueDma (tRow o ho) (.here tW) (.dma s₁.sem) ((View.wordExact_bits rfl).reshape _ _) (Memref.isWhole_whole _).wordExact ⟨Or.inl rfl, trivial⟩) fun _ =>
      .op (.waitDma2 s₁.sem (tRow o ho) tW ((View.wordExact_bits rfl).reshape _ _) (Memref.isWhole_whole _).wordExact) fun _ =>
      copyP (cRow o ho) cW s₂ ((View.wordExact_bits rfl).reshape _ _) (Memref.isWhole_whole _).wordExact ⟨Or.inl rfl, trivial⟩
      (copyP (sRow o' ho') sW s₃ ((View.wordExact_bits rfl).reshape _ _) (Memref.isWhole_whole _).wordExact ⟨Or.inl rfl, trivial⟩ k) : PV F c j)
      = fetchP o ho o' ho' s₁ s₂ s₃ k := rfl

theorem initP_bind (k : PV F c j) (f : PUnit → PV F c j) : (initP k) >>= f = initP (k >>= f) := rfl

end

/-- The chain of pieces. -/
def chain (i : grid1.Coords) : PV F ((i 0).castLE hcore1) ((i 1).castLE hsub1) :=
  initP (
  fetchP (k1_off1 i) (k1_off1_inb i) (k1_off2 i) (k1_off2_inb i) cc1_scoped2 cc1_scoped3 cc1_scoped4 (
  makeP rowA (
  sendP rowA (Memref.isWhole_whole _) (k1_off4 i) (k1_off4_inb i) cc1_scratch7 (
  fetchP (k1_off5 i) (k1_off5_inb i) (k1_off6 i) (k1_off6_inb i) cc1_scoped5 cc1_scoped6 cc1_scoped7 (
  makeP rowB (
  sendP rowB (Memref.isWhole_whole _) (k1_off8 i 1#32) (k1_off8_inb i 1) cc1_scratch8 (
  waitP rowA (Memref.isWhole_whole _) (k1_off8 i 0#32) (k1_off8_inb i 0) cc1_scratch7 (
  fetchP (k1_off9 i) (k1_off9_inb i) (k1_off10 i) (k1_off10_inb i) cc1_scoped8 cc1_scoped9 cc1_scoped10 (
  makeP rowA (
  sendP rowA (Memref.isWhole_whole _) (k1_off12 i 2#32) (k1_off12_inb i 1) cc1_scratch7 (
  waitP rowB (Memref.isWhole_whole _) (k1_off12 i 1#32) (k1_off12_inb i 0) cc1_scratch8 (
  fetchP (k1_off13 i) (k1_off13_inb i) (k1_off14 i) (k1_off14_inb i) cc1_scoped11 cc1_scoped12 cc1_scoped13 (
  makeP rowB (
  sendP rowB (Memref.isWhole_whole _) (k1_off16 i 3#32) (k1_off16_inb i 1) cc1_scratch8 (
  waitP rowA (Memref.isWhole_whole _) (k1_off16 i 2#32) (k1_off16_inb i 0) cc1_scratch7 (
  fetchP (k1_off17 i) (k1_off17_inb i) (k1_off18 i) (k1_off18_inb i) cc1_scoped14 cc1_scoped15 cc1_scoped16 (
  makeP rowA (
  sendP rowA (Memref.isWhole_whole _) (k1_off20 i 4#32) (k1_off20_inb i 1) cc1_scratch7 (
  waitP rowB (Memref.isWhole_whole _) (k1_off20 i 3#32) (k1_off20_inb i 0) cc1_scratch8 (
  fetchP (k1_off21 i) (k1_off21_inb i) (k1_off22 i) (k1_off22_inb i) cc1_scoped17 cc1_scoped18 cc1_scoped19 (
  makeP rowB (
  sendP rowB (Memref.isWhole_whole _) (k1_off24 i 5#32) (k1_off24_inb i 1) cc1_scratch8 (
  waitP rowA (Memref.isWhole_whole _) (k1_off24 i 4#32) (k1_off24_inb i 0) cc1_scratch7 (
  fetchP (k1_off25 i) (k1_off25_inb i) (k1_off26 i) (k1_off26_inb i) cc1_scoped20 cc1_scoped21 cc1_scoped22 (
  makeP rowA (
  sendP rowA (Memref.isWhole_whole _) (k1_off28 i 6#32) (k1_off28_inb i 1) cc1_scratch7 (
  waitP rowB (Memref.isWhole_whole _) (k1_off28 i 5#32) (k1_off28_inb i 0) cc1_scratch8 (
  fetchP (k1_off29 i) (k1_off29_inb i) (k1_off30 i) (k1_off30_inb i) cc1_scoped23 cc1_scoped24 cc1_scoped25 (
  makeP rowB (
  sendP rowB (Memref.isWhole_whole _) (k1_off32 i 7#32) (k1_off32_inb i 1) cc1_scratch8 (
  waitP rowA (Memref.isWhole_whole _) (k1_off32 i 6#32) (k1_off32_inb i 0) cc1_scratch7 (
  waitP rowB (Memref.isWhole_whole _) (k1_off32 i 7#32) (k1_off32_inb i 1) cc1_scratch8 (
  .ret ⟨⟩)))))))))))))))))))))))))))))))))

theorem body_eq (i : grid1.Coords) : cc1__sc_body (F := F) i gH (Memref.isWhole_whole _) bH (Memref.isWhole_whole _) tH (Memref.isWhole_whole _) cH (Memref.isWhole_whole _) sH (Memref.isWhole_whole _) yH (Memref.isWhole_whole _) gW (Memref.isWhole_whole _) bW (Memref.isWhole_whole _) rowA (Memref.isWhole_whole _) rowB (Memref.isWhole_whole _) tW (Memref.isWhole_whole _) cW (Memref.isWhole_whole _) sW (Memref.isWhole_whole _) cc1_scratch7 cc1_scratch8 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 = chain i := by
  rw [cc1__sc_body_eq_skeleton]
  unfold cc1__sc_body_skel
  rw [part32_eq, rest0_eq, rest1_eq, rest2_eq, rest3_eq, rest4_eq]
  rw [rest5_eq, rest6_eq, rest7_eq]
  simp only [enqT_bind, initP_bind, fetchP_bind, makeP_bind, sendP_bind, waitP_bind]
  rfl

end Cert.Proof.Fm
-- ==== Proof.TileBody.lean ====
/-
  The tile program's run: from read shares of the five arrays and the tile's eight rows of the result, to the same
  shares and the rows at their values.
-/
module

public import proofs.«01_k».proof.Proof.Rows
public import proofs.«01_k».proof.Proof.BodyEq

@[expose] public section

set_option maxRecDepth 65536

noncomputable section

namespace Cert.Proof.Fm

open Cert.KernelIdeal Cert.KernelIdeal.Gen
open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (d : Fin nD)

abbrev cI (i : grid1.Coords) : Fin τ.nSC := (i 0).castLE hcore1
abbrev jI (i : grid1.Coords) : Fin τ.nSub := (i 1).castLE hsub1

/-! ## The tile's semaphores and buffers -/

/-- A tile's semaphore. -/
abbrev cellV (c : Fin τ.nSC) (j : Fin τ.nSub) (s : DmaSems sig S_) : GSem nD τ sig := (V d c j, .dma s.sem)

theorem cellV_ne {d : Fin nD} {c : Fin τ.nSC} {j : Fin τ.nSub} {s s' : DmaSems sig S_} (h : s.sem ≠ s'.sem) : cellV d c j s ≠ cellV d c j s' :=
  fun e => h (SemLoc.dma.inj (Prod.mk.inj e).2)

/-- The tile's semaphores but the two that the rows are sent on. -/
def cellsV (c : Fin τ.nSC) (j : Fin τ.nSub) : Finset (GSem nD τ sig) :=
  ((ownCells (V d c j)).erase (cellV d c j cc1_scratch7)).erase (cellV d c j cc1_scratch8)

theorem mem_cellsV {d : Fin nD} {c : Fin τ.nSC} {j : Fin τ.nSub} (s : DmaSems sig S_) (hs : (SemLoc.dma s.sem : SemLoc sig).isScoped .scVector = true)
    (h7 : s.sem ≠ cc1_scratch7.sem) (h8 : s.sem ≠ cc1_scratch8.sem) : cellV d c j s ∈ cellsV d c j :=
  Finset.mem_erase.mpr ⟨cellV_ne h8, Finset.mem_erase.mpr ⟨cellV_ne h7, mem_ownCells.mpr ⟨rfl, hs⟩⟩⟩

theorem mem_erase1 {d : Fin nD} {c : Fin τ.nSC} {j : Fin τ.nSub} {S : Finset (GSem nD τ sig)} {s s' : DmaSems sig S_} (h : s.sem ≠ s'.sem)
    (hm : cellV d c j s ∈ S) : cellV d c j s ∈ S.erase (cellV d c j s') := Finset.mem_erase.mpr ⟨cellV_ne h, hm⟩

theorem ownSems_V (c : Fin τ.nSC) (j : Fin τ.nSub) :
    (ownSems0 (V d c j) : sProp 𝕄) = iprop(semVal (cellV d c j cc1_scratch7) 0 ∗ semVal (cellV d c j cc1_scratch8) 0
      ∗ bigSep (cellsV d c j) fun g => semVal g 0) := by
  unfold SparseCore.Cfg.ownSems0 cellsV
  rw [SparseCore.bigSep_erase' (mem_ownCells.mpr ⟨rfl, by show (SemLoc.dma cc1_scratch7.sem : SemLoc sig).isScoped .scVector = true; decide⟩ : cellV d c j cc1_scratch7 ∈ ownCells (V d c j)),
    SparseCore.bigSep_erase' (mem_erase1 (by decide) (mem_ownCells.mpr ⟨rfl, by show (SemLoc.dma cc1_scratch8.sem : SemLoc sig).isScoped .scVector = true; decide⟩)
      : cellV d c j cc1_scratch8 ∈ (ownCells (V d c j)).erase (cellV d c j cc1_scratch7))]

/-- The tile's buffers but its seven arrays. -/
def refsV (c : Fin τ.nSC) (j : Fin τ.nSub) : Finset (DevRef τ sig) :=
  (((((((ownRefs (τ := τ) (sig := sig) (.scVector c j)).erase ((Proc.scVector c j).devRef cc1_scratch0)).erase ((Proc.scVector c j).devRef cc1_scratch1)).erase ((Proc.scVector c j).devRef cc1_scratch2)).erase ((Proc.scVector c j).devRef cc1_scratch3)).erase ((Proc.scVector c j).devRef cc1_scratch4)).erase ((Proc.scVector c j).devRef cc1_scratch5)).erase ((Proc.scVector c j).devRef cc1_scratch6)

/-- The tile's seven arrays, at anything, and the rest. -/
theorem ownBufs_V (c : Fin τ.nSC) (j : Fin τ.nSub) :
    (ownBufs (V d c j) : sProp 𝕄)
      = iprop((∃ f, (V d c j).loc cc1_scratch0 ↦{fullShare} f)
          ∗ (∃ f, (V d c j).loc cc1_scratch1 ↦{fullShare} f)
          ∗ (∃ f, (V d c j).loc cc1_scratch2 ↦{fullShare} f)
          ∗ (∃ f, (V d c j).loc cc1_scratch3 ↦{fullShare} f)
          ∗ (∃ f, (V d c j).loc cc1_scratch4 ↦{fullShare} f)
          ∗ (∃ f, (V d c j).loc cc1_scratch5 ↦{fullShare} f)
          ∗ (∃ f, (V d c j).loc cc1_scratch6 ↦{fullShare} f)
          ∗ bigSep (refsV c j) fun b => iprop(∃ f, ((d, b) : Loc nD τ sig) ↦{fullShare} f)) := by
  unfold SparseCore.Cfg.ownBufs refsV
  have ne : ∀ {a b : Ref sig .scVector}, a ≠ b → (Proc.scVector c j).devRef a ≠ (Proc.scVector c j).devRef b := fun h e => h (Proc.devRef_injective _ e)
  refine (SparseCore.bigSep_erase' (SparseCore.Cfg.mem_ownRefs_of_owner (p := Proc.scVector c j) (b := (Proc.scVector c j).devRef cc1_scratch0) rfl)).trans ?_
  rw [SparseCore.bigSep_erase' (Finset.mem_erase.mpr ⟨ne (by decide), SparseCore.Cfg.mem_ownRefs_of_owner (p := Proc.scVector c j) (b := (Proc.scVector c j).devRef cc1_scratch1) rfl⟩)]
  rw [SparseCore.bigSep_erase' (Finset.mem_erase.mpr ⟨ne (by decide), Finset.mem_erase.mpr ⟨ne (by decide), SparseCore.Cfg.mem_ownRefs_of_owner (p := Proc.scVector c j) (b := (Proc.scVector c j).devRef cc1_scratch2) rfl⟩⟩)]
  rw [SparseCore.bigSep_erase' (Finset.mem_erase.mpr ⟨ne (by decide), Finset.mem_erase.mpr ⟨ne (by decide), Finset.mem_erase.mpr ⟨ne (by decide), SparseCore.Cfg.mem_ownRefs_of_owner (p := Proc.scVector c j) (b := (Proc.scVector c j).devRef cc1_scratch3) rfl⟩⟩⟩)]
  rw [SparseCore.bigSep_erase' (Finset.mem_erase.mpr ⟨ne (by decide), Finset.mem_erase.mpr ⟨ne (by decide), Finset.mem_erase.mpr ⟨ne (by decide), Finset.mem_erase.mpr ⟨ne (by decide), SparseCore.Cfg.mem_ownRefs_of_owner (p := Proc.scVector c j) (b := (Proc.scVector c j).devRef cc1_scratch4) rfl⟩⟩⟩⟩)]
  rw [SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), SparseCore.Cfg.mem_ownRefs_of_owner (p := Proc.scVector c j) (b := (Proc.scVector c j).devRef cc1_scratch5) rfl⟩⟩⟩⟩⟩)]
  rw [SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), SparseCore.Cfg.mem_ownRefs_of_owner (p := Proc.scVector c j) (b := (Proc.scVector c j).devRef cc1_scratch6) rfl⟩⟩⟩⟩⟩⟩)]

theorem held_gW (c : Fin τ.nSC) (j : Fin τ.nSub) :
    iprop(∃ f, (V d c j).loc cc1_scratch0 ↦{fullShare} f) ⊢ (iprop(∃ R, held' d c j gW R) : sProp 𝕄) := by
  unfold held'
  iintro ⟨%f, H⟩
  iexists (gW.view.read (Elt F) f)
  iexists f
  isplitr
  · ipureintro; rfl
  rw [show (gW : Memref sig .scVector .vmem _ _).view.set = Finset.univ from View.set_whole _]
  iexact H
theorem bufs_gW (c : Fin τ.nSC) (j : Fin τ.nSub) :
    iprop(∃ R, held' d c j gW R) ⊢ (iprop(∃ f, (V d c j).loc cc1_scratch0 ↦{fullShare} f) : sProp 𝕄) := by
  unfold held'
  rw [show (gW : Memref sig .scVector .vmem _ _).view.set = Finset.univ from View.set_whole _]
  iintro ⟨%R, %f, %hf, H⟩
  iexists f
  iexact H
theorem held_bW (c : Fin τ.nSC) (j : Fin τ.nSub) :
    iprop(∃ f, (V d c j).loc cc1_scratch1 ↦{fullShare} f) ⊢ (iprop(∃ R, held' d c j bW R) : sProp 𝕄) := by
  unfold held'
  iintro ⟨%f, H⟩
  iexists (bW.view.read (Elt F) f)
  iexists f
  isplitr
  · ipureintro; rfl
  rw [show (bW : Memref sig .scVector .vmem _ _).view.set = Finset.univ from View.set_whole _]
  iexact H
theorem bufs_bW (c : Fin τ.nSC) (j : Fin τ.nSub) :
    iprop(∃ R, held' d c j bW R) ⊢ (iprop(∃ f, (V d c j).loc cc1_scratch1 ↦{fullShare} f) : sProp 𝕄) := by
  unfold held'
  rw [show (bW : Memref sig .scVector .vmem _ _).view.set = Finset.univ from View.set_whole _]
  iintro ⟨%R, %f, %hf, H⟩
  iexists f
  iexact H
theorem held_rowA (c : Fin τ.nSC) (j : Fin τ.nSub) :
    iprop(∃ f, (V d c j).loc cc1_scratch2 ↦{fullShare} f) ⊢ (iprop(∃ R, held' d c j rowA R) : sProp 𝕄) := by
  unfold held'
  iintro ⟨%f, H⟩
  iexists (rowA.view.read (Elt F) f)
  iexists f
  isplitr
  · ipureintro; rfl
  rw [show (rowA : Memref sig .scVector .vmem _ _).view.set = Finset.univ from View.set_whole _]
  iexact H
theorem bufs_rowA (c : Fin τ.nSC) (j : Fin τ.nSub) :
    iprop(∃ R, held' d c j rowA R) ⊢ (iprop(∃ f, (V d c j).loc cc1_scratch2 ↦{fullShare} f) : sProp 𝕄) := by
  unfold held'
  rw [show (rowA : Memref sig .scVector .vmem _ _).view.set = Finset.univ from View.set_whole _]
  iintro ⟨%R, %f, %hf, H⟩
  iexists f
  iexact H
theorem held_rowB (c : Fin τ.nSC) (j : Fin τ.nSub) :
    iprop(∃ f, (V d c j).loc cc1_scratch3 ↦{fullShare} f) ⊢ (iprop(∃ R, held' d c j rowB R) : sProp 𝕄) := by
  unfold held'
  iintro ⟨%f, H⟩
  iexists (rowB.view.read (Elt F) f)
  iexists f
  isplitr
  · ipureintro; rfl
  rw [show (rowB : Memref sig .scVector .vmem _ _).view.set = Finset.univ from View.set_whole _]
  iexact H
theorem bufs_rowB (c : Fin τ.nSC) (j : Fin τ.nSub) :
    iprop(∃ R, held' d c j rowB R) ⊢ (iprop(∃ f, (V d c j).loc cc1_scratch3 ↦{fullShare} f) : sProp 𝕄) := by
  unfold held'
  rw [show (rowB : Memref sig .scVector .vmem _ _).view.set = Finset.univ from View.set_whole _]
  iintro ⟨%R, %f, %hf, H⟩
  iexists f
  iexact H
theorem held_tW (c : Fin τ.nSC) (j : Fin τ.nSub) :
    iprop(∃ f, (V d c j).loc cc1_scratch4 ↦{fullShare} f) ⊢ (iprop(∃ R, held' d c j tW R) : sProp 𝕄) := by
  unfold held'
  iintro ⟨%f, H⟩
  iexists (tW.view.read (Elt F) f)
  iexists f
  isplitr
  · ipureintro; rfl
  rw [show (tW : Memref sig .scVector .vmem _ _).view.set = Finset.univ from View.set_whole _]
  iexact H
theorem bufs_tW (c : Fin τ.nSC) (j : Fin τ.nSub) :
    iprop(∃ R, held' d c j tW R) ⊢ (iprop(∃ f, (V d c j).loc cc1_scratch4 ↦{fullShare} f) : sProp 𝕄) := by
  unfold held'
  rw [show (tW : Memref sig .scVector .vmem _ _).view.set = Finset.univ from View.set_whole _]
  iintro ⟨%R, %f, %hf, H⟩
  iexists f
  iexact H
theorem held_cW (c : Fin τ.nSC) (j : Fin τ.nSub) :
    iprop(∃ f, (V d c j).loc cc1_scratch5 ↦{fullShare} f) ⊢ (iprop(∃ R, held' d c j cW R) : sProp 𝕄) := by
  unfold held'
  iintro ⟨%f, H⟩
  iexists (cW.view.read (Elt F) f)
  iexists f
  isplitr
  · ipureintro; rfl
  rw [show (cW : Memref sig .scVector .vmem _ _).view.set = Finset.univ from View.set_whole _]
  iexact H
theorem bufs_cW (c : Fin τ.nSC) (j : Fin τ.nSub) :
    iprop(∃ R, held' d c j cW R) ⊢ (iprop(∃ f, (V d c j).loc cc1_scratch5 ↦{fullShare} f) : sProp 𝕄) := by
  unfold held'
  rw [show (cW : Memref sig .scVector .vmem _ _).view.set = Finset.univ from View.set_whole _]
  iintro ⟨%R, %f, %hf, H⟩
  iexists f
  iexact H
theorem held_sW (c : Fin τ.nSC) (j : Fin τ.nSub) :
    iprop(∃ f, (V d c j).loc cc1_scratch6 ↦{fullShare} f) ⊢ (iprop(∃ R, held' d c j sW R) : sProp 𝕄) := by
  unfold held'
  iintro ⟨%f, H⟩
  iexists (sW.view.read (Elt F) f)
  iexists f
  isplitr
  · ipureintro; rfl
  rw [show (sW : Memref sig .scVector .vmem _ _).view.set = Finset.univ from View.set_whole _]
  iexact H
theorem bufs_sW (c : Fin τ.nSC) (j : Fin τ.nSub) :
    iprop(∃ R, held' d c j sW R) ⊢ (iprop(∃ f, (V d c j).loc cc1_scratch6 ↦{fullShare} f) : sProp 𝕄) := by
  unfold held'
  rw [show (sW : Memref sig .scVector .vmem _ _).view.set = Finset.univ from View.set_whole _]
  iintro ⟨%R, %f, %hf, H⟩
  iexists f
  iexact H

/-! ## The run -/

/-- What a tile is handed: a read share of each of the five arrays, and its eight rows of the result. -/
def tileHas (c : Fin τ.nSC) (j : Fin τ.nSub) (q : PosShare TreeShare) (fG fB : Row F) (fT : Vec F S256x256 .i32) (fC : Vec F S256x256 .f32) (fS : Vec F S256x128 .f32)
    (r : ℕ) (fY : Vec F S256x20096 .f32) : sProp 𝕄 :=
  iprop((gH.view.loc (V d c j) ↦[Finset.univ]{q} fG) ∗ (bH.view.loc (V d c j) ↦[Finset.univ]{q} fB) ∗ (tH.view.loc (V d c j) ↦[Finset.univ]{q} fT)
    ∗ (cH.view.loc (V d c j) ↦[Finset.univ]{q} fC) ∗ (sH.view.loc (V d c j) ↦[Finset.univ]{q} fS)
    ∗ yPts d c j (r + 0) fY ∗ yPts d c j (r + 1) fY ∗ yPts d c j (r + 2) fY ∗ yPts d c j (r + 3) fY ∗ yPts d c j (r + 4) fY ∗ yPts d c j (r + 5) fY ∗ yPts d c j (r + 6) fY ∗ yPts d c j (r + 7) fY)

/-- The tile program. -/
theorem wp_chain (i : grid1.Coords) (O : CellTallies nD τ sig (HIx 1)) (W : Waits sig (HIx 1)) (q : PosShare TreeShare) (fG fB : Row F)
    (fT : Vec F S256x256 .i32) (hT : ∀ x, (fT x).toNat < 20000) (fC : Vec F S256x256 .f32) (fS : Vec F S256x128 .f32) (fY : Vec F S256x20096 .f32) :
    iprop(Transfers.MayWaits (V d (cI i) (jI i)) (none : HIx 1) O ∗ tileHas d (cI i) (jI i) q fG fB fT fC fS (16 * (i 1).val + 8 * (i 0).val) fY
        ∗ ownBufs (V d (cI i) (jI i)) ∗ ownSems0 (V d (cI i) (jI i)) ∗ owes (V d (cI i) (jI i)) O W)
      ⊢ WP d (cI i) (jI i) (chain i) fun _ => iprop(tileHas d (cI i) (jI i) q fG fB fT fC fS (16 * (i 1).val + 8 * (i 0).val) (yOf fG fB fT fC fS)
        ∗ ownBufs (V d (cI i) (jI i)) ∗ ownSems0 (V d (cI i) (jI i)) ∗ OW d (cI i) (jI i) O W) := by
  have hi0 : (i 0).val < 2 := (i 0).isLt
  have hi1 : (i 1).val < 16 := (i 1).isLt
  unfold chain initP tileHas
  rw [ownSems_V, ownBufs_V]
  iintro ⟨#Hmw, ⟨HG, HB, HT, HC, HS, Hy0, Hy1, Hy2, Hy3, Hy4, Hy5, Hy6, Hy7⟩, ⟨Hb0, Hb1, Hb2, Hb3, Hb4, Hb5, Hb6, Hbs⟩, ⟨H7, H8, Hsems⟩, HO⟩
  ihave Hb0 := (held_gW d (cI i) (jI i)) $$ Hb0
  ihave Hb1 := (held_bW d (cI i) (jI i)) $$ Hb1
  ihave Hb2 := (held_rowA d (cI i) (jI i)) $$ Hb2
  ihave Hb3 := (held_rowB d (cI i) (jI i)) $$ Hb3
  ihave Hb4 := (held_tW d (cI i) (jI i)) $$ Hb4
  ihave Hb5 := (held_cW d (cI i) (jI i)) $$ Hb5
  ihave Hb6 := (held_sW d (cI i) (jI i)) $$ Hb6
  icases Hb0 with ⟨%G₀, Hg⟩
  icases Hb1 with ⟨%B₀, Hb⟩
  ihave HO : (OW d (cI i) (jI i) O W) $$ [HO]
  · unfold OW
    iexists W
    isplitr
    · ipureintro; exact fun p hp => Or.inl hp
    iexact HO
  have m0 : cellV d (cI i) (jI i) cc1_scoped0 ∈ cellsV d (cI i) (jI i) := mem_cellsV _ (by decide) (by decide) (by decide)
  have m1 : cellV d (cI i) (jI i) cc1_scoped1 ∈ (cellsV d (cI i) (jI i)).erase (cellV d (cI i) (jI i) cc1_scoped0) := mem_erase1 (by decide) (mem_cellsV _ (by decide) (by decide) (by decide))
  ihave Hsems := (Entails.of_eq (SparseCore.bigSep_erase' m0)) $$ Hsems
  icases Hsems with ⟨Hs0, Hsems⟩
  ihave Hsems := (Entails.of_eq (SparseCore.bigSep_erase' m1)) $$ Hsems
  icases Hsems with ⟨Hs1, Hsems⟩
  iapply (wp_copyP gH gW cc1_scoped0 _ _ _ _ (by decide) O W q fG Finset.univ (Finset.subset_univ _) G₀ _) $$ [HG Hg Hs0 HO]
  · isplitl [HG]; · iexact HG
    isplitl [Hg]; · iexact Hg
    isplitl [Hs0]; · iexact Hs0
    isplitl [HO]; · iexact HO
    iexact Hmw
  iintro HG Hg Hs0 HO
  iapply (wp_copyP bH bW cc1_scoped1 _ _ _ _ (by decide) O W q fB Finset.univ (Finset.subset_univ _) B₀ _) $$ [HB Hb Hs1 HO]
  · isplitl [HB]; · iexact HB
    isplitl [Hb]; · iexact Hb
    isplitl [Hs1]; · iexact Hs1
    isplitl [HO]; · iexact HO
    iexact Hmw
  iintro HB Hb Hs1 HO
  ihave Hsems : (bigSep (cellsV d (cI i) (jI i)) fun g => semVal g 0) $$ [Hs0 Hs1 Hsems]
  · rw [SparseCore.bigSep_erase' m0, SparseCore.bigSep_erase' m1]
    isplitl [Hs0]; · iexact Hs0
    isplitl [Hs1]; · iexact Hs1
    iexact Hsems
  ihave HS : (Sh d (cI i) (jI i) O W q fG fB fT fC fS) $$ [HT HC HS Hg Hb Hb4 Hb5 Hb6 HO]
  · unfold Sh
    isplitl [HT]; · iexact HT
    isplitl [HC]; · iexact HC
    isplitl [HS]; · iexact HS
    isplitl [Hg]; · iexact Hg
    isplitl [Hb]; · iexact Hb
    isplitl [Hb4]; · iexact Hb4
    isplitl [Hb5]; · iexact Hb5
    isplitl [Hb6]; · iexact Hb6
    iexact HO
  icases Hb2 with ⟨%R0, Hb2⟩
  iapply (wp_slotR rowA (Memref.isWhole_whole _) wholeA (16 * (i 1).val + 8 * (i 0).val + 0) (by omega) _ _ (k1_off1_eq i) _ _ (k1_off2_eq i)
    cc1_scoped2 cc1_scoped3 cc1_scoped4 _ _ (k1_off4_eq i) cc1_scratch7 _ (cellsV d (cI i) (jI i)) (mem_cellsV _ (by decide) (by decide) (by decide)) (mem_erase1 (by decide) (mem_cellsV _ (by decide) (by decide) (by decide))) (mem_erase1 (by decide) (mem_erase1 (by decide) (mem_cellsV _ (by decide) (by decide) (by decide)))) O W q fG fB R0 fT hT fC fS fY) $$ [HS Hsems Hb2 Hy0 H7]
  · isplitl [HS]; · iexact HS
    isplitl [Hsems]; · iexact Hsems
    isplitl [Hb2]; · iexact Hb2
    isplitl [Hy0]; · iexact Hy0
    isplitl [H7]; · iexact H7
    iexact Hmw
  iintro ⟨HS, Hsems, HF0⟩
  icases Hb3 with ⟨%R1, Hb3⟩
  iapply (wp_slotR rowB (Memref.isWhole_whole _) wholeB (16 * (i 1).val + 8 * (i 0).val + 1) (by omega) _ _ (k1_off5_eq i) _ _ (k1_off6_eq i)
    cc1_scoped5 cc1_scoped6 cc1_scoped7 _ _ (k1_off8_eq i 1) cc1_scratch8 _ (cellsV d (cI i) (jI i)) (mem_cellsV _ (by decide) (by decide) (by decide)) (mem_erase1 (by decide) (mem_cellsV _ (by decide) (by decide) (by decide))) (mem_erase1 (by decide) (mem_erase1 (by decide) (mem_cellsV _ (by decide) (by decide) (by decide)))) O W q fG fB R1 fT hT fC fS fY) $$ [HS Hsems Hb3 Hy1 H8]
  · isplitl [HS]; · iexact HS
    isplitl [Hsems]; · iexact Hsems
    isplitl [Hb3]; · iexact Hb3
    isplitl [Hy1]; · iexact Hy1
    isplitl [H8]; · iexact H8
    iexact Hmw
  iintro ⟨HS, Hsems, HF1⟩
  iapply (wp_waitR rowA (Memref.isWhole_whole _) (16 * (i 1).val + 8 * (i 0).val + 0) (by omega) _ _ (k1_off8_eq i 0) cc1_scratch7 _ (yOf fG fB fT fC fS) O W q fG fB fT fC fS) $$ [HS HF0]
  · isplitl [HS]; · iexact HS
    isplitl [HF0]; · iexact HF0
    iexact Hmw
  iintro ⟨HS, Hy0, Hb2, H7⟩
  icases Hb2 with ⟨%R2, Hb2⟩
  iapply (wp_slotR rowA (Memref.isWhole_whole _) wholeA (16 * (i 1).val + 8 * (i 0).val + 2) (by omega) _ _ (k1_off9_eq i) _ _ (k1_off10_eq i)
    cc1_scoped8 cc1_scoped9 cc1_scoped10 _ _ (k1_off12_eq i 1) cc1_scratch7 _ (cellsV d (cI i) (jI i)) (mem_cellsV _ (by decide) (by decide) (by decide)) (mem_erase1 (by decide) (mem_cellsV _ (by decide) (by decide) (by decide))) (mem_erase1 (by decide) (mem_erase1 (by decide) (mem_cellsV _ (by decide) (by decide) (by decide)))) O W q fG fB R2 fT hT fC fS fY) $$ [HS Hsems Hb2 Hy2 H7]
  · isplitl [HS]; · iexact HS
    isplitl [Hsems]; · iexact Hsems
    isplitl [Hb2]; · iexact Hb2
    isplitl [Hy2]; · iexact Hy2
    isplitl [H7]; · iexact H7
    iexact Hmw
  iintro ⟨HS, Hsems, HF2⟩
  iapply (wp_waitR rowB (Memref.isWhole_whole _) (16 * (i 1).val + 8 * (i 0).val + 1) (by omega) _ _ (k1_off12_eq i 0) cc1_scratch8 _ (yOf fG fB fT fC fS) O W q fG fB fT fC fS) $$ [HS HF1]
  · isplitl [HS]; · iexact HS
    isplitl [HF1]; · iexact HF1
    iexact Hmw
  iintro ⟨HS, Hy1, Hb3, H8⟩
  icases Hb3 with ⟨%R3, Hb3⟩
  iapply (wp_slotR rowB (Memref.isWhole_whole _) wholeB (16 * (i 1).val + 8 * (i 0).val + 3) (by omega) _ _ (k1_off13_eq i) _ _ (k1_off14_eq i)
    cc1_scoped11 cc1_scoped12 cc1_scoped13 _ _ (k1_off16_eq i 1) cc1_scratch8 _ (cellsV d (cI i) (jI i)) (mem_cellsV _ (by decide) (by decide) (by decide)) (mem_erase1 (by decide) (mem_cellsV _ (by decide) (by decide) (by decide))) (mem_erase1 (by decide) (mem_erase1 (by decide) (mem_cellsV _ (by decide) (by decide) (by decide)))) O W q fG fB R3 fT hT fC fS fY) $$ [HS Hsems Hb3 Hy3 H8]
  · isplitl [HS]; · iexact HS
    isplitl [Hsems]; · iexact Hsems
    isplitl [Hb3]; · iexact Hb3
    isplitl [Hy3]; · iexact Hy3
    isplitl [H8]; · iexact H8
    iexact Hmw
  iintro ⟨HS, Hsems, HF3⟩
  iapply (wp_waitR rowA (Memref.isWhole_whole _) (16 * (i 1).val + 8 * (i 0).val + 2) (by omega) _ _ (k1_off16_eq i 0) cc1_scratch7 _ (yOf fG fB fT fC fS) O W q fG fB fT fC fS) $$ [HS HF2]
  · isplitl [HS]; · iexact HS
    isplitl [HF2]; · iexact HF2
    iexact Hmw
  iintro ⟨HS, Hy2, Hb2, H7⟩
  icases Hb2 with ⟨%R4, Hb2⟩
  iapply (wp_slotR rowA (Memref.isWhole_whole _) wholeA (16 * (i 1).val + 8 * (i 0).val + 4) (by omega) _ _ (k1_off17_eq i) _ _ (k1_off18_eq i)
    cc1_scoped14 cc1_scoped15 cc1_scoped16 _ _ (k1_off20_eq i 1) cc1_scratch7 _ (cellsV d (cI i) (jI i)) (mem_cellsV _ (by decide) (by decide) (by decide)) (mem_erase1 (by decide) (mem_cellsV _ (by decide) (by decide) (by decide))) (mem_erase1 (by decide) (mem_erase1 (by decide) (mem_cellsV _ (by decide) (by decide) (by decide)))) O W q fG fB R4 fT hT fC fS fY) $$ [HS Hsems Hb2 Hy4 H7]
  · isplitl [HS]; · iexact HS
    isplitl [Hsems]; · iexact Hsems
    isplitl [Hb2]; · iexact Hb2
    isplitl [Hy4]; · iexact Hy4
    isplitl [H7]; · iexact H7
    iexact Hmw
  iintro ⟨HS, Hsems, HF4⟩
  iapply (wp_waitR rowB (Memref.isWhole_whole _) (16 * (i 1).val + 8 * (i 0).val + 3) (by omega) _ _ (k1_off20_eq i 0) cc1_scratch8 _ (yOf fG fB fT fC fS) O W q fG fB fT fC fS) $$ [HS HF3]
  · isplitl [HS]; · iexact HS
    isplitl [HF3]; · iexact HF3
    iexact Hmw
  iintro ⟨HS, Hy3, Hb3, H8⟩
  icases Hb3 with ⟨%R5, Hb3⟩
  iapply (wp_slotR rowB (Memref.isWhole_whole _) wholeB (16 * (i 1).val + 8 * (i 0).val + 5) (by omega) _ _ (k1_off21_eq i) _ _ (k1_off22_eq i)
    cc1_scoped17 cc1_scoped18 cc1_scoped19 _ _ (k1_off24_eq i 1) cc1_scratch8 _ (cellsV d (cI i) (jI i)) (mem_cellsV _ (by decide) (by decide) (by decide)) (mem_erase1 (by decide) (mem_cellsV _ (by decide) (by decide) (by decide))) (mem_erase1 (by decide) (mem_erase1 (by decide) (mem_cellsV _ (by decide) (by decide) (by decide)))) O W q fG fB R5 fT hT fC fS fY) $$ [HS Hsems Hb3 Hy5 H8]
  · isplitl [HS]; · iexact HS
    isplitl [Hsems]; · iexact Hsems
    isplitl [Hb3]; · iexact Hb3
    isplitl [Hy5]; · iexact Hy5
    isplitl [H8]; · iexact H8
    iexact Hmw
  iintro ⟨HS, Hsems, HF5⟩
  iapply (wp_waitR rowA (Memref.isWhole_whole _) (16 * (i 1).val + 8 * (i 0).val + 4) (by omega) _ _ (k1_off24_eq i 0) cc1_scratch7 _ (yOf fG fB fT fC fS) O W q fG fB fT fC fS) $$ [HS HF4]
  · isplitl [HS]; · iexact HS
    isplitl [HF4]; · iexact HF4
    iexact Hmw
  iintro ⟨HS, Hy4, Hb2, H7⟩
  icases Hb2 with ⟨%R6, Hb2⟩
  iapply (wp_slotR rowA (Memref.isWhole_whole _) wholeA (16 * (i 1).val + 8 * (i 0).val + 6) (by omega) _ _ (k1_off25_eq i) _ _ (k1_off26_eq i)
    cc1_scoped20 cc1_scoped21 cc1_scoped22 _ _ (k1_off28_eq i 1) cc1_scratch7 _ (cellsV d (cI i) (jI i)) (mem_cellsV _ (by decide) (by decide) (by decide)) (mem_erase1 (by decide) (mem_cellsV _ (by decide) (by decide) (by decide))) (mem_erase1 (by decide) (mem_erase1 (by decide) (mem_cellsV _ (by decide) (by decide) (by decide)))) O W q fG fB R6 fT hT fC fS fY) $$ [HS Hsems Hb2 Hy6 H7]
  · isplitl [HS]; · iexact HS
    isplitl [Hsems]; · iexact Hsems
    isplitl [Hb2]; · iexact Hb2
    isplitl [Hy6]; · iexact Hy6
    isplitl [H7]; · iexact H7
    iexact Hmw
  iintro ⟨HS, Hsems, HF6⟩
  iapply (wp_waitR rowB (Memref.isWhole_whole _) (16 * (i 1).val + 8 * (i 0).val + 5) (by omega) _ _ (k1_off28_eq i 0) cc1_scratch8 _ (yOf fG fB fT fC fS) O W q fG fB fT fC fS) $$ [HS HF5]
  · isplitl [HS]; · iexact HS
    isplitl [HF5]; · iexact HF5
    iexact Hmw
  iintro ⟨HS, Hy5, Hb3, H8⟩
  icases Hb3 with ⟨%R7, Hb3⟩
  iapply (wp_slotR rowB (Memref.isWhole_whole _) wholeB (16 * (i 1).val + 8 * (i 0).val + 7) (by omega) _ _ (k1_off29_eq i) _ _ (k1_off30_eq i)
    cc1_scoped23 cc1_scoped24 cc1_scoped25 _ _ (k1_off32_eq i 1) cc1_scratch8 _ (cellsV d (cI i) (jI i)) (mem_cellsV _ (by decide) (by decide) (by decide)) (mem_erase1 (by decide) (mem_cellsV _ (by decide) (by decide) (by decide))) (mem_erase1 (by decide) (mem_erase1 (by decide) (mem_cellsV _ (by decide) (by decide) (by decide)))) O W q fG fB R7 fT hT fC fS fY) $$ [HS Hsems Hb3 Hy7 H8]
  · isplitl [HS]; · iexact HS
    isplitl [Hsems]; · iexact Hsems
    isplitl [Hb3]; · iexact Hb3
    isplitl [Hy7]; · iexact Hy7
    isplitl [H8]; · iexact H8
    iexact Hmw
  iintro ⟨HS, Hsems, HF7⟩
  iapply (wp_waitR rowA (Memref.isWhole_whole _) (16 * (i 1).val + 8 * (i 0).val + 6) (by omega) _ _ (k1_off32_eq i 0) cc1_scratch7 _ (yOf fG fB fT fC fS) O W q fG fB fT fC fS) $$ [HS HF6]
  · isplitl [HS]; · iexact HS
    isplitl [HF6]; · iexact HF6
    iexact Hmw
  iintro ⟨HS, Hy6, Hb2, H7⟩
  iapply (wp_waitR rowB (Memref.isWhole_whole _) (16 * (i 1).val + 8 * (i 0).val + 7) (by omega) _ _ (k1_off32_eq i 1) cc1_scratch8 _ (yOf fG fB fT fC fS) O W q fG fB fT fC fS) $$ [HS HF7]
  · isplitl [HS]; · iexact HS
    isplitl [HF7]; · iexact HF7
    iexact Hmw
  iintro ⟨HS, Hy7, Hb3, H8⟩
  unfold WP
  rw [wp_ret]
  imodintro
  unfold Sh
  icases HS with ⟨HT, HC, HS, Hg, Hb, Hb4, Hb5, Hb6, HO⟩
  isplitl [HG HB HT HC HS Hy0 Hy1 Hy2 Hy3 Hy4 Hy5 Hy6 Hy7]
  · isplitl [HG]; · iexact HG
    isplitl [HB]; · iexact HB
    isplitl [HT]; · iexact HT
    isplitl [HC]; · iexact HC
    isplitl [HS]; · iexact HS
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    iexact Hy7
  isplitl [Hg Hb Hb2 Hb3 Hb4 Hb5 Hb6 Hbs]
  · isplitl [Hg]
    · iapply (bufs_gW d (cI i) (jI i)); iexists _; iexact Hg
    isplitl [Hb]
    · iapply (bufs_bW d (cI i) (jI i)); iexists _; iexact Hb
    isplitl [Hb2]
    · iapply (bufs_rowA d (cI i) (jI i)); iexact Hb2
    isplitl [Hb3]
    · iapply (bufs_rowB d (cI i) (jI i)); iexact Hb3
    isplitl [Hb4]
    · iapply (bufs_tW d (cI i) (jI i)); iexact Hb4
    isplitl [Hb5]
    · iapply (bufs_cW d (cI i) (jI i)); iexact Hb5
    isplitl [Hb6]
    · iapply (bufs_sW d (cI i) (jI i)); iexact Hb6
    iexact Hbs
  isplitl [H7 H8 Hsems]
  · isplitl [H7]; · iexact H7
    isplitl [H8]; · iexact H8
    iexact Hsems
  iexact HO

end Cert.Proof.Fm
-- ==== Proof.Call.lean ====
/-
  The SparseCore call as the launch theorem takes it: what the tiles are handed and hand back, the tile program at a
  symbolic tile, and how a SparseCore's share of the arrays is dealt to its tiles and gathered.
-/
module

public import proofs.«01_k».proof.Proof.TileBody

@[expose] public section

set_option maxRecDepth 65536

noncomputable section

namespace Cert.Proof.Fm

open Cert.KernelIdeal Cert.KernelIdeal.Gen
open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

abbrev gLoc (d : Dev nD) : Loc nD τ sig := (SparseCore.T d : Thread nD τ).loc main_v20
abbrev bLoc (d : Dev nD) : Loc nD τ sig := (SparseCore.T d : Thread nD τ).loc main_v22
abbrev tLoc (d : Dev nD) : Loc nD τ sig := (SparseCore.T d : Thread nD τ).loc main_v7
abbrev cLoc (d : Dev nD) : Loc nD τ sig := (SparseCore.T d : Thread nD τ).loc main_v9
abbrev sLoc (d : Dev nD) : Loc nD τ sig := (SparseCore.T d : Thread nD τ).loc main_v17
abbrev yLoc (d : Dev nD) : Loc nD τ sig := (SparseCore.T d : Thread nD τ).loc main_v23

/-- The contents of the call's arrays when it begins: scale, shift, tags, counts, row statistics, and the result's old contents. -/
structure Arr (F : FTy → Type) where
  g : Row F
  b : Row F
  t : Vec F S256x256 .i32
  c : Vec F S256x256 .f32
  s : Vec F S256x128 .f32
  y : Vec F S256x20096 .f32

/-- What the call writes. -/
def Arr.out (A : Arr F) : Vec F S256x20096 .f32 := yOf A.g A.b A.t A.c A.s

/-- The arrays at a share of the five read ones, and a set of the result's places. -/
def arrs (d : Dev nD) (q : PosShare TreeShare) (A : Arr F) (J : Finset S256x20096.Idx) (fY : Vec F S256x20096 .f32) : sProp 𝕄 :=
  iprop((gLoc d ↦[Finset.univ]{q} A.g) ∗ (bLoc d ↦[Finset.univ]{q} A.b) ∗ (tLoc d ↦[Finset.univ]{q} A.t) ∗ (cLoc d ↦[Finset.univ]{q} A.c)
    ∗ (sLoc d ↦[Finset.univ]{q} A.s) ∗ (yLoc d ↦[J]{fullShare} fY))

/-- The rows of core `c`: every second band of eight. -/
def coreSet (c : ℕ) : Finset S256x20096.Idx := Finset.univ.filter fun n => (n 0).val / 8 % 2 = c
/-- A band of eight rows. -/
def tileSet (r : ℕ) : Finset S256x20096.Idx := Finset.univ.filter fun n => r ≤ (n 0).val ∧ (n 0).val < r + 8

variable (A : Dev nD → Arr F)

/-- What the call's handshakes carry. -/
def P : (K (F := F)).Pay (nD := nD) (Val := Elt F) (Name := ℕ) (U := UU) where
  st := fun q d c => match q with
    | 0 => arrs d (Transfers.shareTokN fullShare c.val) (A d) (coreSet c.val) (A d).y
  dn := fun q d c => match q with
    | 0 => arrs d (Transfers.shareTokN fullShare c.val) (A d) (coreSet c.val) (A d).out
  go := fun q d c i => match q with
    | 0 => arrs d (Transfers.shareTokN (Transfers.shareTokN fullShare c.val) i.val) (A d) (tileSet (16 * i.val + 8 * c.val)) (A d).y
  td := fun q d c i => match q with
    | 0 => arrs d (Transfers.shareTokN (Transfers.shareTokN fullShare c.val) i.val) (A d) (tileSet (16 * i.val + 8 * c.val)) (A d).out
  x := fun _ _ => iprop(emp)

instance arrs_storable (d : Dev nD) (q : PosShare TreeShare) (B : Arr F) (J : Finset S256x20096.Idx) (fY : Vec F S256x20096 .f32) :
    BI.Storable (upEmb : UEmb _ 𝕄) (arrs d q B J fY) := by
  unfold arrs; infer_instance

instance P_storable : (P (F := F) A).IsStorable where
  st q d c := match q with | 0 => arrs_storable d _ (A d) _ _
  dn q d c := match q with | 0 => arrs_storable d _ (A d) _ _
  go q d c i := match q with | 0 => arrs_storable d _ (A d) _ _
  td q d c i := match q with | 0 => arrs_storable d _ (A d) _ _

/-! ## The tile's rows, one by one -/

theorem tile_rows (d : Dev nD) (r : ℕ) (f : Vec F S256x20096 .f32) :
    (yLoc d ↦[tileSet r]{fullShare} f : sProp 𝕄) = bigSep Finset.univ fun k : Fin 8 => yLoc d ↦[rowSet (r + k.val)]{fullShare} f := by
  rw [← pointsTo_biUnion Finset.univ (ℓ := yLoc d) (fun k : Fin 8 => rowSet (r + k.val))]
  · congr 1
    ext n
    unfold tileSet rowSet
    simp only [Finset.mem_filter, Finset.mem_univ, true_and, Finset.mem_biUnion]
    constructor
    · rintro ⟨h1, h2⟩
      exact ⟨⟨(n 0).val - r, by omega⟩, by show (n 0).val = r + ((n 0).val - r); omega⟩
    · rintro ⟨k, hk⟩
      have := k.isLt
      omega
  · intro k _ k' _ hne
    refine Finset.disjoint_left.mpr fun n h1 h2 => hne ?_
    have e1 := (Finset.mem_filter.mp h1).2
    have e2 := (Finset.mem_filter.mp h2).2
    exact Fin.ext (by omega)

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem arrs_tile (d : Dev nD) (c : Fin τ.nSC) (j : Fin τ.nSub) (q : PosShare TreeShare) (B : Arr F) (r : ℕ) (f : Vec F S256x20096 .f32) :
    arrs d q B (tileSet r) f = tileHas d c j q B.g B.b B.t B.c B.s r f := by
  unfold arrs tileHas
  rw [tile_rows, bigSep_eight]
  rfl

/-! ## The tile program -/

/-- The tile program at the scoped storage and debts that a thread has when a call begins. -/
theorem tile_body (i : grid1.Coords) (d : Dev nD) (q : PosShare TreeShare) (B : Arr F) (hB : ∀ x, (B.t x).toNat < 20000)
    (O : CellTallies nD τ sig (HIx 1)) (W : Waits sig (HIx 1)) (hO : ∀ g, O g none = 0) :
    iprop(levAts (K (F := F)).L (K (F := F)).lev ∗ emp
        ∗ arrs d q B (tileSet (16 * (i 1).val + 8 * (i 0).val)) B.y
        ∗ scopedBufs (V d (cI i) (jI i)) ∗ scopedSems0 (V d (cI i) (jI i)) ∗ owes (V d (cI i) (jI i)) O W)
      ⊢ wp frame (wpE (defs₀ (F := F)) 𝒱₀ (V d (cI i) (jI i)) none) Set.univ (chain i)
          fun _ => iprop(arrs d q B (tileSet (16 * (i 1).val + 8 * (i 0).val)) B.out
            ∗ scopedBufs (V d (cI i) (jI i)) ∗ scopedSems0 (V d (cI i) (jI i))
            ∗ ∃ W', ⌜∀ p ∈ W', p ∈ W ∨ p.2 = none⌝ ∗ owes (V d (cI i) (jI i)) O W') := by
  rw [(K (F := F)).scopedBufs_V facts d (cI i) (jI i), SparseCore.Cfg.scopedSems0_V (Val := Elt F) d (cI i) (jI i),
    arrs_tile d (cI i) (jI i), arrs_tile d (cI i) (jI i)]
  iintro ⟨#Hlv, -, Hr, Hb, Hs, HO⟩
  ihave Hmw := ((K (F := F)).mayWaits_none (thr := V d (cI i) (jI i)) hO) $$ Hlv
  iapply (wp_chain d i O W q B.g B.b B.t hB B.c B.s B.y)
  isplitl [Hmw]; · iexact Hmw
  isplitl [Hr]; · iexact Hr
  isplitl [Hb]; · iexact Hb
  isplitl [Hs]; · iexact Hs
  iexact HO

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          gH (Memref.isWhole_whole _) bH (Memref.isWhole_whole _) tH (Memref.isWhole_whole _) cH (Memref.isWhole_whole _)
          sH (Memref.isWhole_whole _) yH (Memref.isWhole_whole _) gW (Memref.isWhole_whole _) bW (Memref.isWhole_whole _)
          rowA (Memref.isWhole_whole _) rowB (Memref.isWhole_whole _) tW (Memref.isWhole_whole _) cW (Memref.isWhole_whole _) sW (Memref.isWhole_whole _)
          cc1_scratch7 cc1_scratch8 cc1_scoped0 cc1_scoped1 cc1_scoped2 cc1_scoped3 cc1_scoped4 cc1_scoped5 cc1_scoped6 cc1_scoped7 cc1_scoped8
          cc1_scoped9 cc1_scoped10 cc1_scoped11 cc1_scoped12 cc1_scoped13 cc1_scoped14 cc1_scoped15 cc1_scoped16 cc1_scoped17 cc1_scoped18 cc1_scoped19
          cc1_scoped20 cc1_scoped21 cc1_scoped22 cc1_scoped23 cc1_scoped24 cc1_scoped25) ⟨⟩ c s := rfl

theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'
  isplitr
  · ipureintro; exact fun p hp => (hW' p hp).imp_right Or.inl
  iexact HO

/-- Every tile runs its share of the call. -/
theorem tileObl (hA : ∀ d x, ((A d).t x).toNat < 20000) : (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  rw [body_eq (coordsV ⟨_, hc.1⟩ ⟨_, hc.2⟩)]
  exact (tile_body (coordsV ⟨_, hc.1⟩ ⟨_, hc.2⟩) d _ (A d) (hA d) O W hO).trans (wp_mono frame _ _ fun _ => obl_post)

/-! ## The split of a core's share to its tiles -/

theorem core_tiles (d : Dev nD) (c : Fin 2) (f : Vec F S256x20096 .f32) :
    (yLoc d ↦[coreSet c.val]{fullShare} f : sProp 𝕄)
      = bigSep Finset.univ fun i : Fin 16 => yLoc d ↦[tileSet (16 * i.val + 8 * c.val)]{fullShare} f := by
  rw [← pointsTo_biUnion Finset.univ (ℓ := yLoc d) (fun i : Fin 16 => tileSet (16 * i.val + 8 * c.val))]
  · congr 1
    ext n
    have hn : (n 0).val < 256 := (n 0).isLt
    have hc := c.isLt
    unfold tileSet coreSet
    simp only [Finset.mem_filter, Finset.mem_univ, true_and, Finset.mem_biUnion]
    constructor
    · intro h
      refine ⟨⟨(n 0).val / 16, by omega⟩, ?_⟩
      show 16 * ((n 0).val / 16) + 8 * c.val ≤ (n 0).val ∧ (n 0).val < 16 * ((n 0).val / 16) + 8 * c.val + 8
      omega
    · rintro ⟨k, hk⟩
      have := k.isLt
      omega
  · intro k _ k' _ hne
    refine Finset.disjoint_left.mpr fun n h1 h2 => hne ?_
    have e1 := (Finset.mem_filter.mp h1).2
    have e2 := (Finset.mem_filter.mp h2).2
    exact Fin.ext (by omega)

theorem cores_cover : (Finset.univ : Finset (Fin 2)).biUnion (fun c => coreSet c.val) = (Finset.univ : Finset S256x20096.Idx) := by
  refine Finset.eq_univ_iff_forall.mpr fun n => ?_
  refine Finset.mem_biUnion.mpr ⟨⟨(n 0).val / 8 % 2, Nat.mod_lt _ (by decide)⟩, Finset.mem_univ _, ?_⟩
  unfold coreSet
  exact Finset.mem_filter.mpr ⟨Finset.mem_univ n, Eq.refl _⟩

theorem cores_disjoint : ∀ k ∈ (Finset.univ : Finset (Fin 2)), ∀ k' ∈ (Finset.univ : Finset (Fin 2)), k ≠ k' → Disjoint (coreSet k.val) (coreSet k'.val) := by
  intro k _ k' _ hne
  refine Finset.disjoint_left.mpr fun n h1 h2 => hne ?_
  have e1 := (Finset.mem_filter.mp h1).2
  have e2 := (Finset.mem_filter.mp h2).2
  exact Fin.ext (by omega)

theorem all_cores (d : Dev nD) (f : Vec F S256x20096 .f32) :
    (yLoc d ↦[(Finset.univ : Finset S256x20096.Idx)]{fullShare} f : sProp 𝕄)
      = bigSep Finset.univ fun c : Fin 2 => yLoc d ↦[coreSet c.val]{fullShare} f := by
  rw [← pointsTo_biUnion Finset.univ (ℓ := yLoc d) (fun c : Fin 2 => coreSet c.val) cores_disjoint, cores_cover]

/-- A share of the arrays is dealt into `n` read shares, given sets of the result that make up the whole set; and is
    joined again, whatever was written to the result. -/
theorem deal (d : Dev nD) (q : PosShare TreeShare) (B : Arr F) (n : ℕ) (J : Finset S256x20096.Idx) (Jn : Fin n → Finset S256x20096.Idx) (f f' : Vec F S256x20096 .f32)
    (hJ : ∀ f : Vec F S256x20096 .f32, (yLoc d ↦[J]{fullShare} f : sProp 𝕄) = bigSep Finset.univ fun i : Fin n => yLoc d ↦[Jn i]{fullShare} f) :
    arrs d q B J f ⊢ iprop((bigSep Finset.univ fun i : Fin n => arrs d (Transfers.shareTokN q i.val) B (Jn i) f)
      ∗ ((bigSep Finset.univ fun i : Fin n => arrs d (Transfers.shareTokN q i.val) B (Jn i) f') -∗ arrs d q B J f') : sProp 𝕄) := by
  unfold arrs
  rw [hJ f, hJ f']
  simp only [bigSep_sep']
  iintro ⟨Hg, Hb, Ht, Hc, Hs, Hy⟩
  ihave Hg := (Transfers.pointsTo_toks_split q n) $$ Hg
  icases Hg with ⟨Hg₀, Hg⟩
  ihave Hb := (Transfers.pointsTo_toks_split q n) $$ Hb
  icases Hb with ⟨Hb₀, Hb⟩
  ihave Ht := (Transfers.pointsTo_toks_split q n) $$ Ht
  icases Ht with ⟨Ht₀, Ht⟩
  ihave Hc := (Transfers.pointsTo_toks_split q n) $$ Hc
  icases Hc with ⟨Hc₀, Hc⟩
  ihave Hs := (Transfers.pointsTo_toks_split q n) $$ Hs
  icases Hs with ⟨Hs₀, Hs⟩
  isplitl [Hg Hb Ht Hc Hs Hy]
  · isplitl [Hg]; · iexact Hg
    isplitl [Hb]; · iexact Hb
    isplitl [Ht]; · iexact Ht
    isplitl [Hc]; · iexact Hc
    isplitl [Hs]; · iexact Hs
    iexact Hy
  iintro ⟨Hg, Hb, Ht, Hc, Hs, Hy⟩
  isplitl [Hg₀ Hg]
  · iapply (Transfers.pointsTo_toks_join q n)
    isplitl [Hg₀]; · iexact Hg₀
    iexact Hg
  isplitl [Hb₀ Hb]
  · iapply (Transfers.pointsTo_toks_join q n)
    isplitl [Hb₀]; · iexact Hb₀
    iexact Hb
  isplitl [Ht₀ Ht]
  · iapply (Transfers.pointsTo_toks_join q n)
    isplitl [Ht₀]; · iexact Ht₀
    iexact Ht
  isplitl [Hc₀ Hc]
  · iapply (Transfers.pointsTo_toks_join q n)
    isplitl [Hc₀]; · iexact Hc₀
    iexact Hc
  isplitl [Hs₀ Hs]
  · iapply (Transfers.pointsTo_toks_join q n)
    isplitl [Hs₀]; · iexact Hs₀
    iexact Hs
  iexact Hy

theorem vecSplit : (K (F := F)).VecSplit' (P A) 0 := by
  intro d c
  refine (deal d (Transfers.shareTokN fullShare c.val) (A d) 16 (coreSet c.val) (fun i => tileSet (16 * i.val + 8 * c.val)) (A d).y (A d).out
    (fun f => core_tiles d ⟨c.val, c.isLt⟩ f)).trans ?_
  iintro H
  imodintro
  iexact H

/-- What the call needs of the TensorCore's arrays, and what it gives back. -/
theorem callSplit (d : Dev nD) :
    arrs d fullShare (A d) Finset.univ (A d).y
      ⊢ iprop((bigSep Finset.univ fun c : Fin ((K (F := F)).nCore 0) => (P A).st 0 d c)
        ∗ ((bigSep Finset.univ fun c : Fin ((K (F := F)).nCore 0) => (P A).dn 0 d c) -∗ arrs d fullShare (A d) Finset.univ (A d).out)) :=
  deal d fullShare (A d) 2 Finset.univ (fun c => coreSet c.val) (A d).y (A d).out (fun f => all_cores d f)

end Cert.Proof.Fm
-- ==== Proof.TcWp.lean ====
/-
  Loads and stores of a TensorCore kernel body over what its memrefs read, and the bodies of the two dense kernels and of the
  LayerNorm kernel: what each leaves in its outputs, as a function of what it finds in its inputs.
-/
module

public import proofs.«01_k».proof.Proof.Base
public import proofs.«01_k».proof.Proof.Gen.KernelIdeal.Skeleton
public import Idealize.ShloMosaic.Lib.Pipeline.Value
public import Idealize.ShloMosaic.Lib.Memref

@[expose] public section

noncomputable section

namespace Cert.Proof.Fm

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The weakest precondition of a TensorCore's program. -/
abbrev WPtc (d : Dev nD) {α : Type} (p : Prog (TpuEff nD τ sig (Elt F) Λ₀ .tc) α) (Q : α → sProp 𝕄) : sProp 𝕄 :=
  wp frame (wpE (defs₀ (F := F)) 𝒱₀ (d.tc : Thread nD τ) none) Set.univ p Q

/-- The memref `m` of the TensorCore, held outright, reads `X`. -/
abbrev has (d : Dev nD) {sp : Space} {s : Shape} {e : EltTy} (m : Memref sig .tc sp s e) (X : s.Idx → Elt F e) : sProp 𝕄 :=
  owns (d.tc : Thread nD τ) m fullShare X

variable {d : Dev nD}

theorem access_sub_tc {sp : Space} {s : Shape} {e : EltTy} (m : Memref sig .tc sp s e) (r : Rect s) : (m.access r).set ⊆ m.view.set :=
  (View.setOn_univ (m.access r)).symm ▸ Memref.setOn_access_subset m r Finset.univ

/-- A load through a rectangle reads the rectangle of what the memref reads. -/
theorem wp_ldR {cs : CoreSpace} {s : Shape} {e : EltTy} {α : Type} (m : Memref sig .tc cs s e) (X : s.Idx → Elt F e) (r : Rect s)
    (hl : m.view.LoadsAt r.toLoadRect) (k : (r.shape.Idx → Elt F e) → Prog (TpuEff nD τ sig (Elt F) Λ₀ .tc) α) (Q : α → sProp 𝕄) :
    has d m X ⊢ iprop((has d m X -∗ WPtc d (k (View.ld X r)) Q) -∗ WPtc d (.op (.load m r.toLoadRect hl) k) Q) := by
  unfold has owns WPtc
  iintro ⟨%f, %hf, H⟩ Hk
  iapply (wp_load_rect 𝒱₀ (d.tc : Thread nD τ) none Set.univ (r := r) (access_sub_tc m _)) $$ H
  iintro H
  subst hf
  iapply Hk
  iexists f
  isplitr
  · ipureintro; rfl
  iexact H

/-- A load of the whole memref reads what the memref reads. -/
theorem wp_ldW {cs : CoreSpace} {s : Shape} {e : EltTy} {α : Type} (m : Memref sig .tc cs s e) (X : s.Idx → Elt F e) {o : Fin s.rank → ℕ}
    (ho : ∀ a, o a + s.size a ≤ s.size a) (hz : o = fun _ => 0)
    (hl : m.view.LoadsAt (Rect.unit (s := s) o s.size ho).toLoadRect) (k : (s.Idx → Elt F e) → Prog (TpuEff nD τ sig (Elt F) Λ₀ .tc) α) (Q : α → sProp 𝕄) :
    has d m X ⊢ iprop((has d m X -∗ WPtc d (k X) Q) -∗ WPtc d (.op (.load m (Rect.unit (s := s) o s.size ho).toLoadRect hl) k) Q) := by
  have h := wp_ldR (d := d) m X (Rect.unit (s := s) o s.size ho) hl k Q
  have e : View.ld X (Rect.unit (s := s) o s.size ho) = X := View.ld_unit_zero hz ho X
  rw [e] at h
  exact h

/-- A store of the whole memref leaves it reading what was stored. -/
theorem wp_stW {cs : CoreSpace} {s : Shape} {e : EltTy} {α : Type} (m : Memref sig .tc cs s e) (X : s.Idx → Elt F e) {o : Fin s.rank → ℕ}
    (ho : ∀ a, o a + s.size a ≤ s.size a) (hz : o = fun _ => 0) (w : s.Idx → Elt F e)
    (hx : (m.access (Rect.unit (s := s) o s.size ho)).Stores Finset.univ)
    (hm : (Finset.univ : Finset (Rect.unit (s := s) o s.size ho).shape.Idx) = Finset.univ ∨ ∀ a, (Rect.unit (s := s) o s.size ho).stride a = 1)
    (k : PUnit → Prog (TpuEff nD τ sig (Elt F) Λ₀ .tc) α) (Q : α → sProp 𝕄) :
    has d m X ⊢ iprop((has d m w -∗ WPtc d (k ⟨⟩) Q) -∗ WPtc d (.op (.store m (Rect.unit (s := s) o s.size ho) w Finset.univ hx hm) k) Q) := by
  unfold has owns WPtc
  iintro ⟨%f, %hf, H⟩ Hk
  iapply (wp_store 𝒱₀ (d.tc : Thread nD τ) none Set.univ (m := m) (r := Rect.unit (s := s) o s.size ho) (Memref.setOn_access_subset m _ _)) $$ H
  iintro H
  iapply Hk
  iexists ((m.access (Rect.unit (s := s) o s.size ho)).write (Elt F) f w Finset.univ)
  isplitr
  · ipureintro
    funext y
    have h := View.read_slice_write_emb (v := m.view) (Val := Elt F) (Rect.unit (s := s) o s.size ho) f w (M := Finset.univ) (x := y) (Finset.mem_univ _)
    have ey : (Rect.unit (s := s) o s.size ho).emb y = y := by subst hz; exact Rect.emb_whole_apply _ _
    rw [ey] at h
    exact h
  iexact H

theorem z2 : (![0, 0] : Fin 2 → ℕ) = fun _ => 0 := funext fun a => by fin_cases a <;> rfl

/-! ## The first dense kernel -/

/-- What the first dense kernel computes of one block of the weights. -/
def mm1Of (Y : Vec F S256x20096 .f32) (W : Vec F S20001x128 .f32) (b : Vec F S1x128 .f32) : Vec F S256x128 .f32 :=
  k2_pay1 (View.ld Y (Rect.unit (s := S256x20096) ![0, 0] S256x20001.size inb_S256x20096_S256x20001_0_0)) W b

theorem wp_mm1 (i : grid2.Coords) (a1 : Memref sig .tc .vmem S256x20096 .f32) (h1 : a1.IsWhole) (a2 : Memref sig .tc .vmem S20001x128 .f32) (h2 : a2.IsWhole)
    (a3 : Memref sig .tc .vmem S1x128 .f32) (h3 : a3.IsWhole) (a4 : Memref sig .tc .vmem S256x128 .f32) (h4 : a4.IsWhole)
    (Y : Vec F S256x20096 .f32) (W : Vec F S20001x128 .f32) (b : Vec F S1x128 .f32) (Z : Vec F S256x128 .f32) (Q : PUnit → sProp 𝕄) :
    iprop(has d a1 Y ∗ has d a2 W ∗ has d a3 b ∗ has d a4 Z ∗ ((has d a1 Y ∗ has d a2 W ∗ has d a3 b ∗ has d a4 (mm1Of Y W b)) -∗ Q ⟨⟩))
      ⊢ WPtc d (cc2__mm1_body i a1 h1 a2 h2 a3 h3 a4 h4) Q := by
  rw [cc2__mm1_body_eq_skeleton]; unfold cc2__mm1_body_skel
  simp only [Prog.lift, Prog.bind_op, Prog.bind_ret]
  iintro ⟨H1, H2, H3, H4, Hk⟩
  iapply (wp_ldR a1 Y _ _ _ _) $$ H1
  iintro H1
  iapply (wp_ldW a2 W _ z2 _ _ _) $$ H2
  iintro H2
  iapply (wp_ldW a3 b _ z2 _ _ _) $$ H3
  iintro H3
  iapply (wp_ldW a4 Z _ z2 _ _ _) $$ H4
  iintro H4
  iapply (wp_stW a4 Z _ z2 _ _ _ _ _) $$ H4
  iintro H4
  unfold WPtc
  rw [show (pure ⟨⟩ : Prog (TpuEff nD τ sig (Elt F) Λ₀ .tc) PUnit) = .ret ⟨⟩ from rfl, wp_ret]
  imodintro
  iapply Hk
  isplitl [H1]; · iexact H1
  isplitl [H2]; · iexact H2
  isplitl [H3]; · iexact H3
  iexact H4

/-! ## The LayerNorm kernel -/

/-- The LayerNorm kernel's first result: the encoding. -/
def encOf (H : Vec F S256x1024 .f32) (g b : Vec F S1x1024 .f32) (W2 : Vec F S1024x1024 .f32) (b2 : Vec F S1x1024 .f32) (W3 : Vec F S1024x256 .f32)
    (b3 : Vec F S1x256 .f32) : Vec F S256x256 .f32 := k3_pay1 (k3_pay3 H g b W2 b2) W3 b3

/-- The LayerNorm kernel's second result: the decoder's hidden layer. -/
def d4Of (H : Vec F S256x1024 .f32) (g b : Vec F S1x1024 .f32) (W2 : Vec F S1024x1024 .f32) (b2 : Vec F S1x1024 .f32) (W3 : Vec F S1024x256 .f32)
    (b3 : Vec F S1x256 .f32) (W4 : Vec F S256x1024 .f32) (b4 : Vec F S1x1024 .f32) : Vec F S256x1024 .f32 := k3_pay2 (k3_pay3 H g b W2 b2) W3 b3 W4 b4

theorem wp_mid (a0 : Memref sig .tc .vmem S256x1024 .f32) (h0 : a0.IsWhole) (a1 : Memref sig .tc .vmem S1x1024 .f32) (h1 : a1.IsWhole) (a2 : Memref sig .tc .vmem S1x1024 .f32) (h2 : a2.IsWhole) (a3 : Memref sig .tc .vmem S1024x1024 .f32) (h3 : a3.IsWhole) (a4 : Memref sig .tc .vmem S1x1024 .f32) (h4 : a4.IsWhole) (a5 : Memref sig .tc .vmem S1024x256 .f32) (h5 : a5.IsWhole) (a6 : Memref sig .tc .vmem S1x256 .f32) (h6 : a6.IsWhole) (a7 : Memref sig .tc .vmem S256x1024 .f32) (h7 : a7.IsWhole) (a8 : Memref sig .tc .vmem S1x1024 .f32) (h8 : a8.IsWhole) (a9 : Memref sig .tc .vmem S256x256 .f32) (h9 : a9.IsWhole) (a10 : Memref sig .tc .vmem S256x1024 .f32) (h10 : a10.IsWhole)
    (H : Vec F S256x1024 .f32) (g : Vec F S1x1024 .f32) (b : Vec F S1x1024 .f32) (W2 : Vec F S1024x1024 .f32) (b2 : Vec F S1x1024 .f32) (W3 : Vec F S1024x256 .f32) (b3 : Vec F S1x256 .f32) (W4 : Vec F S256x1024 .f32) (b4 : Vec F S1x1024 .f32) (E : Vec F S256x256 .f32) (D : Vec F S256x1024 .f32) (Q : PUnit → sProp 𝕄) :
    iprop(has d a0 H ∗ has d a1 g ∗ has d a2 b ∗ has d a3 W2 ∗ has d a4 b2 ∗ has d a5 W3 ∗ has d a6 b3 ∗ has d a7 W4 ∗ has d a8 b4 ∗ has d a9 E ∗ has d a10 D ∗ ((has d a0 H ∗ has d a1 g ∗ has d a2 b ∗ has d a3 W2 ∗ has d a4 b2 ∗ has d a5 W3 ∗ has d a6 b3 ∗ has d a7 W4 ∗ has d a8 b4 ∗ has d a9 (encOf H g b W2 b2 W3 b3) ∗ has d a10 (d4Of H g b W2 b2 W3 b3 W4 b4)) -∗ Q ⟨⟩))
      ⊢ WPtc d (cc3__mid_body a0 h0 a1 h1 a2 h2 a3 h3 a4 h4 a5 h5 a6 h6 a7 h7 a8 h8 a9 h9 a10 h10) Q := by
  rw [cc3__mid_body_eq_skeleton]; unfold cc3__mid_body_skel
  rw [k3_part1_eq_skeleton]; unfold k3_part1_skel
  simp only [Prog.lift, Prog.bind_op, Prog.bind_ret, pure_bind]
  iintro ⟨H0, H1, H2, H3, H4, H5, H6, H7, H8, H9, H10, Hk⟩
  iapply (wp_ldW a0 H _ z2 _ _ _) $$ H0
  iintro H0
  iapply (wp_ldW a1 g _ z2 _ _ _) $$ H1
  iintro H1
  iapply (wp_ldW a2 b _ z2 _ _ _) $$ H2
  iintro H2
  iapply (wp_ldW a3 W2 _ z2 _ _ _) $$ H3
  iintro H3
  iapply (wp_ldW a4 b2 _ z2 _ _ _) $$ H4
  iintro H4
  iapply (wp_ldW a5 W3 _ z2 _ _ _) $$ H5
  iintro H5
  iapply (wp_ldW a6 b3 _ z2 _ _ _) $$ H6
  iintro H6
  iapply (wp_ldW a9 E _ z2 _ _ _) $$ H9
  iintro H9
  iapply (wp_stW a9 E _ z2 _ _ _ _ _) $$ H9
  iintro H9
  iapply (wp_ldW a7 W4 _ z2 _ _ _) $$ H7
  iintro H7
  iapply (wp_ldW a8 b4 _ z2 _ _ _) $$ H8
  iintro H8
  iapply (wp_ldW a10 D _ z2 _ _ _) $$ H10
  iintro H10
  iapply (wp_stW a10 D _ z2 _ _ _ _ _) $$ H10
  iintro H10
  unfold WPtc
  rw [show (pure ⟨⟩ : Prog (TpuEff nD τ sig (Elt F) Λ₀ .tc) PUnit) = .ret ⟨⟩ from rfl, wp_ret]
  imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The last dense kernel -/

theorem k4_pay2_eq (Y : Vec F S256x2048 .f32) : k4_pay2 Y = Y := by
  unfold k4_pay2
  exact shapeCast_self _ _

theorem wp_mm5 (i : grid4.Coords) (a0 : Memref sig .tc .vmem S256x1024 .f32) (h0 : a0.IsWhole) (a1 : Memref sig .tc .vmem S1024x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole)
    (X : Vec F S256x1024 .f32) (W : Vec F S1024x2048 .f32) (b : Vec F S1x2048 .f32) (Y : Vec F S256x2048 .f32) (D : Vec F S256x2048 .f32) (Z : Vec F S256x2048 .f32) (Q : PUnit → sProp 𝕄) :
    iprop(has d a0 X ∗ has d a1 W ∗ has d a2 b ∗ has d a3 Y ∗ has d a4 D ∗ has d a5 Z ∗ ((has d a0 X ∗ has d a1 W ∗ has d a2 b ∗ has d a3 Y ∗ has d a4 (k4_pay1 X W b) ∗ has d a5 Y) -∗ Q ⟨⟩))
      ⊢ WPtc d (cc4__mm5_body i a0 h0 a1 h1 a2 h2 a3 h3 a4 h4 a5 h5) Q := by
  rw [cc4__mm5_body_eq_skeleton]; unfold cc4__mm5_body_skel
  simp only [Prog.lift, Prog.bind_op, Prog.bind_ret]
  iintro ⟨H0, H1, H2, H3, H4, H5, Hk⟩
  iapply (wp_ldW a0 X _ z2 _ _ _) $$ H0
  iintro H0
  iapply (wp_ldW a1 W _ z2 _ _ _) $$ H1
  iintro H1
  iapply (wp_ldW a2 b _ z2 _ _ _) $$ H2
  iintro H2
  iapply (wp_ldW a4 D _ z2 _ _ _) $$ H4
  iintro H4
  iapply (wp_stW a4 D _ z2 _ _ _ _ _) $$ H4
  iintro H4
  iapply (wp_ldW a3 Y _ z2 _ _ _) $$ H3
  iintro H3
  iapply (wp_ldW a5 Z _ z2 _ _ _) $$ H5
  iintro H5
  iapply (wp_stW a5 Z _ z2 _ _ _ _ _) $$ H5
  iintro H5
  rw [k4_pay2_eq]
  unfold WPtc
  rw [show (pure ⟨⟩ : Prog (TpuEff nD τ sig (Elt F) Λ₀ .tc) PUnit) = .ret ⟨⟩ from rfl, wp_ret]
  imodintro
  iapply Hk
  isplitl [H0]; · iexact H0
  isplitl [H1]; · iexact H1
  isplitl [H2]; · iexact H2
  isplitl [H3]; · iexact H3
  isplitl [H4]; · iexact H4
  iexact H5

end Cert.Proof.Fm
-- ==== Proof.Stats.lean ====
/-
  The body of the statistics kernel: of the tags, transposed, it leaves the count array and the rows of mean and scale.
-/
module

public import proofs.«01_k».proof.Proof.TcWp
public import Idealize.ShloMosaic.Lib.Scf

@[expose] public section

noncomputable section

namespace Cert.Proof.Fm

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable {d : Dev nD}

/-! ## The values between the kernel's parts, of the tags `X` -/

def st_v1 (X : Vec F S160x256 .i32) : IVec S160x256 32 := k0_pay2 X
def st_v35 (X : Vec F S160x256 .i32) : FVec F S160x256 .f32 := k0_pay3 (F := F) X
def st_v42 (X : Vec F S160x256 .i32) : FVec F S160x256 .f32 := k0_pay4 (F := F) X
def st_v44 : IVec S160 32 := k0_pay5
def st_v68 (X : Vec F S160x256 .i32) : FVec F S160x256 .f32 := k0_pay6 (F := F) (st_v35 X) (st_v42 X) st_v44 (20#32) (Scalar.cmpi .eq 20#32 0#32)
def st_v75 (X : Vec F S160x256 .i32) : FVec F S160x256 .f32 := k0_pay7 (F := F) (st_v1 X)
def st_v93 : IVec S160 32 := k0_pay8
def st_v134 (X : Vec F S160x256 .i32) : FVec F S160x256 .f32 := k0_pay9 (F := F) (st_v1 X) (st_v68 X) (st_v75 X) st_v93
def st_v141 (X : Vec F S160x256 .i32) : FVec F S160x256 .f32 := k0_pay10 (F := F) (st_v1 X)
def st_v143 : IVec S160 32 := k0_pay11
def st_v167 (X : Vec F S160x256 .i32) : FVec F S160x256 .f32 := k0_pay12 (F := F) (st_v134 X) (st_v141 X) st_v143
def st_v174 (X : Vec F S160x256 .i32) : FVec F S160x256 .f32 := k0_pay13 (F := F) (st_v1 X)
def st_v180 : IVec S160 32 := k0_pay14
def st_v189 : IVec S160 1 := k0_pay15
def st_v233 (X : Vec F S160x256 .i32) : FVec F S160x256 .f32 := k0_pay16 (F := F) (st_v1 X) (st_v167 X) (st_v174 X) (Scalar.select (Scalar.cmpi .eq 20#32 0#32) 1#32 20#32) st_v180 st_v189
def st_v238 (X : Vec F S160x256 .i32) : FVec F S152x256 .f32 := k0_pay17 (F := F) (st_v1 X)
def st_v239 : FVec F S8x256 .f32 := k0_pay18 (F := F)
def st_v266 (X : Vec F S160x256 .i32) : FVec F S160x256 .f32 := k0_pay19 (F := F) (st_v233 X) (st_v238 X) (st_v239 (F := F))
def st_v273 (X : Vec F S160x256 .i32) : FVec F S160x256 .f32 := k0_pay20 (F := F) (st_v1 X)
def st_v279 : IVec S160 32 := k0_pay21
def st_v281 : IVec S160 1 := k0_pay22
def st_v283 : IVec S160 1 := k0_pay23
def st_v285 : IVec S160 1 := k0_pay24
def st_v332 (X : Vec F S160x256 .i32) : FVec F S160x256 .f32 := k0_pay25 (F := F) (st_v1 X) (st_v266 X) (st_v273 X) (Scalar.select (Scalar.cmpi .eq 20#32 0#32) 1#32 20#32) st_v279 st_v281 st_v283 st_v285
def st_v336 (X : Vec F S160x256 .i32) : IVec S149x256 32 := k0_pay26 (st_v1 X)
def st_v365 (X : Vec F S160x256 .i32) : FVec F S160x256 .f32 := k0_pay27 (F := F) (st_v332 X) (st_v336 X)
def st_v372 (X : Vec F S160x256 .i32) : FVec F S160x256 .f32 := k0_pay28 (F := F) (st_v1 X)
def st_v378 : IVec S160 32 := k0_pay29
def st_v380 : IVec S160 1 := k0_pay30
def st_v382 : IVec S160 1 := k0_pay31
def st_v431 (X : Vec F S160x256 .i32) : FVec F S160x256 .f32 := k0_pay32 (F := F) (st_v1 X) (st_v365 X) (st_v372 X) (Scalar.select (Scalar.cmpi .eq 20#32 0#32) 1#32 20#32) st_v378 st_v380 st_v382
def st_v432 (X : Vec F S160x256 .i32) : IVec S146x256 32 := k0_pay33 (st_v1 X)
def st_v464 (X : Vec F S160x256 .i32) : FVec F S160x256 .f32 := k0_pay34 (F := F) (st_v1 X) (st_v431 X) (st_v432 X)
def st_v471 (X : Vec F S160x256 .i32) : FVec F S160x256 .f32 := k0_pay35 (F := F) (st_v1 X)
def st_v477 : IVec S160 32 := k0_pay36
def st_v479 : IVec S160 1 := k0_pay37
def st_v497 (X : Vec F S160x256 .i32) : FVec F S160x256 .f32 := k0_pay38 (F := F) (st_v464 X) (st_v471 X) (Scalar.select (Scalar.cmpi .eq 20#32 0#32) 1#32 20#32) st_v477 st_v479
def st_v504 (X : Vec F S160x256 .i32) : FVec F S160x256 .f32 := k0_pay39 (F := F) (st_v1 X)
def st_v528 : FVec F S160x256 .f32 := k0_pay40 (F := F)
def st_v563 (X : Vec F S160x256 .i32) : FVec F S160x256 .f32 := k0_pay41 (F := F) (st_v1 X) (st_v497 X) (st_v504 X) (st_v528 (F := F))
def st_v570 (X : Vec F S160x256 .i32) : FVec F S160x256 .f32 := k0_pay42 (F := F) (st_v1 X)
def st_v576 : IVec S160 32 := k0_pay43
def st_v596 (X : Vec F S160x256 .i32) : FVec F S160x256 .f32 := k0_pay44 (F := F) (st_v563 X) (st_v570 X) (Scalar.select (Scalar.cmpi .eq 20#32 0#32) 1#32 20#32) st_v576
def st_v603 (X : Vec F S160x256 .i32) : FVec F S160x256 .f32 := k0_pay45 (F := F) (st_v1 X)
def st_v624 : IVec S160 32 := k0_pay46

/-! ## What the kernel leaves -/

/-- The weights: 1 at a token that repeats no earlier tag of its row, 0 elsewhere. -/
def wOf (X : Vec F S160x256 .i32) : FVec F S160x256 .f32 := k0_pay48 (st_v596 X) (st_v603 X) st_v624

/-- One trip of the count loop. -/
def cStep (X : Vec F S160x256 .i32) (k : Fin k0_t1_loop.trips) (acc : FVec F S160x256 .f32) : FVec F S160x256 .f32 :=
  k0_pay50 (st_v1 X) acc (View.ld X (Rect.unit (s := S160x256) (k0_off1 k) S1x256.size (k0_off1_inb k)))
    (View.ld (wOf X) (Rect.unit (s := S160x256) (k0_off1 k) S1x256.size (k0_off1_inb k)))

/-- The counts after `n` trips. -/
def cRec (X : Vec F S160x256 .i32) : ℕ → FVec F S160x256 .f32
  | 0 => k0_pay49 (F := F)
  | n + 1 => if h : n < k0_t1_loop.trips then cStep X ⟨n, h⟩ (cRec X n) else cRec X n

/-- The counts. -/
def cOf (X : Vec F S160x256 .i32) : FVec F S160x256 .f32 := cRec X k0_t1_loop.trips

/-- The rows of mean and scale, and six rows of zeros. -/
def msOf (X : Vec F S160x256 .i32) : FVec F S8x256 .f32 :=
  k0_pay1 (k0_pay51 (st_v596 X) (st_v603 X) st_v624) (k0_pay52 (st_v596 X) (st_v603 X) st_v624 (cOf X)) (k0_pay53 (F := F))

theorem cRec_succ (X : Vec F S160x256 .i32) (k : Fin k0_t1_loop.trips) : cRec X (k.val + 1) = cStep X k (cRec X k.val) := by
  rw [cRec, dif_pos k.isLt]

/-- One trip of the count loop, run. -/
theorem wp_cTrip (a0 : Memref sig .tc .vmem S160x256 .i32) (h0 : a0.IsWhole) (a1 : Memref sig .tc .vmem S160x256 .f32) (h1 : a1.IsWhole)
    (a2 : Memref sig .tc .vmem S8x256 .f32) (h2 : a2.IsWhole) (a3 : Memref sig .tc .vmem S160x256 .f32) (h3 : a3.IsWhole)
    (X : Vec F S160x256 .i32) (k : Fin k0_t1_loop.trips) (acc : FVec F S160x256 .f32) :
    iprop(⌜acc = cRec X k.val⌝ ∗ has d a0 X ∗ has d a3 (wOf X))
      ⊢ WPtc d (k0_t1_body a0 h0 a1 h1 a2 h2 a3 h3 (st_v1 X) k acc) fun acc' => iprop(⌜acc' = cRec X (k.val + 1)⌝ ∗ has d a0 X ∗ has d a3 (wOf X)) := by
  unfold k0_t1_body
  simp only [Prog.lift, Prog.bind_op, Prog.bind_ret]
  iintro ⟨%hacc, H0, H3⟩
  iapply (wp_ldR a0 X _ _ _ _) $$ H0
  iintro H0
  iapply (wp_ldR a3 (wOf X) _ _ _ _) $$ H3
  iintro H3
  unfold WPtc
  rw [Prog.pure_eq_ret, wp_ret]
  imodintro
  isplitr
  · ipureintro
    rw [cRec_succ, ← hacc]; rfl
  isplitl [H0]; · iexact H0
  iexact H3

set_option maxRecDepth 65536 in
theorem wp_stats (a0 : Memref sig .tc .vmem S160x256 .i32) (h0 : a0.IsWhole) (a1 : Memref sig .tc .vmem S160x256 .f32) (h1 : a1.IsWhole)
    (a2 : Memref sig .tc .vmem S8x256 .f32) (h2 : a2.IsWhole) (a3 : Memref sig .tc .vmem S160x256 .f32) (h3 : a3.IsWhole)
    (X : Vec F S160x256 .i32) (C : Vec F S160x256 .f32) (M : Vec F S8x256 .f32) (W : Vec F S160x256 .f32) (Q : PUnit → sProp 𝕄) :
    iprop(has d a0 X ∗ has d a1 C ∗ has d a2 M ∗ has d a3 W
        ∗ ((has d a0 X ∗ has d a1 (cOf X) ∗ has d a2 (msOf X) ∗ has d a3 (wOf X)) -∗ Q ⟨⟩))
      ⊢ WPtc d (cc0__stats_body a0 h0 a1 h1 a2 h2 a3 h3) Q := by
  rw [cc0__stats_body_eq_skeleton]; unfold cc0__stats_body_skel
  rw [k0_part14_eq_skeleton]; unfold k0_part14_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton]
  unfold k0_part1_skel k0_part2_skel k0_part3_skel k0_part4_skel k0_part5_skel k0_part6_skel k0_part7_skel k0_part8_skel k0_part9_skel
    k0_part10_skel k0_part11_skel k0_part12_skel k0_part13_skel
  simp only [Prog.lift, Prog.bind_op, Prog.bind_ret, Prog.pure_eq_ret, Prog.bind_assoc]
  iintro ⟨H0, H1, H2, H3, Hk⟩
  iapply (wp_ldW a0 X _ z2 _ _ _) $$ H0
  iintro H0
  iapply (wp_ldW a3 W _ z2 _ _ _) $$ H3
  iintro H3
  iapply (wp_stW a3 W _ z2 (wOf X) _ _ _ _) $$ H3
  iintro H3
  iapply (Scf.wp_for_bind frame (wpE (defs₀ (F := F)) 𝒱₀ (d.tc : Thread nD τ) none) Set.univ _ _ _ k0_t1_ok (k0_pay49 (F := F))
    (k0_t1_body a0 h0 a1 h1 a2 h2 a3 h3 (st_v1 X)) (fun n acc => iprop(⌜acc = cRec X n⌝ ∗ has d a0 X ∗ has d a3 (wOf X)))
    (fun k acc => wp_cTrip a0 h0 a1 h1 a2 h2 a3 h3 X k acc)) $$ [H0 H3]
  · isplitr; · ipureintro; rfl
    isplitl [H0]; · iexact H0
    iexact H3
  iintro %acc ⟨%hacc, H0, H3⟩
  subst hacc
  iapply (wp_ldW a1 C _ z2 _ _ _) $$ H1
  iintro H1
  iapply (wp_stW a1 C _ z2 (cOf X) _ _ _ _) $$ H1
  iintro H1
  iapply (wp_ldW a2 M _ z2 _ _ _) $$ H2
  iintro H2
  iapply (wp_stW a2 M _ z2 (msOf X) _ _ _ _) $$ H2
  iintro H2
  unfold WPtc
  rw [wp_ret]
  imodintro
  iapply Hk
  isplitl [H0]; · iexact H0
  isplitl [H1]; · iexact H1
  isplitl [H2]; · iexact H2
  iexact H3

end Cert.Proof.Fm
-- ==== Proof.StatsDat.lean ====
/-
  The statistics kernel's pipeline: its proof data over a valuation of the arrays it is entered with, and its body's obligation.
-/
module

public import proofs.«01_k».proof.Proof.TcWp
public import proofs.«01_k».proof.Proof.Stats
public import proofs.«01_k».proof.Proof.Region
public import proofs.«01_k».proof.Proof.Gen.KernelIdeal.Points

@[expose] public section

noncomputable section

namespace Cert.Proof.Fm

open Cert.KernelIdeal Cert.KernelIdeal.Gen

open Idealize.ShloMosaic
open Idealize.ShloMosaic.SparseCore.Cfg (HIx Pay)
open Idealize.ShloMosaic.Pipeline (arrRef arrRefs ucRefs RDat Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (V : Valuation τ sig (Elt F)) (O : CellTallies nD τ sig (HIx 1)) (n : ℕ) (c : Dev nD)

/-- Window `w`'s block at the one point. -/
def blk0 (w : Fin cfg0.W) (t : Fin cfg0.N) : ((cfg0.win w).xblock (cfg0.grid.coords t)).Idx → Elt F (cfg0.win w).elt :=
  ((cfg0.win w).blk t).view.read (Elt F) (V (Proc.devRef .tc (arrRef cfg0.spec w)))

def in0_0 (t : Fin cfg0.N) : Vec F S160x256 .i32 := blk0 V 0 t

/-- The proof data of the statistics kernel's pipeline. -/
def dat0 : Dat τ (Elt F) (HIx 1) ℕ UU ℕ cfg0 c where
  A w := V (Proc.devRef .tc (arrRef cfg0.spec w))
  after w t := match w with
    | ⟨0, _⟩ => in0_0 V t
    | ⟨1, _⟩ => cOf (in0_0 V t)
    | ⟨2, _⟩ => msOf (in0_0 V t)
  Φ _ := Pipeline.scopedRest cfg0.spec c
  q _ := fullShare
  owed _ := O
  recorded _ := lowWaits (F := F) c n

theorem before0_0 (t : Fin cfg0.N) (x) : (dat0 V O n c).before 0 t x = in0_0 V t := by
  unfold Dat.before; rw [if_pos (fetch0_0 t)]; rfl

theorem body0 : BodyObligation (dat0 V O n c) (defs₀ (F := F)) 𝒱₀ none Set.univ := fun t => by
  rw [bigSep_W0, bigSep_W0]
  simp only
  rw [show (dat0 V O n c).Φ t.succ = (dat0 V O n c).Φ t.castSucc from rfl,
    show (dat0 V O n c).Φ t.castSucc = Pipeline.scopedRest spec0 c from rfl,
    show (dat0 V O n c).owesAt none t.succ = (dat0 V O n c).owesAt none t.castSucc from rfl, scopedRest0_split]
  iintro ⟨⟨⟨%f, HS⟩, HΦ⟩, Ho, ⟨%d0, H0⟩, ⟨%d1, H1⟩, ⟨%d2, H2⟩⟩
  rw [before0_0 V O n c t d0]
  iapply (wp_stats (F := F) (d := c) (win0_0.stage (cfg0.slots t 0)) (hstage0_0 0) (win0_1.stage (cfg0.slots t 1)) (hstage0_1 0) (win0_2.stage (cfg0.slots t 2)) (hstage0_2 0) (Memref.whole cc0_scratch0) (Memref.isWhole_whole _)
    (in0_0 V t) ((dat0 V O n c).before 1 t d1) ((dat0 V O n c).before 2 t d2) f _)
  isplitl [H0]; · iexact H0
  isplitl [H1]; · iexact H1
  isplitl [H2]; · iexact H2
  isplitl [HS]
  · unfold has; rw [owns_whole]; iexact HS
  iintro ⟨H0, H1, H2, HS⟩
  isplitl [HΦ HS]
  · isplitl [HS]
    · iexists (wOf (in0_0 V t)); unfold has; rw [owns_whole]; exact BI.Entails.refl _
    iexact HΦ
  isplitl [Ho]; · iexact Ho
  isplitl [H0]; · iexact H0
  isplitl [H1]; · iexact H1
  iexact H2

end Cert.Proof.Fm
-- ==== Proof.DenseDat.lean ====
/-
  The first dense kernel's pipeline: its proof data over a valuation of the arrays it is entered with, and its body's obligation.
-/
module

public import proofs.«01_k».proof.Proof.TcWp
public import proofs.«01_k».proof.Proof.Region
public import proofs.«01_k».proof.Proof.Gen.KernelIdeal.Points

@[expose] public section

noncomputable section

namespace Cert.Proof.Fm

open Cert.KernelIdeal Cert.KernelIdeal.Gen

open Idealize.ShloMosaic
open Idealize.ShloMosaic.SparseCore.Cfg (HIx Pay)
open Idealize.ShloMosaic.Pipeline (arrRef arrRefs ucRefs RDat Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (V : Valuation τ sig (Elt F)) (O : CellTallies nD τ sig (HIx 1)) (n : ℕ) (c : Dev nD)

/-! ## The first dense kernel -/

/-- Window `w`'s block at point `t`. -/
def blk2 (w : Fin cfg2.W) (t : Fin cfg2.N) : ((cfg2.win w).xblock (cfg2.grid.coords t)).Idx → Elt F (cfg2.win w).elt :=
  ((cfg2.win w).blk t).view.read (Elt F) (V (Proc.devRef .tc (arrRef cfg2.spec w)))

def in2_0 (t : Fin cfg2.N) : Vec F S256x20096 .f32 := blk2 V 0 t
def in2_1 (t : Fin cfg2.N) : Vec F S20001x128 .f32 := blk2 V 1 t
def in2_2 (t : Fin cfg2.N) : Vec F S1x128 .f32 := blk2 V 2 t

/-- The block of the result at point `t`. -/
def out2 (t : Fin cfg2.N) : Vec F S256x128 .f32 := mm1Of (in2_0 V t) (in2_1 V t) (in2_2 V t)

/-- The proof data of the first dense kernel's pipeline. -/
def dat2 : Dat τ (Elt F) (HIx 1) ℕ UU ℕ cfg2 c where
  A w := V (Proc.devRef .tc (arrRef cfg2.spec w))
  after w t := match w with
    | ⟨0, _⟩ => in2_0 V t
    | ⟨1, _⟩ => in2_1 V t
    | ⟨2, _⟩ => in2_2 V t
    | ⟨3, _⟩ => out2 V t
  Φ _ := Pipeline.scopedRest cfg2.spec c
  q _ := fullShare
  owed _ := O
  recorded _ := lowWaits (F := F) c n

theorem before2_1 (t : Fin cfg2.N) (x) : (dat2 V O n c).before 1 t x = in2_1 V t := by
  unfold Dat.before; rw [if_pos (fetch2_1 t)]; rfl

theorem before2_2 (t : Fin cfg2.N) (x) : (dat2 V O n c).before 2 t x = in2_2 V t := by
  unfold Dat.before; rw [if_pos (fetch2_2 t)]; rfl

theorem flush2_0 (t : Fin cfg2.N) : (cfg2.win 0).flush t = false := rfl

theorem in2_0_const (t t' : Fin cfg2.N) : in2_0 V t = in2_0 V t' := rfl

theorem before2_0 (t : Fin cfg2.N) (x) : (dat2 V O n c).before 0 t x = in2_0 V t := by
  unfold Dat.before
  by_cases h : (cfg2.win 0).fetch t = true
  · rw [if_pos h]; rfl
  · rw [if_neg h]
    have ht : t.val % 8 ≠ 0 := fun e => h ((fetch2_0 t).mpr e)
    rw [if_neg (by intro e; rw [e] at ht; exact ht rfl)]
    rfl

theorem body2 : BodyObligation (dat2 V O n c) (defs₀ (F := F)) 𝒱₀ none Set.univ := fun t => by
  rw [bigSep_W2, bigSep_W2]
  simp only
  rw [show (dat2 V O n c).Φ t.succ = (dat2 V O n c).Φ t.castSucc from rfl,
    show (dat2 V O n c).owesAt none t.succ = (dat2 V O n c).owesAt none t.castSucc from rfl]
  iintro ⟨HΦ, Ho, ⟨%d0, H0⟩, ⟨%d1, H1⟩, ⟨%d2, H2⟩, ⟨%d3, H3⟩⟩
  rw [before2_0 V O n c t d0, before2_1 V O n c t d1, before2_2 V O n c t d2]
  iapply (wp_mm1 (F := F) (d := c) (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3))
    (in2_0 V t) (in2_1 V t) (in2_2 V t) ((dat2 V O n c).before 3 t d3) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Proof.Fm
-- ==== Proof.MidDat.lean ====
/-
  The LayerNorm kernel's pipeline: its proof data over a valuation of the arrays it is entered with, and its body's obligation.
-/
module

public import proofs.«01_k».proof.Proof.TcWp
public import proofs.«01_k».proof.Proof.Region
public import proofs.«01_k».proof.Proof.Gen.KernelIdeal.Points

@[expose] public section

noncomputable section

namespace Cert.Proof.Fm

open Cert.KernelIdeal Cert.KernelIdeal.Gen

open Idealize.ShloMosaic
open Idealize.ShloMosaic.SparseCore.Cfg (HIx Pay)
open Idealize.ShloMosaic.Pipeline (arrRef arrRefs ucRefs RDat Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (V : Valuation τ sig (Elt F)) (O : CellTallies nD τ sig (HIx 1)) (n : ℕ) (c : Dev nD)

/-- Window `w`'s block at point `t`. -/
def blk3 (w : Fin cfg3.W) (t : Fin cfg3.N) : ((cfg3.win w).xblock (cfg3.grid.coords t)).Idx → Elt F (cfg3.win w).elt :=
  ((cfg3.win w).blk t).view.read (Elt F) (V (Proc.devRef .tc (arrRef cfg3.spec w)))

def in3_0 (t : Fin cfg3.N) : Vec F S256x1024 .f32 := blk3 V 0 t
def in3_1 (t : Fin cfg3.N) : Vec F S1x1024 .f32 := blk3 V 1 t
def in3_2 (t : Fin cfg3.N) : Vec F S1x1024 .f32 := blk3 V 2 t
def in3_3 (t : Fin cfg3.N) : Vec F S1024x1024 .f32 := blk3 V 3 t
def in3_4 (t : Fin cfg3.N) : Vec F S1x1024 .f32 := blk3 V 4 t
def in3_5 (t : Fin cfg3.N) : Vec F S1024x256 .f32 := blk3 V 5 t
def in3_6 (t : Fin cfg3.N) : Vec F S1x256 .f32 := blk3 V 6 t
def in3_7 (t : Fin cfg3.N) : Vec F S256x1024 .f32 := blk3 V 7 t
def in3_8 (t : Fin cfg3.N) : Vec F S1x1024 .f32 := blk3 V 8 t

/-- The encoding that the kernel leaves. -/
def out3_9 (t : Fin cfg3.N) : Vec F S256x256 .f32 := encOf (in3_0 V t) (in3_1 V t) (in3_2 V t) (in3_3 V t) (in3_4 V t) (in3_5 V t) (in3_6 V t)
/-- The decoder's hidden layer that the kernel leaves. -/
def out3_10 (t : Fin cfg3.N) : Vec F S256x1024 .f32 := d4Of (in3_0 V t) (in3_1 V t) (in3_2 V t) (in3_3 V t) (in3_4 V t) (in3_5 V t) (in3_6 V t) (in3_7 V t) (in3_8 V t)

/-- The proof data of the LayerNorm kernel's pipeline. -/
def dat3 : Dat τ (Elt F) (HIx 1) ℕ UU ℕ cfg3 c where
  A w := V (Proc.devRef .tc (arrRef cfg3.spec w))
  after w t := match w with
    | ⟨0, _⟩ => in3_0 V t
    | ⟨1, _⟩ => in3_1 V t
    | ⟨2, _⟩ => in3_2 V t
    | ⟨3, _⟩ => in3_3 V t
    | ⟨4, _⟩ => in3_4 V t
    | ⟨5, _⟩ => in3_5 V t
    | ⟨6, _⟩ => in3_6 V t
    | ⟨7, _⟩ => in3_7 V t
    | ⟨8, _⟩ => in3_8 V t
    | ⟨9, _⟩ => out3_9 V t
    | ⟨10, _⟩ => out3_10 V t
  Φ _ := Pipeline.scopedRest cfg3.spec c
  q _ := fullShare
  owed _ := O
  recorded _ := lowWaits (F := F) c n

theorem before3_0 (t : Fin cfg3.N) (x) : (dat3 V O n c).before 0 t x = in3_0 V t := by
  unfold Dat.before; rw [if_pos (fetch3_0 t)]; rfl

theorem before3_1 (t : Fin cfg3.N) (x) : (dat3 V O n c).before 1 t x = in3_1 V t := by
  unfold Dat.before; rw [if_pos (fetch3_1 t)]; rfl

theorem before3_2 (t : Fin cfg3.N) (x) : (dat3 V O n c).before 2 t x = in3_2 V t := by
  unfold Dat.before; rw [if_pos (fetch3_2 t)]; rfl

theorem before3_3 (t : Fin cfg3.N) (x) : (dat3 V O n c).before 3 t x = in3_3 V t := by
  unfold Dat.before; rw [if_pos (fetch3_3 t)]; rfl

theorem before3_4 (t : Fin cfg3.N) (x) : (dat3 V O n c).before 4 t x = in3_4 V t := by
  unfold Dat.before; rw [if_pos (fetch3_4 t)]; rfl

theorem before3_5 (t : Fin cfg3.N) (x) : (dat3 V O n c).before 5 t x = in3_5 V t := by
  unfold Dat.before; rw [if_pos (fetch3_5 t)]; rfl

theorem before3_6 (t : Fin cfg3.N) (x) : (dat3 V O n c).before 6 t x = in3_6 V t := by
  unfold Dat.before; rw [if_pos (fetch3_6 t)]; rfl

theorem before3_7 (t : Fin cfg3.N) (x) : (dat3 V O n c).before 7 t x = in3_7 V t := by
  unfold Dat.before; rw [if_pos (fetch3_7 t)]; rfl

theorem before3_8 (t : Fin cfg3.N) (x) : (dat3 V O n c).before 8 t x = in3_8 V t := by
  unfold Dat.before; rw [if_pos (fetch3_8 t)]; rfl

theorem body3 : BodyObligation (dat3 V O n c) (defs₀ (F := F)) 𝒱₀ none Set.univ := fun t => by
  rw [bigSep_W3, bigSep_W3]
  simp only
  rw [show (dat3 V O n c).Φ t.succ = (dat3 V O n c).Φ t.castSucc from rfl,
    show (dat3 V O n c).owesAt none t.succ = (dat3 V O n c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before3_0 V O n c t d0, before3_1 V O n c t d1, before3_2 V O n c t d2, before3_3 V O n c t d3, before3_4 V O n c t d4, before3_5 V O n c t d5, before3_6 V O n c t d6, before3_7 V O n c t d7, before3_8 V O n c t d8]
  iapply (wp_mid (F := F) (d := c) (win3_0.stage (cfg3.slots t 0)) (hstage3_0 0) (win3_1.stage (cfg3.slots t 1)) (hstage3_1 0) (win3_2.stage (cfg3.slots t 2)) (hstage3_2 0) (win3_3.stage (cfg3.slots t 3)) (hstage3_3 0) (win3_4.stage (cfg3.slots t 4)) (hstage3_4 0) (win3_5.stage (cfg3.slots t 5)) (hstage3_5 0) (win3_6.stage (cfg3.slots t 6)) (hstage3_6 0) (win3_7.stage (cfg3.slots t 7)) (hstage3_7 0) (win3_8.stage (cfg3.slots t 8)) (hstage3_8 0) (win3_9.stage (cfg3.slots t 9)) (hstage3_9 0) (win3_10.stage (cfg3.slots t 10)) (hstage3_10 0)
    (in3_0 V t) (in3_1 V t) (in3_2 V t) (in3_3 V t) (in3_4 V t) (in3_5 V t) (in3_6 V t) (in3_7 V t) (in3_8 V t) ((dat3 V O n c).before 9 t d9) ((dat3 V O n c).before 10 t d10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.Fm
-- ==== Proof.LastDat.lean ====
/-
  The last dense kernel's pipeline: its proof data over a valuation of the arrays it is entered with, and its body's
  obligation. Its last blocks reach past the arrays' ends, so of the two results it is stated what each block may hold.
-/
module

public import proofs.«01_k».proof.Proof.TcWp
public import proofs.«01_k».proof.Proof.Region
public import proofs.«01_k».proof.Proof.Gen.KernelIdeal.Points

@[expose] public section

noncomputable section

namespace Cert.Proof.Fm

open Cert.KernelIdeal Cert.KernelIdeal.Gen

open Idealize.ShloMosaic
open Idealize.ShloMosaic.SparseCore.Cfg (HIx Pay)
open Idealize.ShloMosaic.Pipeline (arrRef arrRefs ucRefs RDat Dat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (V : Valuation τ sig (Elt F)) (O : CellTallies nD τ sig (HIx 1)) (n : ℕ) (c : Dev nD)

/-- Window `w`'s block at point `t`, its part inside the array. -/
def blk4 (w : Fin cfg4.W) (t : Fin cfg4.N) : ((cfg4.win w).xblock (cfg4.grid.coords t)).Idx → Elt F (cfg4.win w).elt :=
  ((cfg4.win w).blk t).view.read (Elt F) (V (Proc.devRef .tc (arrRef cfg4.spec w)))

def in4_0 (t : Fin cfg4.N) : Vec F S256x1024 .f32 := blk4 V 0 t
/-- The block of the weights, with `x` past the array's end. -/
def in4_1 (t : Fin cfg4.N) (x : Vec F S1024x2048 .f32) : Vec F S1024x2048 .f32 := win4_1.fill (grid4.coords t) x (blk4 V 1 t)
/-- The block of the bias, with `x` past the array's end. -/
def in4_2 (t : Fin cfg4.N) (x : Vec F S1x2048 .f32) : Vec F S1x2048 .f32 := win4_2.fill (grid4.coords t) x (blk4 V 2 t)
/-- The block of the normalised rows, with `x` past the array's end. -/
def in4_3 (t : Fin cfg4.N) (x : Vec F S256x2048 .f32) : Vec F S256x2048 .f32 := win4_3.fill (grid4.coords t) x (blk4 V 3 t)

/-- The proof data of the last dense kernel's pipeline. -/
def dat4 : Dat τ (Elt F) (HIx 1) ℕ UU ℕ cfg4 c where
  A w := V (Proc.devRef .tc (arrRef cfg4.spec w))
  after w t := match w with
    | ⟨0, _⟩ => in4_0 V t
    | ⟨1, _⟩ => in4_1 V t fun _ => Scalar.ofBits .f32 0#32
    | ⟨2, _⟩ => in4_2 V t fun _ => Scalar.ofBits .f32 0#32
    | ⟨3, _⟩ => in4_3 V t fun _ => Scalar.ofBits .f32 0#32
    | ⟨4, _⟩ => fun _ => Scalar.ofBits .f32 0#32
    | ⟨5, _⟩ => fun _ => Scalar.ofBits .f32 0#32
  Φ _ := Pipeline.scopedRest cfg4.spec c
  q _ := fullShare
  owed _ := O
  recorded _ := lowWaits (F := F) c n

/-- The windows of the two results. -/
def fgt4 : Fin cfg4.W → Bool
  | ⟨4, _⟩ => true
  | ⟨5, _⟩ => true
  | ⟨_, _⟩ => false

/-- What the blocks of the two results may hold. -/
def Rl4 (w : Fin cfg4.W) (t : Fin cfg4.N) : ((cfg4.win w).block.Idx → Elt F (cfg4.win w).elt) → Prop :=
  match w with
  | ⟨4, _⟩ => fun X => ∃ x1 x2, X = k4_pay1 (in4_0 V t) (in4_1 V t x1) (in4_2 V t x2)
  | ⟨5, _⟩ => fun X => ∃ x3, X = in4_3 V t x3
  | ⟨_, _⟩ => fun _ => True

theorem before4_0 (t : Fin cfg4.N) (x) : (dat4 V O n c).before 0 t x = in4_0 V t := by
  unfold Dat.before
  by_cases h : (cfg4.win 0).fetch t = true
  · rw [if_pos h]; rfl
  · rw [if_neg h]
    have ht : t.val % 10 ≠ 0 := fun e => h ((fetch4_0 t).mpr e)
    rw [if_neg (by intro e; rw [e] at ht; exact ht rfl)]
    rfl

theorem before4_1 (t : Fin cfg4.N) (x) : (dat4 V O n c).before 1 t x = in4_1 V t x := by
  unfold Dat.before; rw [if_pos (fetch4_1 t)]; rfl

theorem before4_2 (t : Fin cfg4.N) (x) : (dat4 V O n c).before 2 t x = in4_2 V t x := by
  unfold Dat.before; rw [if_pos (fetch4_2 t)]; rfl

theorem before4_3 (t : Fin cfg4.N) (x) : (dat4 V O n c).before 3 t x = in4_3 V t x := by
  unfold Dat.before; rw [if_pos (fetch4_3 t)]; rfl

theorem body4 : BodyObligationRel (dat4 V O n c) (defs₀ (F := F)) 𝒱₀ none Set.univ fgt4 (Rl4 V) := fun t => by
  rw [bigSep_W4, bigSep_W4]
  simp only [show fgt4 0 = false from rfl, show fgt4 1 = false from rfl, show fgt4 2 = false from rfl, show fgt4 3 = false from rfl,
    show fgt4 4 = true from rfl, show fgt4 5 = true from rfl]
  rw [show (dat4 V O n c).Φ t.succ = (dat4 V O n c).Φ t.castSucc from rfl,
    show (dat4 V O n c).owesAt none t.succ = (dat4 V O n c).owesAt none t.castSucc from rfl]
  iintro ⟨HΦ, Ho, ⟨%d0, H0⟩, ⟨%d1, H1⟩, ⟨%d2, H2⟩, ⟨%d3, H3⟩, ⟨%d4, -, H4⟩, ⟨%d5, -, H5⟩⟩
  rw [before4_0 V O n c t d0, before4_1 V O n c t d1, before4_2 V O n c t d2, before4_3 V O n c t d3]
  iapply (wp_mm5 (F := F) (d := c) (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5))
    (in4_0 V t) (in4_1 V t d1) (in4_2 V t d2) (in4_3 V t d3) d4 d5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]
  · iexists d1
    change _ ⊢ owns (c.tc : Thread nD τ) (win4_1.stage (cfg4.slots t 1)) fullShare (win4_1.fill (grid4.coords t) d1 (win4_1.cut (grid4.coords t) (in4_1 V t fun _ => Scalar.ofBits .f32 0#32)))
    rw [show win4_1.cut (grid4.coords t) (in4_1 V t fun _ => Scalar.ofBits .f32 0#32) = blk4 V 1 t from win4_1.cut_fill _ _ _]
    exact BI.Entails.refl _
  isplitl [H2]
  · iexists d2
    change _ ⊢ owns (c.tc : Thread nD τ) (win4_2.stage (cfg4.slots t 2)) fullShare (win4_2.fill (grid4.coords t) d2 (win4_2.cut (grid4.coords t) (in4_2 V t fun _ => Scalar.ofBits .f32 0#32)))
    rw [show win4_2.cut (grid4.coords t) (in4_2 V t fun _ => Scalar.ofBits .f32 0#32) = blk4 V 2 t from win4_2.cut_fill _ _ _]
    exact BI.Entails.refl _
  isplitl [H3]
  · iexists d3
    change _ ⊢ owns (c.tc : Thread nD τ) (win4_3.stage (cfg4.slots t 3)) fullShare (win4_3.fill (grid4.coords t) d3 (win4_3.cut (grid4.coords t) (in4_3 V t fun _ => Scalar.ofBits .f32 0#32)))
    rw [show win4_3.cut (grid4.coords t) (in4_3 V t fun _ => Scalar.ofBits .f32 0#32) = blk4 V 3 t from win4_3.cut_fill _ _ _]
    exact BI.Entails.refl _
  isplitl [H4]
  · iexists (k4_pay1 (in4_0 V t) (in4_1 V t d1) (in4_2 V t d2))
    isplitr
    · ipureintro; exact ⟨d1, d2, rfl⟩
    iexact H4
  · iexists (in4_3 V t d3)
    isplitr
    · ipureintro; exact ⟨d3, rfl⟩
    iexact H5

end Cert.Proof.Fm
-- ==== Proof.State.lean ====
/-
  What the TensorCore's buffers hold at each point of @main, as functions of the launch memory, and what the four regions
  are proved about.
-/
module

public import proofs.«01_k».proof.Proof.Host
public import proofs.«01_k».proof.Proof.Call
public import proofs.«01_k».proof.Proof.StatsDat
public import proofs.«01_k».proof.Proof.DenseDat
public import proofs.«01_k».proof.Proof.MidDat
public import proofs.«01_k».proof.Proof.LastDat

@[expose] public section

noncomputable section

namespace Cert.Proof.Fm

open Cert.KernelIdeal Cert.KernelIdeal.Gen

open Idealize.ShloMosaic
open Idealize.ShloMosaic.SparseCore.Cfg (HIx Pay)
open Idealize.ShloMosaic.StableHlo (held after)
open Idealize.ShloMosaic.Pipeline (arrRef arrRefs ucRefs RDat Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ)

/-- The name of a TensorCore buffer among the device's. -/
abbrev ref (b : Ref sig .tc) : DevRef τ sig := Proc.devRef .tc b

/-- The core's debts before the SparseCore call and after it. -/
abbrev debt (n : ℕ) (d : Dev nD) : CellTallies nD τ sig (HIx 1) := (K (F := F)).Otc d n
abbrev low (n : ℕ) : ℕ := 8 * n

/-- At the launch. -/
def V0 (d : Dev nD) : Valuation τ sig (Elt F) := fun b => m (d, b)
/-- Before the statistics. -/
def V1 (d : Dev nD) : Valuation τ sig (Elt F) := after opsA (V0 m d)
def D0 (d : Dev nD) := dat0 (V1 m d) (debt (F := F) 0 d) (low 0) d
/-- After the statistics. -/
def V2 (d : Dev nD) : Valuation τ sig (Elt F) := putArr cfg0.spec (fun w => (D0 m d).arrAt w cfg0.N) (V1 m d)
/-- Before the SparseCore call. -/
def V3 (d : Dev nD) : Valuation τ sig (Elt F) := after opsB (V2 m d)
/-- The call's arrays. -/
def arrOf (d : Dev nD) : Arr F where
  g := V3 m d (ref main_v20)
  b := V3 m d (ref main_v22)
  t := V3 m d (ref main_v7)
  c := V3 m d (ref main_v9)
  s := V3 m d (ref main_v17)
  y := V3 m d (ref main_v23)
/-- After the SparseCore call. -/
def V4 (d : Dev nD) : Valuation τ sig (Elt F) := Function.update (V3 m d) (ref main_v23) (arrOf m d).out
/-- Before the first dense kernel. -/
def V5 (d : Dev nD) : Valuation τ sig (Elt F) := after opsC (V4 m d)
def D2 (d : Dev nD) := dat2 (V5 m d) (debt (F := F) 1 d) (low 1) d
/-- After the first dense kernel. -/
def V6 (d : Dev nD) : Valuation τ sig (Elt F) := putArr cfg2.spec (fun w => (D2 m d).arrAt w cfg2.N) (V5 m d)
/-- Before the LayerNorm kernel. -/
def V7 (d : Dev nD) : Valuation τ sig (Elt F) := after opsD (V6 m d)
def D3 (d : Dev nD) := dat3 (V7 m d) (debt (F := F) 1 d) (low 1) d
/-- After the LayerNorm kernel. -/
def V8 (d : Dev nD) : Valuation τ sig (Elt F) := putArr cfg3.spec (fun w => (D3 m d).arrAt w cfg3.N) (V7 m d)
/-- Before the last dense kernel. -/
def V9 (d : Dev nD) : Valuation τ sig (Elt F) := after opsE (V8 m d)
def D4 (d : Dev nD) := dat4 (V9 m d) (debt (F := F) 1 d) (low 1) d

/-- The proof data of the four pipelines. -/
def rds : (p : Fin 4) → (d : Dev nD) → RDat τ (Elt F) (HIx 1) ℕ UU ℕ (Pipeline.pin (pcfgs (F := F)) adm p) d
  | ⟨0, _⟩ => fun d => (D0 m d).toR
  | ⟨1, _⟩ => fun d => (D2 m d).toR
  | ⟨2, _⟩ => fun d => (D3 m d).toR
  | ⟨3, _⟩ => fun d => (D4 m d).toRRel fgt4 (Rl4 (V9 m d))

/-- No debt stands at an unnumbered wait. -/
theorem debt_none (n : ℕ) (d : Dev nD) (g : GSem nD τ sig) : debt (F := F) n d g none = 0 := by
  by_contra h
  have h' := Nat.pos_of_ne_zero h
  unfold debt SparseCore.Cfg.Otc at h'
  rw [Finset.sum_apply, Finsupp.finsetSum_apply] at h'
  obtain ⟨q, -, hq⟩ := Finset.exists_ne_zero_of_sum_ne_zero (Nat.pos_iff_ne_zero.mp h')
  split at hq
  · rw [Finset.sum_apply, Finsupp.finsetSum_apply] at hq
    obtain ⟨c, -, hc⟩ := Finset.exists_ne_zero_of_sum_ne_zero hq
    rw [tallyAt_apply, if_neg (fun h => nomatch h.2)] at hc
    exact hc rfl
  · exact hq rfl

/-- What an exact pipeline leaves is a valuation known beforehand. -/
theorem leftAt_exact (p : Fin 4) (rds' : (p : Fin 4) → (d : Dev nD) → RDat τ (Elt F) (HIx 1) ℕ UU ℕ (Pipeline.pin (pcfgs (F := F)) adm p) d)
    (kit : Pipeline.LaunchFacts (nD := nD) (τ := τ) cfgs p) (V : Dev nD → Valuation τ sig (Elt F)) (d : Dev nD)
    (dat : Dat τ (Elt F) (HIx 1) ℕ UU ℕ (Pipeline.pin (pcfgs (F := F)) adm p) d) (h : rds' p d = dat.toR) :
    leftAt p rds' V d ⊢ (held (SparseCore.T d : Thread nD τ) (ucRefs τ sig) (putArr (cfgs p).spec (fun w => dat.arrAt w (cfgs p).N) (V d)) : sProp 𝕄) := by
  iintro ⟨%V', %hV, H⟩
  have e : V' = putArr (cfgs p).spec (fun w => dat.arrAt w (cfgs p).N) (V d) := funext fun b => by
    by_cases hb : b ∈ arrRefs (τ := τ) (cfgs p).spec
    · obtain ⟨r, hr, rfl⟩ := Finset.mem_map.mp hb
      obtain ⟨w, -, rfl⟩ := Finset.mem_image.mp hr
      have hw := hV.1 w
      rw [h] at hw
      exact (dat.toR_arrAt w _ _ hw).trans (putArr_arr _ kit.win.arr_inj (fun w => dat.arrAt w (cfgs p).N) (V d) w).symm
    · exact (hV.2 b hb).trans (putArr_off _ _ _ hb).symm
  rw [← e]
  iexact H

section Regions

/-- The statistics, as a region of @main. -/
theorem wp_reg0 (d : Dev nD) (Φ : PUnit → sProp 𝕄) :
    iprop(levAts (K (F := F)).L (K (F := F)).lev ∗ boundary (SparseCore.T d : Thread nD τ)
        ∗ held (SparseCore.T d : Thread nD τ) (ucRefs τ sig) (V1 m d) ∗ debts d (debt (F := F) 0 d) (low 0)
        ∗ (Pipeline.cellsGhost cfgs (EP (F := F)) (0 : Fin 4) d ∗ Pipeline.toksInit cfgs (EP (F := F)) (0 : Fin 4) d)
        ∗ ((boundary (SparseCore.T d : Thread nD τ) ∗ held (SparseCore.T d : Thread nD τ) (ucRefs τ sig) (V2 m d) ∗ debts d (debt (F := F) 0 d) (low 0)) -∗ Φ ⟨⟩))
      ⊢ wp frame (wpE ((K (F := F)).defs D) 𝒱 (SparseCore.T d : Thread nD τ) none) Set.univ
          (Prog.lift (.customCall (SparseCore.inner (Pipeline.entry (0 : Fin 4))) ())) Φ := by
  refine BI.Entails.trans ?_ (wp_region (0 : Fin 4) launch0 (rds m) (debt (F := F) 0) (low 0) (V1 m)
    (fun c => (body0 (V1 m c) (debt (F := F) 0 c) (low 0) c).toR) (debt_none 0) (fun _ _ => rfl) (fun _ _ => rfl) (fun _ _ => ite_self _)
    (fun _ _ => rfl) (fun _ _ => rfl) d Φ)
  show (_ : sProp 𝕄) ⊢ _
  iintro ⟨Hl, Hb, Hh, HO, Hg, Hk⟩
  isplitl [Hl]; · iexact Hl
  isplitl [Hb]; · iexact Hb
  isplitl [Hh]; · iexact Hh
  isplitl [HO]; · iexact HO
  isplitl [Hg]; · iexact Hg
  iintro ⟨Hb, Hh, HO⟩
  iapply Hk
  isplitl [Hb]; · iexact Hb
  isplitl [Hh]
  · iapply (leftAt_exact (0 : Fin 4) (rds m) launch0 (V1 m) d (D0 m d) rfl)
    iexact Hh
  iexact HO

/-- The first dense kernel, as a region of @main. -/
theorem wp_reg1 (d : Dev nD) (Φ : PUnit → sProp 𝕄) :
    iprop(levAts (K (F := F)).L (K (F := F)).lev ∗ boundary (SparseCore.T d : Thread nD τ)
        ∗ held (SparseCore.T d : Thread nD τ) (ucRefs τ sig) (V5 m d) ∗ debts d (debt (F := F) 1 d) (low 1)
        ∗ (Pipeline.cellsGhost cfgs (EP (F := F)) (1 : Fin 4) d ∗ Pipeline.toksInit cfgs (EP (F := F)) (1 : Fin 4) d)
        ∗ ((boundary (SparseCore.T d : Thread nD τ) ∗ held (SparseCore.T d : Thread nD τ) (ucRefs τ sig) (V6 m d) ∗ debts d (debt (F := F) 1 d) (low 1)) -∗ Φ ⟨⟩))
      ⊢ wp frame (wpE ((K (F := F)).defs D) 𝒱 (SparseCore.T d : Thread nD τ) none) Set.univ
          (Prog.lift (.customCall (SparseCore.inner (Pipeline.entry (1 : Fin 4))) ())) Φ := by
  refine BI.Entails.trans ?_ (wp_region (1 : Fin 4) launch2 (rds m) (debt (F := F) 1) (low 1) (V5 m)
    (fun c => (body2 (V5 m c) (debt (F := F) 1 c) (low 1) c).toR) (debt_none 1) (fun _ _ => rfl) (fun _ _ => rfl) (fun _ _ => ite_self _)
    (fun _ _ => rfl) (fun _ _ => rfl) d Φ)
  show (_ : sProp 𝕄) ⊢ _
  iintro ⟨Hl, Hb, Hh, HO, Hg, Hk⟩
  isplitl [Hl]; · iexact Hl
  isplitl [Hb]; · iexact Hb
  isplitl [Hh]; · iexact Hh
  isplitl [HO]; · iexact HO
  isplitl [Hg]; · iexact Hg
  iintro ⟨Hb, Hh, HO⟩
  iapply Hk
  isplitl [Hb]; · iexact Hb
  isplitl [Hh]
  · iapply (leftAt_exact (1 : Fin 4) (rds m) launch2 (V5 m) d (D2 m d) rfl)
    iexact Hh
  iexact HO

/-- The LayerNorm kernel, as a region of @main. -/
theorem wp_reg2 (d : Dev nD) (Φ : PUnit → sProp 𝕄) :
    iprop(levAts (K (F := F)).L (K (F := F)).lev ∗ boundary (SparseCore.T d : Thread nD τ)
        ∗ held (SparseCore.T d : Thread nD τ) (ucRefs τ sig) (V7 m d) ∗ debts d (debt (F := F) 1 d) (low 1)
        ∗ (Pipeline.cellsGhost cfgs (EP (F := F)) (2 : Fin 4) d ∗ Pipeline.toksInit cfgs (EP (F := F)) (2 : Fin 4) d)
        ∗ ((boundary (SparseCore.T d : Thread nD τ) ∗ held (SparseCore.T d : Thread nD τ) (ucRefs τ sig) (V8 m d) ∗ debts d (debt (F := F) 1 d) (low 1)) -∗ Φ ⟨⟩))
      ⊢ wp frame (wpE ((K (F := F)).defs D) 𝒱 (SparseCore.T d : Thread nD τ) none) Set.univ
          (Prog.lift (.customCall (SparseCore.inner (Pipeline.entry (2 : Fin 4))) ())) Φ := by
  refine BI.Entails.trans ?_ (wp_region (2 : Fin 4) launch3 (rds m) (debt (F := F) 1) (low 1) (V7 m)
    (fun c => (body3 (V7 m c) (debt (F := F) 1 c) (low 1) c).toR) (debt_none 1) (fun _ _ => rfl) (fun _ _ => rfl) (fun _ _ => ite_self _)
    (fun _ _ => rfl) (fun _ _ => rfl) d Φ)
  show (_ : sProp 𝕄) ⊢ _
  iintro ⟨Hl, Hb, Hh, HO, Hg, Hk⟩
  isplitl [Hl]; · iexact Hl
  isplitl [Hb]; · iexact Hb
  isplitl [Hh]; · iexact Hh
  isplitl [HO]; · iexact HO
  isplitl [Hg]; · iexact Hg
  iintro ⟨Hb, Hh, HO⟩
  iapply Hk
  isplitl [Hb]; · iexact Hb
  isplitl [Hh]
  · iapply (leftAt_exact (2 : Fin 4) (rds m) launch3 (V7 m) d (D3 m d) rfl)
    iexact Hh
  iexact HO

/-- The last dense kernel, as a region of @main. -/
theorem wp_reg3 (d : Dev nD) (Φ : PUnit → sProp 𝕄) :
    iprop(levAts (K (F := F)).L (K (F := F)).lev ∗ boundary (SparseCore.T d : Thread nD τ)
        ∗ held (SparseCore.T d : Thread nD τ) (ucRefs τ sig) (V9 m d) ∗ debts d (debt (F := F) 1 d) (low 1)
        ∗ (Pipeline.cellsGhost cfgs (EP (F := F)) (3 : Fin 4) d ∗ Pipeline.toksInit cfgs (EP (F := F)) (3 : Fin 4) d)
        ∗ ((boundary (SparseCore.T d : Thread nD τ) ∗ leftAt 3 (rds m) (V9 m) d ∗ debts d (debt (F := F) 1 d) (low 1)) -∗ Φ ⟨⟩))
      ⊢ wp frame (wpE ((K (F := F)).defs D) 𝒱 (SparseCore.T d : Thread nD τ) none) Set.univ
          (Prog.lift (.customCall (SparseCore.inner (Pipeline.entry (3 : Fin 4))) ())) Φ := by
  refine BI.Entails.trans ?_ (wp_region (3 : Fin 4) launch4 (rds m) (debt (F := F) 1) (low 1) (V9 m)
    (fun c => (body4 (V9 m c) (debt (F := F) 1 c) (low 1) c).toRRel) (debt_none 1) (fun _ _ => rfl) (fun _ _ => rfl) (fun _ _ => ite_self _)
    (fun _ _ => rfl) (fun _ _ => rfl) d Φ)
  show (_ : sProp 𝕄) ⊢ _
  iintro ⟨Hl, Hb, Hh, HO, Hg, Hk⟩
  isplitl [Hl]; · iexact Hl
  isplitl [Hb]; · iexact Hb
  isplitl [Hh]; · iexact Hh
  isplitl [HO]; · iexact HO
  isplitl [Hg]; · iexact Hg
  iexact Hk

end Regions

end Cert.Proof.Fm
-- ==== Proof.Main.lean ====
/-
  @main on a TensorCore, and the run of the whole program: every thread ends, and the arrays end at what is stated.
-/
module

public import proofs.«01_k».proof.Proof.State

@[expose] public section

noncomputable section

namespace Cert.Proof.Fm

open Cert.KernelIdeal Cert.KernelIdeal.Gen

open Idealize.ShloMosaic
open Idealize.ShloMosaic.SparseCore (S V T)
open Idealize.ShloMosaic.SparseCore.Cfg (HIx Pay)
open Idealize.ShloMosaic.StableHlo (held after)
open Idealize.ShloMosaic.Pipeline (arrRef arrRefs ucRefs RDat Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The SparseCore call's arrays among the core's buffers -/

/-- The six arrays of the call. -/
def six : Finset (DevRef τ sig) := {ref main_v20, ref main_v22, ref main_v7, ref main_v9, ref main_v17, ref main_v23}

theorem six_sub : six ⊆ ucRefs τ sig := by
  intro b hb
  unfold six at hb
  simp only [Finset.mem_insert, Finset.mem_singleton] at hb
  rcases hb with rfl | rfl | rfl | rfl | rfl | rfl <;>
    exact Finset.mem_filter.mpr ⟨StableHlo.devRef_mem_tcRefs _, by decide⟩

theorem held_six (d : Dev nD) (W : Valuation τ sig (Elt F)) :
    (held (SparseCore.T d : Thread nD τ) six W : sProp 𝕄)
      = arrs d fullShare ⟨W (ref main_v20), W (ref main_v22), W (ref main_v7), W (ref main_v9), W (ref main_v17), W (ref main_v23)⟩ Finset.univ (W (ref main_v23)) := by
  unfold held six arrs
  rw [SparseCore.bigSep_insert' (by decide), SparseCore.bigSep_insert' (by decide), SparseCore.bigSep_insert' (by decide),
    SparseCore.bigSep_insert' (by decide), SparseCore.bigSep_insert' (by decide), bigSep_singleton]

/-- The call's arrays at a valuation. -/
abbrev arrAtV (W : Valuation τ sig (Elt F)) : Arr F := ⟨W (ref main_v20), W (ref main_v22), W (ref main_v7), W (ref main_v9), W (ref main_v17), W (ref main_v23)⟩

/-- The six arrays come out of the core's buffers; given back with the result at `o`, they are the buffers with it replaced. -/
theorem put_held (d : Dev nD) (W : Valuation τ sig (Elt F)) (o : (ref main_v23).ty.Contents (Elt F)) :
    (held (SparseCore.T d : Thread nD τ) (ucRefs τ sig) W : sProp 𝕄)
      ⊢ iprop(arrs d fullShare (arrAtV W) Finset.univ (W (ref main_v23))
        ∗ (arrs d fullShare (arrAtV W) Finset.univ o -∗ held (SparseCore.T d : Thread nD τ) (ucRefs τ sig) (Function.update W (ref main_v23) o))) := by
  rw [StableHlo.held_sub_split _ six_sub W, StableHlo.held_sub_split _ six_sub (Function.update W (ref main_v23) o), held_six, held_six,
    StableHlo.held_congr (SparseCore.T d : Thread nD τ) (S := ucRefs τ sig \ six) (V := Function.update W (ref main_v23) o) (V' := W) (fun b hb => by
      exact Function.update_of_ne (fun e => (Finset.mem_sdiff.mp hb).2 (by rw [e]; unfold six; simp)) _ _)]
  have e : (Function.update W (ref main_v23) o) (ref main_v23) = o := Function.update_self _ _ _
  have h (b : DevRef τ sig) (hb : b ≠ ref main_v23) : (Function.update W (ref main_v23) o) b = W b := Function.update_of_ne hb _ _
  have h20 := h (ref main_v20) (by decide)
  have h22 := h (ref main_v22) (by decide)
  have h7 := h (ref main_v7) (by decide)
  have h9 := h (ref main_v9) (by decide)
  have h17 := h (ref main_v17) (by decide)
  generalize Function.update W (ref main_v23) o = W' at *
  unfold arrs
  dsimp only
  rw [h20, h22, h7, h9, h17, e]
  iintro ⟨Ha, Hr⟩
  isplitl [Ha]; · iexact Ha
  iintro Ha
  isplitl [Ha]; · iexact Ha
  iexact Hr

/-- So around the call. -/
theorem call_held (d : Dev nD) :
    (held (SparseCore.T d : Thread nD τ) (ucRefs τ sig) (V3 m d) : sProp 𝕄)
      ⊢ iprop(arrs d fullShare (arrOf m d) Finset.univ (arrOf m d).y
        ∗ (arrs d fullShare (arrOf m d) Finset.univ (arrOf m d).out -∗ held (SparseCore.T d : Thread nD τ) (ucRefs τ sig) (V4 m d))) :=
  put_held d (V3 m d) (arrOf m d).out

/-! ## @main -/

/-- The four pipelines' ghost state. -/
abbrev G (d : Dev nD) : sProp 𝕄 :=
  bigSep Finset.univ fun p : Fin 4 => iprop(Pipeline.cellsGhost cfgs (EP (F := F)) p d ∗ Pipeline.toksInit cfgs (EP (F := F)) p d)

theorem G_eq (d : Dev nD) : (G d : sProp 𝕄) =
    iprop((Pipeline.cellsGhost cfgs (EP (F := F)) (0 : Fin 4) d ∗ Pipeline.toksInit cfgs (EP (F := F)) (0 : Fin 4) d)
      ∗ (Pipeline.cellsGhost cfgs (EP (F := F)) (1 : Fin 4) d ∗ Pipeline.toksInit cfgs (EP (F := F)) (1 : Fin 4) d)
      ∗ (Pipeline.cellsGhost cfgs (EP (F := F)) (2 : Fin 4) d ∗ Pipeline.toksInit cfgs (EP (F := F)) (2 : Fin 4) d)
      ∗ (Pipeline.cellsGhost cfgs (EP (F := F)) (3 : Fin 4) d ∗ Pipeline.toksInit cfgs (EP (F := F)) (3 : Fin 4) d)) := by
  unfold G
  rw [show (Finset.univ : Finset (Fin 4)) = {0, 1, 2, 3} from by decide, SparseCore.bigSep_insert' (by decide), SparseCore.bigSep_insert' (by decide),
    SparseCore.bigSep_insert' (by decide), bigSep_singleton]

/-- What a TensorCore ends with. -/
abbrev FIN (d : Dev nD) : sProp 𝕄 := leftAt 3 (rds m) (V9 m) d

theorem unscoped_held (d : Dev nD) :
    (unscopedBufs d (fun b => m ((SparseCore.T d : Thread nD τ).loc b)) : sProp 𝕄) = held (SparseCore.T d : Thread nD τ) (ucRefs τ sig) (V0 m d) :=
  Pipeline.unscopedBufs_held d (V0 m d)

set_option backward.isDefEq.respectTransparency.types false in
theorem hmain (κ : GSem nD τ sig → ℕ) (d : Dev nD) :
    iprop((K (F := F)).ctx EH (P (arrOf m)) κ ∗ (K (F := F)).tcSt EH d 0 ∗ (K (F := F)).tcRes m ρ d ∗ G d)
      ⊢ wp frame (wpE ((K (F := F)).defs D) 𝒱 (SparseCore.T d : Thread nD τ) none) Set.univ (main (F := F) d)
          fun _ => iprop((K (F := F)).tcSt EH d 1 ∗ FIN m d ∗ (K (F := F)).tcEnd d) := by
  unfold SparseCore.Cfg.tcRes SparseCore.Cfg.tcEnd
  rw [unscoped_held, G_eq, main_eq]
  have hc := SparseCore.Cfg.ctx_levAts (K := K (F := F)) (EH := EH) (P := P (arrOf m)) κ (lv := (K (F := F)).lev)
  have hcall : (held d.tc (ucRefs τ sig) (after opsB (V2 m d)) : sProp 𝕄) ⊢ _ := call_held m d
  iintro ⟨#Hctx, Hst, ⟨Hb, Hh, Hts, -⟩, Hg0, Hg1, Hg2, Hg3⟩
  ihave #Hlv := hc $$ Hctx
  -- up to the statistics
  iapply (StableHlo.wp_seq 𝒱 none Set.univ d (ucRefs τ sig) _ opsA subA freshA (V0 m d)) $$ [Hb Hh]
  · isplitl [Hb]; · iexact Hb
    iexact Hh
  iintro ⟨Hb, Hh⟩
  rw [wp_bind]
  unfold SparseCore.Cfg.tcSt
  icases Hst with ⟨HO, Hst⟩
  iapply (wp_reg0 m d _)
  isplitr; · iexact Hlv
  isplitl [Hb]; · iexact Hb
  isplitl [Hh]; · iexact Hh
  isplitl [HO]; · iexact HO
  isplitl [Hg0]; · iexact Hg0
  iintro ⟨Hb, Hh, HO⟩
  iapply (StableHlo.wp_seq 𝒱 none Set.univ d (ucRefs τ sig) _ opsB subB freshB (V2 m d)) $$ [Hb Hh]
  · isplitl [Hb]; · iexact Hb
    iexact Hh
  iintro ⟨Hb, Hh⟩
  rw [wp_bind]
  ihave Hh := hcall $$ Hh
  icases Hh with ⟨Ha, Hh⟩
  ihave Ha := (callSplit (arrOf m) d) $$ Ha
  icases Ha with ⟨Ha, Hback⟩
  iapply ((K (F := F)).wp_run D 𝒱 (EH := EH) (P := P (arrOf m)) κ d 0)
  isplitr; · iexact Hctx
  isplitl [HO Hst]
  · unfold SparseCore.Cfg.tcSt
    isplitl [HO]; · iexact HO
    iexact Hst
  isplitl [Ha]; · iexact Ha
  iintro ⟨Hst, Ha⟩
  ihave Ha := Hback $$ Ha
  ihave Hh := Hh $$ Ha
  unfold SparseCore.Cfg.tcSt
  icases Hst with ⟨HO, Hst⟩
  iapply (StableHlo.wp_seq 𝒱 none Set.univ d (ucRefs τ sig) _ opsC subC freshC (V4 m d)) $$ [Hb Hh]
  · isplitl [Hb]; · iexact Hb
    iexact Hh
  iintro ⟨Hb, Hh⟩
  rw [wp_bind]
  iapply (wp_reg1 m d _)
  isplitr; · iexact Hlv
  isplitl [Hb]; · iexact Hb
  isplitl [Hh]; · iexact Hh
  isplitl [HO]; · iexact HO
  isplitl [Hg1]; · iexact Hg1
  iintro ⟨Hb, Hh, HO⟩
  iapply (StableHlo.wp_seq 𝒱 none Set.univ d (ucRefs τ sig) _ opsD subD freshD (V6 m d)) $$ [Hb Hh]
  · isplitl [Hb]; · iexact Hb
    iexact Hh
  iintro ⟨Hb, Hh⟩
  rw [wp_bind]
  iapply (wp_reg2 m d _)
  isplitr; · iexact Hlv
  isplitl [Hb]; · iexact Hb
  isplitl [Hh]; · iexact Hh
  isplitl [HO]; · iexact HO
  isplitl [Hg2]; · iexact Hg2
  iintro ⟨Hb, Hh, HO⟩
  iapply (StableHlo.wp_seq 𝒱 none Set.univ d (ucRefs τ sig) _ opsE subE freshE (V8 m d)) $$ [Hb Hh]
  · isplitl [Hb]; · iexact Hb
    iexact Hh
  iintro ⟨Hb, Hh⟩
  rw [wp_bind]
  iapply (wp_reg3 m d _)
  isplitr; · iexact Hlv
  isplitl [Hb]; · iexact Hb
  isplitl [Hh]; · iexact Hh
  isplitl [HO]; · iexact HO
  isplitl [Hg3]; · iexact Hg3
  iintro ⟨Hb, Hh, HO⟩
  rw [wp_pure]
  imodintro
  isplitl [HO Hst]
  · isplitl [HO]; · iexact HO
    iexact Hst
  isplitl [Hh]; · iexact Hh
  isplitl [Hb]; · iexact Hb
  iexact Hts

/-! ## The launch -/

/-- The launch's ghost state: the handshakes' rounds and the four pipelines'. -/
def u₀ : UU := (initOf (K (F := F)).hsCells (K (F := F)).hsToks, (initOf (Pipeline.cells (nD := nD) (τ := τ) cfgs cellOf_inj) (Pipeline.launchToks (nD := nD) (τ := τ) cfgs cellOf_inj), 1))

theorem ownU_split (a : UH) (b : UP) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (arrOf m)).x q thr) := by
  unfold u₀
  iintro Hu
  ihave H := (ownU_split _ _) $$ Hu
  icases H with ⟨HH, HK⟩
  imod (Pipeline.fund_ghost cfgs (EP (F := F)) cellOf_inj) $$ HK with ⟨Hg, Ht⟩
  imodintro
  isplitl [HH]; · iexact HH
  isplitl
  · unfold G
    simp only [bigSep_sep']
    isplitl [Hg]; · iexact Hg
    iexact Ht
  · iapply (show (BI.emp : sProp 𝕄) ⊢ bigSep Finset.univ fun thr : Thread nD τ => bigSep Finset.univ fun q : Fin 1 => (P (arrOf m)).x q thr from by
      have e : ∀ (q : Fin 1) (thr : Thread nD τ), (P (arrOf m)).x q thr = (BI.emp : sProp 𝕄) := fun _ _ => rfl
      simp only [e, BI.bigSep_emp_const]
      exact BI.Entails.refl _)
    iempintro

/-- What the run leaves on device `d`: every buffer of the TensorCore at a valuation that the last pipeline may leave. -/
def fq (d : Dev nD) (M : MemSt nD τ sig (Elt F)) : Prop :=
  ∃ V' : Valuation τ sig (Elt F),
    ((∀ w, ((D4 m d).toRRel fgt4 (Rl4 (V9 m d))).ArrAt w cfg4.N (V' (ref (arrRef cfg4.spec w)))) ∧ ∀ b ∉ arrRefs (τ := τ) cfg4.spec, V' b = V9 m d b)
      ∧ ∀ b ∈ ucRefs τ sig, M.mem (d, b) = V' b

theorem hfin (d : Dev nD) (s' : Phys nD τ sig (Elt F)) : iprop(FIN m d ∗ SI s') ⊢ (⌜fq m d s'.mem⌝ : sProp 𝕄) := by
  iintro ⟨⟨%V', %hV, Hh⟩, HSI⟩
  unfold held
  ihave %h := (SI_pointsTo_bufs_agree (qs := fun _ => fullShare) (ucRefs τ sig)) $$ [HSI Hh]
  · isplitl [HSI]; · iexact HSI
    iexact Hh
  ipureintro
  exact ⟨V', hV, h⟩

/-- **The run.** Where every tag names a row, every thread of the program ends, the semaphores end at zero, and the
    buffers end at what `fq` says. -/
theorem run_main [∀ e, Nonempty (Elt F e)] (hA : ∀ d x, ((arrOf m d).t x).toNat < 20000) :
    θ_run (Cert.KernelIdeal.defs (F := F)) (Cert.KernelIdeal.threads (F := F)) ⟨m, fun _ => 0, ρ⟩
      (fun r => (∀ d, fq m d r.2) ∧ r.2.sem = fun _ => 0) :=
  SparseCore.Cfg.θ_run_sc_quiescent (K := K (F := F)) (D := D (F := F)) (𝒱 := 𝒱) (EH := EH) (P := P (arrOf m)) (A := ∅) facts v₀
    (fun q hq => match q with | 0 => nomatch hq)
    (fun q _ => match q with | 0 => tileObl (arrOf m) hA)
    (fun q _ => match q with | 0 => SparseCore.Cfg.VecSplit.of_plain (vecSplit (arrOf m)))
    m ρ main G (FIN m) (u₀ (F := F)) (sep_elim_left.trans (hu₀ m)) (hmain m ρ) (fun d s => fq m d s.mem) (hfin m) _ (fun _ h hz => ⟨h, hz⟩)

end Cert.Proof.Fm
-- ==== Proof.Keep.lean ====
/-
  The arguments keep their contents through the run; and the tags the SparseCore call reads are the argument's, padded with zero.
-/
module

public import proofs.«01_k».proof.Proof.Main

@[expose] public section

noncomputable section

namespace Cert.Proof.Fm

open Cert.KernelIdeal Cert.KernelIdeal.Gen

open Idealize.ShloMosaic
open Idealize.ShloMosaic.SparseCore (S V T)
open Idealize.ShloMosaic.SparseCore.Cfg (HIx Pay)
open Idealize.ShloMosaic.StableHlo (held after)
open Idealize.ShloMosaic.Pipeline (arrRef arrRefs ucRefs RDat Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ)

/-! ## What each line of host operations writes -/

def wA : List (Ref sig .tc) := [main_v0, main_v1]
theorem keepA (W : Valuation τ sig (Elt F)) {r : Ref sig .tc} (hr : r ∉ wA) : after opsA W (ref r) = W (ref r) :=
  StableHlo.after_of_writes_sub opsA W (StableHlo.forall_writes_sub_of_map (show (opsA : List (HloOp τ sig (Elt F))).map HloOp.writes = wA.map fun r => {ref r} from rfl)) hr

def wB : List (Ref sig .tc) := [main_v3, main_v4, main_v5, main_v6, main_c, main_call0_v0, main_v7, main_v8, main_c_0, main_call1_v0, main_v9, main_v10, main_v11, main_v12, main_v13, main_v14, main_v15, main_cst, main_v16, main_v17, main_cst_1, main_v18, main_cst_2, main_v19, main_v20, main_cst_3, main_v21, main_v22]
theorem keepB (W : Valuation τ sig (Elt F)) {r : Ref sig .tc} (hr : r ∉ wB) : after opsB W (ref r) = W (ref r) :=
  StableHlo.after_of_writes_sub opsB W (StableHlo.forall_writes_sub_of_map (show (opsB : List (HloOp τ sig (Elt F))).map HloOp.writes = wB.map fun r => {ref r} from rfl)) hr

def wC : List (Ref sig .tc) := [main_v24]
theorem keepC (W : Valuation τ sig (Elt F)) {r : Ref sig .tc} (hr : r ∉ wC) : after opsC W (ref r) = W (ref r) :=
  StableHlo.after_of_writes_sub opsC W (StableHlo.forall_writes_sub_of_map (show (opsC : List (HloOp τ sig (Elt F))).map HloOp.writes = wC.map fun r => {ref r} from rfl)) hr

def wD : List (Ref sig .tc) := [main_v26, main_v27, main_v28, main_v29, main_v30]
theorem keepD (W : Valuation τ sig (Elt F)) {r : Ref sig .tc} (hr : r ∉ wD) : after opsD W (ref r) = W (ref r) :=
  StableHlo.after_of_writes_sub opsD W (StableHlo.forall_writes_sub_of_map (show (opsD : List (HloOp τ sig (Elt F))).map HloOp.writes = wD.map fun r => {ref r} from rfl)) hr

def wE : List (Ref sig .tc) := [main_v32]
theorem keepE (W : Valuation τ sig (Elt F)) {r : Ref sig .tc} (hr : r ∉ wE) : after opsE W (ref r) = W (ref r) :=
  StableHlo.after_of_writes_sub opsE W (StableHlo.forall_writes_sub_of_map (show (opsE : List (HloOp τ sig (Elt F))).map HloOp.writes = wE.map fun r => {ref r} from rfl)) hr

/-! ## What each region keeps -/

/-- A pipeline leaves every buffer but its results as it was. -/
theorem put_keep {cfg : Pipeline.Cfg sig Λ₀} {d : Dev nD} (dat : Dat τ (Elt F) (HIx 1) ℕ UU ℕ cfg d) (W : Valuation τ sig (Elt F))
    (hinj : Function.Injective (arrRef cfg.spec)) (hA : ∀ w, dat.A w = W (ref (arrRef cfg.spec w))) (r : Ref sig .tc)
    (hr : ∀ w, (cfg.win w).isOut = true → r ≠ arrRef cfg.spec w) :
    putArr cfg.spec (fun w => dat.arrAt w cfg.N) W (ref r) = W (ref r) := by
  by_cases hb : ∃ w, r = arrRef cfg.spec w
  · obtain ⟨w, rfl⟩ := hb
    have hin : (cfg.win w).isOut = false := by
      cases h : (cfg.win w).isOut
      · rfl
      · exact absurd rfl (hr w h)
    exact (putArr_arr _ hinj (fun w => dat.arrAt w cfg.N) W w).trans ((dat.arrAt_in w hin cfg.N).trans (hA w))
  · refine putArr_off _ _ _ fun h => ?_
    obtain ⟨r', hr', e⟩ := Finset.mem_map.mp h
    obtain ⟨w, -, rfl⟩ := Finset.mem_image.mp hr'
    exact hb ⟨w, (Proc.devRef_injective _ e).symm⟩

def r0 : List (Ref sig .tc) := [main_v2_0, main_v2_1]
theorem keep0 (d : Dev nD) {r : Ref sig .tc} (hr : r ∉ r0) : V2 m d (ref r) = V1 m d (ref r) :=
  put_keep (D0 m d) (V1 m d) launch0.win.arr_inj (fun _ => rfl) r (fun w hw e => by
    fin_cases w <;> first | exact absurd hw (by decide) | exact hr (by subst e; decide))

def r2 : List (Ref sig .tc) := [main_v25]
theorem keep2 (d : Dev nD) {r : Ref sig .tc} (hr : r ∉ r2) : V6 m d (ref r) = V5 m d (ref r) :=
  put_keep (D2 m d) (V5 m d) launch2.win.arr_inj (fun _ => rfl) r (fun w hw e => by
    fin_cases w <;> first | exact absurd hw (by decide) | exact hr (by subst e; decide))

def r3 : List (Ref sig .tc) := [main_v31_0, main_v31_1]
theorem keep3 (d : Dev nD) {r : Ref sig .tc} (hr : r ∉ r3) : V8 m d (ref r) = V7 m d (ref r) :=
  put_keep (D3 m d) (V7 m d) launch3.win.arr_inj (fun _ => rfl) r (fun w hw e => by
    fin_cases w <;> first | exact absurd hw (by decide) | exact hr (by subst e; decide))

/-- The last region's results. -/
def r4 : List (Ref sig .tc) := [main_v33_0, main_v33_1]

/-- Everything written before the last region. -/
def wAll : List (Ref sig .tc) := wA ++ (r0 ++ (wB ++ ([main_v23] ++ (wC ++ (r2 ++ (wD ++ (r3 ++ wE)))))))

theorem keepCall (d : Dev nD) {r : Ref sig .tc} (hr : r ∉ [main_v23]) : V4 m d (ref r) = V3 m d (ref r) := by
  unfold V4
  exact Function.update_of_ne (StableHlo.devRef_ne_of_ne fun e => hr (by rw [e]; exact List.mem_singleton_self _)) _ _

/-- What nothing writes is at the last region what it was at the launch. -/
theorem keepAll (d : Dev nD) {r : Ref sig .tc} (hr : r ∉ wAll) : V9 m d (ref r) = m (d, ref r) := by
  unfold wAll at hr
  simp only [List.mem_append, not_or] at hr
  obtain ⟨hA, h0, hB, hc, hC, h2, hD, h3, hE⟩ := hr
  exact (keepE _ hE).trans ((keep3 m d h3).trans ((keepD _ hD).trans ((keep2 m d h2).trans ((keepC _ hC).trans ((keepCall m d hc).trans
    ((keepB _ hB).trans ((keep0 m d h0).trans (keepA _ hA))))))))

/-- What nothing writes ends as it was at the launch. -/
theorem fq_keep (d : Dev nD) (M : MemSt nD τ sig (Elt F)) (h : fq m d M) {r : Ref sig .tc} (hu : ref r ∈ ucRefs τ sig) (hr : r ∉ wAll) (hr4 : r ∉ r4) :
    M.mem (d, ref r) = m (d, ref r) := by
  obtain ⟨V', ⟨hV, hoff⟩, hM⟩ := h
  rw [hM _ hu, ← keepAll m d hr]
  by_cases hb : ∃ w, r = arrRef cfg4.spec w
  · obtain ⟨w, rfl⟩ := hb
    have hin : (cfg4.win w).isOut = false := by
      fin_cases w <;> first | rfl | exact absurd (show _ ∈ r4 by decide) hr4
    have h := hV w
    rw [RDat.ArrAt_in _ w hin] at h
    exact h
  · refine hoff _ fun h => ?_
    obtain ⟨r', hr', e⟩ := Finset.mem_map.mp h
    obtain ⟨w, -, rfl⟩ := Finset.mem_image.mp hr'
    exact hb ⟨w, (Proc.devRef_injective _ e).symm⟩

/-- The sixteen arguments. -/
def args : List (Ref sig .tc) := [main_arg0, main_arg1, main_arg2, main_arg3, main_arg4, main_arg5, main_arg6, main_arg7, main_arg8, main_arg9, main_arg10, main_arg11, main_arg12, main_arg13, main_arg14, main_arg15]

theorem fq_args (d : Dev nD) (M : MemSt nD τ sig (Elt F)) (h : fq m d M) : ∀ r ∈ args, M.mem (d, ref r) = m (d, ref r) := by
  intro r hr
  refine fq_keep m d M h (Finset.mem_filter.mpr ⟨StableHlo.devRef_mem_tcRefs _, ?_⟩) ?_ ?_ <;> revert r <;> decide

/-! ## The tags the call reads -/

/-- The tags are the argument's rows, padded with zeros. -/
theorem tags_eq (d : Dev nD) : (arrOf m d).t = (pad S256x256 ![0, 0] ![0, 96] ![0, 0]
    (shapeCast S256x160 (m (d, ref main_arg0)) shapeCasts_S256x8x20_S256x160) (constantI S_ 32 0#32) pads_S256x160_S256x256_000_0960 h_S_ : Vec F S256x256 .i32) := by
  have e0 : V2 m d (ref main_v0) = shapeCast S256x160 (m (d, ref main_arg0)) shapeCasts_S256x8x20_S256x160 :=
    (keep0 m d (by decide)).trans (by unfold V1 opsA V0; after_results; rfl)
  show V3 m d (ref main_v7) = _
  unfold V3 opsB
  after_results
  rw [e0]
  rfl

/-- Padding with a number below the bound keeps the bound. -/
theorem tags_lt (d : Dev nD) (h : ∀ x, (m (d, ref main_arg0) x : BitVec 32).toNat < 20000) (x : S256x256.Idx) : ((arrOf m d).t x).toNat < 20000 := by
  rw [tags_eq]
  unfold pad
  split
  · exact h _
  · decide

end Cert.Proof.Fm
-- ==== Proof.Frames.lean ====
/-
  The frames: every execution of the program ends, leaves the sixteen arguments as they were and every semaphore at zero;
  the same of the reference.  The precondition gives each tag a row of the tables.
-/
module

public import proofs.«01_k».proof.Proof.Keep
public import proofs.«01_k».proof.Proof.Gen.Pre_tags_in_range
public import proofs.«01_k».proof.Proof.Gen.ReferenceIdeal.Run
public import Idealize.ShloMosaic.Lib.ReduceAll

@[expose] public section

noncomputable section

namespace Cert.Proof.Fm

open Idealize.ShloMosaic Idealize.SL.Sem

/-! ## The precondition -/

/-- A word at least 0 and below 20000, both compared signed, is below 20000 as a natural number. -/
theorem word_lt (x : BitVec 32) (h : IntOp.andi (IntOp.cmpi .sge x 0#32) (IntOp.cmpi .slt x 20000#32) = 1#1) : x.toNat < 20000 := by
  have h' : (decide (0 ≤ x.toInt) && decide (x.toInt < 20000)) = true := by
    revert h
    simp only [IntOp.cmpi, IntOp.andi, BitVec.sle_eq_decide, BitVec.slt_eq_decide]
    rw [show (0#32 : BitVec 32).toInt = 0 from rfl, show (20000#32 : BitVec 32).toInt = 20000 from by decide]
    cases decide (0 ≤ x.toInt) <;> cases decide (x.toInt < 20000) <;> decide
  simp only [Bool.and_eq_true, decide_eq_true_eq] at h'
  obtain ⟨h0, h1⟩ := h'
  rw [BitVec.toInt_eq_toNat_cond] at h0 h1
  split at h0 <;> omega

instance : Subsingleton (⟨0, ![]⟩ : Shape).Idx := ⟨fun a b => funext fun i => i.elim0⟩

open Cert.Pre_tags_in_range in
/-- The precondition puts every tag below 20000. -/
theorem pre_lt {F : FTy → Type} [FloatOps F] (a0 : IVec S256x8x20 32) (a1 : FVec F S256 .f32) (a2 a3 : FVec F S20000 .f32) (a4 : FVec F S20001x1024 .f32)
    (a5 a6 a7 : FVec F S1024 .f32) (a8 : FVec F S1024x1024 .f32) (a9 : FVec F S1024 .f32) (a10 : FVec F S1024x256 .f32) (a11 : FVec F S256 .f32)
    (a12 : FVec F S256x1024 .f32) (a13 : FVec F S1024 .f32) (a14 : FVec F S1024x20001 .f32) (a15 : FVec F S20001 .f32)
    (h : Cert.Pre_tags_in_range.fn (F := F) a0 a1 a2 a3 a4 a5 a6 a7 a8 a9 a10 a11 a12 a13 a14 a15 = fun _ => 1#1) (i : S256x8x20.Idx) : (a0 i).toNat < 20000 :=
  word_lt _ (Host.reduce_andi_all (t := S_) _ _ _ _ (fun a => a.elim0) (congrFun h _) i)

/-! ## The frames of the kernel -/

open Cert.KernelIdeal

section
variable {F : FTy → Type} [FloatOps F] [Named F]

/-- From tags in range: the run ends with the sixteen arguments unchanged and every counter at zero. -/
theorem frame_run (m : (ℓ : Loc nD τ sig) → Buf (Elt F) ℓ) (ρ : Dev nD → PrngReg) [∀ e, Nonempty (Elt F e)]
    (h : ∀ (d : Dev nD) x, (m (d, ref main_arg0) x : BitVec 32).toNat < 20000) :
    θ_run (Cert.KernelIdeal.defs (F := F)) (Cert.KernelIdeal.threads (F := F)) ⟨m, fun _ => 0, ρ⟩
      (fun r => ((∀ d, fq m d r.2) ∧ ∀ d, ∀ b ∈ args, r.2.mem (d, ref b) = m (d, ref b)) ∧ r.2.sem = fun _ => 0) :=
  (θ_run Cert.KernelIdeal.defs _ _).mono (fun _ h => ⟨⟨h.1, fun d => fq_args m d _ (h.1 d)⟩, h.2⟩) (run_main m ρ fun d x => tags_lt m d (h d) x)

end

/-- A statement about each of the sixteen arguments, one after the other. -/
theorem all_args {p : Ref sig .tc → Prop} (h : ∀ b ∈ args, p b) :
    p main_arg0 ∧ p main_arg1 ∧ p main_arg2 ∧ p main_arg3 ∧ p main_arg4 ∧ p main_arg5 ∧ p main_arg6 ∧ p main_arg7 ∧ p main_arg8 ∧ p main_arg9
      ∧ p main_arg10 ∧ p main_arg11 ∧ p main_arg12 ∧ p main_arg13 ∧ p main_arg14 ∧ p main_arg15 := by
  simpa only [args, List.forall_mem_cons, List.not_mem_nil, false_imp_iff, implies_true, and_true] using h

/-- The program over the extended reals keeps its arguments and its counters. -/
theorem frame_KernelIdeal : Cert.quiescent_KernelIdeal := fun m ρ hpre =>
  (θ_run Cert.KernelIdeal.defs _ _).mono (fun r h => ⟨fun c => all_args (p := fun b => r.2.mem (c, ref b) = m (c, ref b)) (h.1.2 c), h.2⟩)
    (frame_run (F := Ideal) m ρ fun d x => pre_lt _ _ _ _ _ _ _ _ _ _ _ _ _ _ _ _ (hpre d) x)

/-! ## The frames of the reference -/

/-- The reference keeps its arguments. -/
theorem frame_Reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The constant named is the reciprocal of a hundred: its float word is the nearest to it. -/
theorem preserves : Cert.preserves_Kernel_KernelIdeal :=
  IdealRules.named_const.statement Cert.KernelIdeal.κ "hundredth" .f32 0x3C23D70A#32 ((100⁻¹ : ℝ) : EReal) rfl

end Cert.Proof.Fm
-- ==== Proof.Dup.lean ====
/-
  The weights of the statistics kernel at the extended reals: a token weighs 1 when no earlier token of its field carries its tag, else 0.
-/
module

public import proofs.«01_k».proof.Proof.Stats
public import Idealize.ShloMosaic.Lib.Pipeline.Value
public import Idealize.ShloMosaic.Lib.ValueIdx
public import Idealize.ShloMosaic.Lib.Pointwise
public import Idealize.ShloMosaic.PureOps.Ideal.Laws

@[expose] public section

noncomputable section

namespace Cert.Proof.Fm

open Cert.KernelIdeal Cert.KernelIdeal.Gen

open Idealize.ShloMosaic
open Idealize.ShloMosaic.ValueIdx (ix1 ix2 eq_ix1 eq_ix2)

section
variable {F : FTy → Type} [FloatOps F] [Named F]

/-- The token's place in its field: its number modulo 20. -/
def rem20 : IVec S160 32 :=
  let z : IVec S160 32 := shapeCast S160 (iota .tc S1x160 32 [1] iota_S1x160_d1_w32) shapeCasts_S1x160_S160
  let q : BitVec 32 := Scalar.select (Scalar.cmpi .eq 20#32 0#32) 1#32 20#32
  let r : IVec S160 32 := remsi z (broadcast S160 q)
  select (andi (xori (cmpi .slt r (broadcast S160 0#32)) (broadcastTo S160 (broadcast S160 (Scalar.cmpi .slt q 0#32)) broadcasts_S160_S160))
    (cmpi .ne r (broadcast S160 0#32))) (addi r (broadcast S160 q)) r

/-- Which tokens have a token of their field `e` places before. -/
def maskV (e : BitVec 32) : FVec F S160x256 .f32 :=
  broadcastTo S160x256 (shapeCast S160x1 (sitofp .f32 (extui 32 (cmpi .sge rem20 (broadcast S160 e)) natLt_1_32) : FVec F S160 .f32)
    shapeCasts_S160_S160x1) broadcasts_S160x1_S160x256

/-- Which tokens carry the tag of the token `d` places before. -/
def sameV (d n : ℕ) (X : IVec S160x256 32) (h1 : S160x256.Slices ![d, 0] ⟨2, ![n, 256]⟩) (h2 : S160x256.Slices ![0, 0] ⟨2, ![n, 256]⟩)
    (hc : Shape.Concatenates [⟨2, ![d, 256]⟩, ⟨2, ![n, 256]⟩] S160x256 0) : FVec F S160x256 .f32 :=
  concatenate S160x256 0 [⟨⟨2, ![d, 256]⟩, (broadcast ⟨2, ![d, 256]⟩ (Scalar.ofBits .f32 0x00000000#32 : F .f32) : FVec F ⟨2, ![d, 256]⟩ .f32)⟩,
    ⟨⟨2, ![n, 256]⟩, (sitofp .f32 (extui 32 (cmpi .eq (extractStridedSlice ⟨2, ![n, 256]⟩ ![d, 0] X h1) (extractStridedSlice ⟨2, ![n, 256]⟩ ![0, 0] X h2))
      natLt_1_32) : FVec F ⟨2, ![n, 256]⟩ .f32)⟩] hc

/-- One distance looked at. -/
def lay (e : BitVec 32) (S acc : FVec F S160x256 .f32) : FVec F S160x256 .f32 := maximumf acc (mulf S (maskV e))

/-! ## The marks after the first distances, one distance at a time -/

def dup0 : FVec F S160x256 .f32 := broadcast S160x256 (Scalar.ofBits .f32 0x00000000#32 : F .f32)
def dup1 (X : Vec F S160x256 .i32) : FVec F S160x256 .f32 := lay 1#32 (sameV 1 159 (st_v1 X) slices_S160x256_o1_0_S159x256 slices_S160x256_o0_0_S159x256 concatenates_S1x256_S159x256_S160x256_d0) dup0
def dup2 (X : Vec F S160x256 .i32) : FVec F S160x256 .f32 := lay 2#32 (sameV 2 158 (st_v1 X) slices_S160x256_o2_0_S158x256 slices_S160x256_o0_0_S158x256 concatenates_S2x256_S158x256_S160x256_d0) (dup1 X)
def dup3 (X : Vec F S160x256 .i32) : FVec F S160x256 .f32 := lay 3#32 (sameV 3 157 (st_v1 X) slices_S160x256_o3_0_S157x256 slices_S160x256_o0_0_S157x256 concatenates_S3x256_S157x256_S160x256_d0) (dup2 X)
def dup4 (X : Vec F S160x256 .i32) : FVec F S160x256 .f32 := lay 4#32 (sameV 4 156 (st_v1 X) slices_S160x256_o4_0_S156x256 slices_S160x256_o0_0_S156x256 concatenates_S4x256_S156x256_S160x256_d0) (dup3 X)
def dup5 (X : Vec F S160x256 .i32) : FVec F S160x256 .f32 := lay 5#32 (sameV 5 155 (st_v1 X) slices_S160x256_o5_0_S155x256 slices_S160x256_o0_0_S155x256 concatenates_S5x256_S155x256_S160x256_d0) (dup4 X)
def dup6 (X : Vec F S160x256 .i32) : FVec F S160x256 .f32 := lay 6#32 (sameV 6 154 (st_v1 X) slices_S160x256_o6_0_S154x256 slices_S160x256_o0_0_S154x256 concatenates_S6x256_S154x256_S160x256_d0) (dup5 X)
def dup7 (X : Vec F S160x256 .i32) : FVec F S160x256 .f32 := lay 7#32 (sameV 7 153 (st_v1 X) slices_S160x256_o7_0_S153x256 slices_S160x256_o0_0_S153x256 concatenates_S7x256_S153x256_S160x256_d0) (dup6 X)
def dup8 (X : Vec F S160x256 .i32) : FVec F S160x256 .f32 := lay 8#32 (sameV 8 152 (st_v1 X) slices_S160x256_o8_0_S152x256 slices_S160x256_o0_0_S152x256 concatenates_S8x256_S152x256_S160x256_d0) (dup7 X)
def dup9 (X : Vec F S160x256 .i32) : FVec F S160x256 .f32 := lay 9#32 (sameV 9 151 (st_v1 X) slices_S160x256_o9_0_S151x256 slices_S160x256_o0_0_S151x256 concatenates_S9x256_S151x256_S160x256_d0) (dup8 X)
def dup10 (X : Vec F S160x256 .i32) : FVec F S160x256 .f32 := lay 10#32 (sameV 10 150 (st_v1 X) slices_S160x256_o10_0_S150x256 slices_S160x256_o0_0_S150x256 concatenates_S10x256_S150x256_S160x256_d0) (dup9 X)
def dup11 (X : Vec F S160x256 .i32) : FVec F S160x256 .f32 := lay 11#32 (sameV 11 149 (st_v1 X) slices_S160x256_o11_0_S149x256 slices_S160x256_o0_0_S149x256 concatenates_S11x256_S149x256_S160x256_d0) (dup10 X)
def dup12 (X : Vec F S160x256 .i32) : FVec F S160x256 .f32 := lay 12#32 (sameV 12 148 (st_v1 X) slices_S160x256_o12_0_S148x256 slices_S160x256_o0_0_S148x256 concatenates_S12x256_S148x256_S160x256_d0) (dup11 X)
def dup13 (X : Vec F S160x256 .i32) : FVec F S160x256 .f32 := lay 13#32 (sameV 13 147 (st_v1 X) slices_S160x256_o13_0_S147x256 slices_S160x256_o0_0_S147x256 concatenates_S13x256_S147x256_S160x256_d0) (dup12 X)
def dup14 (X : Vec F S160x256 .i32) : FVec F S160x256 .f32 := lay 14#32 (sameV 14 146 (st_v1 X) slices_S160x256_o14_0_S146x256 slices_S160x256_o0_0_S146x256 concatenates_S14x256_S146x256_S160x256_d0) (dup13 X)
def dup15 (X : Vec F S160x256 .i32) : FVec F S160x256 .f32 := lay 15#32 (sameV 15 145 (st_v1 X) slices_S160x256_o15_0_S145x256 slices_S160x256_o0_0_S145x256 concatenates_S15x256_S145x256_S160x256_d0) (dup14 X)
def dup16 (X : Vec F S160x256 .i32) : FVec F S160x256 .f32 := lay 16#32 (sameV 16 144 (st_v1 X) slices_S160x256_o16_0_S144x256 slices_S160x256_o0_0_S144x256 concatenates_S16x256_S144x256_S160x256_d0) (dup15 X)
def dup17 (X : Vec F S160x256 .i32) : FVec F S160x256 .f32 := lay 17#32 (sameV 17 143 (st_v1 X) slices_S160x256_o17_0_S143x256 slices_S160x256_o0_0_S143x256 concatenates_S17x256_S143x256_S160x256_d0) (dup16 X)
def dup18 (X : Vec F S160x256 .i32) : FVec F S160x256 .f32 := lay 18#32 (sameV 18 142 (st_v1 X) slices_S160x256_o18_0_S142x256 slices_S160x256_o0_0_S142x256 concatenates_S18x256_S142x256_S160x256_d0) (dup17 X)
def dup19 (X : Vec F S160x256 .i32) : FVec F S160x256 .f32 := lay 19#32 (sameV 19 141 (st_v1 X) slices_S160x256_o19_0_S141x256 slices_S160x256_o0_0_S141x256 concatenates_S19x256_S141x256_S160x256_d0) (dup18 X)

theorem st_v35_eq (X : Vec F S160x256 .i32) : st_v35 X = dup1 X := rfl
theorem st_v68_eq (X : Vec F S160x256 .i32) : st_v68 X = dup2 X := by
  unfold st_v68
  rw [st_v35_eq]
  rfl
theorem st_v134_eq (X : Vec F S160x256 .i32) : st_v134 X = dup4 X := by
  unfold st_v134
  rw [st_v68_eq]
  rfl
theorem st_v167_eq (X : Vec F S160x256 .i32) : st_v167 X = dup5 X := by
  unfold st_v167
  rw [st_v134_eq]
  rfl
theorem st_v233_eq (X : Vec F S160x256 .i32) : st_v233 X = dup7 X := by
  unfold st_v233
  rw [st_v167_eq]
  rfl
theorem st_v266_eq (X : Vec F S160x256 .i32) : st_v266 X = dup8 X := by
  unfold st_v266
  rw [st_v233_eq]
  rfl
theorem st_v332_eq (X : Vec F S160x256 .i32) : st_v332 X = dup10 X := by
  unfold st_v332
  rw [st_v266_eq]
  rfl
theorem st_v365_eq (X : Vec F S160x256 .i32) : st_v365 X = dup11 X := by
  unfold st_v365
  rw [st_v332_eq]
  rfl
theorem st_v431_eq (X : Vec F S160x256 .i32) : st_v431 X = dup13 X := by
  unfold st_v431
  rw [st_v365_eq]
  rfl
theorem st_v464_eq (X : Vec F S160x256 .i32) : st_v464 X = dup14 X := by
  unfold st_v464
  rw [st_v431_eq]
  rfl
theorem st_v497_eq (X : Vec F S160x256 .i32) : st_v497 X = dup15 X := by
  unfold st_v497
  rw [st_v464_eq]
  rfl
theorem st_v563_eq (X : Vec F S160x256 .i32) : st_v563 X = dup17 X := by
  unfold st_v563
  rw [st_v497_eq]
  rfl
theorem st_v596_eq (X : Vec F S160x256 .i32) : st_v596 X = dup18 X := by
  unfold st_v596
  rw [st_v563_eq]
  rfl

/-- The weights are 1 less the marks of all nineteen distances. -/
theorem w47_eq (X : Vec F S160x256 .i32) :
    k0_pay47 (st_v596 X) (st_v603 X) st_v624 = subf (broadcast S160x256 (Scalar.ofBits .f32 0x3F800000#32 : F .f32)) (dup19 X) := by
  rw [st_v596_eq]
  rfl

theorem wOf_eq (X : Vec F S160x256 .i32) : wOf X = subf (broadcast S160x256 (Scalar.ofBits .f32 0x3F800000#32 : F .f32)) (dup19 X) := by
  unfold wOf k0_pay48
  dsimp only
  rw [shapeCast_self, w47_eq]

end

/-! ## At the extended reals -/

/-- Column `b` of the tags. -/
def colT (X : IVec S160x256 32) (b : Fin 256) (k : ℕ) : BitVec 32 := if h : k < 160 then X (ValueIdx.ix2 ⟨k, h⟩ b) else 0#32

theorem rem20_apply (k : Fin 160) : rem20 (ValueIdx.ix1 k) = BitVec.ofNat 32 (k.val % 20) := by
  have key : ∀ k : Fin 160, (Scalar.select (IntOp.andi (IntOp.xori (IntOp.cmpi .slt (IntOp.remsi .vector (BitVec.ofNat 32 k.val) 20#32) 0#32) 0#1)
      (IntOp.cmpi .ne (IntOp.remsi .vector (BitVec.ofNat 32 k.val) 20#32) 0#32)) (IntOp.addi (IntOp.remsi .vector (BitVec.ofNat 32 k.val) 20#32) 20#32)
      (IntOp.remsi .vector (BitVec.ofNat 32 k.val) 20#32)) = BitVec.ofNat 32 (k.val % 20) := by decide +kernel
  refine Eq.trans ?_ (key k)
  have hz : (shapeCast S160 (iota .tc S1x160 32 [1] iota_S1x160_d1_w32) shapeCasts_S1x160_S160 : IVec S160 32) (ValueIdx.ix1 k) = BitVec.ofNat 32 k.val := by
    pointwise
  unfold rem20
  dsimp only
  simp only [select, andi, xori, cmpi, remsi, addi, broadcast, hz]
  rfl

theorem mask_apply (d : ℕ) (hd : d < 20) (k : Fin 160) (b : Fin 256) :
    maskV (F := Ideal) (BitVec.ofNat 32 d) (ValueIdx.ix2 k b) = if d ≤ k.val % 20 then (1 : EReal) else 0 := by
  have key : ∀ d : Fin 20, ∀ r : Fin 20, ((IntOp.cmpi .sge (BitVec.ofNat 32 r.val) (BitVec.ofNat 32 d.val)).setWidth 32).toInt = if d.val ≤ r.val then 1 else 0 := by
    decide +kernel
  unfold maskV
  pointwise
  refine (congrArg (fun r => (FloatOps.sitofp (F := Ideal) .f32 (BitVec.setWidth 32 (IntOp.cmpi .sge r (BitVec.ofNat 32 d))) : EReal)) (rem20_apply k)).trans ?_
  have e := key ⟨d, hd⟩ ⟨k.val % 20, Nat.mod_lt _ (by decide)⟩
  dsimp only at e
  show (((BitVec.toInt _ : ℤ) : ℝ) : EReal) = _
  rw [e]
  split <;> simp

theorem same_apply (d n : ℕ) (hdn : d + n = 160) (X : IVec S160x256 32) (h1 : S160x256.Slices ![d, 0] ⟨2, ![n, 256]⟩) (h2 : S160x256.Slices ![0, 0] ⟨2, ![n, 256]⟩)
    (hc : Shape.Concatenates [⟨2, ![d, 256]⟩, ⟨2, ![n, 256]⟩] S160x256 0) (k : Fin 160) (b : Fin 256) :
    sameV (F := Ideal) d n X h1 h2 hc (ValueIdx.ix2 k b) = if d ≤ k.val ∧ colT X b k.val = colT X b (k.val - d) then (1 : EReal) else 0 := by
  unfold sameV
  by_cases h : d ≤ k.val
  · refine (concatenate_pair_apply_right (t := S160x256) 0 _ _ hc (ValueIdx.ix2 k b) rfl rfl (ValueIdx.ix2 ⟨k.val - d, by omega⟩ b) (fun c hc => by
      match c with
      | ⟨0, _⟩ => exact absurd rfl hc
      | ⟨1, _⟩ => rfl) (Nat.sub_add_cancel h)).trans ?_
    have e1 : extractStridedSlice ⟨2, ![n, 256]⟩ ![d, 0] X h1 (ValueIdx.ix2 ⟨k.val - d, by omega⟩ b) = colT X b k.val := by
      unfold colT
      rw [dif_pos k.isLt]
      pointwise
      refine congrArg X (funext fun a => Fin.ext ?_)
      match a with
      | ⟨0, _⟩ => show d + (k.val - d) = k.val; omega
      | ⟨1, _⟩ => rfl
    have e2 : extractStridedSlice ⟨2, ![n, 256]⟩ ![0, 0] X h2 (ValueIdx.ix2 ⟨k.val - d, by omega⟩ b) = colT X b (k.val - d) := by
      unfold colT
      rw [dif_pos (by omega)]
      pointwise
      refine congrArg X (funext fun a => Fin.ext ?_)
      match a with
      | ⟨0, _⟩ => rfl
      | ⟨1, _⟩ => rfl
    have key : ∀ x y : BitVec 32, ((IntOp.cmpi .eq x y).setWidth 32).toInt = if x = y then 1 else 0 := by
      intro x y
      by_cases hxy : x = y
      · rw [if_pos hxy]; subst hxy; simp [IntOp.cmpi]
      · rw [if_neg hxy]
        have hb : (x == y) = false := by simpa using hxy
        simp [IntOp.cmpi, hb]
    show (((BitVec.toInt (BitVec.setWidth 32 (IntOp.cmpi .eq (extractStridedSlice ⟨2, ![n, 256]⟩ ![d, 0] X h1 (ValueIdx.ix2 ⟨k.val - d, by omega⟩ b))
      (extractStridedSlice ⟨2, ![n, 256]⟩ ![0, 0] X h2 (ValueIdx.ix2 ⟨k.val - d, by omega⟩ b)))) : ℤ) : ℝ) : EReal) = _
    rw [e1, e2, key]
    by_cases he : colT X b k.val = colT X b (k.val - d)
    · rw [if_pos he, if_pos ⟨h, he⟩]; simp
    · rw [if_neg he, if_neg (fun e => he e.2)]; simp
  · refine (concatenate_pair_apply_left (t := S160x256) 0 _ _ hc (ValueIdx.ix2 k b) rfl (ValueIdx.ix2 ⟨k.val, by omega⟩ b) (fun c => by
      match c with
      | ⟨0, _⟩ => rfl
      | ⟨1, _⟩ => rfl)).trans ?_
    rw [if_neg (fun e => h e.1)]
    exact Ideal.ofBits_zero_f32

/-- Token `k` of column `b` carries the tag of a token of its field at most `n` places before. -/
def Rep (x : ℕ → BitVec 32) (n k : ℕ) : Prop := ∃ e, 1 ≤ e ∧ e ≤ n ∧ e ≤ k % 20 ∧ x k = x (k - e)

open Classical in
theorem lay_apply (d n : ℕ) (hd : d < 19) (hdn : d + 1 + n = 160) (X : IVec S160x256 32) (h1 : S160x256.Slices ![d + 1, 0] ⟨2, ![n, 256]⟩)
    (h2 : S160x256.Slices ![0, 0] ⟨2, ![n, 256]⟩) (hc : Shape.Concatenates [⟨2, ![d + 1, 256]⟩, ⟨2, ![n, 256]⟩] S160x256 0)
    (acc : FVec Ideal S160x256 .f32) (ha : ∀ (k : Fin 160) b, acc (ValueIdx.ix2 k b) = if Rep (colT X b) d k.val then (1 : EReal) else 0) (k : Fin 160) (b : Fin 256) :
    lay (F := Ideal) (BitVec.ofNat 32 (d + 1)) (sameV (d + 1) n X h1 h2 hc) acc (ValueIdx.ix2 k b) = if Rep (colT X b) (d + 1) k.val then (1 : EReal) else 0 := by
  show max (acc (ValueIdx.ix2 k b) : EReal) (sameV (F := Ideal) (d + 1) n X h1 h2 hc (ValueIdx.ix2 k b) * maskV (F := Ideal) (BitVec.ofNat 32 (d + 1)) (ValueIdx.ix2 k b)) = _
  rw [ha, same_apply (d + 1) n hdn, mask_apply (d + 1) (by omega)]
  have hm : k.val % 20 ≤ k.val := Nat.mod_le _ _
  by_cases hr : Rep (colT X b) d k.val
  · have hr' : Rep (colT X b) (d + 1) k.val := by
      obtain ⟨e, h1, h2, h3⟩ := hr
      exact ⟨e, h1, by omega, h3⟩
    rw [if_pos hr, if_pos hr']
    split <;> split <;> simp
  · rw [if_neg hr]
    by_cases hn : d + 1 ≤ k.val % 20 ∧ colT X b k.val = colT X b (k.val - (d + 1))
    · rw [if_pos (show Rep (colT X b) (d + 1) k.val from ⟨d + 1, by omega, le_rfl, hn⟩), if_pos ⟨by omega, hn.2⟩, if_pos hn.1]
      simp
    · have hr' : ¬ Rep (colT X b) (d + 1) k.val := by
        rintro ⟨e, h1, h2, h3, h4⟩
        by_cases he : e = d + 1
        · subst he; exact hn ⟨h3, h4⟩
        · exact hr ⟨e, h1, by omega, h3, h4⟩
      rw [if_neg hr']
      by_cases h3 : d + 1 ≤ k.val % 20
      · rw [if_neg (fun e => hn ⟨h3, e.2⟩)]; simp
      · rw [if_neg h3]; simp

open Classical in
theorem dup19_apply (X : Vec Ideal S160x256 .i32) (k : Fin 160) (b : Fin 256) :
    dup19 (F := Ideal) X (ValueIdx.ix2 k b) = if Rep (colT X b) 19 k.val then (1 : EReal) else 0 := by
  have hX : st_v1 X = X := shapeCast_self _ _
  have h0 : ∀ (k : Fin 160) (b : Fin 256), dup0 (F := Ideal) (ValueIdx.ix2 k b) = if Rep (colT X b) 0 k.val then (1 : EReal) else 0 := by
    intro k b
    rw [if_neg (by rintro ⟨e, h1, h2, -⟩; omega)]
    exact Ideal.ofBits_zero_f32
  have h1 : ∀ (k : Fin 160) (b : Fin 256), dup1 (F := Ideal) X (ValueIdx.ix2 k b) = if Rep (colT X b) 1 k.val then (1 : EReal) else 0 := by
    unfold dup1; rw [hX]; exact lay_apply 0 159 (by decide) rfl X _ _ _ _ h0
  have h2 : ∀ (k : Fin 160) (b : Fin 256), dup2 (F := Ideal) X (ValueIdx.ix2 k b) = if Rep (colT X b) 2 k.val then (1 : EReal) else 0 := by
    unfold dup2; rw [hX]; exact lay_apply 1 158 (by decide) rfl X _ _ _ _ h1
  have h3 : ∀ (k : Fin 160) (b : Fin 256), dup3 (F := Ideal) X (ValueIdx.ix2 k b) = if Rep (colT X b) 3 k.val then (1 : EReal) else 0 := by
    unfold dup3; rw [hX]; exact lay_apply 2 157 (by decide) rfl X _ _ _ _ h2
  have h4 : ∀ (k : Fin 160) (b : Fin 256), dup4 (F := Ideal) X (ValueIdx.ix2 k b) = if Rep (colT X b) 4 k.val then (1 : EReal) else 0 := by
    unfold dup4; rw [hX]; exact lay_apply 3 156 (by decide) rfl X _ _ _ _ h3
  have h5 : ∀ (k : Fin 160) (b : Fin 256), dup5 (F := Ideal) X (ValueIdx.ix2 k b) = if Rep (colT X b) 5 k.val then (1 : EReal) else 0 := by
    unfold dup5; rw [hX]; exact lay_apply 4 155 (by decide) rfl X _ _ _ _ h4
  have h6 : ∀ (k : Fin 160) (b : Fin 256), dup6 (F := Ideal) X (ValueIdx.ix2 k b) = if Rep (colT X b) 6 k.val then (1 : EReal) else 0 := by
    unfold dup6; rw [hX]; exact lay_apply 5 154 (by decide) rfl X _ _ _ _ h5
  have h7 : ∀ (k : Fin 160) (b : Fin 256), dup7 (F := Ideal) X (ValueIdx.ix2 k b) = if Rep (colT X b) 7 k.val then (1 : EReal) else 0 := by
    unfold dup7; rw [hX]; exact lay_apply 6 153 (by decide) rfl X _ _ _ _ h6
  have h8 : ∀ (k : Fin 160) (b : Fin 256), dup8 (F := Ideal) X (ValueIdx.ix2 k b) = if Rep (colT X b) 8 k.val then (1 : EReal) else 0 := by
    unfold dup8; rw [hX]; exact lay_apply 7 152 (by decide) rfl X _ _ _ _ h7
  have h9 : ∀ (k : Fin 160) (b : Fin 256), dup9 (F := Ideal) X (ValueIdx.ix2 k b) = if Rep (colT X b) 9 k.val then (1 : EReal) else 0 := by
    unfold dup9; rw [hX]; exact lay_apply 8 151 (by decide) rfl X _ _ _ _ h8
  have h10 : ∀ (k : Fin 160) (b : Fin 256), dup10 (F := Ideal) X (ValueIdx.ix2 k b) = if Rep (colT X b) 10 k.val then (1 : EReal) else 0 := by
    unfold dup10; rw [hX]; exact lay_apply 9 150 (by decide) rfl X _ _ _ _ h9
  have h11 : ∀ (k : Fin 160) (b : Fin 256), dup11 (F := Ideal) X (ValueIdx.ix2 k b) = if Rep (colT X b) 11 k.val then (1 : EReal) else 0 := by
    unfold dup11; rw [hX]; exact lay_apply 10 149 (by decide) rfl X _ _ _ _ h10
  have h12 : ∀ (k : Fin 160) (b : Fin 256), dup12 (F := Ideal) X (ValueIdx.ix2 k b) = if Rep (colT X b) 12 k.val then (1 : EReal) else 0 := by
    unfold dup12; rw [hX]; exact lay_apply 11 148 (by decide) rfl X _ _ _ _ h11
  have h13 : ∀ (k : Fin 160) (b : Fin 256), dup13 (F := Ideal) X (ValueIdx.ix2 k b) = if Rep (colT X b) 13 k.val then (1 : EReal) else 0 := by
    unfold dup13; rw [hX]; exact lay_apply 12 147 (by decide) rfl X _ _ _ _ h12
  have h14 : ∀ (k : Fin 160) (b : Fin 256), dup14 (F := Ideal) X (ValueIdx.ix2 k b) = if Rep (colT X b) 14 k.val then (1 : EReal) else 0 := by
    unfold dup14; rw [hX]; exact lay_apply 13 146 (by decide) rfl X _ _ _ _ h13
  have h15 : ∀ (k : Fin 160) (b : Fin 256), dup15 (F := Ideal) X (ValueIdx.ix2 k b) = if Rep (colT X b) 15 k.val then (1 : EReal) else 0 := by
    unfold dup15; rw [hX]; exact lay_apply 14 145 (by decide) rfl X _ _ _ _ h14
  have h16 : ∀ (k : Fin 160) (b : Fin 256), dup16 (F := Ideal) X (ValueIdx.ix2 k b) = if Rep (colT X b) 16 k.val then (1 : EReal) else 0 := by
    unfold dup16; rw [hX]; exact lay_apply 15 144 (by decide) rfl X _ _ _ _ h15
  have h17 : ∀ (k : Fin 160) (b : Fin 256), dup17 (F := Ideal) X (ValueIdx.ix2 k b) = if Rep (colT X b) 17 k.val then (1 : EReal) else 0 := by
    unfold dup17; rw [hX]; exact lay_apply 16 143 (by decide) rfl X _ _ _ _ h16
  have h18 : ∀ (k : Fin 160) (b : Fin 256), dup18 (F := Ideal) X (ValueIdx.ix2 k b) = if Rep (colT X b) 18 k.val then (1 : EReal) else 0 := by
    unfold dup18; rw [hX]; exact lay_apply 17 142 (by decide) rfl X _ _ _ _ h17
  have h19 : ∀ (k : Fin 160) (b : Fin 256), dup19 (F := Ideal) X (ValueIdx.ix2 k b) = if Rep (colT X b) 19 k.val then (1 : EReal) else 0 := by
    unfold dup19; rw [hX]; exact lay_apply 18 141 (by decide) rfl X _ _ _ _ h18
  exact h19 k b

open Classical in
/-- The weight of token `k` of column `b`. -/
def wt (x : ℕ → BitVec 32) (k : ℕ) : ℝ := if Rep x 19 k then 0 else 1

theorem w_apply (X : Vec Ideal S160x256 .i32) (k : Fin 160) (b : Fin 256) :
    wOf (F := Ideal) X (ValueIdx.ix2 k b) = ((wt (colT X b) k.val : ℝ) : EReal) := by
  rw [wOf_eq]
  show (FloatOps.ofBits .f32 0x3F800000#32 : Ideal .f32) - dup19 (F := Ideal) X (ValueIdx.ix2 k b) = _
  rw [dup19_apply, show (FloatOps.ofBits .f32 0x3F800000#32 : Ideal .f32) = (1 : EReal) from Ideal.ofBits_one_f32]
  unfold wt
  split
  · rw [← EReal.coe_one, ← EReal.coe_sub, sub_self]
  · simp

end Cert.Proof.Fm
-- ==== Proof.Counting.lean ====
/-
  Counting in fields of twenty: the tokens that repeat no earlier token of their field, and how many fields carry a tag.
-/
module

public import proofs.«01_k».proof.Proof.Dup

@[expose] public section

noncomputable section

namespace Cert.Proof.Fm

/-- Field `f` carries the tag `t`. -/
def Has (x : ℕ → BitVec 32) (t : BitVec 32) (f : ℕ) : Prop := ∃ i < 20, x (20 * f + i) = t

open Classical in
/-- The fields, of the eight, that carry the tag `t`. -/
def cnt (x : ℕ → BitVec 32) (t : BitVec 32) : ℕ := ((Finset.range 8).filter fun f => Has x t f).card

open Classical in
/-- The weights of the tokens that carry `t` sum to the number of fields that do. -/
theorem sum_wt (x : ℕ → BitVec 32) (t : BitVec 32) : (∑ k ∈ Finset.range 160, if t = x k then wt x k else 0) = (cnt x t : ℝ) := by
  have e : ∀ k, (if t = x k then wt x k else 0) = if t = x k ∧ ¬ Rep x 19 k then (1 : ℝ) else 0 := by
    intro k; unfold wt
    by_cases h : t = x k <;> by_cases h' : Rep x 19 k <;> simp [h, h']
  simp only [e]
  rw [Finset.sum_ite, Finset.sum_const_zero, add_zero, Finset.sum_const, nsmul_eq_mul, mul_one]
  congr 1
  unfold cnt
  refine Finset.card_bij (fun k _ => k / 20) ?_ ?_ ?_
  · intro k hk
    rw [Finset.mem_filter, Finset.mem_range] at hk
    exact Finset.mem_filter.mpr ⟨Finset.mem_range.mpr (by omega), k % 20, Nat.mod_lt _ (by decide), by rw [Nat.div_add_mod]; exact hk.2.1.symm⟩
  · have key : ∀ a b, a / 20 = b / 20 → t = x a → t = x b → ¬ Rep x 19 b → ¬ a < b := by
      intro a b hd ha hb hr hlt
      refine hr ⟨b - a, by omega, by omega, by omega, ?_⟩
      rw [show b - (b - a) = a by omega, ← ha, ← hb]
    intro a ha b hb hd
    rw [Finset.mem_filter] at ha hb
    have h1 := key a b hd ha.2.1 hb.2.1 hb.2.2
    have h2 := key b a hd.symm hb.2.1 ha.2.1 ha.2.2
    omega
  · intro f hf
    have hf0 := Finset.mem_range.mp (Finset.mem_filter.mp hf).1
    have hex : ∃ i, i < 20 ∧ x (20 * f + i) = t := (Finset.mem_filter.mp hf).2
    have hs := Nat.find_spec hex
    have hm := fun j (hj : j < Nat.find hex) => Nat.find_min hex hj
    generalize Nat.find hex = i at hs hm
    refine ⟨20 * f + i, ?_, by omega⟩
    rw [Finset.mem_filter, Finset.mem_range]
    refine ⟨by omega, hs.2.symm, ?_⟩
    rintro ⟨e, h1, h2, h3, h4⟩
    refine hm (i - e) (by omega) ⟨by omega, ?_⟩
    rw [show 20 * f + (i - e) = 20 * f + i - e by omega, ← h4]
    exact hs.2

/-- A weighted sum over the tokens is a sum over the tags, each as often as fields carry it. -/
theorem sum_tokens (x : ℕ → BitVec 32) (hx : ∀ k < 160, (x k).toNat < 20000) (h : BitVec 32 → ℝ) :
    ∑ k ∈ Finset.range 160, wt x k * h (x k) = ∑ n : Fin 20000, (cnt x (BitVec.ofNat 32 n.val) : ℝ) * h (BitVec.ofNat 32 n.val) := by
  classical
  simp only [← sum_wt, Finset.sum_mul]
  rw [Finset.sum_comm]
  refine Finset.sum_congr rfl fun k hk => ?_
  have hk' := hx k (Finset.mem_range.mp hk)
  rw [Finset.sum_eq_single (⟨(x k).toNat, hk'⟩ : Fin 20000)]
  · simp
  · intro n _ hn
    rw [if_neg, zero_mul]
    intro e
    refine hn (Fin.ext ?_)
    show n.val = (x k).toNat
    rw [← e, BitVec.toNat_ofNat, Nat.mod_eq_of_lt (by omega)]
  · intro h; exact absurd (Finset.mem_univ _) h

end Cert.Proof.Fm
-- ==== Proof.StatVal.lean ====
/-
  The statistics kernel's results at the extended reals: the counts, and each row's mean and scale.
-/
module

public import proofs.«01_k».proof.Proof.Counting

@[expose] public section

noncomputable section

namespace Cert.Proof.Fm

open Cert.KernelIdeal Cert.KernelIdeal.Gen
open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem st_v1_eq (X : Vec Ideal S160x256 .i32) : st_v1 X = X := shapeCast_self _ _

theorem colT_apply (X : IVec S160x256 32) (k : Fin 160) (b : Fin 256) : colT X b k.val = X (ValueIdx.ix2 k b) := dif_pos k.isLt

theorem select_eq (x y : BitVec 32) (p q : EReal) : Scalar.select (IntOp.cmpi .eq x y) p q = if x = y then p else q := by
  by_cases h : x = y
  · rw [if_pos h]; subst h; simp [IntOp.cmpi, Scalar.select]
  · have hb : (x == y) = false := by simpa using h
    rw [if_neg h]; simp [IntOp.cmpi, Scalar.select, hb]

theorem cStep_apply (X : Vec Ideal S160x256 .i32) (t : Fin k0_t1_loop.trips) (ht : t.val < 160) (acc : FVec Ideal S160x256 .f32) (k : Fin 160) (b : Fin 256) :
    cStep X t acc (ValueIdx.ix2 k b) = (acc (ValueIdx.ix2 k b) : EReal) + ((if colT X b k.val = colT X b t.val then wt (colT X b) t.val else 0 : ℝ) : EReal) := by
  have off : k0_off1 t = ![t.val, 0] := k0_off1_eq t
  have i0 : (Rect.unit (s := S160x256) (k0_off1 t) S1x256.size (k0_off1_inb t)).emb (ValueIdx.ix2 (n0 := 1) (n1 := 256) 0 b) = (ValueIdx.ix2 (⟨t.val, ht⟩ : Fin 160) b : S160x256.Idx) := by
    refine funext fun a => Fin.ext ?_
    match a with
    | ⟨0, _⟩ => show k0_off1 t 0 + 1 * 0 = t.val; rw [off]; simp
    | ⟨1, _⟩ => show k0_off1 t 1 + 1 * b.val = b.val; rw [off]; simp
  unfold cStep
  rw [st_v1_eq]
  have e : ∀ (p : Vec Ideal S1x256 .i32) (q : Vec Ideal S1x256 .f32), k0_pay50 (F := Ideal) X acc p q (ValueIdx.ix2 k b)
      = (acc (ValueIdx.ix2 k b) : EReal) + Scalar.select (IntOp.cmpi .eq (X (ValueIdx.ix2 k b)) (p (ValueIdx.ix2 0 b))) (q (ValueIdx.ix2 0 b)) (0 : EReal) := by
    intro p q
    unfold k0_pay50
    pointwise
    rfl
  rw [e, select_eq]
  show (acc (ValueIdx.ix2 k b) : EReal) + (if X (ValueIdx.ix2 k b) = X ((Rect.unit (s := S160x256) (k0_off1 t) S1x256.size (k0_off1_inb t)).emb (ValueIdx.ix2 (n0 := 1) (n1 := 256) 0 b))
    then wOf (F := Ideal) X ((Rect.unit (s := S160x256) (k0_off1 t) S1x256.size (k0_off1_inb t)).emb (ValueIdx.ix2 (n0 := 1) (n1 := 256) 0 b)) else 0) = _
  rw [i0, w_apply X ⟨t.val, ht⟩ b, colT_apply X k b, show colT X b t.val = X (ValueIdx.ix2 ⟨t.val, ht⟩ b) from colT_apply X ⟨t.val, ht⟩ b]
  congr 1
  split <;> rfl

theorem cRec_apply (X : Vec Ideal S160x256 .i32) (k : Fin 160) (b : Fin 256) (n : ℕ) (hn : n ≤ 160) :
    cRec X n (ValueIdx.ix2 k b) = ((∑ t ∈ Finset.range n, (if colT X b k.val = colT X b t then wt (colT X b) t else 0) : ℝ) : EReal) := by
  induction n with
  | zero => rw [Finset.sum_range_zero]; exact Ideal.ofBits_zero_f32
  | succ n ih =>
    have ht : k0_t1_loop.trips = 160 := by decide +kernel
    rw [Finset.sum_range_succ, EReal.coe_add, ← ih (by omega), show cRec X (n + 1) = cStep X ⟨n, by omega⟩ (cRec X n) from cRec_succ X ⟨n, by omega⟩]
    exact cStep_apply X ⟨n, by omega⟩ (by show n < 160; omega) _ k b

/-- The count of a token is the number of the fields that carry its tag. -/
theorem c_apply (X : Vec Ideal S160x256 .i32) (k : Fin 160) (b : Fin 256) :
    cOf (F := Ideal) X (ValueIdx.ix2 k b) = ((cnt (colT X b) (X (ValueIdx.ix2 k b)) : ℝ) : EReal) := by
  have ht : k0_t1_loop.trips = 160 := by decide +kernel
  rw [cOf, ht, cRec_apply X k b 160 le_rfl, colT_apply]
  exact congrArg _ (sum_wt _ _)

/-- The mean of a row's counts over all tags. -/
def mean (x : ℕ → BitVec 32) : ℝ := (∑ n : Fin 20000, (cnt x (BitVec.ofNat 32 n.val) : ℝ)) / 20000

/-- The variance of a row's counts over all tags. -/
def var (x : ℕ → BitVec 32) : ℝ := (∑ n : Fin 20000, ((cnt x (BitVec.ofNat 32 n.val) : ℝ) - mean x) ^ 2) / 20000

theorem var_eq (x : ℕ → BitVec 32) : (∑ n : Fin 20000, (cnt x (BitVec.ofNat 32 n.val) : ℝ) * (cnt x (BitVec.ofNat 32 n.val) : ℝ)) / 20000 - mean x * mean x = var x := by
  have h : ∑ n : Fin 20000, (cnt x (BitVec.ofNat 32 n.val) : ℝ) = mean x * 20000 := by unfold mean; ring
  unfold var
  have e : ∀ n : Fin 20000, ((cnt x (BitVec.ofNat 32 n.val) : ℝ) - mean x) ^ 2
      = (cnt x (BitVec.ofNat 32 n.val) : ℝ) * (cnt x (BitVec.ofNat 32 n.val) : ℝ) - 2 * mean x * (cnt x (BitVec.ofNat 32 n.val) : ℝ) + mean x * mean x := fun n => by ring
  simp only [e]
  rw [Finset.sum_add_distrib, Finset.sum_sub_distrib, ← Finset.mul_sum, h, Finset.sum_const, Finset.card_univ, Fintype.card_fin, nsmul_eq_mul]
  push_cast
  ring

theorem ofBits_20000 : (FloatOps.ofBits .f32 0x469C4000#32 : Ideal .f32) = ((20000 : ℝ) : EReal) := by
  show Ideal.ofBits .f32 0x469C4000#32 = _
  simp [Ideal.ofBits, Ideal.ieee, -EReal.coe_mul]; norm_num

/-- The number that the layer norms add to a variance. -/
def eps : ℝ := 10995116 / 2 ^ 40

theorem eps_pos : 0 < eps := by unfold eps; positivity

theorem ofBits_eps : (FloatOps.ofBits .f32 0x3727C5AC#32 : Ideal .f32) = ((eps : ℝ) : EReal) := by
  show Ideal.ofBits .f32 0x3727C5AC#32 = _
  unfold eps
  simp [Ideal.ofBits, Ideal.ieee, -EReal.coe_mul]; norm_num

theorem var_nonneg (x : ℕ → BitVec 32) : 0 ≤ var x := by
  unfold var
  exact div_nonneg (Finset.sum_nonneg fun _ _ => sq_nonneg _) (by norm_num)

/-- The factor a row's layer norm multiplies by. -/
def scale (x : ℕ → BitVec 32) : ℝ := (Real.sqrt (var x + eps))⁻¹

theorem div_coe (a b : ℝ) (hb : b ≠ 0) : Ideal.div (a : EReal) (b : EReal) = ((a / b : ℝ) : EReal) := by
  unfold Ideal.div
  rw [if_neg (by simpa using hb), ← EReal.coe_inv, ← EReal.coe_mul]; rfl

theorem sum_rows (x : ℕ → ℝ) : ∑ k : Fin 160, ((x k.val : ℝ) : EReal) = ((∑ k ∈ Finset.range 160, x k : ℝ) : EReal) := by
  rw [← coe_sum, Finset.sum_range]

theorem col_sum (W : FVec Ideal S160x256 .f32) (f : ℕ → ℝ) (b : Fin 256) (hW : ∀ k : Fin 160, W (ValueIdx.ix2 k b) = ((f k.val : ℝ) : EReal)) :
    shapeCast S1x256 (multiReduction .add [0] S256 W 0x00000000#32 reduces_S160x256_S256 (.inl rfl) rfl) shapeCasts_S256_S1x256 (ValueIdx.ix2 0 b)
      = ((∑ k ∈ Finset.range 160, f k : ℝ) : EReal) := by
  pointwise
  have e : ∀ k : Fin 160, W (ix2 k (ValueIdx.ix2 (n0 := 1) 0 b 1)) = ((f k.val : ℝ) : EReal) := fun k => hW k
  rw [Finset.sum_congr rfl fun k _ => e k]
  exact sum_rows f

theorem pay47_eq (X : Vec Ideal S160x256 .i32) : k0_pay47 (st_v596 (F := Ideal) X) (st_v603 X) st_v624 = wOf X := by
  rw [w47_eq, wOf_eq]

theorem pay51_apply (p q : FVec Ideal S160x256 .f32) (r : IVec S160 32) (i : S1x256.Idx) : k0_pay51 (F := Ideal) p q r i
    = Ideal.div (shapeCast S1x256 (multiReduction .add [0] S256 (k0_pay47 p q r) 0x00000000#32 reduces_S160x256_S256 (.inl rfl) rfl) shapeCasts_S256_S1x256 i)
      (FloatOps.ofBits .f32 0x469C4000#32 : Ideal .f32) := rfl

theorem pay52_apply (p q : FVec Ideal S160x256 .f32) (r : IVec S160 32) (c : FVec Ideal S160x256 .f32) (i : S1x256.Idx) : k0_pay52 (F := Ideal) p q r c i
    = Ideal.rsqrt (Ideal.div (shapeCast S1x256 (multiReduction .add [0] S256 (mulf (k0_pay47 p q r) c) 0x00000000#32 reduces_S160x256_S256 (.inl rfl) rfl) shapeCasts_S256_S1x256 i)
      (FloatOps.ofBits .f32 0x469C4000#32 : Ideal .f32) - k0_pay51 p q r i * k0_pay51 p q r i + (FloatOps.ofBits .f32 0x3727C5AC#32 : Ideal .f32)) := rfl

theorem mean_row (X : Vec Ideal S160x256 .i32) (b : Fin 256) (hx : ∀ k < 160, (colT X b k).toNat < 20000) :
    k0_pay51 (st_v596 X) (st_v603 X) st_v624 (ValueIdx.ix2 0 b) = ((mean (colT X b) : ℝ) : EReal) := by
  rw [pay51_apply, pay47_eq]
  rw [col_sum _ _ b (fun k => w_apply X k b), ofBits_20000, div_coe _ _ (by norm_num)]
  have h := sum_tokens (colT X b) hx (fun _ => 1)
  simp only [mul_one] at h
  rw [h]; rfl

theorem scale_row (X : Vec Ideal S160x256 .i32) (b : Fin 256) (hx : ∀ k < 160, (colT X b k).toNat < 20000) :
    k0_pay52 (st_v596 X) (st_v603 X) st_v624 (cOf X) (ValueIdx.ix2 0 b) = ((scale (colT X b) : ℝ) : EReal) := by
  rw [pay52_apply, pay47_eq]
  rw [mean_row X b hx, ofBits_20000, ofBits_eps, col_sum _ (fun k => wt (colT X b) k * (cnt (colT X b) (colT X b k) : ℝ)) b (fun k => by
    show wOf (F := Ideal) X (ValueIdx.ix2 k b) * cOf (F := Ideal) X (ValueIdx.ix2 k b) = _
    rw [w_apply, c_apply, ← EReal.coe_mul, colT_apply X k b]), div_coe _ _ (by norm_num), sum_tokens (colT X b) hx (fun t => (cnt (colT X b) t : ℝ)),
    ← EReal.coe_mul, ← EReal.coe_sub, ← EReal.coe_add, var_eq]
  have hv := var_nonneg (colT X b)
  have he := eps_pos
  show Ideal.rsqrt ((var (colT X b) + eps : ℝ) : EReal) = _
  rw [Ideal.rsqrt_coe, if_neg (by linarith), if_neg (by linarith)]
  rfl

/-- The first row of the second result holds the means. -/
theorem ms_mean (X : Vec Ideal S160x256 .i32) (b : Fin 256) (hx : ∀ k < 160, (colT X b k).toNat < 20000) :
    msOf (F := Ideal) X (ValueIdx.ix2 0 b) = ((mean (colT X b) : ℝ) : EReal) := by
  unfold msOf k0_pay1
  refine Eq.trans ?_ (mean_row X b hx)
  pointwise
  rfl

/-- The second row of the second result holds the scales. -/
theorem ms_scale (X : Vec Ideal S160x256 .i32) (b : Fin 256) (hx : ∀ k < 160, (colT X b k).toNat < 20000) :
    msOf (F := Ideal) X (ValueIdx.ix2 1 b) = ((scale (colT X b) : ℝ) : EReal) := by
  unfold msOf k0_pay1
  refine Eq.trans ?_ (scale_row X b hx)
  pointwise
  rfl

end Cert.Proof.Fm
-- ==== Proof.RowRead.lean ====
/-
  The row a tile makes, read at an entry over the extended reals: tagged entries, untagged entries and the scaled count.
-/
module

public import proofs.«01_k».proof.Proof.RowVal
public import Idealize.ShloMosaic.Lib.ValueIdx
public import Idealize.ShloMosaic.PureOps.Ideal.Laws

@[expose] public section

noncomputable section

namespace Cert.Proof.Fm

open Cert.KernelIdeal Cert.KernelIdeal.Gen
open Idealize.ShloMosaic

open Classical in
/-- A run of stores of one and the same value at one place. -/
theorem foldl_store {ι κ α : Type} (L : List ι) (at' : ι → κ → Prop) [∀ k j, Decidable (at' k j)] (v : ι → α) (j : κ) (w : α)
    (hv : ∀ k, at' k j → v k = w) (g : κ → α) :
    L.foldl (fun g k => fun j => if at' k j then v k else g j) g j = if ∃ k ∈ L, at' k j then w else g j := by
  induction L using List.reverseRecOn with
  | nil => simp
  | append_singleton L a ih =>
    rw [List.foldl_append]
    simp only [List.foldl_cons, List.foldl_nil]
    by_cases ha : at' a j
    · rw [if_pos ha, if_pos ⟨a, by simp, ha⟩, hv a ha]
    · rw [if_neg ha, ih]
      by_cases h : ∃ k ∈ L, at' k j
      · rw [if_pos h, if_pos]
        obtain ⟨k, h1, h2⟩ := h
        exact ⟨k, by simp [h1], h2⟩
      · rw [if_neg h, if_neg]
        rintro ⟨k, h1, h2⟩
        rcases List.mem_append.mp h1 with h1 | h1
        · exact h ⟨k, h1, h2⟩
        · rw [List.mem_singleton.mp h1] at h2; exact ha h2

open Classical in
/-- An indexed store of sixteen values, equal where they fall on one place. -/
theorem storeIdx_apply (f : Row Ideal) (idxs : Fin 1 → IVec S16 32) (v : Vec Ideal S16 .f32) (h : ∀ a x, (idxs a x).toNat < S20096.size a) (n : S20096.Idx) (w : EReal)
    (hv : ∀ k : Fin 16, (∀ a, (n a).val = (idxAt (s := S20096) idxs h (Shape.ofLane (d := ![16]) k) a).val) → v (Shape.ofLane (d := ![16]) k) = w) :
    storeIdx (F := Ideal) (s := S20096) (e := .f32) f idxs v (fun _ => 1#1) false h n
      = if ∃ k ∈ List.finRange 16, ∀ a, (n a).val = (idxAt (s := S20096) idxs h (Shape.ofLane (d := ![16]) k) a).val then w else f n := by
  have key := foldl_store (List.finRange 16) (fun (k : Fin 16) (j : S20096.Idx) => ∀ a, (j a).val = (idxAt (s := S20096) idxs h (Shape.ofLane (d := ![16]) k) a).val)
    (fun k => (v (Shape.ofLane (d := ![16]) k) : EReal)) n w hv f
  have e : storeIdx (F := Ideal) (s := S20096) (e := .f32) f idxs v (fun _ => 1#1) false h n = (List.finRange 16).foldl (fun g k => fun j : S20096.Idx =>
      if ∀ a, (j a).val = (idxAt (s := S20096) idxs h (Shape.ofLane (d := ![16]) k) a).val then v (Shape.ofLane (d := ![16]) k) else g j) f n := by
    unfold storeIdx
    simp only [if_true, Bool.false_eq_true, if_false]
    congr
  by_cases hh : ∃ k ∈ List.finRange 16, ∀ a, (n a).val = (idxAt (s := S20096) idxs h (Shape.ofLane (d := ![16]) k) a).val
  · rw [if_pos hh]; exact e.trans (key.trans (if_pos hh))
  · rw [if_neg hh]; exact e.trans (key.trans (if_neg hh))

section
variable (G B : Row Ideal) (T : Vec Ideal S256 .i32) (C : Vec Ideal S256 .f32) (m s : Vec Ideal S16 .f32) (μ σ : EReal)
  (hm : ∀ l, m l = μ) (hs : ∀ l, s l = σ) (γ : ℕ → EReal)
  (hT : ∀ l : Fin 256, l.val < 160 → (T (ValueIdx.ix1 l)).toNat < 20000)
  (hC : ∀ l : Fin 256, l.val < 160 → C (ValueIdx.ix1 l) = γ (T (ValueIdx.ix1 l)).toNat)

/-- The entry that a tag's store leaves. -/
def tagged (n : S20096.Idx) : EReal := ((γ ((n 0).val - 1) - μ) * σ) * (G n : EReal) + (B n : EReal)

include hm hs hT hC in
open Classical in
theorem groupRow_apply (u : ℕ) (hu : u + 16 ≤ 160) (o : Fin 1 → ℕ) (eo : o = ![u]) (ho : ∀ a, o a + S16.size a ≤ S256.size a) (R : Row Ideal) (n : S20096.Idx) :
    groupRow G B T C m s o ho R n = if ∃ l : Fin 256, u ≤ l.val ∧ l.val < u + 16 ∧ (T (ValueIdx.ix1 l)).toNat + 1 = (n 0).val then tagged G B μ σ γ n else R n := by
  subst eo
  have hl : ∀ k : Fin 16, u + k.val < 256 := fun k => by omega
  have i1 : ∀ k : Fin 16, (Rect.unit (s := S256) ![u] S16.size ho).emb (Shape.ofLane (d := ![16]) k) = ValueIdx.ix1 ⟨u + k.val, hl k⟩ := by
    intro k
    refine funext fun a => Fin.ext ?_
    obtain rfl : a = 0 := Fin.eq_zero a
    show u + 1 * k.val = u + k.val
    omega
  have e7 : ∀ k : Fin 16, (k1_pay7 (F := Ideal) (sl (s := S256) T ![u] S16.size ho) (Shape.ofLane (d := ![16]) k)).toNat = (T (ValueIdx.ix1 ⟨u + k.val, hl k⟩)).toNat + 1 := by
    intro k
    have h1 := hT ⟨u + k.val, hl k⟩ (by show u + k.val < 160; omega)
    show (IntOp.addi (T ((Rect.unit (s := S256) ![u] S16.size ho).emb (Shape.ofLane (d := ![16]) k))) 1#32).toNat = _
    rw [i1 k]
    show ((T (ValueIdx.ix1 ⟨u + k.val, hl k⟩)) + 1#32).toNat = _
    rw [BitVec.toNat_add]
    show ((T (ValueIdx.ix1 ⟨u + k.val, hl k⟩)).toNat + 1) % 4294967296 = _
    omega
  have hchk : k1_chk1 (k1_pay7 (F := Ideal) (sl (s := S256) T ![u] S16.size ho)) := by
    have : ∀ a x, ((![k1_pay7 (F := Ideal) (sl (s := S256) T ![u] S16.size ho)] : Fin 1 → IVec S16 32) a x).toNat < S20096.size a := by
      intro a x
      obtain rfl : a = 0 := Fin.eq_zero a
      have hx : x = Shape.ofLane (d := ![16]) (x 0) := funext fun a => by obtain rfl : a = 0 := Fin.eq_zero a; rfl
      rw [hx]
      refine (e7 (x 0)).trans_lt ?_
      have h1 := hT ⟨u + (x 0).val, hl (x 0)⟩ (by show u + (x 0).val < 160; have h : (x 0).val < 16 := (x 0).isLt; omega)
      show _ < 20096
      omega
    exact ⟨this, this, this⟩
  unfold groupRow
  rw [dif_pos hchk]
  have iff : (∃ k ∈ List.finRange 16, ∀ a, (n a).val
      = (idxAt ![k1_pay7 (F := Ideal) (sl (s := S256) T ![u] S16.size ho)] (k1_idx3_inb _ hchk) (Shape.ofLane (d := ![16]) k) a).val)
      ↔ ∃ l : Fin 256, u ≤ l.val ∧ l.val < u + 16 ∧ (T (ValueIdx.ix1 l)).toNat + 1 = (n 0).val := by
    constructor
    · rintro ⟨k, -, hk⟩
      exact ⟨⟨u + k.val, hl k⟩, Nat.le_add_right _ _, by show u + k.val < u + 16; omega, ((hk 0).trans (e7 k)).symm⟩
    · rintro ⟨l, h1, h2, h3⟩
      refine ⟨⟨l.val - u, by omega⟩, List.mem_finRange _, fun a => ?_⟩
      obtain rfl : a = 0 := Fin.eq_zero a
      have hidx : (⟨u + (l.val - u), hl ⟨l.val - u, by omega⟩⟩ : Fin 256) = l := Fin.ext (by show u + (l.val - u) = l.val; omega)
      exact h3.symm.trans ((congrArg (fun l : Fin 256 => (T (ValueIdx.ix1 l)).toNat + 1) hidx.symm).trans (e7 ⟨l.val - u, by omega⟩).symm)
  refine (storeIdx_apply R _ _ _ n (tagged G B μ σ γ n) ?_).trans (if_congr iff rfl rfl)
  · intro k hk
    have hn := (hk 0).trans (e7 k)
    have hi : idxAt ![k1_pay7 (F := Ideal) (sl (s := S256) T ![u] S16.size ho)] (k1_idx3_inb _ hchk) (Shape.ofLane (d := ![16]) k) = n :=
      funext fun a => Fin.ext (hk a).symm
    show (((C ((Rect.unit (s := S256) ![u] S16.size ho).emb (Shape.ofLane (d := ![16]) k)) : EReal) - m (Shape.ofLane (d := ![16]) k)) * s (Shape.ofLane (d := ![16]) k))
      * G (idxAt ![k1_pay7 (F := Ideal) (sl (s := S256) T ![u] S16.size ho)] (k1_idx3_inb _ hchk) (Shape.ofLane (d := ![16]) k))
      + B (idxAt ![k1_pay7 (F := Ideal) (sl (s := S256) T ![u] S16.size ho)] (k1_idx3_inb _ hchk) (Shape.ofLane (d := ![16]) k)) = _
    rw [hi, i1 k, hm, hs, hC _ (by show u + k.val < 160; omega)]
    unfold tagged
    rw [hn, Nat.add_sub_cancel]

include hm hs hT hC in
open Classical in
theorem groupRow_next (u : ℕ) (hu : u + 16 ≤ 160) (o : Fin 1 → ℕ) (eo : o = ![u]) (ho : ∀ a, o a + S16.size a ≤ S256.size a) (R R0 : Row Ideal)
    (hR : ∀ n, R n = if ∃ l : Fin 256, l.val < u ∧ (T (ValueIdx.ix1 l)).toNat + 1 = (n 0).val then tagged G B μ σ γ n else R0 n) (n : S20096.Idx) :
    groupRow G B T C m s o ho R n = if ∃ l : Fin 256, l.val < u + 16 ∧ (T (ValueIdx.ix1 l)).toNat + 1 = (n 0).val then tagged G B μ σ γ n else R0 n := by
  rw [groupRow_apply G B T C m s μ σ hm hs γ hT hC u hu o eo ho, hR]
  by_cases h1 : ∃ l : Fin 256, u ≤ l.val ∧ l.val < u + 16 ∧ (T (ValueIdx.ix1 l)).toNat + 1 = (n 0).val
  · rw [if_pos h1, if_pos]
    obtain ⟨l, h1, h2, h3⟩ := h1
    exact ⟨l, h2, h3⟩
  · rw [if_neg h1]
    refine if_congr ⟨?_, ?_⟩ rfl rfl
    · rintro ⟨l, h2, h3⟩; exact ⟨l, by omega, h3⟩
    · rintro ⟨l, h2, h3⟩
      refine ⟨l, ?_, h3⟩
      by_contra h
      exact h1 ⟨l, by omega, h2, h3⟩

end

open Classical in
/-- An entry of the row: the scaled count first, then the entries of the tags. -/
theorem makeRow_apply (G B : Row Ideal) (T : Vec Ideal S256 .i32) (C : Vec Ideal S256 .f32) (M : Vec Ideal S128 .f32) (μ σ φ : EReal)
    (hm : ∀ l : Fin 128, l.val < 16 → M (ValueIdx.ix1 l) = μ) (hs : ∀ l : Fin 128, 16 ≤ l.val → l.val < 32 → M (ValueIdx.ix1 l) = σ)
    (hf : ∀ l : Fin 128, 32 ≤ l.val → l.val < 48 → M (ValueIdx.ix1 l) = φ) (γ : ℕ → EReal)
    (hT : ∀ l : Fin 256, l.val < 160 → (T (ValueIdx.ix1 l)).toNat < 20000)
    (hC : ∀ l : Fin 256, l.val < 160 → C (ValueIdx.ix1 l) = γ (T (ValueIdx.ix1 l)).toNat) (n : S20096.Idx) :
    makeRow G B T C M n = if ∃ l : Fin 256, l.val < 160 ∧ (T (ValueIdx.ix1 l)).toNat + 1 = (n 0).val then tagged G B μ σ γ n
      else if (n 0).val = 0 then φ * ((100⁻¹ : ℝ) : EReal) else (0 - μ * σ) * (G n : EReal) + (B n : EReal) := by
  have em : ∀ l, sl (s := S128) M ![0] S16.size inb_S128_S16_0 l = μ := fun l => by
    have h : (l 0).val < 16 := (l 0).isLt
    refine Eq.trans (congrArg M (funext fun a => Fin.ext ?_)) (hm ⟨(l 0).val, by omega⟩ h)
    obtain rfl : a = 0 := Fin.eq_zero a
    show 0 + 1 * (l 0).val = (l 0).val; omega
  have es : ∀ l, sl (s := S128) M ![16] S16.size inb_S128_S16_16 l = σ := fun l => by
    have h : (l 0).val < 16 := (l 0).isLt
    refine Eq.trans (congrArg M (funext fun a => Fin.ext ?_)) (hs ⟨16 + (l 0).val, by omega⟩ (by show 16 ≤ 16 + (l 0).val; omega) (by show 16 + (l 0).val < 32; omega))
    obtain rfl : a = 0 := Fin.eq_zero a
    show 16 + 1 * (l 0).val = 16 + (l 0).val; omega
  have ef : ∀ l, sl (s := S128) M ![32] S16.size inb_S128_S16_32 l = φ := fun l => by
    have h : (l 0).val < 16 := (l 0).isLt
    refine Eq.trans (congrArg M (funext fun a => Fin.ext ?_)) (hf ⟨32 + (l 0).val, by omega⟩ (by show 32 ≤ 32 + (l 0).val; omega) (by show 32 + (l 0).val < 48; omega))
    obtain rfl : a = 0 := Fin.eq_zero a
    show 32 + 1 * (l 0).val = 32 + (l 0).val; omega
  unfold makeRow
  dsimp only
  generalize sl (s := S128) M ![0] S16.size inb_S128_S16_0 = m at em
  generalize sl (s := S128) M ![16] S16.size inb_S128_S16_16 = s at es
  generalize sl (s := S128) M ![32] S16.size inb_S128_S16_32 = fc at ef
  have hfill : ∀ n, fillRow G B m s n = (0 - μ * σ) * (G n : EReal) + (B n : EReal) := fun n => by
    show ((FloatOps.ofBits .f32 0#32 : Ideal .f32) - m (lane n) * s (lane n)) * (G n : EReal) + (B n : EReal) = _
    rw [em, es, show (FloatOps.ofBits .f32 0#32 : Ideal .f32) = (0 : EReal) from Ideal.ofBits_zero_f32]
  have hhead : ∀ n, headRow fc (fillRow G B m s) n = if (n 0).val = 0 then φ * ((100⁻¹ : ℝ) : EReal) else (0 - μ * σ) * (G n : EReal) + (B n : EReal) := fun n => by
    by_cases h : (n 0).val < 16
    · rw [headRow_lt _ _ _ h]
      have hsl : sl (s := S20096) (fillRow G B m s) ![0] S16.size inb_S20096_S16_0 (ln (n 0).val h) = fillRow G B m s n := by
        refine congrArg (fillRow G B m s) (funext fun a => Fin.ext ?_)
        obtain rfl : a = 0 := Fin.eq_zero a
        show 0 + 1 * (n 0).val = (n 0).val; omega
      show Scalar.select (IntOp.cmpi .eq (BitVec.ofNat 32 (0 * 16 + (n 0).val)) 0#32) ((fc (ln (n 0).val h) : EReal) * ((100⁻¹ : ℝ) : EReal))
        (sl (s := S20096) (fillRow G B m s) ![0] S16.size inb_S20096_S16_0 (ln (n 0).val h)) = _
      rw [hsl, hfill, ef]
      by_cases h0 : (n 0).val = 0
      · rw [if_pos h0, h0]; rfl
      · rw [if_neg h0]
        have hne : (BitVec.ofNat 32 (n 0).val == 0#32) = false := by
          rw [beq_eq_false_iff_ne]
          intro e
          have := congrArg BitVec.toNat e
          rw [BitVec.toNat_ofNat, Nat.mod_eq_of_lt (by omega)] at this
          exact h0 (by simpa using this)
        rw [show 0 * 16 + (n 0).val = (n 0).val by omega]
        simp [IntOp.cmpi, Scalar.select, hne]
    · unfold headRow
      rw [dif_neg h, if_neg (by omega), hfill]
  have next := groupRow_next G B T C m s μ σ em es γ hT hC
  have h0 : ∀ n, headRow fc (fillRow G B m s) n = if ∃ l : Fin 256, l.val < 0 ∧ (T (ValueIdx.ix1 l)).toNat + 1 = (n 0).val then tagged G B μ σ γ n
      else headRow fc (fillRow G B m s) n := fun n => by rw [if_neg]; rintro ⟨l, h, -⟩; omega
  have h1 := next 0 (by decide) ![0] rfl inb_S256_S16_0 _ _ h0
  have h2 := next 16 (by decide) ![16] rfl inb_S256_S16_16 _ _ h1
  have h3 := next 32 (by decide) ![32] rfl inb_S256_S16_32 _ _ h2
  have h4 := next 48 (by decide) ![48] rfl inb_S256_S16_48 _ _ h3
  have h5 := next 64 (by decide) ![64] rfl inb_S256_S16_64 _ _ h4
  have h6 := next 80 (by decide) ![80] rfl inb_S256_S16_80 _ _ h5
  have h7 := next 96 (by decide) ![96] rfl inb_S256_S16_96 _ _ h6
  have h8 := next 112 (by decide) ![112] rfl inb_S256_S16_112 _ _ h7
  have h9 := next 128 (by decide) ![128] rfl inb_S256_S16_128 _ _ h8
  have h10 := next 144 (by decide) ![144] rfl inb_S256_S16_144 _ _ h9
  rw [h10, hhead]

end Cert.Proof.Fm
-- ==== Proof.HostRead.lean ====
/-
  The arrays of the SparseCore call, read entry by entry from the arguments, over the extended reals.
-/
module

public import proofs.«01_k».proof.Proof.Keep
public import proofs.«01_k».proof.Proof.StatVal
public import proofs.«01_k».proof.Proof.RowRead
public import Idealize.ShloMosaic.Lib.KernelVsHost
public import Idealize.ShloMosaic.Lib.Pipeline.ValueKit.Geometry

@[expose] public section

noncomputable section

namespace Cert.Proof.Fm

open Cert.KernelIdeal Cert.KernelIdeal.Gen
open Idealize.ShloMosaic
open Idealize.ShloMosaic.Pipeline (arrRef arrRefs ucRefs RDat Dat)
open Idealize.ShloMosaic.StableHlo (after)

variable (m : (ℓ : Loc nD τ sig) → Buf (Elt Ideal) ℓ) (d : Dev nD)

/-- The tags of row `b`, in one line. -/
def tagOf (b : Fin 256) (k : ℕ) : BitVec 32 :=
  if h : k < 160 then (m (d, ref main_arg0) : S256x8x20.Idx → BitVec 32) (ValueIdx.ix3 b ⟨k / 20, by omega⟩ ⟨k % 20, by omega⟩) else 0#32

/-- The tags as the statistics kernel takes them. -/
abbrev XT : Vec Ideal S160x256 .i32 := in0_0 (V1 m d) ⟨0, by decide⟩

theorem flat_apply (A : S256x8x20.Idx → BitVec 32) (b : Fin 256) (k : Fin 160) :
    shapeCast S256x160 A shapeCasts_S256x8x20_S256x160 (ValueIdx.ix2 b k) = A (ValueIdx.ix3 b ⟨k / 20, by omega⟩ ⟨k % 20, by omega⟩) := by
  pointwise
  rfl

theorem v1_eq : V1 m d (ref main_v1) = transpose S160x256 [1, 0] (shapeCast S256x160 (m (d, ref main_arg0)) shapeCasts_S256x8x20_S256x160) transposes_S256x160_S160x256_1_0 := by
  unfold V1 opsA V0
  after_results
  rfl

theorem XT_eq : XT m d = V1 m d (ref main_v1) := by
  funext x
  refine congrArg (V1 m d (ref main_v1)) (funext fun a => Fin.ext ?_)
  blk_simp
  match a with
  | ⟨0, _⟩ => exact Nat.zero_add _
  | ⟨1, _⟩ => exact Nat.zero_add _

theorem XT_apply (b : Fin 256) (k : Fin 160) : XT m d (ValueIdx.ix2 k b) = tagOf m d b k.val := by
  rw [XT_eq, v1_eq]
  unfold tagOf
  rw [dif_pos k.isLt]
  refine Eq.trans ?_ (flat_apply (m (d, ref main_arg0)) b k)
  pointwise

theorem colT_XT (b : Fin 256) : colT (XT m d) b = tagOf m d b := by
  funext k
  by_cases h : k < 160
  · exact (colT_apply _ ⟨k, h⟩ b).trans (XT_apply m d b ⟨k, h⟩)
  · unfold colT tagOf; rw [dif_neg h, dif_neg h]

theorem v2_0_eq : V2 m d (ref main_v2_0) = cOf (F := Ideal) (XT m d) :=
  (putArr_arr _ launch0.win.arr_inj (fun w => (D0 m d).arrAt w cfg0.N) (V1 m d) 1).trans
    ((D0 m d).arrAt_eq_of_after_last 1 ⟨0, by decide⟩ (by decide +kernel) _ fun j => rfl)

theorem v2_1_eq : V2 m d (ref main_v2_1) = msOf (F := Ideal) (XT m d) :=
  (putArr_arr _ launch0.win.arr_inj (fun w => (D0 m d).arrAt w cfg0.N) (V1 m d) 2).trans
    ((D0 m d).arrAt_eq_of_after_last 2 ⟨0, by decide⟩ (by decide +kernel) _ fun j => rfl)

theorem t_apply (b : Fin 256) (k : Fin 256) (hk : k.val < 160) : (arrOf m d).t (ValueIdx.ix2 b k) = tagOf m d b k.val := by
  rw [tags_eq]
  unfold tagOf
  rw [dif_pos hk]
  refine Eq.trans ?_ (flat_apply (m (d, ref main_arg0)) b ⟨k.val, hk⟩)
  pointwise
  rw [dif_pos (show ((ValueIdx.ix2 b k : S256x256.Idx) 1).val < 160 from hk)]

theorem c_eq : (arrOf m d).c = pad S256x256 ![0, 0] ![0, 96] ![0, 0] (transpose S256x160 [1, 0] (cOf (F := Ideal) (XT m d)) transposes_S160x256_S256x160_1_0)
    (sitofp .f32 (constantI S_ 32 0#32)) pads_S256x160_S256x256_000_0960 h_S_ := by
  show V3 m d (ref main_v9) = _
  unfold V3 opsB
  after_results
  rw [v2_0_eq]
  rfl

theorem c_arr_apply (b : Fin 256) (k : Fin 256) (hk : k.val < 160) : (arrOf m d).c (ValueIdx.ix2 b k) = cOf (F := Ideal) (XT m d) (ValueIdx.ix2 ⟨k.val, hk⟩ b) := by
  rw [c_eq]
  pointwise
  rw [dif_pos (show ((ValueIdx.ix2 b k : S256x256.Idx) 1).val < 160 from hk)]
  rfl

/-- Contents after a line of operations at the buffer one of them writes and none after it: that operation's result. -/
theorem after_mid (A B : List (HloOp τ sig (Elt Ideal))) (op : HloOp τ sig (Elt Ideal)) (W : Valuation τ sig (Elt Ideal)) (r : Ref sig .tc)
    (ws : List (Ref sig .tc)) (hB : B.map HloOp.writes = ws.map fun r => {ref r}) (hr : r ∉ ws) :
    after (A ++ op :: B) W (ref r) = op.result (after A W) (ref r) := by
  induction A generalizing W with
  | nil => exact StableHlo.after_of_writes_sub B _ (StableHlo.forall_writes_sub_of_map hB) hr
  | cons a A ih => exact ih (a.result W)

theorem after_at (ops : List (HloOp τ sig (Elt Ideal))) (k : ℕ) (hk : k < ops.length) (W : Valuation τ sig (Elt Ideal)) (r : Ref sig .tc)
    (ws : List (Ref sig .tc)) (hB : (ops.drop (k + 1)).map HloOp.writes = ws.map fun r => {ref r}) (hr : r ∉ ws) :
    after ops W (ref r) = ops[k].result (after (ops.take k) W) (ref r) := by
  conv_lhs => rw [← List.take_append_drop k ops, List.drop_eq_getElem_cons hk]
  exact after_mid _ _ _ W r ws hB hr

theorem g_eq : (arrOf m d).g = concatenate S20096 0 [⟨S1, broadcastInDim S1 ![] bcast_S_S1 (constant (F := Ideal) S_ .f32 0x00000000#32)⟩, ⟨S20000, (m (d, ref main_arg2) : S20000.Idx → EReal)⟩,
    ⟨S95, broadcastInDim S95 ![] bcast_S_S95 (constant (F := Ideal) S_ .f32 0x00000000#32)⟩] concatenates_S1_S20000_S95_S20096_d0 := by
  have e : V2 m d (ref main_arg2) = m (d, ref main_arg2) := (keep0 m d (by decide)).trans (keepA _ (by decide))
  refine (after_at opsB 24 (by decide) (V2 m d) main_v20 [main_cst_3, main_v21, main_v22] rfl (by decide)).trans ?_
  rw [show (opsB (F := Ideal))[24]'(by decide) =
    StableHlo.nary ![main_v18, main_arg2, main_v19] main_v20 (fun u => (concatenate S20096 0 [⟨S1, (u 0 : (⟨S1, .f32⟩ : BufTy).Contents (Elt Ideal))⟩, ⟨S20000, (u 1 : (⟨S20000, .f32⟩ : BufTy).Contents (Elt Ideal))⟩, ⟨S95, (u 2 : (⟨S95, .f32⟩ : BufTy).Contents (Elt Ideal))⟩] concatenates_S1_S20000_S95_S20096_d0 : (⟨S20096, .f32⟩ : BufTy).Contents (Elt Ideal))) from rfl]
  refine (StableHlo.nary_result _ _ _ _ _ _).trans ?_
  have e0 : after (List.take 24 opsB) (V2 m d) (ref main_v18) = broadcastInDim S1 ![] bcast_S_S1 (constant (F := Ideal) S_ .f32 0x00000000#32) := by
    unfold opsB; simp only [List.take]; after_results
  have e1 : after (List.take 24 opsB) (V2 m d) (ref main_arg2) = m (d, ref main_arg2) := by
    rw [← e]; unfold opsB; simp only [List.take]; after_results
  have e2 : after (List.take 24 opsB) (V2 m d) (ref main_v19) = broadcastInDim S95 ![] bcast_S_S95 (constant (F := Ideal) S_ .f32 0x00000000#32) := by
    unfold opsB; simp only [List.take]; after_results
  rw [← e0, ← e1, ← e2]
  rfl

theorem g_apply (n : Fin 20000) : (arrOf m d).g (ValueIdx.ix1 ⟨n.val + 1, by omega⟩) = (m (d, ref main_arg2) : S20000.Idx → EReal) (ValueIdx.ix1 n) := by
  rw [g_eq]
  pointwise
  rw [dif_neg (by omega), dif_pos (by omega)]
  rfl

theorem b_eq : (arrOf m d).b = concatenate S20096 0 [⟨S1, broadcastInDim S1 ![] bcast_S_S1 (constant (F := Ideal) S_ .f32 0x00000000#32)⟩, ⟨S20000, (m (d, ref main_arg3) : S20000.Idx → EReal)⟩,
    ⟨S95, broadcastInDim S95 ![] bcast_S_S95 (constant (F := Ideal) S_ .f32 0x00000000#32)⟩] concatenates_S1_S20000_S95_S20096_d0 := by
  have e : V2 m d (ref main_arg3) = m (d, ref main_arg3) := (keep0 m d (by decide)).trans (keepA _ (by decide))
  refine (after_at opsB 27 (by decide) (V2 m d) main_v22 [] rfl (by decide)).trans ?_
  rw [show (opsB (F := Ideal))[27]'(by decide) =
    StableHlo.nary ![main_v18, main_arg3, main_v21] main_v22 (fun u => (concatenate S20096 0 [⟨S1, (u 0 : (⟨S1, .f32⟩ : BufTy).Contents (Elt Ideal))⟩, ⟨S20000, (u 1 : (⟨S20000, .f32⟩ : BufTy).Contents (Elt Ideal))⟩, ⟨S95, (u 2 : (⟨S95, .f32⟩ : BufTy).Contents (Elt Ideal))⟩] concatenates_S1_S20000_S95_S20096_d0 : (⟨S20096, .f32⟩ : BufTy).Contents (Elt Ideal))) from rfl]
  refine (StableHlo.nary_result _ _ _ _ _ _).trans ?_
  have e0 : after (List.take 27 opsB) (V2 m d) (ref main_v18) = broadcastInDim S1 ![] bcast_S_S1 (constant (F := Ideal) S_ .f32 0x00000000#32) := by
    unfold opsB; simp only [List.take]; after_results
  have e1 : after (List.take 27 opsB) (V2 m d) (ref main_arg3) = m (d, ref main_arg3) := by
    rw [← e]; unfold opsB; simp only [List.take]; after_results
  have e2 : after (List.take 27 opsB) (V2 m d) (ref main_v21) = broadcastInDim S95 ![] bcast_S_S95 (constant (F := Ideal) S_ .f32 0x00000000#32) := by
    unfold opsB; simp only [List.take]; after_results
  rw [← e0, ← e1, ← e2]
  rfl

theorem b_apply (n : Fin 20000) : (arrOf m d).b (ValueIdx.ix1 ⟨n.val + 1, by omega⟩) = (m (d, ref main_arg3) : S20000.Idx → EReal) (ValueIdx.ix1 n) := by
  rw [b_eq]
  pointwise
  rw [dif_neg (by omega), dif_pos (by omega)]
  rfl

/-- Row `k` of the statistics, repeated sixteen times per batch row. -/
def rep16 (A : Vec Ideal S256 .f32) : Vec Ideal S256x16 .f32 := broadcastInDim S256x16 ![0, 1] bcast_S256x1_S256x16_0_1 (broadcastInDim S256x1 ![0] bcast_S256_S256x1_0 A)

def msRow0 (A : Vec Ideal S8x256 .f32) : Vec Ideal S256 .f32 := shapeCast S256 (extractStridedSlice S1x256 ![0, 0] A slices_S8x256_S1x256_0_0) shapeCasts_S1x256_S256
def msRow1 (A : Vec Ideal S8x256 .f32) : Vec Ideal S256 .f32 := shapeCast S256 (extractStridedSlice S1x256 ![1, 0] A slices_S8x256_S1x256_1_0) shapeCasts_S1x256_S256

theorem s_eq : (arrOf m d).s = concatenate S256x128 1 [⟨S256x16, rep16 (msRow0 (msOf (F := Ideal) (XT m d)))⟩, ⟨S256x16, rep16 (msRow1 (msOf (F := Ideal) (XT m d)))⟩,
    ⟨S256x16, rep16 (m (d, ref main_arg1))⟩, ⟨S256x80, broadcastInDim S256x80 ![] bcast_S_S256x80 (constant (F := Ideal) S_ .f32 0x00000000#32)⟩]
    concatenates_S256x16_S256x16_S256x16_S256x80_S256x128_d1 := by
  have e : V2 m d (ref main_arg1) = m (d, ref main_arg1) := (keep0 m d (by decide)).trans (keepA _ (by decide))
  refine (after_at opsB 19 (by decide) (V2 m d) main_v17 [main_cst_1, main_v18, main_cst_2, main_v19, main_v20, main_cst_3, main_v21, main_v22] rfl (by decide)).trans ?_
  rw [show (opsB (F := Ideal))[19]'(by decide) =
    StableHlo.nary ![main_v11, main_v13, main_v15, main_v16] main_v17 (fun u => (concatenate S256x128 1 [⟨S256x16, (u 0 : (⟨S256x16, .f32⟩ : BufTy).Contents (Elt Ideal))⟩, ⟨S256x16, (u 1 : (⟨S256x16, .f32⟩ : BufTy).Contents (Elt Ideal))⟩, ⟨S256x16, (u 2 : (⟨S256x16, .f32⟩ : BufTy).Contents (Elt Ideal))⟩, ⟨S256x80, (u 3 : (⟨S256x80, .f32⟩ : BufTy).Contents (Elt Ideal))⟩] concatenates_S256x16_S256x16_S256x16_S256x80_S256x128_d1 : (⟨S256x128, .f32⟩ : BufTy).Contents (Elt Ideal))) from rfl]
  refine (StableHlo.nary_result _ _ _ _ _ _).trans ?_
  have e0 : after (List.take 19 opsB) (V2 m d) (ref main_v11) = rep16 (msRow0 (msOf (F := Ideal) (XT m d))) := by
    unfold opsB; simp only [List.take]; after_results; rw [v2_1_eq]; rfl
  have e1 : after (List.take 19 opsB) (V2 m d) (ref main_v13) = rep16 (msRow1 (msOf (F := Ideal) (XT m d))) := by
    unfold opsB; simp only [List.take]; after_results; rw [v2_1_eq]; rfl
  have e2 : after (List.take 19 opsB) (V2 m d) (ref main_v15) = rep16 (m (d, ref main_arg1)) := by
    rw [← e]; unfold opsB; simp only [List.take]; after_results; rfl
  have e3 : after (List.take 19 opsB) (V2 m d) (ref main_v16) = broadcastInDim S256x80 ![] bcast_S_S256x80 (constant (F := Ideal) S_ .f32 0x00000000#32) := by
    unfold opsB; simp only [List.take]; after_results
  rw [← e0, ← e1, ← e2, ← e3]
  rfl

theorem rep16_apply (A : Vec Ideal S256 .f32) (b : Fin 256) (l : Fin 16) : rep16 A (ValueIdx.ix2 b l) = A (ValueIdx.ix1 b) := by
  unfold rep16
  pointwise
  rfl

theorem msRow0_apply (A : Vec Ideal S8x256 .f32) (b : Fin 256) : msRow0 A (ValueIdx.ix1 b) = A (ValueIdx.ix2 0 b) := by
  unfold msRow0
  pointwise
  rfl

theorem msRow1_apply (A : Vec Ideal S8x256 .f32) (b : Fin 256) : msRow1 A (ValueIdx.ix1 b) = A (ValueIdx.ix2 1 b) := by
  unfold msRow1
  pointwise
  rfl

theorem s_mean (b : Fin 256) (l : Fin 128) (hl : l.val < 16) : (arrOf m d).s (ValueIdx.ix2 b l) = msOf (F := Ideal) (XT m d) (ValueIdx.ix2 0 b) := by
  rw [s_eq]
  refine Eq.trans ?_ ((rep16_apply (msRow0 (msOf (F := Ideal) (XT m d))) b ⟨l.val, hl⟩).trans (msRow0_apply _ b))
  pointwise
  exact dif_pos hl

theorem s_scale (b : Fin 256) (l : Fin 128) (h1 : 16 ≤ l.val) (hl : l.val < 32) : (arrOf m d).s (ValueIdx.ix2 b l) = msOf (F := Ideal) (XT m d) (ValueIdx.ix2 1 b) := by
  rw [s_eq]
  refine Eq.trans ?_ ((rep16_apply (msRow1 (msOf (F := Ideal) (XT m d))) b ⟨l.val - 16, by omega⟩).trans (msRow1_apply _ b))
  pointwise
  exact (dif_neg (show ¬ l.val < 16 by omega)).trans (dif_pos (show l.val - 16 < 16 by omega))

theorem s_flow (b : Fin 256) (l : Fin 128) (h1 : 32 ≤ l.val) (hl : l.val < 48) : (arrOf m d).s (ValueIdx.ix2 b l) = (m (d, ref main_arg1) : S256.Idx → EReal) (ValueIdx.ix1 b) := by
  rw [s_eq]
  refine Eq.trans ?_ (rep16_apply (m (d, ref main_arg1)) b ⟨l.val - 32, by omega⟩)
  pointwise
  refine (dif_neg (show ¬ l.val < 16 by omega)).trans ((dif_neg (show ¬ l.val - 16 < 16 by omega)).trans ((dif_pos (show l.val - 16 - 16 < 16 by omega)).trans ?_))
  exact congrArg (rep16 (m (d, ref main_arg1))) (congrArg (ValueIdx.ix2 b) (Fin.ext (show l.val - 16 - 16 = l.val - 32 by omega)))

end Cert.Proof.Fm
-- ==== Proof.YVal.lean ====
/-
  The rows the SparseCore call leaves, entry by entry: the scaled count of flows first, then the normalised count of every tag.
-/
module

public import proofs.«01_k».proof.Proof.HostRead

@[expose] public section

noncomputable section

namespace Cert.Proof.Fm

open Cert.KernelIdeal Cert.KernelIdeal.Gen
open Idealize.ShloMosaic

variable (m : (ℓ : Loc nD τ sig) → Buf (Elt Ideal) ℓ) (d : Dev nD)

/-- How many fields of row `b` carry tag `n`. -/
def tagCnt (b : Fin 256) (n : ℕ) : ℝ := (cnt (tagOf m d b) (BitVec.ofNat 32 n) : ℝ)

/-- The flow count of row `b`. -/
def flow (b : Fin 256) : EReal := (m (d, ref main_arg1) : S256.Idx → EReal) (ValueIdx.ix1 b)

/-- Row `b` of the tags, the corrections and the moments that the call takes. -/
def rT (b : Fin 256) : Vec Ideal S256 .i32 := fun x => (arrOf m d).t (ValueIdx.ix2 b (x 0))
def rC (b : Fin 256) : Vec Ideal S256 .f32 := fun x => (arrOf m d).c (ValueIdx.ix2 b (x 0))
def rS (b : Fin 256) : Vec Ideal S128 .f32 := fun x => (arrOf m d).s (ValueIdx.ix2 b (x 0))

theorem at2_ix2 {a b : ℕ} (r : Fin a) (n : Fin b) : at2 r n = ValueIdx.ix2 r n := at2_eq (ValueIdx.ix2 r n)
theorem at1_ix1 {a : ℕ} (n : Fin a) : at1 n = ValueIdx.ix1 n := at1_eq (ValueIdx.ix1 n)

theorem yOf_apply (fG fB : Row Ideal) (fT : Vec Ideal S256x256 .i32) (fC : Vec Ideal S256x256 .f32) (fS : Vec Ideal S256x128 .f32) (b : Fin 256) (n : Fin 20096) :
    yOf fG fB fT fC fS (ValueIdx.ix2 b n) = makeRow fG fB (fun x => fT (ValueIdx.ix2 b (x 0))) (fun x => fC (ValueIdx.ix2 b (x 0))) (fun x => fS (ValueIdx.ix2 b (x 0))) (ValueIdx.ix1 n) := by
  have e : yOf fG fB fT fC fS (ValueIdx.ix2 b n) = makeRow fG fB (fun x => fT (at2 b (x 0))) (fun x => fC (at2 b (x 0))) (fun x => fS (at2 b (x 0))) (at1 n) := rfl
  have e1 : (fun x : S256.Idx => fT (at2 b (x 0))) = fun x => fT (ValueIdx.ix2 b (x 0)) := funext fun x => congrArg fT (at2_ix2 b (x 0))
  have e2 : (fun x : S256.Idx => fC (at2 b (x 0))) = fun x => fC (ValueIdx.ix2 b (x 0)) := funext fun x => congrArg fC (at2_ix2 b (x 0))
  have e3 : (fun x : S128.Idx => fS (at2 b (x 0))) = fun x => fS (ValueIdx.ix2 b (x 0)) := funext fun x => congrArg fS (at2_ix2 b (x 0))
  rw [e, e1, e2, e3, at1_ix1]

theorem out_row (b : Fin 256) (n : Fin 20096) : (arrOf m d).out (ValueIdx.ix2 b n) = makeRow (arrOf m d).g (arrOf m d).b (rT m d b) (rC m d b) (rS m d b) (ValueIdx.ix1 n) :=
  yOf_apply _ _ _ _ _ b n

/-- The normalised count of tag `n` in row `b`, scaled and shifted by the arguments. -/
def normed (b : Fin 256) (n : Fin 20000) : EReal :=
  (((tagCnt m d b n.val - mean (tagOf m d b)) * scale (tagOf m d b) : ℝ) : EReal) * (m (d, ref main_arg2) : S20000.Idx → EReal) (ValueIdx.ix1 n)
    + (m (d, ref main_arg3) : S20000.Idx → EReal) (ValueIdx.ix1 n)

section
variable (hx : ∀ b k, k < 160 → (tagOf m d b k).toNat < 20000)
include hx

open Classical in
theorem out_apply (b : Fin 256) (n : Fin 20096) : (arrOf m d).out (ValueIdx.ix2 b n)
    = if ∃ l : Fin 256, l.val < 160 ∧ (tagOf m d b l.val).toNat + 1 = n.val
      then tagged (arrOf m d).g (arrOf m d).b ((mean (tagOf m d b) : ℝ) : EReal) ((scale (tagOf m d b) : ℝ) : EReal) (fun t => ((tagCnt m d b t : ℝ) : EReal)) (ValueIdx.ix1 n)
      else if n.val = 0 then flow m d b * ((100⁻¹ : ℝ) : EReal)
      else (0 - ((mean (tagOf m d b) : ℝ) : EReal) * ((scale (tagOf m d b) : ℝ) : EReal)) * ((arrOf m d).g (ValueIdx.ix1 n) : EReal) + ((arrOf m d).b (ValueIdx.ix1 n) : EReal) := by
  have hcol := colT_XT m d b
  rw [out_row]
  refine (makeRow_apply (arrOf m d).g (arrOf m d).b (rT m d b) (rC m d b) (rS m d b)
    ((mean (tagOf m d b) : ℝ) : EReal) ((scale (tagOf m d b) : ℝ) : EReal) (flow m d b) ?_ ?_ ?_
    (fun t => ((tagCnt m d b t : ℝ) : EReal)) ?_ ?_ (ValueIdx.ix1 n)).trans ?_
  · intro l hl
    refine (s_mean m d b l hl).trans ((ms_mean (XT m d) b ?_).trans (by rw [hcol]))
    rw [hcol]; exact hx b
  · intro l h1 hl
    refine (s_scale m d b l h1 hl).trans ((ms_scale (XT m d) b ?_).trans (by rw [hcol]))
    rw [hcol]; exact hx b
  · intro l h1 hl
    exact s_flow m d b l h1 hl
  · intro l hl
    show ((arrOf m d).t (ValueIdx.ix2 b l)).toNat < _
    rw [t_apply m d b l hl]; exact hx b _ hl
  · intro l hl
    show (arrOf m d).c (ValueIdx.ix2 b l) = ((tagCnt m d b ((arrOf m d).t (ValueIdx.ix2 b l)).toNat : ℝ) : EReal)
    rw [t_apply m d b l hl, c_arr_apply m d b l hl]
    refine (c_apply (XT m d) ⟨l.val, hl⟩ b).trans ?_
    rw [hcol, XT_apply]
    unfold tagCnt
    rw [BitVec.ofNat_toNat, BitVec.setWidth_eq]
  · refine if_congr ⟨?_, ?_⟩ rfl rfl
    · rintro ⟨l, h1, h2⟩; refine ⟨l, h1, ?_⟩; rw [← t_apply m d b l h1]; exact h2
    · rintro ⟨l, h1, h2⟩; refine ⟨l, h1, ?_⟩; rw [← t_apply m d b l h1] at h2; exact h2

theorem y_head (b : Fin 256) : (arrOf m d).out (ValueIdx.ix2 b ⟨0, by decide⟩) = flow m d b * ((100⁻¹ : ℝ) : EReal) := by
  rw [out_apply m d hx b ⟨0, by decide⟩, if_neg (by rintro ⟨l, -, h⟩; exact absurd h (Nat.succ_ne_zero _)), if_pos rfl]

theorem y_entry (b : Fin 256) (n : Fin 20000) : (arrOf m d).out (ValueIdx.ix2 b ⟨n.val + 1, by omega⟩) = normed m d b n := by
  rw [out_apply m d hx b ⟨n.val + 1, by omega⟩]
  unfold normed
  rw [← g_apply m d n, ← b_apply m d n]
  by_cases h : ∃ l : Fin 256, l.val < 160 ∧ (tagOf m d b l.val).toNat + 1 = n.val + 1
  · rw [if_pos h]
    unfold tagged
    rw [EReal.coe_mul, EReal.coe_sub]
    rfl
  · rw [if_neg h, if_neg (Nat.succ_ne_zero _)]
    have h0 : tagCnt m d b n.val = 0 := by
      classical
      unfold tagCnt cnt
      rw [Nat.cast_eq_zero]
      refine Finset.card_eq_zero.mpr (Finset.eq_empty_of_forall_notMem fun f hf => ?_)
      have hf1 := Finset.mem_filter.mp hf
      obtain ⟨i, hi, e⟩ := hf1.2
      have hf' : f < 8 := Finset.mem_range.mp hf1.1
      refine h ⟨⟨20 * f + i, by omega⟩, show 20 * f + i < 160 by omega, ?_⟩
      show (tagOf m d b (20 * f + i)).toNat + 1 = _
      rw [e, BitVec.toNat_ofNat, Nat.mod_eq_of_lt (by omega)]
    have e : (0 : EReal) - ((mean (tagOf m d b) : ℝ) : EReal) * ((scale (tagOf m d b) : ℝ) : EReal) = (((0 - mean (tagOf m d b)) * scale (tagOf m d b) : ℝ) : EReal) := by
      rw [zero_sub, zero_sub, neg_mul, EReal.coe_neg, EReal.coe_mul]
    rw [h0, e]

end

end Cert.Proof.Fm
-- ==== Proof.DenseVal.lean ====
/-
  The dense kernels at the extended reals, entry by entry: sums of products, the GELU and the LayerNorm of a row.
-/
module

public import proofs.«01_k».proof.Proof.TcWp
public import proofs.«01_k».proof.Proof.StatVal
public import Idealize.ShloMosaic.Lib.KernelVsHost

@[expose] public section

noncomputable section

namespace Cert.Proof.Fm

open Cert.KernelIdeal Cert.KernelIdeal.Gen
open Idealize.ShloMosaic

/-- The GELU of `x`: half of `x`, times one plus the error function of `x` over the root of two. -/
def gl (x : EReal) : EReal := Ideal.ofBits .f32 0x3F000000#32 * x * (1 + Ideal.erf (x * Ideal.ofBits .f32 0x3F3504F3#32))

/-- The mean of a row of 1024. -/
def rowMean (h : Fin 1024 → EReal) : EReal := Ideal.div (∑ k, h k) (Ideal.ofBits .f32 0x44800000#32)
/-- The variance of a row of 1024, and the small constant. -/
def rowVar (h : Fin 1024 → EReal) : EReal :=
  Ideal.div (∑ k, (h k - rowMean h) * (h k - rowMean h)) (Ideal.ofBits .f32 0x44800000#32) + Ideal.ofBits .f32 0x3727C5AC#32
/-- The LayerNorm of a row, with scale `g` and shift `b`. -/
def layer (h g b : Fin 1024 → EReal) (j : Fin 1024) : EReal := (h j - rowMean h) * Ideal.rsqrt (rowVar h) * g j + b j

/-- The product of a row and a column, plus a bias. -/
def lin {n : ℕ} (x w : Fin n → EReal) (b : EReal) : EReal := (∑ k, x k * w k) + b

theorem lin_congr {n : ℕ} {x x' w w' : Fin n → EReal} {b b' : EReal} (hx : ∀ k, x k = x' k) (hw : ∀ k, w k = w' k) (hb : b = b') : lin x w b = lin x' w' b' := by
  rw [funext hx, funext hw, hb]

theorem k4_pay1_apply (X : Vec Ideal S256x1024 .f32) (W : Vec Ideal S1024x2048 .f32) (b : Vec Ideal S1x2048 .f32) (r : Fin 256) (j : Fin 2048) :
    k4_pay1 X W b (ValueIdx.ix2 r j) = lin (fun k => X (ValueIdx.ix2 r k)) (fun k => W (ValueIdx.ix2 k j)) (b (ValueIdx.ix2 0 j)) := by
  unfold k4_pay1 lin
  dsimp only
  pointwise
  rfl

theorem mm1Of_apply (Y : Vec Ideal S256x20096 .f32) (W : Vec Ideal S20001x128 .f32) (b : Vec Ideal S1x128 .f32) (r : Fin 256) (j : Fin 128) :
    mm1Of Y W b (ValueIdx.ix2 r j) = gl (lin (fun k : Fin 20001 => Y (ValueIdx.ix2 r ⟨k.val, by omega⟩)) (fun k => W (ValueIdx.ix2 k j)) (b (ValueIdx.ix2 0 j))) := by
  unfold mm1Of k2_pay1 lin gl
  dsimp only
  pointwise
  rfl

theorem k3_pay3_apply (H : Vec Ideal S256x1024 .f32) (g b : Vec Ideal S1x1024 .f32) (W2 : Vec Ideal S1024x1024 .f32) (b2 : Vec Ideal S1x1024 .f32) (r : Fin 256) (j : Fin 1024) :
    k3_pay3 H g b W2 b2 (ValueIdx.ix2 r j) = gl (lin (layer (fun k => H (ValueIdx.ix2 r k)) (fun k => g (ValueIdx.ix2 0 k)) (fun k => b (ValueIdx.ix2 0 k))) (fun k => W2 (ValueIdx.ix2 k j)) (b2 (ValueIdx.ix2 0 j))) := by
  unfold k3_pay3 gl lin layer rowVar rowMean
  dsimp only
  pointwise
  rfl

theorem k3_pay1_apply (X : Vec Ideal S256x1024 .f32) (W : Vec Ideal S1024x256 .f32) (b : Vec Ideal S1x256 .f32) (r : Fin 256) (j : Fin 256) :
    k3_pay1 X W b (ValueIdx.ix2 r j) = lin (fun k => X (ValueIdx.ix2 r k)) (fun k => W (ValueIdx.ix2 k j)) (b (ValueIdx.ix2 0 j)) := by
  unfold k3_pay1 lin
  dsimp only
  pointwise
  rfl

theorem k3_pay2_apply (X : Vec Ideal S256x1024 .f32) (W3 : Vec Ideal S1024x256 .f32) (b3 : Vec Ideal S1x256 .f32) (W4 : Vec Ideal S256x1024 .f32) (b4 : Vec Ideal S1x1024 .f32) (r : Fin 256) (j : Fin 1024) :
    k3_pay2 X W3 b3 W4 b4 (ValueIdx.ix2 r j) = gl (lin (fun k => k3_pay1 X W3 b3 (ValueIdx.ix2 r k)) (fun k => W4 (ValueIdx.ix2 k j)) (b4 (ValueIdx.ix2 0 j))) := by
  unfold k3_pay2 k3_pay1 gl lin
  dsimp only
  pointwise
  rfl

end Cert.Proof.Fm
-- ==== Proof.MidVal.lean ====
/-
  What the first two dense kernels leave, entry by entry, of the arrays they are entered with.
-/
module

public import proofs.«01_k».proof.Proof.DenseVal
public import proofs.«01_k».proof.Proof.State
public import Idealize.ShloMosaic.Lib.Pipeline.ValueKit

@[expose] public section

set_option maxRecDepth 65536

noncomputable section

namespace Cert.Proof.Fm

open Cert.KernelIdeal Cert.KernelIdeal.Gen
open Idealize.ShloMosaic
open Idealize.ShloMosaic.SparseCore.Cfg (HIx Pay)
open Idealize.ShloMosaic.Pipeline (arrRef Dat)

variable (V : Valuation τ sig (Elt Ideal)) (O : CellTallies nD τ sig (HIx 1)) (n : ℕ) (c : Dev nD)

/-! ## The first dense kernel -/

/-- The hidden rows: GELU of each row of `Y` times `W`, plus the bias row. -/
def hidden (Y : S256x20096.Idx → EReal) (W : S20001x1024.Idx → EReal) (B : S1x1024.Idx → EReal) : S256x1024.Idx → EReal := fun i =>
  gl (lin (fun k : Fin 20001 => Y (ValueIdx.ix2 (i 0) ⟨k.val, by omega⟩)) (fun k => W (ValueIdx.ix2 k (i 1))) (B (ValueIdx.ix2 0 (i 1))))

theorem idx2_0 : ∀ t : Fin grid2.N, win2_0.index t = ![0, 0] := by decide +kernel

theorem emb2_0 (t : Fin cfg2.N) (x : S256x20096.Idx) : ((cfg2.win 0).blk t).view.emb x = x := by
  refine funext fun a => Fin.ext ?_
  match a with
  | ⟨0, _⟩ => blk_simp [idx2_0 t]
  | ⟨1, _⟩ => blk_simp [idx2_0 t]

theorem in2_0_eq (t : Fin cfg2.N) : in2_0 V t = V (ref main_v23) :=
  funext fun x => (show in2_0 V t x = V (ref main_v23) (((cfg2.win 0).blk t).view.emb x) from rfl).trans (congrArg (V (ref main_v23)) (emb2_0 t x))

theorem idx2 : ∀ t : Fin grid2.N, win2_1.index t = ![0, t.val] ∧ win2_2.index t = ![0, t.val] ∧ win2_3.index t = ![0, t.val] := by decide +kernel

theorem in2_1_apply (t : Fin cfg2.N) (k : Fin 20001) (j : Fin 128) (j' : Fin 1024) (hj : j'.val = t.val * 128 + j.val) :
    in2_1 V t (ValueIdx.ix2 k j) = V (ref main_arg4) (ValueIdx.ix2 k j') := by
  refine congrArg (V (ref main_arg4)) (funext fun a => Fin.ext ?_)
  blk_simp [(idx2 t).1]
  match a with
  | ⟨0, _⟩ => exact Nat.zero_add _
  | ⟨1, _⟩ => exact hj.symm

theorem in2_2_apply (t : Fin cfg2.N) (j : Fin 128) (j' : Fin 1024) (hj : j'.val = t.val * 128 + j.val) :
    in2_2 V t (ValueIdx.ix2 0 j) = V (ref main_v24) (ValueIdx.ix2 0 j') := by
  refine congrArg (V (ref main_v24)) (funext fun a => Fin.ext ?_)
  blk_simp [(idx2 t).2.1]
  match a with
  | ⟨0, _⟩ => rfl
  | ⟨1, _⟩ => exact hj.symm

theorem out2_entry (t : Fin cfg2.N) (r : Fin 256) (j : Fin 128) (z : S256x1024.Idx) (e0 : (z 0).val = r.val) (e1 : (z 1).val = t.val * 128 + j.val) :
    out2 V t (ValueIdx.ix2 r j) = hidden (V (ref main_v23)) (V (ref main_arg4)) (V (ref main_v24)) z := by
  have ez : z 0 = r := Fin.ext e0
  exact (mm1Of_apply (in2_0 V t) (in2_1 V t) (in2_2 V t) r j).trans (congrArg gl (lin_congr (fun k => (congrFun (in2_0_eq V t) _).trans (congrArg (fun r => V (ref main_v23) (ValueIdx.ix2 r ⟨k.val, by omega⟩)) ez.symm))
    (fun k => in2_1_apply V t k j (z 1) e1) (in2_2_apply V t j (z 1) e1)))

theorem out2_eq : (dat2 V O n c).arrAt 3 cfg2.N = hidden (V (ref main_v23)) (V (ref main_arg4)) (V (ref main_v24)) := by
  refine (dat2 V O n c).arrAt_eq_of_covers 3 _ (by decide +kernel) (fun t hf y => ?_)
  have e0 : ((((cfg2.win 3).blk t).view.emb y) 0).val = (y 0).val := by
    blk_simp [(idx2 t).2.2]
  have e1 : ((((cfg2.win 3).blk t).view.emb y) 1).val = t.val * 128 + (y 1).val := by
    blk_simp [(idx2 t).2.2]
  exact (congrArg (out2 V t) (ValueIdx.eq_ix2 y)).trans (out2_entry V t (y 0) (y 1) _ e0 e1)

/-! ## The LayerNorm kernel -/

theorem in3_0_eq (t : Fin cfg3.N) : in3_0 V t = V (ref main_v25) := by
  funext x
  refine congrArg (V (ref main_v25)) (funext fun a => Fin.ext ?_)
  blk_simp
  match a with
  | ⟨0, _⟩ => exact Nat.zero_add _
  | ⟨1, _⟩ => exact Nat.zero_add _

theorem in3_1_eq (t : Fin cfg3.N) : in3_1 V t = V (ref main_v26) := by
  funext x
  refine congrArg (V (ref main_v26)) (funext fun a => Fin.ext ?_)
  blk_simp
  match a with
  | ⟨0, _⟩ => exact Nat.zero_add _
  | ⟨1, _⟩ => exact Nat.zero_add _

theorem in3_2_eq (t : Fin cfg3.N) : in3_2 V t = V (ref main_v27) := by
  funext x
  refine congrArg (V (ref main_v27)) (funext fun a => Fin.ext ?_)
  blk_simp
  match a with
  | ⟨0, _⟩ => exact Nat.zero_add _
  | ⟨1, _⟩ => exact Nat.zero_add _

theorem in3_3_eq (t : Fin cfg3.N) : in3_3 V t = V (ref main_arg8) := by
  funext x
  refine congrArg (V (ref main_arg8)) (funext fun a => Fin.ext ?_)
  blk_simp
  match a with
  | ⟨0, _⟩ => exact Nat.zero_add _
  | ⟨1, _⟩ => exact Nat.zero_add _

theorem in3_4_eq (t : Fin cfg3.N) : in3_4 V t = V (ref main_v28) := by
  funext x
  refine congrArg (V (ref main_v28)) (funext fun a => Fin.ext ?_)
  blk_simp
  match a with
  | ⟨0, _⟩ => exact Nat.zero_add _
  | ⟨1, _⟩ => exact Nat.zero_add _

theorem in3_5_eq (t : Fin cfg3.N) : in3_5 V t = V (ref main_arg10) := by
  funext x
  refine congrArg (V (ref main_arg10)) (funext fun a => Fin.ext ?_)
  blk_simp
  match a with
  | ⟨0, _⟩ => exact Nat.zero_add _
  | ⟨1, _⟩ => exact Nat.zero_add _

theorem in3_6_eq (t : Fin cfg3.N) : in3_6 V t = V (ref main_v29) := by
  funext x
  refine congrArg (V (ref main_v29)) (funext fun a => Fin.ext ?_)
  blk_simp
  match a with
  | ⟨0, _⟩ => exact Nat.zero_add _
  | ⟨1, _⟩ => exact Nat.zero_add _

theorem in3_7_eq (t : Fin cfg3.N) : in3_7 V t = V (ref main_arg12) := by
  funext x
  refine congrArg (V (ref main_arg12)) (funext fun a => Fin.ext ?_)
  blk_simp
  match a with
  | ⟨0, _⟩ => exact Nat.zero_add _
  | ⟨1, _⟩ => exact Nat.zero_add _

theorem in3_8_eq (t : Fin cfg3.N) : in3_8 V t = V (ref main_v30) := by
  funext x
  refine congrArg (V (ref main_v30)) (funext fun a => Fin.ext ?_)
  blk_simp
  match a with
  | ⟨0, _⟩ => exact Nat.zero_add _
  | ⟨1, _⟩ => exact Nat.zero_add _

theorem out3_9_eq : (dat3 V O n c).arrAt 9 cfg3.N
    = encOf (F := Ideal) (V (ref main_v25)) (V (ref main_v26)) (V (ref main_v27)) (V (ref main_arg8)) (V (ref main_v28)) (V (ref main_arg10)) (V (ref main_v29)) := by
  rw [← in3_0_eq V ⟨0, by decide⟩, ← in3_1_eq V ⟨0, by decide⟩, ← in3_2_eq V ⟨0, by decide⟩, ← in3_3_eq V ⟨0, by decide⟩, ← in3_4_eq V ⟨0, by decide⟩, ← in3_5_eq V ⟨0, by decide⟩, ← in3_6_eq V ⟨0, by decide⟩]
  exact (dat3 V O n c).arrAt_eq_of_after_last 9 ⟨0, by decide⟩ (by decide +kernel) _ fun j => rfl

theorem out3_10_eq : (dat3 V O n c).arrAt 10 cfg3.N
    = d4Of (F := Ideal) (V (ref main_v25)) (V (ref main_v26)) (V (ref main_v27)) (V (ref main_arg8)) (V (ref main_v28)) (V (ref main_arg10)) (V (ref main_v29)) (V (ref main_arg12)) (V (ref main_v30)) := by
  rw [← in3_0_eq V ⟨0, by decide⟩, ← in3_1_eq V ⟨0, by decide⟩, ← in3_2_eq V ⟨0, by decide⟩, ← in3_3_eq V ⟨0, by decide⟩, ← in3_4_eq V ⟨0, by decide⟩, ← in3_5_eq V ⟨0, by decide⟩, ← in3_6_eq V ⟨0, by decide⟩,
    ← in3_7_eq V ⟨0, by decide⟩, ← in3_8_eq V ⟨0, by decide⟩]
  exact (dat3 V O n c).arrAt_eq_of_after_last 10 ⟨0, by decide⟩ (by decide +kernel) _ fun j => rfl

end Cert.Proof.Fm
-- ==== Proof.LastVal.lean ====
/-
  What the last dense kernel leaves: each entry of its two results, whatever its clipped blocks held past the arrays' ends.
-/
module

public import proofs.«01_k».proof.Proof.DenseVal
public import proofs.«01_k».proof.Proof.State
public import Idealize.ShloMosaic.Lib.Pipeline.ValueKit
public import Idealize.ShloMosaic.Lib.Pipeline.ArrRel

@[expose] public section

set_option maxRecDepth 65536

noncomputable section

namespace Cert.Proof.Fm

open Cert.KernelIdeal Cert.KernelIdeal.Gen
open Idealize.ShloMosaic
open Idealize.ShloMosaic.SparseCore.Cfg (HIx Pay)
open Idealize.ShloMosaic.Pipeline (arrRef Dat RDat)

variable (V : Valuation τ sig (Elt Ideal)) (O : CellTallies nD τ sig (HIx 1)) (n : ℕ) (c : Dev nD)

theorem idx4 : ∀ t : Fin grid4.N, win4_1.index t = ![0, t.val] ∧ win4_2.index t = ![0, t.val] ∧ win4_3.index t = ![0, t.val] ∧ win4_4.index t = ![0, t.val] ∧ win4_5.index t = ![0, t.val] := by
  decide +kernel
theorem idx4_0 : ∀ t : Fin grid4.N, win4_0.index t = ![0, 0] := by decide +kernel

theorem emb4_0 (t : Fin cfg4.N) (x : S256x1024.Idx) : ((cfg4.win 0).blk t).view.emb x = x := by
  refine funext fun a => Fin.ext ?_
  match a with
  | ⟨0, _⟩ => blk_simp [idx4_0 t]
  | ⟨1, _⟩ => blk_simp [idx4_0 t]

theorem in4_0_eq (t : Fin cfg4.N) : in4_0 V t = V (ref main_v31_1) :=
  funext fun x => (show in4_0 V t x = V (ref main_v31_1) (((cfg4.win 0).blk t).view.emb x) from rfl).trans (congrArg (V (ref main_v31_1)) (emb4_0 t x))

/-- A place of a block that its transfer moves. -/
theorem fill_at {G : Pipeline.Grid} (w : Pipeline.Window sig G) {α : Type} (i : G.Coords) (d : w.block.Idx → α) (g : (w.xblock i).Idx → α) (j : w.block.Idx)
    (h : ∀ a, (j a).val < w.xsize i a) : w.fill i d g j = g fun a => ⟨(j a).val, h a⟩ := by
  unfold Pipeline.Window.fill
  exact dif_pos ((w.moved_iff i j).mpr h)

/-- The columns that point `t`'s block of an array of 20001 columns has. -/
def wid (t : ℕ) : ℕ := if t = 9 then 1569 else 2048

theorem xs4 : ∀ t : Fin grid4.N, (win4_1.xsize (grid4.coords t) 0 = 1024 ∧ win4_1.xsize (grid4.coords t) 1 = wid t.val)
    ∧ (win4_2.xsize (grid4.coords t) 0 = 1 ∧ win4_2.xsize (grid4.coords t) 1 = wid t.val)
    ∧ (win4_3.xsize (grid4.coords t) 0 = 256 ∧ wid t.val ≤ win4_3.xsize (grid4.coords t) 1)
    ∧ (win4_4.xsize (grid4.coords t) 0 = 256 ∧ win4_4.xsize (grid4.coords t) 1 = wid t.val)
    ∧ (win4_5.xsize (grid4.coords t) 0 = 256 ∧ win4_5.xsize (grid4.coords t) 1 = wid t.val) := by decide +kernel

theorem in4_1_apply (t : Fin cfg4.N) (x : Vec Ideal S1024x2048 .f32) (k : Fin 1024) (j : Fin 2048) (hj : j.val < wid t.val) (j' : Fin 20001) (e : j'.val = t.val * 2048 + j.val) :
    in4_1 V t x (ValueIdx.ix2 k j) = V (ref main_arg14) (ValueIdx.ix2 k j') := by
  refine (fill_at win4_1 (grid4.coords t) x (blk4 V 1 t) (ValueIdx.ix2 k j) (fun a => match a with
    | ⟨0, _⟩ => lt_of_lt_of_eq k.isLt (xs4 t).1.1.symm
    | ⟨1, _⟩ => lt_of_lt_of_eq hj (xs4 t).1.2.symm)).trans ?_
  refine congrArg (V (ref main_arg14)) (funext fun a => Fin.ext ?_)
  blk_simp [(idx4 t).1]
  match a with
  | ⟨0, _⟩ => exact Nat.zero_add _
  | ⟨1, _⟩ => exact e.symm

theorem in4_2_apply (t : Fin cfg4.N) (x : Vec Ideal S1x2048 .f32) (j : Fin 2048) (hj : j.val < wid t.val) (j' : Fin 20001) (e : j'.val = t.val * 2048 + j.val) :
    in4_2 V t x (ValueIdx.ix2 0 j) = V (ref main_v32) (ValueIdx.ix2 0 j') := by
  refine (fill_at win4_2 (grid4.coords t) x (blk4 V 2 t) (ValueIdx.ix2 0 j) (fun a => match a with
    | ⟨0, _⟩ => lt_of_lt_of_eq Nat.one_pos (xs4 t).2.1.1.symm
    | ⟨1, _⟩ => lt_of_lt_of_eq hj (xs4 t).2.1.2.symm)).trans ?_
  refine congrArg (V (ref main_v32)) (funext fun a => Fin.ext ?_)
  blk_simp [(idx4 t).2.1]
  match a with
  | ⟨0, _⟩ => rfl
  | ⟨1, _⟩ => exact e.symm

theorem in4_3_apply (t : Fin cfg4.N) (x : Vec Ideal S256x2048 .f32) (r : Fin 256) (j : Fin 2048) (hj : j.val < wid t.val) (j' : Fin 20096) (e : j'.val = t.val * 2048 + j.val) :
    in4_3 V t x (ValueIdx.ix2 r j) = V (ref main_v23) (ValueIdx.ix2 r j') := by
  refine (fill_at win4_3 (grid4.coords t) x (blk4 V 3 t) (ValueIdx.ix2 r j) (fun a => match a with
    | ⟨0, _⟩ => lt_of_lt_of_eq r.isLt (xs4 t).2.2.1.1.symm
    | ⟨1, _⟩ => lt_of_lt_of_le hj (xs4 t).2.2.1.2)).trans ?_
  refine congrArg (V (ref main_v23)) (funext fun a => Fin.ext ?_)
  blk_simp [(idx4 t).2.2.1]
  match a with
  | ⟨0, _⟩ => exact Nat.zero_add _
  | ⟨1, _⟩ => exact e.symm

/-- The decoded rows: each row of `X` times `W`, plus the bias row. -/
def decoded (X : S256x1024.Idx → EReal) (W : S1024x20001.Idx → EReal) (B : S1x20001.Idx → EReal) : S256x20001.Idx → EReal := fun i =>
  lin (fun k => X (ValueIdx.ix2 (i 0) k)) (fun k => W (ValueIdx.ix2 k (i 1))) (B (ValueIdx.ix2 0 (i 1)))

/-- The first 20001 columns. -/
def headCols (Y : S256x20096.Idx → EReal) : S256x20001.Idx → EReal := fun i => Y (ValueIdx.ix2 (i 0) ⟨(i 1).val, lt_trans (i 1).isLt (by decide)⟩)

theorem dec_entry (t : Fin cfg4.N) (x1 : Vec Ideal S1024x2048 .f32) (x2 : Vec Ideal S1x2048 .f32) (r : Fin 256) (j : Fin 2048) (hy : j.val < wid t.val) (z : S256x20001.Idx)
    (e0 : (z 0).val = r.val) (e1 : (z 1).val = t.val * 2048 + j.val) :
    k4_pay1 (in4_0 V t) (in4_1 V t x1) (in4_2 V t x2) (ValueIdx.ix2 r j) = decoded (V (ref main_v31_1)) (V (ref main_arg14)) (V (ref main_v32)) z := by
  have ez : z 0 = r := Fin.ext e0
  exact (k4_pay1_apply (in4_0 V t) (in4_1 V t x1) (in4_2 V t x2) r j).trans (lin_congr (fun k => (congrFun (in4_0_eq V t) _).trans (congrArg (fun r => V (ref main_v31_1) (ValueIdx.ix2 r k)) ez.symm))
    (fun k => in4_1_apply V t x1 k j hy (z 1) e1) (in4_2_apply V t x2 j hy (z 1) e1))

theorem y_entry4 (t : Fin cfg4.N) (x3 : Vec Ideal S256x2048 .f32) (r : Fin 256) (j : Fin 2048) (hy : j.val < wid t.val) (z : S256x20001.Idx)
    (e0 : (z 0).val = r.val) (e1 : (z 1).val = t.val * 2048 + j.val) :
    in4_3 V t x3 (ValueIdx.ix2 r j) = headCols (V (ref main_v23)) z := by
  have ez : z 0 = r := Fin.ext e0
  exact (in4_3_apply V t x3 r j hy ⟨(z 1).val, lt_trans (z 1).isLt (by decide)⟩ e1).trans
    (congrArg (fun r => V (ref main_v23) (ValueIdx.ix2 r ⟨(z 1).val, lt_trans (z 1).isLt (by decide)⟩)) ez.symm)

/-- Whatever the last pipeline leaves in its first result is the decoded rows. -/
theorem out4_4_eq [∀ e, Nonempty (Elt Ideal e)] (G : Buf (Elt Ideal) (c, ref main_v33_0)) (h : ((dat4 V O n c).toRRel fgt4 (Rl4 V)).ArrAt 4 cfg4.N G) :
    G = decoded (V (ref main_v31_1)) (V (ref main_arg14)) (V (ref main_v32)) := by
  obtain ⟨X, hX, hA⟩ := h.exists_exact
  have hX' : ∀ u, Rl4 V 4 u (X u) := fun u => (dat4 V O n c).toRRel_leaves (w := 4) rfl (hX u u.isLt (flush4_4 u))
  obtain ⟨AF, hAF⟩ : ∃ AF : (w' : Fin cfg4.W) → Fin cfg4.N → (cfg4.win w').block.Idx → Elt Ideal (cfg4.win w').elt, AF 4 = X :=
    ⟨Function.update (fun _ _ _ => Classical.arbitrary _) 4 X, Function.update_self _ _ _⟩
  have e := hA AF fun u _ _ => by rw [hAF]
  refine e.trans (Dat.arrAt_eq_of_covers _ 4 _ (by decide +kernel) (fun t hf y => ?_))
  have e0 : ((((cfg4.win 4).blk t).view.emb y) 0).val = (y 0).val := by
    blk_simp [(idx4 t).2.2.2.1]
  have e1 : ((((cfg4.win 4).blk t).view.emb y) 1).val = t.val * 2048 + (y 1).val := by
    blk_simp [(idx4 t).2.2.2.1]
  obtain ⟨x1, x2, ex⟩ := hX' t
  refine (show _ = AF 4 t ((cfg4.win 4).xinj (cfg4.grid.coords t) y) from rfl).trans ?_
  refine (congrFun ((congrFun hAF t).trans ex) _).trans ((congrArg (k4_pay1 (in4_0 V t) (in4_1 V t x1) (in4_2 V t x2)) (ValueIdx.eq_ix2 ((cfg4.win 4).xinj (cfg4.grid.coords t) y))).trans ?_)
  exact dec_entry V t x1 x2 _ _ (lt_of_lt_of_eq (y 1).isLt (xs4 t).2.2.2.1.2) _ e0 e1

theorem out4_5_eq [∀ e, Nonempty (Elt Ideal e)] (G : Buf (Elt Ideal) (c, ref main_v33_1)) (h : ((dat4 V O n c).toRRel fgt4 (Rl4 V)).ArrAt 5 cfg4.N G) :
    G = headCols (V (ref main_v23)) := by
  obtain ⟨X, hX, hA⟩ := h.exists_exact
  have hX' : ∀ u, Rl4 V 5 u (X u) := fun u => (dat4 V O n c).toRRel_leaves (w := 5) rfl (hX u u.isLt (flush4_5 u))
  obtain ⟨AF, hAF⟩ : ∃ AF : (w' : Fin cfg4.W) → Fin cfg4.N → (cfg4.win w').block.Idx → Elt Ideal (cfg4.win w').elt, AF 5 = X :=
    ⟨Function.update (fun _ _ _ => Classical.arbitrary _) 5 X, Function.update_self _ _ _⟩
  have e := hA AF fun u _ _ => by rw [hAF]
  refine e.trans (Dat.arrAt_eq_of_covers _ 5 _ (by decide +kernel) (fun t hf y => ?_))
  have e0 : ((((cfg4.win 5).blk t).view.emb y) 0).val = (y 0).val := by
    blk_simp [(idx4 t).2.2.2.2]
  have e1 : ((((cfg4.win 5).blk t).view.emb y) 1).val = t.val * 2048 + (y 1).val := by
    blk_simp [(idx4 t).2.2.2.2]
  obtain ⟨x3, ex⟩ := hX' t
  refine (show _ = AF 5 t ((cfg4.win 5).xinj (cfg4.grid.coords t) y) from rfl).trans ?_
  refine (congrFun ((congrFun hAF t).trans ex) _).trans ((congrArg (in4_3 V t x3) (ValueIdx.eq_ix2 ((cfg4.win 5).xinj (cfg4.grid.coords t) y))).trans ?_)
  exact y_entry4 V t x3 _ _ (lt_of_lt_of_eq (y 1).isLt (xs4 t).2.2.2.2.2) _ e0 e1

end Cert.Proof.Fm
-- ==== Proof.Results.lean ====
/-
  The three results of the program, of what its arguments hold at the launch.
-/
module

public import proofs.«01_k».proof.Proof.Keep
public import proofs.«01_k».proof.Proof.YVal
public import proofs.«01_k».proof.Proof.MidVal
public import proofs.«01_k».proof.Proof.LastVal

@[expose] public section

set_option maxRecDepth 65536

noncomputable section

namespace Cert.Proof.Fm

open Cert.KernelIdeal Cert.KernelIdeal.Gen
open Idealize.ShloMosaic
open Idealize.ShloMosaic.Pipeline (arrRef arrRefs ucRefs RDat Dat)
open Idealize.ShloMosaic.StableHlo (after)

variable (m : (ℓ : Loc nD τ sig) → Buf (Elt Ideal) ℓ) (d : Dev nD)

/-! ## What is kept between the regions -/

/-- What nothing before the second region writes. -/
theorem keepTo5 {r : Ref sig .tc} (hr : r ∉ wA ++ (r0 ++ (wB ++ ([main_v23] ++ wC)))) : V5 m d (ref r) = m (d, ref r) := by
  simp only [List.mem_append, not_or] at hr
  obtain ⟨hA, h0, hB, hc, hC⟩ := hr
  exact (keepC _ hC).trans ((keepCall m d hc).trans ((keepB _ hB).trans ((keep0 m d h0).trans (keepA _ hA))))

/-- What nothing before the third region writes. -/
theorem keepTo7 {r : Ref sig .tc} (hr : r ∉ wA ++ (r0 ++ (wB ++ ([main_v23] ++ (wC ++ (r2 ++ wD)))))) : V7 m d (ref r) = m (d, ref r) := by
  simp only [List.mem_append, not_or] at hr
  obtain ⟨hA, h0, hB, hc, hC, h2, hD⟩ := hr
  exact (keepD _ hD).trans ((keep2 m d h2).trans (keepTo5 m d (by simp only [List.mem_append, not_or]; exact ⟨hA, h0, hB, hc, hC⟩)))

/-! ## The bias rows -/

theorem row1024 (A : S1024.Idx → EReal) (j : Fin 1024) : shapeCast S1x1024 A shapeCasts_S1024_S1x1024 (ValueIdx.ix2 0 j) = A (ValueIdx.ix1 j) := by
  pointwise
  rfl

theorem row256 (A : S256.Idx → EReal) (j : Fin 256) : shapeCast S1x256 A shapeCasts_S256_S1x256 (ValueIdx.ix2 0 j) = A (ValueIdx.ix1 j) := by
  pointwise
  rfl

theorem row20001 (A : S20001.Idx → EReal) (j : Fin 20001) : shapeCast S1x20001 A shapeCasts_S20001_S1x20001 (ValueIdx.ix2 0 j) = A (ValueIdx.ix1 j) := by
  pointwise
  rfl

theorem opsC_v24 (W : Valuation τ sig (Elt Ideal)) : after opsC W (ref main_v24) = shapeCast S1x1024 (W (ref main_arg5)) shapeCasts_S1024_S1x1024 := by
  unfold opsC; after_results; rfl
theorem opsD_v26 (W : Valuation τ sig (Elt Ideal)) : after opsD W (ref main_v26) = shapeCast S1x1024 (W (ref main_arg6)) shapeCasts_S1024_S1x1024 := by
  unfold opsD; after_results; rfl
theorem opsD_v27 (W : Valuation τ sig (Elt Ideal)) : after opsD W (ref main_v27) = shapeCast S1x1024 (W (ref main_arg7)) shapeCasts_S1024_S1x1024 := by
  unfold opsD; after_results; rfl
theorem opsD_v28 (W : Valuation τ sig (Elt Ideal)) : after opsD W (ref main_v28) = shapeCast S1x1024 (W (ref main_arg9)) shapeCasts_S1024_S1x1024 := by
  unfold opsD; after_results; rfl
theorem opsD_v29 (W : Valuation τ sig (Elt Ideal)) : after opsD W (ref main_v29) = shapeCast S1x256 (W (ref main_arg11)) shapeCasts_S256_S1x256 := by
  unfold opsD; after_results; rfl
theorem opsD_v30 (W : Valuation τ sig (Elt Ideal)) : after opsD W (ref main_v30) = shapeCast S1x1024 (W (ref main_arg13)) shapeCasts_S1024_S1x1024 := by
  unfold opsD; after_results; rfl
theorem opsE_v32 (W : Valuation τ sig (Elt Ideal)) : after opsE W (ref main_v32) = shapeCast S1x20001 (W (ref main_arg15)) shapeCasts_S20001_S1x20001 := by
  unfold opsE; after_results; rfl

theorem b5_row (j : Fin 1024) : V5 m d (ref main_v24) (ValueIdx.ix2 0 j) = m (d, ref main_arg5) (ValueIdx.ix1 j) :=
  (congrFun (opsC_v24 (V4 m d)) _).trans ((row1024 _ j).trans (congrFun ((keepC (V4 m d) (by decide)).symm.trans (keepTo5 m d (by decide))) _))

/-- Before the row vectors of the third region are made. -/
theorem keepTo6 {r : Ref sig .tc} (hr : r ∉ wA ++ (r0 ++ (wB ++ ([main_v23] ++ (wC ++ (r2 ++ wD)))))) : V6 m d (ref r) = m (d, ref r) := by
  have hD : r ∉ wD := by
    simp only [List.mem_append, not_or] at hr
    exact hr.2.2.2.2.2.2
  exact (keepD (V6 m d) hD).symm.trans (keepTo7 m d hr)

theorem b6_row (j : Fin 1024) : V7 m d (ref main_v26) (ValueIdx.ix2 0 j) = m (d, ref main_arg6) (ValueIdx.ix1 j) :=
  (congrFun (opsD_v26 (V6 m d)) _).trans ((row1024 _ j).trans (congrFun (keepTo6 m d (by decide)) _))
theorem b7_row (j : Fin 1024) : V7 m d (ref main_v27) (ValueIdx.ix2 0 j) = m (d, ref main_arg7) (ValueIdx.ix1 j) :=
  (congrFun (opsD_v27 (V6 m d)) _).trans ((row1024 _ j).trans (congrFun (keepTo6 m d (by decide)) _))
theorem b9_row (j : Fin 1024) : V7 m d (ref main_v28) (ValueIdx.ix2 0 j) = m (d, ref main_arg9) (ValueIdx.ix1 j) :=
  (congrFun (opsD_v28 (V6 m d)) _).trans ((row1024 _ j).trans (congrFun (keepTo6 m d (by decide)) _))
theorem b11_row (j : Fin 256) : V7 m d (ref main_v29) (ValueIdx.ix2 0 j) = m (d, ref main_arg11) (ValueIdx.ix1 j) :=
  (congrFun (opsD_v29 (V6 m d)) _).trans ((row256 _ j).trans (congrFun (keepTo6 m d (by decide)) _))
theorem b13_row (j : Fin 1024) : V7 m d (ref main_v30) (ValueIdx.ix2 0 j) = m (d, ref main_arg13) (ValueIdx.ix1 j) :=
  (congrFun (opsD_v30 (V6 m d)) _).trans ((row1024 _ j).trans (congrFun (keepTo6 m d (by decide)) _))
theorem b15_row (j : Fin 20001) : V9 m d (ref main_v32) (ValueIdx.ix2 0 j) = m (d, ref main_arg15) (ValueIdx.ix1 j) :=
  (congrFun (opsE_v32 (V8 m d)) _).trans ((row20001 _ j).trans (congrFun ((keepE (V8 m d) (by decide)).symm.trans (keepAll m d (by decide))) _))

/-! ## The arrays between the regions -/

theorem v5_y : V5 m d (ref main_v23) = (arrOf m d).out :=
  (keepC (V4 m d) (by decide)).trans (by unfold V4; exact Function.update_self _ _ _)

theorem v9_y : V9 m d (ref main_v23) = (arrOf m d).out :=
  (keepE (V8 m d) (by decide)).trans ((keep3 m d (by decide)).trans ((keepD (V6 m d) (by decide)).trans ((keep2 m d (by decide)).trans (v5_y m d))))

/-- The first hidden layer, of the rows the SparseCore call leaves. -/
theorem v7_h : V7 m d (ref main_v25) = hidden (arrOf m d).out (m (d, ref main_arg4)) (V5 m d (ref main_v24)) := by
  refine (keepD (V6 m d) (by decide)).trans ((putArr_arr _ launch2.win.arr_inj (fun w => (D2 m d).arrAt w cfg2.N) (V5 m d) 3).trans ?_)
  refine (out2_eq (V5 m d) (debt 1 d) (low 1) d).trans ?_
  rw [v5_y m d, keepTo5 m d (r := main_arg4) (by decide)]

theorem v9_enc : V9 m d (ref main_v31_0) = encOf (F := Ideal) (V7 m d (ref main_v25)) (V7 m d (ref main_v26)) (V7 m d (ref main_v27)) (m (d, ref main_arg8))
    (V7 m d (ref main_v28)) (m (d, ref main_arg10)) (V7 m d (ref main_v29)) := by
  refine (keepE (V8 m d) (by decide)).trans ((putArr_arr _ launch3.win.arr_inj (fun w => (D3 m d).arrAt w cfg3.N) (V7 m d) 9).trans ?_)
  refine (out3_9_eq (V7 m d) (debt 1 d) (low 1) d).trans ?_
  rw [keepTo7 m d (r := main_arg8) (by decide), keepTo7 m d (r := main_arg10) (by decide)]

theorem v9_d4 : V9 m d (ref main_v31_1) = d4Of (F := Ideal) (V7 m d (ref main_v25)) (V7 m d (ref main_v26)) (V7 m d (ref main_v27)) (m (d, ref main_arg8))
    (V7 m d (ref main_v28)) (m (d, ref main_arg10)) (V7 m d (ref main_v29)) (m (d, ref main_arg12)) (V7 m d (ref main_v30)) := by
  refine (keepE (V8 m d) (by decide)).trans ((putArr_arr _ launch3.win.arr_inj (fun w => (D3 m d).arrAt w cfg3.N) (V7 m d) 10).trans ?_)
  refine (out3_10_eq (V7 m d) (debt 1 d) (low 1) d).trans ?_
  rw [keepTo7 m d (r := main_arg8) (by decide), keepTo7 m d (r := main_arg10) (by decide), keepTo7 m d (r := main_arg12) (by decide)]

/-! ## The results -/

variable (M : MemSt nD τ sig (Elt Ideal)) (h : fq m d M)
include h

theorem res_y [∀ e, Nonempty (Elt Ideal e)] : M.mem (d, ref main_v33_1) = headCols (arrOf m d).out := by
  obtain ⟨V', ⟨hV, -⟩, hM⟩ := h
  refine (hM _ (Finset.mem_filter.mpr ⟨StableHlo.devRef_mem_tcRefs _, by decide⟩)).trans ?_
  exact (out4_5_eq (V9 m d) (debt 1 d) (low 1) d _ (hV 5)).trans (congrArg headCols (v9_y m d))

theorem res_dec [∀ e, Nonempty (Elt Ideal e)] : M.mem (d, ref main_v33_0) = decoded (V9 m d (ref main_v31_1)) (m (d, ref main_arg14)) (V9 m d (ref main_v32)) := by
  obtain ⟨V', ⟨hV, -⟩, hM⟩ := h
  refine (hM _ (Finset.mem_filter.mpr ⟨StableHlo.devRef_mem_tcRefs _, by decide⟩)).trans ?_
  refine (out4_4_eq (V9 m d) (debt 1 d) (low 1) d _ (hV 4)).trans ?_
  rw [keepAll m d (r := main_arg14) (by decide)]

theorem res_enc : M.mem (d, ref main_v31_0) = V9 m d (ref main_v31_0) := by
  obtain ⟨V', ⟨-, hoff⟩, hM⟩ := h
  refine (hM _ (Finset.mem_filter.mpr ⟨StableHlo.devRef_mem_tcRefs _, by decide⟩)).trans (hoff _ fun h => ?_)
  obtain ⟨r', hr', e⟩ := Finset.mem_map.mp h
  obtain ⟨w, -, rfl⟩ := Finset.mem_image.mp hr'
  have e' := Proc.devRef_injective _ e
  revert e'
  revert w
  decide

end Cert.Proof.Fm
-- ==== Proof.RefNet.lean ====
/-
  The reference's network, entry by entry, in the same terms as the dense kernels.
-/
module

public import proofs.«01_k».proof.Proof.Gen.ReferenceIdeal.Read
public import proofs.«01_k».proof.Proof.DenseVal

@[expose] public section

noncomputable section

namespace Cert.Proof.Fm

open Cert.ReferenceIdeal Cert.ReferenceIdeal.Gen Cert.ReferenceIdeal.Read
open Idealize.ShloMosaic

/-- The reference's GELU is the kernels'. -/
theorem gl_host (x : Ideal .f32) :
    FloatOps.mulf (FloatOps.mulf (FloatOps.ofBits .f32 0x3F000000#32) x) (FloatOps.hostUnary .erfc (FloatOps.mulf (FloatOps.hostNegf x) (FloatOps.ofBits .f32 0x3F3504F3#32))) = gl x := by
  simp only [Ideal.mulf_def, Ideal.hostUnary_erfc_def, Ideal.hostNegf_def, Ideal.negf_def, neg_mul, Ideal.erfc_neg]
  rfl

/-- A quotient by a root is a product with the reciprocal root, where the radicand is positive. -/
theorem div_sqrt (x v : EReal) (hv : 0 < v) : Ideal.div x (Ideal.sqrt v) = x * Ideal.rsqrt v := by
  induction v using EReal.rec with
  | bot => exact absurd hv (by simp)
  | top =>
    show Ideal.div x ⊤ = x * 0
    unfold Ideal.div
    rw [if_neg (by simp), EReal.inv_top]
  | coe r =>
    have hr : 0 < r := by exact_mod_cast hv
    rw [Ideal.sqrt_coe, Ideal.rsqrt_coe, if_neg (not_lt.mpr hr.le), if_neg (not_lt.mpr hr.le), if_neg hr.ne']
    unfold Ideal.div
    rw [if_neg (by simpa using (Real.sqrt_pos.mpr hr).ne'), ← EReal.coe_inv]

theorem mul_self_nn (x : EReal) : 0 ≤ x * x := by
  induction x using EReal.rec with
  | bot => simp
  | top => simp
  | coe r => rw [← EReal.coe_mul]; exact_mod_cast mul_self_nonneg r

theorem ofBits_1024 : Ideal.ofBits .f32 0x44800000#32 = ((1024 : ℝ) : EReal) := by
  simp [Ideal.ofBits, Ideal.ieee, -EReal.coe_mul]; norm_num

theorem rowVar_pos (h : Fin 1024 → EReal) : 0 < rowVar h := by
  unfold rowVar
  have e : Ideal.ofBits .f32 0x3727C5AC#32 = ((eps : ℝ) : EReal) := ofBits_eps
  rw [ofBits_1024, e]
  unfold Ideal.div
  rw [if_neg (by norm_num), ← EReal.coe_inv]
  have h1 : 0 ≤ (∑ k, (h k - rowMean h) * (h k - rowMean h)) * (((1024 : ℝ)⁻¹ : ℝ) : EReal) :=
    mul_nonneg (Finset.sum_nonneg fun _ _ => mul_self_nn _) (by exact_mod_cast (by norm_num : (0 : ℝ) ≤ 1024⁻¹))
  have h2 : (0 : EReal) < ((eps : ℝ) : EReal) := by exact_mod_cast eps_pos
  exact h2.trans_le (le_add_of_nonneg_left h1)

section

variable (x0 : (⟨S256x8x20, .i32⟩ : BufTy).Contents (Elt Ideal)) (x1 : (⟨S256, .f32⟩ : BufTy).Contents (Elt Ideal)) (x2 x3 : (⟨S20000, .f32⟩ : BufTy).Contents (Elt Ideal))
  (x4 : (⟨S20001x1024, .f32⟩ : BufTy).Contents (Elt Ideal)) (x5 x6 x7 : (⟨S1024, .f32⟩ : BufTy).Contents (Elt Ideal)) (x8 : (⟨S1024x1024, .f32⟩ : BufTy).Contents (Elt Ideal))
  (x9 : (⟨S1024, .f32⟩ : BufTy).Contents (Elt Ideal)) (x10 : (⟨S1024x256, .f32⟩ : BufTy).Contents (Elt Ideal)) (x11 : (⟨S256, .f32⟩ : BufTy).Contents (Elt Ideal))
  (x12 : (⟨S256x1024, .f32⟩ : BufTy).Contents (Elt Ideal)) (x13 : (⟨S1024, .f32⟩ : BufTy).Contents (Elt Ideal)) (x14 : (⟨S1024x20001, .f32⟩ : BufTy).Contents (Elt Ideal))
  (x15 : (⟨S20001, .f32⟩ : BufTy).Contents (Elt Ideal))

/-- The first hidden row of the reference. -/
theorem v68_apply (r : Fin 256) (j : Fin 1024) : val_main_v68 (F := Ideal) x0 x1 x2 x3 x4 x5 (ValueIdx.ix2 r j)
    = gl (lin (fun k => val_main_v57 (F := Ideal) x0 x1 x2 x3 (ValueIdx.ix2 r k)) (fun k => x4 (ValueIdx.ix2 k j)) (x5 (ValueIdx.ix1 j))) := by
  have e1 : val_main_v58 (F := Ideal) x0 x1 x2 x3 x4 (ValueIdx.ix2 r j) = ∑ k : Fin 20001, val_main_v57 (F := Ideal) x0 x1 x2 x3 (ValueIdx.ix2 r k) * x4 (ValueIdx.ix2 k j) := by
    rw [val_main_v58_apply]
    refine Finset.sum_congr rfl fun k _ => ?_
    have a1 : lidx_main_v58 (ValueIdx.ix2 r j) k = ValueIdx.ix2 r k := funext fun a => match a with | ⟨0, _⟩ => rfl | ⟨1, _⟩ => rfl
    have a2 : ridx_main_v58 (ValueIdx.ix2 r j) k = ValueIdx.ix2 k j := funext fun a => match a with | ⟨0, _⟩ => rfl | ⟨1, _⟩ => rfl
    rw [a1, a2]
  have e2 : val_main_v60 (F := Ideal) x5 (ValueIdx.ix2 r j) = x5 (ValueIdx.ix1 j) := by
    rw [val_main_v60_apply, val_main_v59_apply]
    exact congrArg x5 (funext fun a => match a with | ⟨0, _⟩ => rfl)
  have e3 : val_main_v61 (F := Ideal) x0 x1 x2 x3 x4 x5 (ValueIdx.ix2 r j) = lin (fun k => val_main_v57 (F := Ideal) x0 x1 x2 x3 (ValueIdx.ix2 r k)) (fun k => x4 (ValueIdx.ix2 k j)) (x5 (ValueIdx.ix1 j)) := by
    rw [val_main_v61_apply, e1, e2]; rfl
  rw [val_main_v68_apply, val_main_v67_apply, val_main_v66_apply, val_main_v64_apply, val_main_v63_apply, e3]
  exact gl_host _

/-- The LayerNorm of the reference's first hidden row. -/
theorem v92_apply (r : Fin 256) (j : Fin 1024) : val_main_v92 (F := Ideal) x0 x1 x2 x3 x4 x5 x6 x7 (ValueIdx.ix2 r j)
    = layer (fun k => val_main_v68 (F := Ideal) x0 x1 x2 x3 x4 x5 (ValueIdx.ix2 r k)) (fun k => x6 (ValueIdx.ix1 k)) (fun k => x7 (ValueIdx.ix1 k)) j := by
  have z : ∀ i, val_main_cst_17 (F := Ideal) i = (0 : EReal) := fun i => Ideal.ofBits_zero_f32
  have z' : ∀ i, val_main_cst_19 (F := Ideal) i = (0 : EReal) := fun i => Ideal.ofBits_zero_f32
  have e72 : ∀ q : S256x1.Idx, (q 0).val = r.val → val_main_v72 (F := Ideal) x0 x1 x2 x3 x4 x5 q = rowMean (fun k => val_main_v68 (F := Ideal) x0 x1 x2 x3 x4 x5 (ValueIdx.ix2 r k)) := fun q hq => by
    rw [val_main_v72_apply, val_main_v70_apply, val_main_v69_apply, z, zero_add]
    unfold rowMean
    refine congrArg₂ Ideal.div (Finset.sum_congr rfl fun k _ => ?_) rfl
    refine congrArg _ (funext fun a => ?_)
    match a with
    | ⟨0, _⟩ => exact Fin.ext hq
    | ⟨1, _⟩ => rfl
  have e74 : ∀ k : Fin 1024, val_main_v74 (F := Ideal) x0 x1 x2 x3 x4 x5 (ValueIdx.ix2 r k) = val_main_v68 (F := Ideal) x0 x1 x2 x3 x4 x5 (ValueIdx.ix2 r k) - rowMean (fun k => val_main_v68 (F := Ideal) x0 x1 x2 x3 x4 x5 (ValueIdx.ix2 r k)) := fun k => by
    rw [val_main_v74_apply, val_main_v73_apply, e72 _ rfl]; rfl
  have e83 : ∀ q : S256x1.Idx, (q 0).val = r.val → val_main_v83 (F := Ideal) x0 x1 x2 x3 x4 x5 q = rowVar (fun k => val_main_v68 (F := Ideal) x0 x1 x2 x3 x4 x5 (ValueIdx.ix2 r k)) := fun q hq => by
    rw [val_main_v83_apply, val_main_v79_apply, val_main_v77_apply, val_main_v76_apply, z', zero_add]
    unfold rowVar
    refine congrArg₂ (fun a b : EReal => a + b) (congrArg₂ Ideal.div (Finset.sum_congr rfl fun k _ => ?_) rfl) rfl
    have a1 : idx_main_v76 (idx_main_v77 q) k = ValueIdx.ix2 r k := funext fun a => match a with | ⟨0, _⟩ => Fin.ext hq | ⟨1, _⟩ => rfl
    rw [a1, val_main_v75_apply, e74]; rfl
  have e88 : val_main_v88 (F := Ideal) x6 (ValueIdx.ix2 r j) = x6 (ValueIdx.ix1 j) := by
    rw [val_main_v88_apply, val_main_v87_apply]
    exact congrArg x6 (funext fun a => match a with | ⟨0, _⟩ => rfl)
  have e91 : val_main_v91 (F := Ideal) x7 (ValueIdx.ix2 r j) = x7 (ValueIdx.ix1 j) := by
    rw [val_main_v91_apply, val_main_v90_apply]
    exact congrArg x7 (funext fun a => match a with | ⟨0, _⟩ => rfl)
  rw [val_main_v92_apply, val_main_v89_apply, val_main_v86_apply, val_main_v81_apply, val_main_v80_apply, val_main_v85_apply, val_main_v84_apply, e72 _ rfl, e83 _ rfl, e88, e91]
  simp only [Ideal.hostDivf_def, Ideal.hostUnary_sqrt_def]
  rw [div_sqrt _ _ (rowVar_pos _)]
  rfl

/-- The second hidden row of the reference. -/
theorem v103_apply (r : Fin 256) (j : Fin 1024) : val_main_v103 (F := Ideal) x0 x1 x2 x3 x4 x5 x6 x7 x8 x9 (ValueIdx.ix2 r j)
    = gl (lin (layer (fun k => val_main_v68 (F := Ideal) x0 x1 x2 x3 x4 x5 (ValueIdx.ix2 r k)) (fun k => x6 (ValueIdx.ix1 k)) (fun k => x7 (ValueIdx.ix1 k))) (fun k => x8 (ValueIdx.ix2 k j)) (x9 (ValueIdx.ix1 j))) := by
  have e1 : val_main_v93 (F := Ideal) x0 x1 x2 x3 x4 x5 x6 x7 x8 (ValueIdx.ix2 r j) = ∑ k : Fin 1024, layer (fun k => val_main_v68 (F := Ideal) x0 x1 x2 x3 x4 x5 (ValueIdx.ix2 r k)) (fun k => x6 (ValueIdx.ix1 k)) (fun k => x7 (ValueIdx.ix1 k)) k * x8 (ValueIdx.ix2 k j) := by
    rw [val_main_v93_apply]
    refine Finset.sum_congr rfl fun k _ => ?_
    have a1 : lidx_main_v93 (ValueIdx.ix2 r j) k = ValueIdx.ix2 r k := funext fun a => match a with | ⟨0, _⟩ => rfl | ⟨1, _⟩ => rfl
    have a2 : ridx_main_v93 (ValueIdx.ix2 r j) k = ValueIdx.ix2 k j := funext fun a => match a with | ⟨0, _⟩ => rfl | ⟨1, _⟩ => rfl
    rw [a1, a2, v92_apply]
  have e2 : val_main_v95 (F := Ideal) x9 (ValueIdx.ix2 r j) = x9 (ValueIdx.ix1 j) := by
    rw [val_main_v95_apply, val_main_v94_apply]
    exact congrArg x9 (funext fun a => match a with | ⟨0, _⟩ => rfl)
  have e3 : val_main_v96 (F := Ideal) x0 x1 x2 x3 x4 x5 x6 x7 x8 x9 (ValueIdx.ix2 r j) = lin (layer (fun k => val_main_v68 (F := Ideal) x0 x1 x2 x3 x4 x5 (ValueIdx.ix2 r k)) (fun k => x6 (ValueIdx.ix1 k)) (fun k => x7 (ValueIdx.ix1 k))) (fun k => x8 (ValueIdx.ix2 k j)) (x9 (ValueIdx.ix1 j)) := by
    rw [val_main_v96_apply, e1, e2]; rfl
  rw [val_main_v103_apply, val_main_v102_apply, val_main_v101_apply, val_main_v99_apply, val_main_v98_apply, e3]
  exact gl_host _

/-- The reference's second result. -/
theorem v107_apply (r j : Fin 256) : val_main_v107 (F := Ideal) x0 x1 x2 x3 x4 x5 x6 x7 x8 x9 x10 x11 (ValueIdx.ix2 r j)
    = lin (fun k => val_main_v103 (F := Ideal) x0 x1 x2 x3 x4 x5 x6 x7 x8 x9 (ValueIdx.ix2 r k)) (fun k => x10 (ValueIdx.ix2 k j)) (x11 (ValueIdx.ix1 j)) := by
  have e1 : val_main_v104 (F := Ideal) x0 x1 x2 x3 x4 x5 x6 x7 x8 x9 x10 (ValueIdx.ix2 r j) = ∑ k : Fin 1024, val_main_v103 (F := Ideal) x0 x1 x2 x3 x4 x5 x6 x7 x8 x9 (ValueIdx.ix2 r k) * x10 (ValueIdx.ix2 k j) := by
    rw [val_main_v104_apply]
    refine Finset.sum_congr rfl fun k _ => ?_
    have a1 : lidx_main_v104 (ValueIdx.ix2 r j) k = ValueIdx.ix2 r k := funext fun a => match a with | ⟨0, _⟩ => rfl | ⟨1, _⟩ => rfl
    have a2 : ridx_main_v104 (ValueIdx.ix2 r j) k = ValueIdx.ix2 k j := funext fun a => match a with | ⟨0, _⟩ => rfl | ⟨1, _⟩ => rfl
    rw [a1, a2]
  have e2 : val_main_v106 (F := Ideal) x11 (ValueIdx.ix2 r j) = x11 (ValueIdx.ix1 j) := by
    rw [val_main_v106_apply, val_main_v105_apply]
    exact congrArg x11 (funext fun a => match a with | ⟨0, _⟩ => rfl)
  rw [val_main_v107_apply, e1, e2]; rfl

/-- The third hidden row of the reference. -/
theorem v118_apply (r : Fin 256) (j : Fin 1024) : val_main_v118 (F := Ideal) x0 x1 x2 x3 x4 x5 x6 x7 x8 x9 x10 x11 x12 x13 (ValueIdx.ix2 r j)
    = gl (lin (fun k => val_main_v107 (F := Ideal) x0 x1 x2 x3 x4 x5 x6 x7 x8 x9 x10 x11 (ValueIdx.ix2 r k)) (fun k => x12 (ValueIdx.ix2 k j)) (x13 (ValueIdx.ix1 j))) := by
  have e1 : val_main_v108 (F := Ideal) x0 x1 x2 x3 x4 x5 x6 x7 x8 x9 x10 x11 x12 (ValueIdx.ix2 r j) = ∑ k : Fin 256, val_main_v107 (F := Ideal) x0 x1 x2 x3 x4 x5 x6 x7 x8 x9 x10 x11 (ValueIdx.ix2 r k) * x12 (ValueIdx.ix2 k j) := by
    rw [val_main_v108_apply]
    refine Finset.sum_congr rfl fun k _ => ?_
    have a1 : lidx_main_v108 (ValueIdx.ix2 r j) k = ValueIdx.ix2 r k := funext fun a => match a with | ⟨0, _⟩ => rfl | ⟨1, _⟩ => rfl
    have a2 : ridx_main_v108 (ValueIdx.ix2 r j) k = ValueIdx.ix2 k j := funext fun a => match a with | ⟨0, _⟩ => rfl | ⟨1, _⟩ => rfl
    rw [a1, a2]
  have e2 : val_main_v110 (F := Ideal) x13 (ValueIdx.ix2 r j) = x13 (ValueIdx.ix1 j) := by
    rw [val_main_v110_apply, val_main_v109_apply]
    exact congrArg x13 (funext fun a => match a with | ⟨0, _⟩ => rfl)
  have e3 : val_main_v111 (F := Ideal) x0 x1 x2 x3 x4 x5 x6 x7 x8 x9 x10 x11 x12 x13 (ValueIdx.ix2 r j) = lin (fun k => val_main_v107 (F := Ideal) x0 x1 x2 x3 x4 x5 x6 x7 x8 x9 x10 x11 (ValueIdx.ix2 r k)) (fun k => x12 (ValueIdx.ix2 k j)) (x13 (ValueIdx.ix1 j)) := by
    rw [val_main_v111_apply, e1, e2]; rfl
  rw [val_main_v118_apply, val_main_v117_apply, val_main_v116_apply, val_main_v114_apply, val_main_v113_apply, e3]
  exact gl_host _

/-- The reference's third result. -/
theorem v122_apply (r : Fin 256) (j : Fin 20001) : val_main_v122 (F := Ideal) x0 x1 x2 x3 x4 x5 x6 x7 x8 x9 x10 x11 x12 x13 x14 x15 (ValueIdx.ix2 r j)
    = lin (fun k => val_main_v118 (F := Ideal) x0 x1 x2 x3 x4 x5 x6 x7 x8 x9 x10 x11 x12 x13 (ValueIdx.ix2 r k)) (fun k => x14 (ValueIdx.ix2 k j)) (x15 (ValueIdx.ix1 j)) := by
  have e1 : val_main_v119 (F := Ideal) x0 x1 x2 x3 x4 x5 x6 x7 x8 x9 x10 x11 x12 x13 x14 (ValueIdx.ix2 r j) = ∑ k : Fin 1024, val_main_v118 (F := Ideal) x0 x1 x2 x3 x4 x5 x6 x7 x8 x9 x10 x11 x12 x13 (ValueIdx.ix2 r k) * x14 (ValueIdx.ix2 k j) := by
    rw [val_main_v119_apply]
    refine Finset.sum_congr rfl fun k _ => ?_
    have a1 : lidx_main_v119 (ValueIdx.ix2 r j) k = ValueIdx.ix2 r k := funext fun a => match a with | ⟨0, _⟩ => rfl | ⟨1, _⟩ => rfl
    have a2 : ridx_main_v119 (ValueIdx.ix2 r j) k = ValueIdx.ix2 k j := funext fun a => match a with | ⟨0, _⟩ => rfl | ⟨1, _⟩ => rfl
    rw [a1, a2]
  have e2 : val_main_v121 (F := Ideal) x15 (ValueIdx.ix2 r j) = x15 (ValueIdx.ix1 j) := by
    rw [val_main_v121_apply, val_main_v120_apply]
    exact congrArg x15 (funext fun a => match a with | ⟨0, _⟩ => rfl)
  rw [val_main_v122_apply, e1, e2]; rfl

end

end Cert.Proof.Fm
-- ==== Proof.Match.lean ====
/-
  The kernels' network equals the reference's, layer by layer: where the first kernel is entered with the reference's normalised
  rows and each bias with its vector as a row, every layer leaves the reference's layer.
-/
module

public import proofs.«01_k».proof.Proof.RefNet
public import proofs.«01_k».proof.Proof.MidVal
public import proofs.«01_k».proof.Proof.LastVal

@[expose] public section

set_option maxRecDepth 65536

noncomputable section

namespace Cert.Proof.Fm

open Cert.KernelIdeal Cert.KernelIdeal.Gen
open Cert.ReferenceIdeal.Read
open Idealize.ShloMosaic

variable (x0 : S256x8x20.Idx → BitVec 32) (x1 : S256.Idx → EReal) (x2 x3 : S20000.Idx → EReal) (x4 : S20001x1024.Idx → EReal)
  (x5 x6 x7 : S1024.Idx → EReal) (x8 : S1024x1024.Idx → EReal) (x9 : S1024.Idx → EReal) (x10 : S1024x256.Idx → EReal) (x11 : S256.Idx → EReal)
  (x12 : S256x1024.Idx → EReal) (x13 : S1024.Idx → EReal) (x14 : S1024x20001.Idx → EReal) (x15 : S20001.Idx → EReal)

/-- The normalised rows. -/
abbrev refY : S256x20001.Idx → EReal := val_main_v57 (F := Ideal) x0 x1 x2 x3
/-- The first hidden layer. -/
abbrev refH : S256x1024.Idx → EReal := val_main_v68 (F := Ideal) x0 x1 x2 x3 x4 x5
/-- The second hidden layer. -/
abbrev refG : S256x1024.Idx → EReal := val_main_v103 (F := Ideal) x0 x1 x2 x3 x4 x5 x6 x7 x8 x9
/-- The code. -/
abbrev refE : S256x256.Idx → EReal := val_main_v107 (F := Ideal) x0 x1 x2 x3 x4 x5 x6 x7 x8 x9 x10 x11
/-- The decoder's hidden layer. -/
abbrev refD : S256x1024.Idx → EReal := val_main_v118 (F := Ideal) x0 x1 x2 x3 x4 x5 x6 x7 x8 x9 x10 x11 x12 x13
/-- The decoded rows. -/
abbrev refO : S256x20001.Idx → EReal := val_main_v122 (F := Ideal) x0 x1 x2 x3 x4 x5 x6 x7 x8 x9 x10 x11 x12 x13 x14 x15

theorem hidden_eq (Y : S256x20096.Idx → EReal) (B : S1x1024.Idx → EReal)
    (hY : ∀ (r : Fin 256) (k : Fin 20001), Y (ValueIdx.ix2 r ⟨k.val, by omega⟩) = refY x0 x1 x2 x3 (ValueIdx.ix2 r k))
    (hB : ∀ j : Fin 1024, B (ValueIdx.ix2 0 j) = x5 (ValueIdx.ix1 j)) : hidden Y x4 B = refH x0 x1 x2 x3 x4 x5 := by
  funext i
  refine Eq.trans ?_ ((congrArg (refH x0 x1 x2 x3 x4 x5) (ValueIdx.eq_ix2 i)).trans (v68_apply x0 x1 x2 x3 x4 x5 (i 0) (i 1))).symm
  exact congrArg gl (lin_congr (fun k => hY (i 0) k) (fun _ => rfl) (hB (i 1)))

theorem code_entry (H : S256x1024.Idx → EReal) (g b b2 : S1x1024.Idx → EReal)
    (hH : H = refH x0 x1 x2 x3 x4 x5) (hg : ∀ j : Fin 1024, g (ValueIdx.ix2 0 j) = x6 (ValueIdx.ix1 j)) (hb : ∀ j : Fin 1024, b (ValueIdx.ix2 0 j) = x7 (ValueIdx.ix1 j))
    (hb2 : ∀ j : Fin 1024, b2 (ValueIdx.ix2 0 j) = x9 (ValueIdx.ix1 j)) (r : Fin 256) (j : Fin 1024) :
    k3_pay3 (F := Ideal) H g b x8 b2 (ValueIdx.ix2 r j) = refG x0 x1 x2 x3 x4 x5 x6 x7 x8 x9 (ValueIdx.ix2 r j) := by
  subst hH
  refine (k3_pay3_apply _ g b x8 b2 r j).trans (Eq.trans ?_ (v103_apply x0 x1 x2 x3 x4 x5 x6 x7 x8 x9 r j).symm)
  refine congrArg gl (lin_congr (fun k => ?_) (fun _ => rfl) (hb2 j))
  rw [funext hg, funext hb]

theorem enc_entry (H : S256x1024.Idx → EReal) (g b b2 : S1x1024.Idx → EReal) (b3 : S1x256.Idx → EReal)
    (hH : H = refH x0 x1 x2 x3 x4 x5) (hg : ∀ j : Fin 1024, g (ValueIdx.ix2 0 j) = x6 (ValueIdx.ix1 j)) (hb : ∀ j : Fin 1024, b (ValueIdx.ix2 0 j) = x7 (ValueIdx.ix1 j))
    (hb2 : ∀ j : Fin 1024, b2 (ValueIdx.ix2 0 j) = x9 (ValueIdx.ix1 j)) (hb3 : ∀ j : Fin 256, b3 (ValueIdx.ix2 0 j) = x11 (ValueIdx.ix1 j)) (r j : Fin 256) :
    k3_pay1 (F := Ideal) (k3_pay3 (F := Ideal) H g b x8 b2) x10 b3 (ValueIdx.ix2 r j) = refE x0 x1 x2 x3 x4 x5 x6 x7 x8 x9 x10 x11 (ValueIdx.ix2 r j) := by
  refine (k3_pay1_apply _ x10 b3 r j).trans (Eq.trans ?_ (v107_apply x0 x1 x2 x3 x4 x5 x6 x7 x8 x9 x10 x11 r j).symm)
  exact lin_congr (fun k => code_entry x0 x1 x2 x3 x4 x5 x6 x7 x8 x9 H g b b2 hH hg hb hb2 r k) (fun _ => rfl) (hb3 j)

theorem enc_eq (H : S256x1024.Idx → EReal) (g b b2 : S1x1024.Idx → EReal) (b3 : S1x256.Idx → EReal)
    (hH : H = refH x0 x1 x2 x3 x4 x5) (hg : ∀ j : Fin 1024, g (ValueIdx.ix2 0 j) = x6 (ValueIdx.ix1 j)) (hb : ∀ j : Fin 1024, b (ValueIdx.ix2 0 j) = x7 (ValueIdx.ix1 j))
    (hb2 : ∀ j : Fin 1024, b2 (ValueIdx.ix2 0 j) = x9 (ValueIdx.ix1 j)) (hb3 : ∀ j : Fin 256, b3 (ValueIdx.ix2 0 j) = x11 (ValueIdx.ix1 j)) :
    encOf (F := Ideal) H g b x8 b2 x10 b3 = refE x0 x1 x2 x3 x4 x5 x6 x7 x8 x9 x10 x11 := by
  funext i
  exact (congrArg (encOf (F := Ideal) H g b x8 b2 x10 b3) (ValueIdx.eq_ix2 i)).trans
    ((enc_entry x0 x1 x2 x3 x4 x5 x6 x7 x8 x9 x10 x11 H g b b2 b3 hH hg hb hb2 hb3 (i 0) (i 1)).trans
      (congrArg (refE x0 x1 x2 x3 x4 x5 x6 x7 x8 x9 x10 x11) (ValueIdx.eq_ix2 i)).symm)

theorem d4_eq (H : S256x1024.Idx → EReal) (g b b2 : S1x1024.Idx → EReal) (b3 : S1x256.Idx → EReal) (b4 : S1x1024.Idx → EReal)
    (hH : H = refH x0 x1 x2 x3 x4 x5) (hg : ∀ j : Fin 1024, g (ValueIdx.ix2 0 j) = x6 (ValueIdx.ix1 j)) (hb : ∀ j : Fin 1024, b (ValueIdx.ix2 0 j) = x7 (ValueIdx.ix1 j))
    (hb2 : ∀ j : Fin 1024, b2 (ValueIdx.ix2 0 j) = x9 (ValueIdx.ix1 j)) (hb3 : ∀ j : Fin 256, b3 (ValueIdx.ix2 0 j) = x11 (ValueIdx.ix1 j))
    (hb4 : ∀ j : Fin 1024, b4 (ValueIdx.ix2 0 j) = x13 (ValueIdx.ix1 j)) :
    d4Of (F := Ideal) H g b x8 b2 x10 b3 x12 b4 = refD x0 x1 x2 x3 x4 x5 x6 x7 x8 x9 x10 x11 x12 x13 := by
  funext i
  refine (congrArg (d4Of (F := Ideal) H g b x8 b2 x10 b3 x12 b4) (ValueIdx.eq_ix2 i)).trans
    (Eq.trans ?_ (congrArg (refD x0 x1 x2 x3 x4 x5 x6 x7 x8 x9 x10 x11 x12 x13) (ValueIdx.eq_ix2 i)).symm)
  refine (k3_pay2_apply (k3_pay3 (F := Ideal) H g b x8 b2) x10 b3 x12 b4 (i 0) (i 1)).trans
    (Eq.trans ?_ (v118_apply x0 x1 x2 x3 x4 x5 x6 x7 x8 x9 x10 x11 x12 x13 (i 0) (i 1)).symm)
  exact congrArg gl (lin_congr (fun k => enc_entry x0 x1 x2 x3 x4 x5 x6 x7 x8 x9 x10 x11 H g b b2 b3 hH hg hb hb2 hb3 (i 0) k) (fun _ => rfl) (hb4 (i 1)))

theorem dec_eq (X : S256x1024.Idx → EReal) (B : S1x20001.Idx → EReal) (hX : X = refD x0 x1 x2 x3 x4 x5 x6 x7 x8 x9 x10 x11 x12 x13)
    (hB : ∀ j : Fin 20001, B (ValueIdx.ix2 0 j) = x15 (ValueIdx.ix1 j)) :
    decoded X x14 B = refO x0 x1 x2 x3 x4 x5 x6 x7 x8 x9 x10 x11 x12 x13 x14 x15 := by
  subst hX
  funext i
  refine Eq.trans ?_ ((congrArg (refO x0 x1 x2 x3 x4 x5 x6 x7 x8 x9 x10 x11 x12 x13 x14 x15) (ValueIdx.eq_ix2 i)).trans (v122_apply x0 x1 x2 x3 x4 x5 x6 x7 x8 x9 x10 x11 x12 x13 x14 x15 (i 0) (i 1))).symm
  exact lin_congr (fun k => rfl) (fun _ => rfl) (hB (i 1))

end Cert.Proof.Fm
-- ==== Proof.RefHit.lean ====
/-
  The reference's scattered ones: which entries a tag hits, and how many fields hit each.
-/
module

public import proofs.«01_k».proof.Proof.Gen.ReferenceIdeal.Read
public import proofs.«01_k».proof.Proof.StatVal
public import Idealize.ShloMosaic.Lib.Routing.OpsPair
public import Idealize.ShloMosaic.Lib.KernelVsHost

@[expose] public section

noncomputable section

namespace Cert.Proof.Fm

open Cert.ReferenceIdeal Cert.ReferenceIdeal.Gen Cert.ReferenceIdeal.Read
open Idealize.ShloMosaic

/-- Replacing the value by a constant wherever a step hits leaves the constant if any step hits. -/
theorem foldl_hit {ι α : Type} (P : ι → Prop) [DecidablePred P] (c : α) (L : List ι) (a : α) :
    L.foldl (fun a n => if P n then c else a) a = open Classical in if ∃ n ∈ L, P n then c else a := by
  classical
  induction L generalizing a with
  | nil => rw [if_neg (by rintro ⟨n, h, -⟩; exact absurd h List.not_mem_nil)]; rfl
  | cons x L ih =>
    refine (ih (if P x then c else a)).trans ?_
    by_cases h : ∃ n ∈ L, P n
    · rw [if_pos h, if_pos]
      obtain ⟨n, h1, h2⟩ := h
      exact ⟨n, List.mem_cons_of_mem _ h1, h2⟩
    · rw [if_neg h]
      by_cases hx : P x
      · rw [if_pos hx, if_pos ⟨x, List.mem_cons_self, hx⟩]
      · rw [if_neg hx, if_neg]
        rintro ⟨n, h1, h2⟩
        rcases List.mem_cons.mp h1 with rfl | h1
        · exact hx h2
        · exact h ⟨n, h1, h2⟩

variable (x0 : S256x8x20.Idx → BitVec 32)

/-- The scatter's dimensions. -/
abbrev dS := scatter_S256x8x20000_S256x8x20x3_S256x8x20_n_012_012_3

theorem wrap_row (b : Fin 256) : Scalar.select (IntOp.cmpi .slt (BitVec.ofNat 32 b.val) 0#32) (IntOp.addi (BitVec.ofNat 32 b.val) 256#32) (BitVec.ofNat 32 b.val) = BitVec.ofNat 32 b.val := by
  revert b; decide +kernel
theorem wrap_field (f : Fin 8) : Scalar.select (IntOp.cmpi .slt (BitVec.ofNat 32 f.val) 0#32) (IntOp.addi (BitVec.ofNat 32 f.val) 8#32) (BitVec.ofNat 32 f.val) = BitVec.ofNat 32 f.val := by
  revert f; decide
theorem toInt_row (b : Fin 256) : (BitVec.ofNat 32 b.val).toInt = b.val := by revert b; decide +kernel
theorem toInt_field (f : Fin 8) : (BitVec.ofNat 32 f.val).toInt = f.val := by revert f; decide

theorem toInt_tag (x : BitVec 32) (h : x.toNat < 20000) : x.toInt = x.toNat := by
  rw [BitVec.toInt_eq_toNat_cond, if_pos (by omega)]

/-- A tag in range is not wrapped. -/
theorem wrap_tag (x : BitVec 32) (h : x.toNat < 20000) : Scalar.select (IntOp.cmpi .slt x 0#32) (IntOp.addi x 20000#32) x = x := by
  have hs : BitVec.slt x 0#32 = false := by
    rw [BitVec.slt, toInt_tag x h]; exact decide_eq_false (by rw [show (0#32).toInt = 0 from rfl]; omega)
  simp [IntOp.cmpi, Scalar.select, hs]

theorem siIdx_eq (u : S256x8x20.Idx) (c : Fin 3) : dS.siIdx u c = ValueIdx.ix4 (u 0) (u 1) (u 2) c := by
  funext a
  match a with
  | ⟨0, _⟩ => rfl
  | ⟨1, _⟩ => rfl
  | ⟨2, _⟩ => rfl
  | ⟨3, _⟩ => rfl

theorem v25_row (b : Fin 256) (f : Fin 8) (i : Fin 20) : val_main_v25 (F := Ideal) x0 (ValueIdx.ix4 b f i 0) = BitVec.ofNat 32 b.val := by
  unfold val_main_v25
  pointwise
  rw [val_main_v22_apply, val_main_v20_apply, val_main_v9_apply, val_main_v6_apply, val_main_v8_apply, val_main_v1_apply, val_main_v5_apply, val_main_v7_apply, val_main_c_apply, val_main_c_0_apply, val_main_v0_apply]
  exact wrap_row b

theorem v25_field (b : Fin 256) (f : Fin 8) (i : Fin 20) : val_main_v25 (F := Ideal) x0 (ValueIdx.ix4 b f i 1) = BitVec.ofNat 32 f.val := by
  unfold val_main_v25
  pointwise
  rw [val_main_v23_apply, val_main_v21_apply, val_main_v14_apply, val_main_v11_apply, val_main_v13_apply, val_main_v3_apply, val_main_v10_apply, val_main_v12_apply, val_main_c_1_apply, val_main_c_2_apply, val_main_v2_apply]
  exact wrap_field f

theorem v25_tag (b : Fin 256) (f : Fin 8) (i : Fin 20) (h : (x0 (ValueIdx.ix3 b f i)).toNat < 20000) : val_main_v25 (F := Ideal) x0 (ValueIdx.ix4 b f i 2) = x0 (ValueIdx.ix3 b f i) := by
  unfold val_main_v25
  pointwise
  rw [val_main_v24_apply, val_main_v19_apply, val_main_v16_apply, val_main_v18_apply, val_main_v15_apply, val_main_v17_apply, val_main_c_3_apply, val_main_c_4_apply]
  have e : (idx_main_v24 (ValueIdx.ix4 b f i 0) : S256x8x20.Idx) = ValueIdx.ix3 b f i := by
    funext a
    match a with
    | ⟨0, _⟩ => rfl
    | ⟨1, _⟩ => rfl
    | ⟨2, _⟩ => rfl
  refine Eq.trans ?_ (wrap_tag (x0 (ValueIdx.ix3 b f i)) h)
  exact congrArg (fun j => Scalar.select (IntOp.cmpi .slt (x0 j) 0#32) (IntOp.addi (x0 j) 20000#32) (x0 j)) e

theorem lands (u : S256x8x20.Idx) (b : Fin 256) (f : Fin 8) (n : Fin 20000) (hx : (x0 u).toNat < 20000) :
    dS.resultIdx? u (val_main_v25 (F := Ideal) x0) = some (ValueIdx.ix3 b f n) ↔ (u 0 = b ∧ u 1 = f ∧ (x0 u).toNat = n.val) := by
  rw [Routing.resultIdx?_eq_some]
  have e0 : dS.start u (val_main_v25 (F := Ideal) x0) 0 = (u 0).val := by
    show (val_main_v25 (F := Ideal) x0 (dS.siIdx u (0 : Fin 3))).toInt = _
    exact (congrArg BitVec.toInt ((congrArg (val_main_v25 (F := Ideal) x0) (siIdx_eq u 0)).trans (v25_row x0 (u 0) (u 1) (u 2)))).trans (toInt_row (u 0))
  have e1 : dS.start u (val_main_v25 (F := Ideal) x0) 1 = (u 1).val := by
    show (val_main_v25 (F := Ideal) x0 (dS.siIdx u (1 : Fin 3))).toInt = _
    exact (congrArg BitVec.toInt ((congrArg (val_main_v25 (F := Ideal) x0) (siIdx_eq u 1)).trans (v25_field x0 (u 0) (u 1) (u 2)))).trans (toInt_field (u 1))
  have e2 : dS.start u (val_main_v25 (F := Ideal) x0) 2 = (x0 u).toNat := by
    show (val_main_v25 (F := Ideal) x0 (dS.siIdx u (2 : Fin 3))).toInt = _
    have eu : (ValueIdx.ix3 (u 0) (u 1) (u 2) : S256x8x20.Idx) = u := by
      funext a
      match a with
      | ⟨0, _⟩ => rfl
      | ⟨1, _⟩ => rfl
      | ⟨2, _⟩ => rfl
    exact (congrArg BitVec.toInt ((congrArg (val_main_v25 (F := Ideal) x0) (siIdx_eq u 2)).trans ((v25_tag x0 (u 0) (u 1) (u 2) (lt_of_eq_of_lt (congrArg (fun j => (x0 j).toNat) eu) hx)).trans (congrArg x0 eu)))).trans (toInt_tag _ hx)
  have hw : ∀ a, dS.window u a = 0 := fun a => by
    match a with
    | ⟨0, _⟩ => rfl
    | ⟨1, _⟩ => rfl
    | ⟨2, _⟩ => rfl
  constructor
  · intro h
    have h0 := h 0
    have h1 := h 1
    have h2 := h 2
    rw [hw] at h0 h1 h2
    rw [e0] at h0
    rw [e1] at h1
    rw [e2] at h2
    refine ⟨Fin.ext ?_, Fin.ext ?_, ?_⟩
    · change ((u 0).val : Int) + (0 : ℕ) = (b.val : ℤ) at h0; omega
    · change ((u 1).val : Int) + (0 : ℕ) = (f.val : ℤ) at h1; omega
    · change ((x0 u).toNat : Int) + (0 : ℕ) = (n.val : ℤ) at h2; omega
  · rintro ⟨h0, h1, h2⟩ a
    rw [hw]
    match a with
    | ⟨0, _⟩ => show dS.start u (val_main_v25 (F := Ideal) x0) 0 + ((0 : ℕ) : ℤ) = (b.val : ℤ); rw [e0, h0]; exact Int.add_zero _
    | ⟨1, _⟩ => show dS.start u (val_main_v25 (F := Ideal) x0) 1 + ((0 : ℕ) : ℤ) = (f.val : ℤ); rw [e1, h1]; exact Int.add_zero _
    | ⟨2, _⟩ => show dS.start u (val_main_v25 (F := Ideal) x0) 2 + ((0 : ℕ) : ℤ) = (n.val : ℤ); rw [e2, h2]; exact Int.add_zero _

section
variable (hx : ∀ u, (x0 u).toNat < 20000)
include hx

open Classical in
/-- The scattered array holds one where the field carries the tag, zero elsewhere. -/
theorem v27_apply (b : Fin 256) (f : Fin 8) (n : Fin 20000) : val_main_v27 (F := Ideal) x0 (ValueIdx.ix3 b f n)
    = if ∃ i : Fin 20, (x0 (ValueIdx.ix3 b f i)).toNat = n.val then (1 : EReal) else 0 := by
  unfold val_main_v27
  rw [Routing.scatter_at]
  have e1 : ∀ u, val_main_v26 (F := Ideal) u = (1 : EReal) := fun u => by
    rw [val_main_v26_apply, val_main_cst_5_apply]; exact Ideal.ofBits_one_f32
  have e0 : val_main_v4 (F := Ideal) (ValueIdx.ix3 b f n) = (0 : EReal) := by
    rw [val_main_v4_apply, val_main_cst_apply]; exact Ideal.ofBits_zero_f32
  simp only [e1, e0]
  refine (foldl_hit (fun k => dS.resultIdx? (S256x8x20.rowMajor.symm k) (val_main_v25 (F := Ideal) x0) = some (ValueIdx.ix3 b f n)) (1 : EReal) _ 0).trans ?_
  refine have hiff : (∃ k ∈ List.finRange S256x8x20.numel, dS.resultIdx? (S256x8x20.rowMajor.symm k) (val_main_v25 (F := Ideal) x0) = some (ValueIdx.ix3 b f n))
      ↔ ∃ i : Fin 20, (x0 (ValueIdx.ix3 b f i)).toNat = n.val := ⟨?_, ?_⟩; ?_
  · rintro ⟨k, -, h⟩
    obtain ⟨h0, h1, h2⟩ := (lands x0 _ b f n (hx _)).mp h
    refine ⟨(S256x8x20.rowMajor.symm k) 2, ?_⟩
    rw [← h2, ← h0, ← h1]
    refine congrArg (fun j => (x0 j).toNat) (funext fun a => ?_)
    match a with
    | ⟨0, _⟩ => rfl
    | ⟨1, _⟩ => rfl
    | ⟨2, _⟩ => rfl
  · rintro ⟨i, h⟩
    refine ⟨S256x8x20.rowMajor (ValueIdx.ix3 b f i), List.mem_finRange _, ?_⟩
    show dS.resultIdx? (S256x8x20.rowMajor.symm (S256x8x20.rowMajor (ValueIdx.ix3 b f i))) _ = _
    rw [Equiv.symm_apply_apply]
    exact (lands x0 _ b f n (hx _)).mpr ⟨rfl, rfl, h⟩
  · by_cases h : ∃ i : Fin 20, (x0 (ValueIdx.ix3 b f i)).toNat = n.val
    · exact (if_pos (hiff.mpr h)).trans (if_pos h).symm
    · exact (if_neg (fun h' => h (hiff.mp h'))).trans (if_neg h).symm

/-- The tags of row `b`, in one line. -/
def tagR (b : Fin 256) (k : ℕ) : BitVec 32 :=
  if h : k < 160 then x0 (ValueIdx.ix3 b ⟨k / 20, by omega⟩ ⟨k % 20, by omega⟩) else 0#32

omit hx in
theorem tagR_at (b : Fin 256) (f : Fin 8) (i : Fin 20) : tagR x0 b (20 * f.val + i.val) = x0 (ValueIdx.ix3 b f i) := by
  unfold tagR
  rw [dif_pos (by omega)]
  refine congrArg x0 (funext fun a => ?_)
  match a with
  | ⟨0, _⟩ => rfl
  | ⟨1, _⟩ => exact Fin.ext (show (20 * f.val + i.val) / 20 = f.val by omega)
  | ⟨2, _⟩ => exact Fin.ext (show (20 * f.val + i.val) % 20 = i.val by omega)

open Classical in
theorem v28_apply (b : Fin 256) (f : Fin 8) (n : Fin 20000) : val_main_v28 (F := Ideal) x0 (ValueIdx.ix3 b f n)
    = ((if Has (tagR x0 b) (BitVec.ofNat 32 n.val) f.val then (1 : ℝ) else 0 : ℝ) : EReal) := by
  rw [val_main_v28_apply, val_main_call0_v4_apply, val_main_call0_v2_apply, val_main_call0_v1_apply, v27_apply x0 hx]
  have e1 : val_main_call0_v3 (F := Ideal) (idx_main_call0_v4 (ValueIdx.ix3 b f n)) = (1 : EReal) := Ideal.ofBits_one_f32
  have e0 : val_main_call0_v0 (F := Ideal) (idx_main_call0_v1 (ValueIdx.ix3 b f n)) = (0 : EReal) := Ideal.ofBits_zero_f32
  rw [e1, e0]
  have hh : (∃ i : Fin 20, (x0 (ValueIdx.ix3 b f i)).toNat = n.val) ↔ Has (tagR x0 b) (BitVec.ofNat 32 n.val) f.val := by
    constructor
    · rintro ⟨i, h⟩
      refine ⟨i.val, i.isLt, ?_⟩
      rw [tagR_at, ← h, BitVec.ofNat_toNat, BitVec.setWidth_eq]
    · rintro ⟨i, hi, h⟩
      refine ⟨⟨i, hi⟩, ?_⟩
      rw [← tagR_at x0 b f ⟨i, hi⟩, h, BitVec.toNat_ofNat, Nat.mod_eq_of_lt (by omega)]
  by_cases h : ∃ i : Fin 20, (x0 (ValueIdx.ix3 b f i)).toNat = n.val
  · rw [if_pos h, if_pos (hh.mp h)]
    show min (1 : EReal) (max 0 1) = _
    simp
  · rw [if_neg h, if_neg (fun h' => h (hh.mpr h'))]
    show min (1 : EReal) (max 0 0) = _
    simp

/-- The reference's count of fields that carry a tag. -/
theorem v29_apply (b : Fin 256) (n : Fin 20000) : val_main_v29 (F := Ideal) x0 (ValueIdx.ix2 b n) = ((cnt (tagR x0 b) (BitVec.ofNat 32 n.val) : ℝ) : EReal) := by
  classical
  rw [val_main_v29_apply]
  have e0 : val_main_cst_8 (F := Ideal) (Shape.Idx.first h_S_) = (0 : EReal) := Ideal.ofBits_zero_f32
  have e : ∀ k : Fin 8, val_main_v28 (F := Ideal) x0 (idx_main_v29 (ValueIdx.ix2 b n) k) = ((if Has (tagR x0 b) (BitVec.ofNat 32 n.val) k.val then (1 : ℝ) else 0 : ℝ) : EReal) := fun k => by
    refine Eq.trans (congrArg _ (funext fun a => ?_)) ((v28_apply x0 hx b k n).trans (by congr))
    match a with
    | ⟨0, _⟩ => rfl
    | ⟨1, _⟩ => rfl
    | ⟨2, _⟩ => rfl
  rw [e0, zero_add, Finset.sum_congr rfl (fun k _ => e k), ← coe_sum]
  congr 1
  unfold cnt
  rw [Finset.card_filter, Nat.cast_sum, Finset.sum_range]
  refine Finset.sum_congr rfl fun k _ => ?_
  by_cases h : Has (tagR x0 b) (BitVec.ofNat 32 n.val) k.val
  · rw [if_pos h, if_pos h]; exact Nat.cast_one.symm
  · rw [if_neg h, if_neg h]; exact Nat.cast_zero.symm

end

end Cert.Proof.Fm
-- ==== Proof.RefRow.lean ====
/-
  The reference's input row of the network: the scaled flow, then the normalised counts, as real numbers.
-/
module

public import proofs.«01_k».proof.Proof.RefHit

@[expose] public section

set_option maxRecDepth 65536

noncomputable section

namespace Cert.Proof.Fm

open Cert.ReferenceIdeal Cert.ReferenceIdeal.Gen Cert.ReferenceIdeal.Read
open Idealize.ShloMosaic

/-- A quotient by the root of a positive number is a product with its reciprocal root. -/
theorem div_sqrt_coe (a v : ℝ) (hv : 0 < v) : Ideal.div (a : EReal) (Ideal.sqrt (v : EReal)) = ((a * (Real.sqrt v)⁻¹ : ℝ) : EReal) := by
  have e : Ideal.sqrt (v : EReal) = ((Real.sqrt v : ℝ) : EReal) := if_neg (not_lt.mpr hv.le)
  rw [e, div_coe a _ (Real.sqrt_pos.mpr hv).ne', div_eq_mul_inv]

section

variable (x0 : (⟨S256x8x20, .i32⟩ : BufTy).Contents (Elt Ideal)) (hx : ∀ u, (x0 u).toNat < 20000)
include hx

/-- The mean of a row of counts. -/
theorem v33_apply (b : Fin 256) (j : S256x1.Idx) (hj : (j 0).val = b.val) : val_main_v33 (F := Ideal) x0 j = ((mean (tagR x0 b) : ℝ) : EReal) := by
  have e0 : val_main_cst_9 (F := Ideal) (Shape.Idx.first h_S_) = (0 : EReal) := Ideal.ofBits_zero_f32
  have e : ∀ k : Fin 20000, val_main_v29 (F := Ideal) x0 (idx_main_v30 (idx_main_v31 j) k) = ((cnt (tagR x0 b) (BitVec.ofNat 32 k.val) : ℝ) : EReal) := fun k => by
    have ei : idx_main_v30 (idx_main_v31 j) k = ValueIdx.ix2 b k := funext fun a => match a with
      | ⟨0, _⟩ => Fin.ext hj
      | ⟨1, _⟩ => rfl
    exact (congrArg (val_main_v29 (F := Ideal) x0) ei).trans (v29_apply x0 hx b k)
  have e1 : val_main_v31 (F := Ideal) x0 j = ((∑ k : Fin 20000, (cnt (tagR x0 b) (BitVec.ofNat 32 k.val) : ℝ) : ℝ) : EReal) := by
    rw [val_main_v31_apply, val_main_v30_apply, e0, zero_add, Finset.sum_congr rfl (fun k _ => e k), ← coe_sum]
  have e2 : val_main_v32 (F := Ideal) j = ((20000 : ℝ) : EReal) := ofBits_20000
  rw [val_main_v33_apply, e1, e2]
  exact div_coe _ _ (by norm_num)

/-- A count less its row's mean. -/
theorem v35_apply (b : Fin 256) (n : Fin 20000) : val_main_v35 (F := Ideal) x0 (ValueIdx.ix2 b n) = (((cnt (tagR x0 b) (BitVec.ofNat 32 n.val) : ℝ) - mean (tagR x0 b) : ℝ) : EReal) := by
  rw [val_main_v35_apply, v29_apply x0 hx, val_main_v34_apply, v33_apply x0 hx b _ rfl]
  exact (EReal.coe_sub _ _).symm

theorem v40_apply (b : Fin 256) (j : S256x1.Idx) (hj : (j 0).val = b.val) : val_main_v40 (F := Ideal) x0 j = ((var (tagR x0 b) : ℝ) : EReal) := by
  have e0 : val_main_cst_11 (F := Ideal) (Shape.Idx.first h_S_) = (0 : EReal) := Ideal.ofBits_zero_f32
  have e : ∀ k : Fin 20000, val_main_v36 (F := Ideal) x0 (idx_main_v37 (idx_main_v38 j) k) = ((((cnt (tagR x0 b) (BitVec.ofNat 32 k.val) : ℝ) - mean (tagR x0 b)) ^ 2 : ℝ) : EReal) := fun k => by
    have ei : idx_main_v37 (idx_main_v38 j) k = ValueIdx.ix2 b k := funext fun a => match a with
      | ⟨0, _⟩ => Fin.ext hj
      | ⟨1, _⟩ => rfl
    have e' := (congrArg (val_main_v35 (F := Ideal) x0) ei).trans (v35_apply x0 hx b k)
    rw [val_main_v36_apply, e', sq]
    exact (EReal.coe_mul _ _).symm
  have e1 : val_main_v38 (F := Ideal) x0 j = ((∑ k : Fin 20000, ((cnt (tagR x0 b) (BitVec.ofNat 32 k.val) : ℝ) - mean (tagR x0 b)) ^ 2 : ℝ) : EReal) := by
    rw [val_main_v38_apply, val_main_v37_apply, e0, zero_add, Finset.sum_congr rfl (fun k _ => e k), ← coe_sum]
  have e2 : val_main_v39 (F := Ideal) j = ((20000 : ℝ) : EReal) := ofBits_20000
  rw [val_main_v40_apply, e1, e2]
  exact div_coe _ _ (by norm_num)

/-- The count less the mean, over the root of the variance and the small constant. -/
theorem v47_apply (b : Fin 256) (n : Fin 20000) : val_main_v47 (F := Ideal) x0 (ValueIdx.ix2 b n)
    = ((((cnt (tagR x0 b) (BitVec.ofNat 32 n.val) : ℝ) - mean (tagR x0 b)) * scale (tagR x0 b) : ℝ) : EReal) := by
  have e42 : val_main_v42 (F := Ideal) x0 (ValueIdx.ix2 b n) = (((cnt (tagR x0 b) (BitVec.ofNat 32 n.val) : ℝ) - mean (tagR x0 b) : ℝ) : EReal) := by
    rw [val_main_v42_apply, v29_apply x0 hx, val_main_v41_apply, v33_apply x0 hx b _ rfl]
    exact (EReal.coe_sub _ _).symm
  have e43 : ∀ j, val_main_v43 (F := Ideal) j = ((eps : ℝ) : EReal) := fun j => ofBits_eps
  have e44 : val_main_v44 (F := Ideal) x0 (idx_main_v46 (ValueIdx.ix2 b n)) = ((var (tagR x0 b) + eps : ℝ) : EReal) := by
    rw [val_main_v44_apply, v40_apply x0 hx b _ rfl, e43]
    exact (EReal.coe_add _ _).symm
  rw [val_main_v47_apply, e42, val_main_v46_apply, val_main_v45_apply, e44]
  exact div_sqrt_coe _ _ (add_pos_of_nonneg_of_pos (var_nonneg _) eps_pos)

variable (x1 : (⟨S256, .f32⟩ : BufTy).Contents (Elt Ideal)) (x2 x3 : (⟨S20000, .f32⟩ : BufTy).Contents (Elt Ideal))

/-- An entry of the reference's normalised counts. -/
theorem v53_apply (b : Fin 256) (n : Fin 20000) : val_main_v53 (F := Ideal) x0 x2 x3 (ValueIdx.ix2 b n)
    = FloatOps.addf (FloatOps.mulf (F := Ideal) (φ := .f32) ((((cnt (tagR x0 b) (BitVec.ofNat 32 n.val) : ℝ) - mean (tagR x0 b)) * scale (tagR x0 b) : ℝ) : EReal) (x2 (ValueIdx.ix1 n))) (x3 (ValueIdx.ix1 n)) := by
  have e2 : val_main_v49 (F := Ideal) x2 (ValueIdx.ix2 b n) = x2 (ValueIdx.ix1 n) := by
    rw [val_main_v49_apply, val_main_v48_apply]
    exact congrArg x2 (funext fun a => match a with | ⟨0, _⟩ => rfl)
  have e3 : val_main_v52 (F := Ideal) x3 (ValueIdx.ix2 b n) = x3 (ValueIdx.ix1 n) := by
    rw [val_main_v52_apply, val_main_v51_apply]
    exact congrArg x3 (funext fun a => match a with | ⟨0, _⟩ => rfl)
  rw [val_main_v53_apply, val_main_v50_apply, v47_apply x0 hx, e2, e3]

omit hx in
theorem ofBits_100 : (FloatOps.ofBits .f32 0x42C80000#32 : Ideal .f32) = ((100 : ℝ) : EReal) := by
  show Ideal.ofBits .f32 0x42C80000#32 = _
  simp [Ideal.ofBits, Ideal.ieee, -EReal.coe_mul]; norm_num

omit hx in
theorem v56_apply (b : Fin 256) : val_main_v56 (F := Ideal) x1 (ValueIdx.ix2 b 0)
    = FloatOps.mulf (F := Ideal) (φ := .f32) (x1 (ValueIdx.ix1 b)) ((100⁻¹ : ℝ) : EReal) := by
  have e1 : val_main_v54 (F := Ideal) x1 (ValueIdx.ix2 b 0) = x1 (ValueIdx.ix1 b) := by
    rw [val_main_v54_apply]
    exact congrArg x1 (funext fun a => match a with | ⟨0, _⟩ => rfl)
  have e2 : ∀ j, val_main_v55 (F := Ideal) j = ((100 : ℝ) : EReal) := fun j => ofBits_100
  rw [val_main_v56_apply, e1, e2]
  show Ideal.div _ _ = _
  unfold Ideal.div
  rw [if_neg (by norm_num), ← EReal.coe_inv]
  rfl

omit hx in
/-- The first entry of a row of the reference's `y`. -/
theorem v57_head (b : Fin 256) : val_main_v57 (F := Ideal) x0 x1 x2 x3 (ValueIdx.ix2 b ⟨0, by decide⟩)
    = FloatOps.mulf (F := Ideal) (φ := .f32) (x1 (ValueIdx.ix1 b)) ((100⁻¹ : ℝ) : EReal) := by
  refine Eq.trans ?_ (v56_apply x1 b)
  unfold val_main_v57
  generalize val_main_v56 (F := Ideal) x1 = p
  generalize val_main_v53 (F := Ideal) x0 x2 x3 = q
  pointwise
  rfl

/-- The other entries of a row of the reference's `y`. -/
theorem v57_entry (b : Fin 256) (n : Fin 20000) : val_main_v57 (F := Ideal) x0 x1 x2 x3 (ValueIdx.ix2 b ⟨n.val + 1, by omega⟩)
    = FloatOps.addf (FloatOps.mulf (F := Ideal) (φ := .f32) ((((cnt (tagR x0 b) (BitVec.ofNat 32 n.val) : ℝ) - mean (tagR x0 b)) * scale (tagR x0 b) : ℝ) : EReal) (x2 (ValueIdx.ix1 n))) (x3 (ValueIdx.ix1 n)) := by
  refine Eq.trans ?_ (v53_apply x0 hx x2 x3 b n)
  unfold val_main_v57
  generalize val_main_v56 (F := Ideal) x1 = p
  generalize val_main_v53 (F := Ideal) x0 x2 x3 = q
  pointwise
  exact dif_neg (show ¬ n.val + 1 < 1 by omega)

end

end Cert.Proof.Fm
-- ==== Proof.Algebraic.lean ====
/-
  The program and the reference leave the same three results, over the extended reals, from tags in range.
-/
module

public import proofs.«01_k».proof.Proof.Frames
public import proofs.«01_k».proof.Proof.Results
public import proofs.«01_k».proof.Proof.Match
public import proofs.«01_k».proof.Proof.RefRow

@[expose] public section

set_option maxRecDepth 65536

noncomputable section

namespace Cert.Proof.Fm

open Cert.KernelIdeal Cert.KernelIdeal.Gen
open Idealize.ShloMosaic Idealize.SL.Sem

section

variable (m : (ℓ : Loc nD τ sig) → Buf (Elt Ideal) ℓ) (d : Dev nD)
  (hlt : ∀ x, (m (d, ref main_arg0) x : BitVec 32).toNat < 20000)

theorem tagOf_eq (b : Fin 256) : tagOf m d b = tagR (m (d, ref main_arg0)) b := rfl

include hlt

theorem tagOf_lt (b : Fin 256) (k : ℕ) (hk : k < 160) : (tagOf m d b k).toNat < 20000 := by
  unfold tagOf
  rw [dif_pos hk]
  exact hlt _

/-- Each row the SparseCore call leaves starts with the reference's normalised row. -/
theorem y_match (r : Fin 256) (k : Fin 20001) : (arrOf m d).out (ValueIdx.ix2 r ⟨k.val, by omega⟩)
    = refY (m (d, ref main_arg0)) (m (d, ref main_arg1)) (m (d, ref main_arg2)) (m (d, ref main_arg3)) (ValueIdx.ix2 r k) := by
  obtain ⟨k, hk⟩ := k
  cases k with
  | zero => exact (y_head m d (tagOf_lt m d hlt) r).trans (v57_head _ _ _ _ r).symm
  | succ n => exact (y_entry m d (tagOf_lt m d hlt) r ⟨n, by omega⟩).trans (v57_entry _ hlt _ _ _ r ⟨n, by omega⟩).symm

theorem h_match : V7 m d (ref main_v25) = refH (m (d, ref main_arg0)) (m (d, ref main_arg1)) (m (d, ref main_arg2)) (m (d, ref main_arg3)) (m (d, ref main_arg4)) (m (d, ref main_arg5)) :=
  (v7_h m d).trans (hidden_eq _ _ _ _ _ _ _ _ (y_match m d hlt) (b5_row m d))

variable (M : MemSt nD τ sig (Elt Ideal)) (h : fq m d M)
include h

/-- The first result is the reference's normalised rows. -/
theorem y_result [∀ e, Nonempty (Elt Ideal e)] : M.mem (d, ref main_v33_1)
    = refY (m (d, ref main_arg0)) (m (d, ref main_arg1)) (m (d, ref main_arg2)) (m (d, ref main_arg3)) := by
  refine (res_y m d M h).trans (funext fun i => ?_)
  exact (y_match m d hlt (i 0) (i 1)).trans (congrArg (refY (m (d, ref main_arg0)) (m (d, ref main_arg1)) (m (d, ref main_arg2)) (m (d, ref main_arg3))) (ValueIdx.eq_ix2 i)).symm

/-- The second result is the reference's code. -/
theorem enc_result : M.mem (d, ref main_v31_0)
    = refE (m (d, ref main_arg0)) (m (d, ref main_arg1)) (m (d, ref main_arg2)) (m (d, ref main_arg3)) (m (d, ref main_arg4)) (m (d, ref main_arg5))
      (m (d, ref main_arg6)) (m (d, ref main_arg7)) (m (d, ref main_arg8)) (m (d, ref main_arg9)) (m (d, ref main_arg10)) (m (d, ref main_arg11)) :=
  (res_enc m d M h).trans ((v9_enc m d).trans (enc_eq _ _ _ _ _ _ _ _ _ _ _ _ _ _ _ _ _ (h_match m d hlt) (b6_row m d) (b7_row m d) (b9_row m d) (b11_row m d)))

/-- The third result is the reference's decoded rows. -/
theorem dec_result [∀ e, Nonempty (Elt Ideal e)] : M.mem (d, ref main_v33_0)
    = refO (m (d, ref main_arg0)) (m (d, ref main_arg1)) (m (d, ref main_arg2)) (m (d, ref main_arg3)) (m (d, ref main_arg4)) (m (d, ref main_arg5))
      (m (d, ref main_arg6)) (m (d, ref main_arg7)) (m (d, ref main_arg8)) (m (d, ref main_arg9)) (m (d, ref main_arg10)) (m (d, ref main_arg11))
      (m (d, ref main_arg12)) (m (d, ref main_arg13)) (m (d, ref main_arg14)) (m (d, ref main_arg15)) :=
  (res_dec m d M h).trans (dec_eq _ _ _ _ _ _ _ _ _ _ _ _ _ _ _ _ _ _ ((v9_d4 m d).trans
    (d4_eq _ _ _ _ _ _ _ _ _ _ _ _ _ _ _ _ _ _ _ _ (h_match m d hlt) (b6_row m d) (b7_row m d) (b9_row m d) (b11_row m d) (b13_row m d))) (b15_row m d))

end

/-- The reference from tags in range keeps its arguments. -/
theorem frame_Reference_pre : Cert.quiescent_ReferenceIdeal_pre_tags_in_range := fun m ρ _ => frame_Reference m ρ trivial

/-- From tags in range the program and the reference leave the same normalised rows, code and decoded rows, both keeping their arguments. -/
theorem algebraic : Cert.algebraic_KernelIdeal_ReferenceIdeal := by
  intro m g m' g' hpre hagree
  have hlt : ∀ (d : Dev nD) x, (m (d, ref main_arg0) x : BitVec 32).toNat < 20000 := fun d x => pre_lt _ _ _ _ _ _ _ _ _ _ _ _ _ _ _ _ (hpre d) x
  refine ⟨fun c => refY (m (c, ref main_arg0)) (m (c, ref main_arg1)) (m (c, ref main_arg2)) (m (c, ref main_arg3)),
    fun c => refE (m (c, ref main_arg0)) (m (c, ref main_arg1)) (m (c, ref main_arg2)) (m (c, ref main_arg3)) (m (c, ref main_arg4)) (m (c, ref main_arg5))
      (m (c, ref main_arg6)) (m (c, ref main_arg7)) (m (c, ref main_arg8)) (m (c, ref main_arg9)) (m (c, ref main_arg10)) (m (c, ref main_arg11)),
    fun c => refO (m (c, ref main_arg0)) (m (c, ref main_arg1)) (m (c, ref main_arg2)) (m (c, ref main_arg3)) (m (c, ref main_arg4)) (m (c, ref main_arg5))
      (m (c, ref main_arg6)) (m (c, ref main_arg7)) (m (c, ref main_arg8)) (m (c, ref main_arg9)) (m (c, ref main_arg10)) (m (c, ref main_arg11))
      (m (c, ref main_arg12)) (m (c, ref main_arg13)) (m (c, ref main_arg14)) (m (c, ref main_arg15)), ?_, ?_⟩
  · exact (θ_run Cert.KernelIdeal.defs _ _).mono (fun r h c => ⟨y_result m c (hlt c) _ (h.1.1 c), enc_result m c (hlt c) _ (h.1.1 c), dec_result m c (hlt c) _ (h.1.1 c),
      all_args (p := fun b => r.2.mem (c, ref b) = m (c, ref b)) (h.1.2 c)⟩) (frame_run (F := Ideal) m g hlt)
  · refine (θ_run Cert.ReferenceIdeal.defs _ _).mono (fun r h c => ?_) (Cert.ReferenceIdeal.Value.run (F := Ideal) m' g')
    obtain ⟨a0, a1, a2, a3, a4, a5, a6, a7, a8, a9, a10, a11, a12, a13, a14, a15⟩ := hagree c
    obtain ⟨h0, h1, h2, hargs⟩ := h c
    refine ⟨(h0.trans (Cert.ReferenceIdeal.Read.val_main_v57_eq _)).trans ?_, (h1.trans (Cert.ReferenceIdeal.Read.val_main_v107_eq _)).trans ?_,
      (h2.trans (Cert.ReferenceIdeal.Read.val_main_v122_eq _)).trans ?_, hargs⟩
    · exact congr (congr (congr (congrArg _ a0) a1) a2) a3
    · exact congr (congr (congr (congr (congr (congr (congr (congr (congr (congr (congr (congrArg _ a0) a1) a2) a3) a4) a5) a6) a7) a8) a9) a10) a11
    · exact congr (congr (congr (congr (congr (congr (congr (congr (congr (congr (congr (congr (congr (congr (congr (congrArg _ a0) a1) a2) a3) a4) a5) a6) a7) a8) a9) a10) a11) a12) a13) a14) a15

end Cert.Proof.Fm
-- ==== Proof.Words.StatsDat.lean ====
/-
  The program over machine words.  The statistics kernel's pipeline: its proof data over a valuation of the arrays it is entered with, and its body's obligation.
-/
module

public import proofs.«01_k».proof.Proof.Words.TcWp
public import proofs.«01_k».proof.Proof.Words.Stats
public import proofs.«01_k».proof.Proof.Words.Region
public import proofs.«01_k».proof.Proof.Gen.Kernel.Points

@[expose] public section

noncomputable section

namespace Cert.Proof.Fw

open Cert.Kernel Cert.Kernel.Gen

open Idealize.ShloMosaic
open Idealize.ShloMosaic.SparseCore.Cfg (HIx Pay)
open Idealize.ShloMosaic.Pipeline (arrRef arrRefs ucRefs RDat Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (V : Valuation τ sig (Elt F)) (O : CellTallies nD τ sig (HIx 1)) (n : ℕ) (c : Dev nD)

/-- Window `w`'s block at the one point. -/
def blk0 (w : Fin cfg0.W) (t : Fin cfg0.N) : ((cfg0.win w).xblock (cfg0.grid.coords t)).Idx → Elt F (cfg0.win w).elt :=
  ((cfg0.win w).blk t).view.read (Elt F) (V (Proc.devRef .tc (arrRef cfg0.spec w)))

def in0_0 (t : Fin cfg0.N) : Vec F S160x256 .i32 := blk0 V 0 t

/-- The proof data of the statistics kernel's pipeline. -/
def dat0 : Dat τ (Elt F) (HIx 1) ℕ UU ℕ cfg0 c where
  A w := V (Proc.devRef .tc (arrRef cfg0.spec w))
  after w t := match w with
    | ⟨0, _⟩ => in0_0 V t
    | ⟨1, _⟩ => cOf (in0_0 V t)
    | ⟨2, _⟩ => msOf (in0_0 V t)
  Φ _ := Pipeline.scopedRest cfg0.spec c
  q _ := fullShare
  owed _ := O
  recorded _ := lowWaits (F := F) c n

theorem before0_0 (t : Fin cfg0.N) (x) : (dat0 V O n c).before 0 t x = in0_0 V t := by
  unfold Dat.before; rw [if_pos (fetch0_0 t)]; rfl

theorem body0 : BodyObligation (dat0 V O n c) (defs₀ (F := F)) 𝒱₀ none Set.univ := fun t => by
  rw [bigSep_W0, bigSep_W0]
  simp only
  rw [show (dat0 V O n c).Φ t.succ = (dat0 V O n c).Φ t.castSucc from rfl,
    show (dat0 V O n c).Φ t.castSucc = Pipeline.scopedRest spec0 c from rfl,
    show (dat0 V O n c).owesAt none t.succ = (dat0 V O n c).owesAt none t.castSucc from rfl, scopedRest0_split]
  iintro ⟨⟨⟨%f, HS⟩, HΦ⟩, Ho, ⟨%d0, H0⟩, ⟨%d1, H1⟩, ⟨%d2, H2⟩⟩
  rw [before0_0 V O n c t d0]
  iapply (wp_stats (F := F) (d := c) (win0_0.stage (cfg0.slots t 0)) (hstage0_0 0) (win0_1.stage (cfg0.slots t 1)) (hstage0_1 0) (win0_2.stage (cfg0.slots t 2)) (hstage0_2 0) (Memref.whole cc0_scratch0) (Memref.isWhole_whole _)
    (in0_0 V t) ((dat0 V O n c).before 1 t d1) ((dat0 V O n c).before 2 t d2) f _)
  isplitl [H0]; · iexact H0
  isplitl [H1]; · iexact H1
  isplitl [H2]; · iexact H2
  isplitl [HS]
  · unfold has; rw [owns_whole]; iexact HS
  iintro ⟨H0, H1, H2, HS⟩
  isplitl [HΦ HS]
  · isplitl [HS]
    · iexists (wOf (in0_0 V t)); unfold has; rw [owns_whole]; exact BI.Entails.refl _
    iexact HΦ
  isplitl [Ho]; · iexact Ho
  isplitl [H0]; · iexact H0
  isplitl [H1]; · iexact H1
  iexact H2

end Cert.Proof.Fw
-- ==== Proof.WordFrame.lean ====
/-
  The frame of the program over machine words.
-/
module

public import proofs.«01_k».proof.Proof.Words.Keep
public import proofs.«01_k».proof.Proof.Frames

@[expose] public section

noncomputable section

namespace Cert.Proof.Fw

open Idealize.ShloMosaic Idealize.SL.Sem Cert.Kernel

/-- A statement about each of the sixteen arguments, one after the other. -/
theorem all_args {p : Ref sig .tc → Prop} (h : ∀ b ∈ args, p b) :
    p main_arg0 ∧ p main_arg1 ∧ p main_arg2 ∧ p main_arg3 ∧ p main_arg4 ∧ p main_arg5 ∧ p main_arg6 ∧ p main_arg7 ∧ p main_arg8 ∧ p main_arg9
      ∧ p main_arg10 ∧ p main_arg11 ∧ p main_arg12 ∧ p main_arg13 ∧ p main_arg14 ∧ p main_arg15 := by
  simpa only [args, List.forall_mem_cons, List.not_mem_nil, false_imp_iff, implies_true, and_true] using h

/-- The program over machine words keeps its arguments and its counters. -/
theorem frame_Kernel : Cert.quiescent_Kernel := fun m ρ hpre =>
  (θ_run Cert.Kernel.defs _ _).mono (fun r h => ⟨fun c => all_args (p := fun b => r.2.mem (c, ref b) = m (c, ref b)) (fq_args m c _ (h.1 c)), h.2⟩)
    (run_main (F := Bits) m ρ fun d x => tags_lt m d (fun x => Fm.pre_lt _ _ _ _ _ _ _ _ _ _ _ _ _ _ _ _ (hpre d) x) x)

end Cert.Proof.Fw
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tags_in_range
public import proofs.«01_k».proof.Proof.Frames
public import proofs.«01_k».proof.Proof.Algebraic
public import proofs.«01_k».proof.Proof.WordFrame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_tags_in_range.Gen.facts,
  Fw.frame_Kernel, Fm.frame_KernelIdeal, Fm.frame_Reference, Fm.frame_Reference_pre, Fm.preserves, Fm.algebraic⟩

end Cert.Proof

end
